-- ==== Defs.lean ====
def Pre_Retention (m : (ℓ : Loc Cert.Retention.nD Cert.Retention.τ Cert.Retention.sig) → Buf (Elt Bits) ℓ) : Prop :=
  True

def Pre_RetentionIdeal (m : (ℓ : Loc Cert.RetentionIdeal.nD Cert.RetentionIdeal.τ Cert.RetentionIdeal.sig) → Buf (Elt Ideal) ℓ) : Prop :=
  True

def Pre_RetentionIdeal_finite [hPre_finite : Cert.Pre_finite.Facts] (m : (ℓ : Loc Cert.RetentionIdeal.nD Cert.RetentionIdeal.τ Cert.RetentionIdeal.sig) → Buf (Elt Ideal) ℓ) : Prop :=
  ∀ c : Dev Cert.RetentionIdeal.nD,
    (Cert.Pre_finite.fn (F := Ideal) (m ((c.tc : Thread Cert.RetentionIdeal.nD Cert.RetentionIdeal.τ).loc Cert.RetentionIdeal.main_arg0))) = (fun _ => 1#1)

def Pre_RetentionRefIdeal (m : (ℓ : Loc Cert.RetentionRefIdeal.nD Cert.RetentionRefIdeal.τ Cert.RetentionRefIdeal.sig) → Buf (Elt Ideal) ℓ) : Prop :=
  True

def Pre_RetentionRefIdeal_finite [hPre_finite : Cert.Pre_finite.Facts] (m : (ℓ : Loc Cert.RetentionRefIdeal.nD Cert.RetentionRefIdeal.τ Cert.RetentionRefIdeal.sig) → Buf (Elt Ideal) ℓ) : Prop :=
  ∀ c : Dev Cert.RetentionRefIdeal.nD,
    (Cert.Pre_finite.fn (F := Ideal) (m ((c.tc : Thread Cert.RetentionRefIdeal.nD Cert.RetentionRefIdeal.τ).loc Cert.RetentionRefIdeal.main_arg0))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Ain (m : (ℓ : Loc Cert.Ain.nD Cert.Ain.τ Cert.Ain.sig) → Buf (Elt Bits) ℓ) : Prop :=
  True

def Pre_AinIdeal (m : (ℓ : Loc Cert.AinIdeal.nD Cert.AinIdeal.τ Cert.AinIdeal.sig) → Buf (Elt Ideal) ℓ) : Prop :=
  True

def Pre_AinIdeal_in_squares [hPre_in_squares : Cert.Pre_in_squares.Facts] (m : (ℓ : Loc Cert.AinIdeal.nD Cert.AinIdeal.τ Cert.AinIdeal.sig) → Buf (Elt Ideal) ℓ) : Prop :=
  ∀ c : Dev Cert.AinIdeal.nD,
    (Cert.Pre_in_squares.fn (F := Ideal) (m ((c.tc : Thread Cert.AinIdeal.nD Cert.AinIdeal.τ).loc Cert.AinIdeal.main_arg0)) (m ((c.tc : Thread Cert.AinIdeal.nD Cert.AinIdeal.τ).loc Cert.AinIdeal.main_arg1)) (m ((c.tc : Thread Cert.AinIdeal.nD Cert.AinIdeal.τ).loc Cert.AinIdeal.main_arg2))) = (fun _ => 1#1)

def Pre_AinRefIdeal (m : (ℓ : Loc Cert.AinRefIdeal.nD Cert.AinRefIdeal.τ Cert.AinRefIdeal.sig) → Buf (Elt Ideal) ℓ) : Prop :=
  True

def Pre_AinRefIdeal_in_squares [hPre_in_squares : Cert.Pre_in_squares.Facts] (m : (ℓ : Loc Cert.AinRefIdeal.nD Cert.AinRefIdeal.τ Cert.AinRefIdeal.sig) → Buf (Elt Ideal) ℓ) : Prop :=
  ∀ c : Dev Cert.AinRefIdeal.nD,
    (Cert.Pre_in_squares.fn (F := Ideal) (m ((c.tc : Thread Cert.AinRefIdeal.nD Cert.AinRefIdeal.τ).loc Cert.AinRefIdeal.main_arg0)) (m ((c.tc : Thread Cert.AinRefIdeal.nD Cert.AinRefIdeal.τ).loc Cert.AinRefIdeal.main_arg1)) (m ((c.tc : Thread Cert.AinRefIdeal.nD Cert.AinRefIdeal.τ).loc Cert.AinRefIdeal.main_arg2))) = (fun _ => 1#1)

def Pre_Bin (m : (ℓ : Loc Cert.Bin.nD Cert.Bin.τ Cert.Bin.sig) → Buf (Elt Bits) ℓ) : Prop :=
  True

def Pre_BinIdeal (m : (ℓ : Loc Cert.BinIdeal.nD Cert.BinIdeal.τ Cert.BinIdeal.sig) → Buf (Elt Ideal) ℓ) : Prop :=
  True

def Pre_BinIdeal_q_squares [hPre_q_squares : Cert.Pre_q_squares.Facts] (m : (ℓ : Loc Cert.BinIdeal.nD Cert.BinIdeal.τ Cert.BinIdeal.sig) → Buf (Elt Ideal) ℓ) : Prop :=
  ∀ c : Dev Cert.BinIdeal.nD,
    (Cert.Pre_q_squares.fn (F := Ideal) (m ((c.tc : Thread Cert.BinIdeal.nD Cert.BinIdeal.τ).loc Cert.BinIdeal.main_arg0)) (m ((c.tc : Thread Cert.BinIdeal.nD Cert.BinIdeal.τ).loc Cert.BinIdeal.main_arg1)) (m ((c.tc : Thread Cert.BinIdeal.nD Cert.BinIdeal.τ).loc Cert.BinIdeal.main_arg2))) = (fun _ => 1#1)

def Pre_BinRefIdeal (m : (ℓ : Loc Cert.BinRefIdeal.nD Cert.BinRefIdeal.τ Cert.BinRefIdeal.sig) → Buf (Elt Ideal) ℓ) : Prop :=
  True

def Pre_BinRefIdeal_q_squares [hPre_q_squares : Cert.Pre_q_squares.Facts] (m : (ℓ : Loc Cert.BinRefIdeal.nD Cert.BinRefIdeal.τ Cert.BinRefIdeal.sig) → Buf (Elt Ideal) ℓ) : Prop :=
  ∀ c : Dev Cert.BinRefIdeal.nD,
    (Cert.Pre_q_squares.fn (F := Ideal) (m ((c.tc : Thread Cert.BinRefIdeal.nD Cert.BinRefIdeal.τ).loc Cert.BinRefIdeal.main_arg0)) (m ((c.tc : Thread Cert.BinRefIdeal.nD Cert.BinRefIdeal.τ).loc Cert.BinRefIdeal.main_arg1)) (m ((c.tc : Thread Cert.BinRefIdeal.nD Cert.BinRefIdeal.τ).loc Cert.BinRefIdeal.main_arg2))) = (fun _ => 1#1)

def Pre_Key (m : (ℓ : Loc Cert.Key.nD Cert.Key.τ Cert.Key.sig) → Buf (Elt Bits) ℓ) : Prop :=
  True

def Pre_KeyIdeal (m : (ℓ : Loc Cert.KeyIdeal.nD Cert.KeyIdeal.τ Cert.KeyIdeal.sig) → Buf (Elt Ideal) ℓ) : Prop :=
  True

def Pre_KeyIdeal_key_squares [hPre_key_squares : Cert.Pre_key_squares.Facts] (m : (ℓ : Loc Cert.KeyIdeal.nD Cert.KeyIdeal.τ Cert.KeyIdeal.sig) → Buf (Elt Ideal) ℓ) : Prop :=
  ∀ c : Dev Cert.KeyIdeal.nD,
    (Cert.Pre_key_squares.fn (F := Ideal) (m ((c.tc : Thread Cert.KeyIdeal.nD Cert.KeyIdeal.τ).loc Cert.KeyIdeal.main_arg0)) (m ((c.tc : Thread Cert.KeyIdeal.nD Cert.KeyIdeal.τ).loc Cert.KeyIdeal.main_arg1)) (m ((c.tc : Thread Cert.KeyIdeal.nD Cert.KeyIdeal.τ).loc Cert.KeyIdeal.main_arg2))) = (fun _ => 1#1)

def Pre_KeyRefIdeal (m : (ℓ : Loc Cert.KeyRefIdeal.nD Cert.KeyRefIdeal.τ Cert.KeyRefIdeal.sig) → Buf (Elt Ideal) ℓ) : Prop :=
  True

def Pre_KeyRefIdeal_key_squares [hPre_key_squares : Cert.Pre_key_squares.Facts] (m : (ℓ : Loc Cert.KeyRefIdeal.nD Cert.KeyRefIdeal.τ Cert.KeyRefIdeal.sig) → Buf (Elt Ideal) ℓ) : Prop :=
  ∀ c : Dev Cert.KeyRefIdeal.nD,
    (Cert.Pre_key_squares.fn (F := Ideal) (m ((c.tc : Thread Cert.KeyRefIdeal.nD Cert.KeyRefIdeal.τ).loc Cert.KeyRefIdeal.main_arg0)) (m ((c.tc : Thread Cert.KeyRefIdeal.nD Cert.KeyRefIdeal.τ).loc Cert.KeyRefIdeal.main_arg1)) (m ((c.tc : Thread Cert.KeyRefIdeal.nD Cert.KeyRefIdeal.τ).loc Cert.KeyRefIdeal.main_arg2))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpIdeal_up_squares [hPre_up_squares : Cert.Pre_up_squares.Facts] (m : (ℓ : Loc Cert.UpIdeal.nD Cert.UpIdeal.τ Cert.UpIdeal.sig) → Buf (Elt Ideal) ℓ) : Prop :=
  ∀ c : Dev Cert.UpIdeal.nD,
    (Cert.Pre_up_squares.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))) = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_up_squares [hPre_up_squares : Cert.Pre_up_squares.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_up_squares.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Values (m : (ℓ : Loc Cert.Values.nD Cert.Values.τ Cert.Values.sig) → Buf (Elt Bits) ℓ) : Prop :=
  True

def Pre_ValuesIdeal (m : (ℓ : Loc Cert.ValuesIdeal.nD Cert.ValuesIdeal.τ Cert.ValuesIdeal.sig) → Buf (Elt Ideal) ℓ) : Prop :=
  True

def Pre_ValuesIdeal_values_squares [hPre_values_squares : Cert.Pre_values_squares.Facts] (m : (ℓ : Loc Cert.ValuesIdeal.nD Cert.ValuesIdeal.τ Cert.ValuesIdeal.sig) → Buf (Elt Ideal) ℓ) : Prop :=
  ∀ c : Dev Cert.ValuesIdeal.nD,
    (Cert.Pre_values_squares.fn (F := Ideal) (m ((c.tc : Thread Cert.ValuesIdeal.nD Cert.ValuesIdeal.τ).loc Cert.ValuesIdeal.main_arg0)) (m ((c.tc : Thread Cert.ValuesIdeal.nD Cert.ValuesIdeal.τ).loc Cert.ValuesIdeal.main_arg1)) (m ((c.tc : Thread Cert.ValuesIdeal.nD Cert.ValuesIdeal.τ).loc Cert.ValuesIdeal.main_arg2))) = (fun _ => 1#1)

def Pre_ValuesRefIdeal (m : (ℓ : Loc Cert.ValuesRefIdeal.nD Cert.ValuesRefIdeal.τ Cert.ValuesRefIdeal.sig) → Buf (Elt Ideal) ℓ) : Prop :=
  True

def Pre_ValuesRefIdeal_values_squares [hPre_values_squares : Cert.Pre_values_squares.Facts] (m : (ℓ : Loc Cert.ValuesRefIdeal.nD Cert.ValuesRefIdeal.τ Cert.ValuesRefIdeal.sig) → Buf (Elt Ideal) ℓ) : Prop :=
  ∀ c : Dev Cert.ValuesRefIdeal.nD,
    (Cert.Pre_values_squares.fn (F := Ideal) (m ((c.tc : Thread Cert.ValuesRefIdeal.nD Cert.ValuesRefIdeal.τ).loc Cert.ValuesRefIdeal.main_arg0)) (m ((c.tc : Thread Cert.ValuesRefIdeal.nD Cert.ValuesRefIdeal.τ).loc Cert.ValuesRefIdeal.main_arg1)) (m ((c.tc : Thread Cert.ValuesRefIdeal.nD Cert.ValuesRefIdeal.τ).loc Cert.ValuesRefIdeal.main_arg2))) = (fun _ => 1#1)

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryRefIdeal (m : (ℓ : Loc Cert.MemoryRefIdeal.nD Cert.MemoryRefIdeal.τ Cert.MemoryRefIdeal.sig) → Buf (Elt Ideal) ℓ) : Prop :=
  True

def Pre_Memkv (m : (ℓ : Loc Cert.Memkv.nD Cert.Memkv.τ Cert.Memkv.sig) → Buf (Elt Bits) ℓ) : Prop :=
  True

def Pre_MemkvIdeal (m : (ℓ : Loc Cert.MemkvIdeal.nD Cert.MemkvIdeal.τ Cert.MemkvIdeal.sig) → Buf (Elt Ideal) ℓ) : Prop :=
  True

def Pre_MemkvRefIdeal (m : (ℓ : Loc Cert.MemkvRefIdeal.nD Cert.MemkvRefIdeal.τ Cert.MemkvRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Bmem (m : (ℓ : Loc Cert.Bmem.nD Cert.Bmem.τ Cert.Bmem.sig) → Buf (Elt Bits) ℓ) : Prop :=
  True

def Pre_BmemIdeal (m : (ℓ : Loc Cert.BmemIdeal.nD Cert.BmemIdeal.τ Cert.BmemIdeal.sig) → Buf (Elt Ideal) ℓ) : Prop :=
  True

def Pre_BmemRefIdeal (m : (ℓ : Loc Cert.BmemRefIdeal.nD Cert.BmemRefIdeal.τ Cert.BmemRefIdeal.sig) → Buf (Elt Ideal) ℓ) : Prop :=
  True

def Pre_Memnorm (m : (ℓ : Loc Cert.Memnorm.nD Cert.Memnorm.τ Cert.Memnorm.sig) → Buf (Elt Bits) ℓ) : Prop :=
  True

def Pre_MemnormIdeal (m : (ℓ : Loc Cert.MemnormIdeal.nD Cert.MemnormIdeal.τ Cert.MemnormIdeal.sig) → Buf (Elt Ideal) ℓ) : Prop :=
  True

def Pre_MemnormRefIdeal (m : (ℓ : Loc Cert.MemnormRefIdeal.nD Cert.MemnormRefIdeal.τ Cert.MemnormRefIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstRefIdeal (m : (ℓ : Loc Cert.FirstRefIdeal.nD Cert.FirstRefIdeal.τ Cert.FirstRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Turn (m : (ℓ : Loc Cert.Turn.nD Cert.Turn.τ Cert.Turn.sig) → Buf (Elt Bits) ℓ) : Prop :=
  True

def Pre_TurnIdeal (m : (ℓ : Loc Cert.TurnIdeal.nD Cert.TurnIdeal.τ Cert.TurnIdeal.sig) → Buf (Elt Ideal) ℓ) : Prop :=
  True

def Pre_TurnRefIdeal (m : (ℓ : Loc Cert.TurnRefIdeal.nD Cert.TurnRefIdeal.τ Cert.TurnRefIdeal.sig) → Buf (Elt Ideal) ℓ) : Prop :=
  True

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasRefIdeal (m : (ℓ : Loc Cert.BiasRefIdeal.nD Cert.BiasRefIdeal.τ Cert.BiasRefIdeal.sig) → Buf (Elt Ideal) ℓ) : Prop :=
  True

def quiescent_Retention [hRetention : Cert.Retention.Facts] : Prop :=
  ∀ (m : (ℓ : Loc Cert.Retention.nD Cert.Retention.τ Cert.Retention.sig) → Buf (Elt Bits) ℓ) (g : Dev Cert.Retention.nD → PrngReg), Pre_Retention m →
    θ_run (Cert.Retention.defs (F := Bits)) (onTc (τ := Cert.Retention.τ) (Cert.Retention.main (F := Bits))) ⟨m, fun _ => 0, g⟩ (fun r => (∀ c : Dev Cert.Retention.nD,
      r.2.mem ((c.tc : Thread Cert.Retention.nD Cert.Retention.τ).loc Cert.Retention.main_arg0) = m ((c.tc : Thread Cert.Retention.nD Cert.Retention.τ).loc Cert.Retention.main_arg0))
      ∧ r.2.sem = fun _ => 0)

def quiescent_RetentionIdeal [hRetentionIdeal : Cert.RetentionIdeal.Facts] : Prop :=
  ∀ (m : (ℓ : Loc Cert.RetentionIdeal.nD Cert.RetentionIdeal.τ Cert.RetentionIdeal.sig) → Buf (Elt Ideal) ℓ) (g : Dev Cert.RetentionIdeal.nD → PrngReg), Pre_RetentionIdeal m →
    θ_run (Cert.RetentionIdeal.defs (F := Ideal)) (onTc (τ := Cert.RetentionIdeal.τ) (Cert.RetentionIdeal.main (F := Ideal))) ⟨m, fun _ => 0, g⟩ (fun r => (∀ c : Dev Cert.RetentionIdeal.nD,
      r.2.mem ((c.tc : Thread Cert.RetentionIdeal.nD Cert.RetentionIdeal.τ).loc Cert.RetentionIdeal.main_arg0) = m ((c.tc : Thread Cert.RetentionIdeal.nD Cert.RetentionIdeal.τ).loc Cert.RetentionIdeal.main_arg0))
      ∧ r.2.sem = fun _ => 0)

def quiescent_RetentionIdeal_pre_finite [hRetentionIdeal : Cert.RetentionIdeal.Facts] [hPre_finite : Cert.Pre_finite.Facts] : Prop :=
  ∀ (m : (ℓ : Loc Cert.RetentionIdeal.nD Cert.RetentionIdeal.τ Cert.RetentionIdeal.sig) → Buf (Elt Ideal) ℓ) (g : Dev Cert.RetentionIdeal.nD → PrngReg), Pre_RetentionIdeal_finite m →
    θ_run (Cert.RetentionIdeal.defs (F := Ideal)) (onTc (τ := Cert.RetentionIdeal.τ) (Cert.RetentionIdeal.main (F := Ideal))) ⟨m, fun _ => 0, g⟩ (fun r => (∀ c : Dev Cert.RetentionIdeal.nD,
      r.2.mem ((c.tc : Thread Cert.RetentionIdeal.nD Cert.RetentionIdeal.τ).loc Cert.RetentionIdeal.main_arg0) = m ((c.tc : Thread Cert.RetentionIdeal.nD Cert.RetentionIdeal.τ).loc Cert.RetentionIdeal.main_arg0))
      ∧ r.2.sem = fun _ => 0)

def quiescent_RetentionRefIdeal [hRetentionRefIdeal : Cert.RetentionRefIdeal.Facts] : Prop :=
  ∀ (m : (ℓ : Loc Cert.RetentionRefIdeal.nD Cert.RetentionRefIdeal.τ Cert.RetentionRefIdeal.sig) → Buf (Elt Ideal) ℓ) (g : Dev Cert.RetentionRefIdeal.nD → PrngReg), Pre_RetentionRefIdeal m →
    θ_run (Cert.RetentionRefIdeal.defs (F := Ideal)) (onTc (τ := Cert.RetentionRefIdeal.τ) (Cert.RetentionRefIdeal.main (F := Ideal))) ⟨m, fun _ => 0, g⟩ (fun r => (∀ c : Dev Cert.RetentionRefIdeal.nD,
      r.2.mem ((c.tc : Thread Cert.RetentionRefIdeal.nD Cert.RetentionRefIdeal.τ).loc Cert.RetentionRefIdeal.main_arg0) = m ((c.tc : Thread Cert.RetentionRefIdeal.nD Cert.RetentionRefIdeal.τ).loc Cert.RetentionRefIdeal.main_arg0))
      ∧ r.2.sem = fun _ => 0)

def quiescent_RetentionRefIdeal_pre_finite [hRetentionRefIdeal : Cert.RetentionRefIdeal.Facts] [hPre_finite : Cert.Pre_finite.Facts] : Prop :=
  ∀ (m : (ℓ : Loc Cert.RetentionRefIdeal.nD Cert.RetentionRefIdeal.τ Cert.RetentionRefIdeal.sig) → Buf (Elt Ideal) ℓ) (g : Dev Cert.RetentionRefIdeal.nD → PrngReg), Pre_RetentionRefIdeal_finite m →
    θ_run (Cert.RetentionRefIdeal.defs (F := Ideal)) (onTc (τ := Cert.RetentionRefIdeal.τ) (Cert.RetentionRefIdeal.main (F := Ideal))) ⟨m, fun _ => 0, g⟩ (fun r => (∀ c : Dev Cert.RetentionRefIdeal.nD,
      r.2.mem ((c.tc : Thread Cert.RetentionRefIdeal.nD Cert.RetentionRefIdeal.τ).loc Cert.RetentionRefIdeal.main_arg0) = m ((c.tc : Thread Cert.RetentionRefIdeal.nD Cert.RetentionRefIdeal.τ).loc Cert.RetentionRefIdeal.main_arg0))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Ain [hAin : Cert.Ain.Facts] : Prop :=
  ∀ (m : (ℓ : Loc Cert.Ain.nD Cert.Ain.τ Cert.Ain.sig) → Buf (Elt Bits) ℓ) (g : Dev Cert.Ain.nD → PrngReg), Pre_Ain m →
    θ_run (Cert.Ain.defs (F := Bits)) (onTc (τ := Cert.Ain.τ) (Cert.Ain.main (F := Bits))) ⟨m, fun _ => 0, g⟩ (fun r => (∀ c : Dev Cert.Ain.nD,
      r.2.mem ((c.tc : Thread Cert.Ain.nD Cert.Ain.τ).loc Cert.Ain.main_arg0) = m ((c.tc : Thread Cert.Ain.nD Cert.Ain.τ).loc Cert.Ain.main_arg0)
      ∧ r.2.mem ((c.tc : Thread Cert.Ain.nD Cert.Ain.τ).loc Cert.Ain.main_arg1) = m ((c.tc : Thread Cert.Ain.nD Cert.Ain.τ).loc Cert.Ain.main_arg1)
      ∧ r.2.mem ((c.tc : Thread Cert.Ain.nD Cert.Ain.τ).loc Cert.Ain.main_arg2) = m ((c.tc : Thread Cert.Ain.nD Cert.Ain.τ).loc Cert.Ain.main_arg2))
      ∧ r.2.sem = fun _ => 0)

def quiescent_AinIdeal [hAinIdeal : Cert.AinIdeal.Facts] : Prop :=
  ∀ (m : (ℓ : Loc Cert.AinIdeal.nD Cert.AinIdeal.τ Cert.AinIdeal.sig) → Buf (Elt Ideal) ℓ) (g : Dev Cert.AinIdeal.nD → PrngReg), Pre_AinIdeal m →
    θ_run (Cert.AinIdeal.defs (F := Ideal)) (onTc (τ := Cert.AinIdeal.τ) (Cert.AinIdeal.main (F := Ideal))) ⟨m, fun _ => 0, g⟩ (fun r => (∀ c : Dev Cert.AinIdeal.nD,
      r.2.mem ((c.tc : Thread Cert.AinIdeal.nD Cert.AinIdeal.τ).loc Cert.AinIdeal.main_arg0) = m ((c.tc : Thread Cert.AinIdeal.nD Cert.AinIdeal.τ).loc Cert.AinIdeal.main_arg0)
      ∧ r.2.mem ((c.tc : Thread Cert.AinIdeal.nD Cert.AinIdeal.τ).loc Cert.AinIdeal.main_arg1) = m ((c.tc : Thread Cert.AinIdeal.nD Cert.AinIdeal.τ).loc Cert.AinIdeal.main_arg1)
      ∧ r.2.mem ((c.tc : Thread Cert.AinIdeal.nD Cert.AinIdeal.τ).loc Cert.AinIdeal.main_arg2) = m ((c.tc : Thread Cert.AinIdeal.nD Cert.AinIdeal.τ).loc Cert.AinIdeal.main_arg2))
      ∧ r.2.sem = fun _ => 0)

def quiescent_AinIdeal_pre_in_squares [hAinIdeal : Cert.AinIdeal.Facts] [hPre_in_squares : Cert.Pre_in_squares.Facts] : Prop :=
  ∀ (m : (ℓ : Loc Cert.AinIdeal.nD Cert.AinIdeal.τ Cert.AinIdeal.sig) → Buf (Elt Ideal) ℓ) (g : Dev Cert.AinIdeal.nD → PrngReg), Pre_AinIdeal_in_squares m →
    θ_run (Cert.AinIdeal.defs (F := Ideal)) (onTc (τ := Cert.AinIdeal.τ) (Cert.AinIdeal.main (F := Ideal))) ⟨m, fun _ => 0, g⟩ (fun r => (∀ c : Dev Cert.AinIdeal.nD,
      r.2.mem ((c.tc : Thread Cert.AinIdeal.nD Cert.AinIdeal.τ).loc Cert.AinIdeal.main_arg0) = m ((c.tc : Thread Cert.AinIdeal.nD Cert.AinIdeal.τ).loc Cert.AinIdeal.main_arg0)
      ∧ r.2.mem ((c.tc : Thread Cert.AinIdeal.nD Cert.AinIdeal.τ).loc Cert.AinIdeal.main_arg1) = m ((c.tc : Thread Cert.AinIdeal.nD Cert.AinIdeal.τ).loc Cert.AinIdeal.main_arg1)
      ∧ r.2.mem ((c.tc : Thread Cert.AinIdeal.nD Cert.AinIdeal.τ).loc Cert.AinIdeal.main_arg2) = m ((c.tc : Thread Cert.AinIdeal.nD Cert.AinIdeal.τ).loc Cert.AinIdeal.main_arg2))
      ∧ r.2.sem = fun _ => 0)

def quiescent_AinRefIdeal [hAinRefIdeal : Cert.AinRefIdeal.Facts] : Prop :=
  ∀ (m : (ℓ : Loc Cert.AinRefIdeal.nD Cert.AinRefIdeal.τ Cert.AinRefIdeal.sig) → Buf (Elt Ideal) ℓ) (g : Dev Cert.AinRefIdeal.nD → PrngReg), Pre_AinRefIdeal m →
    θ_run (Cert.AinRefIdeal.defs (F := Ideal)) (onTc (τ := Cert.AinRefIdeal.τ) (Cert.AinRefIdeal.main (F := Ideal))) ⟨m, fun _ => 0, g⟩ (fun r => (∀ c : Dev Cert.AinRefIdeal.nD,
      r.2.mem ((c.tc : Thread Cert.AinRefIdeal.nD Cert.AinRefIdeal.τ).loc Cert.AinRefIdeal.main_arg0) = m ((c.tc : Thread Cert.AinRefIdeal.nD Cert.AinRefIdeal.τ).loc Cert.AinRefIdeal.main_arg0)
      ∧ r.2.mem ((c.tc : Thread Cert.AinRefIdeal.nD Cert.AinRefIdeal.τ).loc Cert.AinRefIdeal.main_arg1) = m ((c.tc : Thread Cert.AinRefIdeal.nD Cert.AinRefIdeal.τ).loc Cert.AinRefIdeal.main_arg1)
      ∧ r.2.mem ((c.tc : Thread Cert.AinRefIdeal.nD Cert.AinRefIdeal.τ).loc Cert.AinRefIdeal.main_arg2) = m ((c.tc : Thread Cert.AinRefIdeal.nD Cert.AinRefIdeal.τ).loc Cert.AinRefIdeal.main_arg2))
      ∧ r.2.sem = fun _ => 0)

def quiescent_AinRefIdeal_pre_in_squares [hAinRefIdeal : Cert.AinRefIdeal.Facts] [hPre_in_squares : Cert.Pre_in_squares.Facts] : Prop :=
  ∀ (m : (ℓ : Loc Cert.AinRefIdeal.nD Cert.AinRefIdeal.τ Cert.AinRefIdeal.sig) → Buf (Elt Ideal) ℓ) (g : Dev Cert.AinRefIdeal.nD → PrngReg), Pre_AinRefIdeal_in_squares m →
    θ_run (Cert.AinRefIdeal.defs (F := Ideal)) (onTc (τ := Cert.AinRefIdeal.τ) (Cert.AinRefIdeal.main (F := Ideal))) ⟨m, fun _ => 0, g⟩ (fun r => (∀ c : Dev Cert.AinRefIdeal.nD,
      r.2.mem ((c.tc : Thread Cert.AinRefIdeal.nD Cert.AinRefIdeal.τ).loc Cert.AinRefIdeal.main_arg0) = m ((c.tc : Thread Cert.AinRefIdeal.nD Cert.AinRefIdeal.τ).loc Cert.AinRefIdeal.main_arg0)
      ∧ r.2.mem ((c.tc : Thread Cert.AinRefIdeal.nD Cert.AinRefIdeal.τ).loc Cert.AinRefIdeal.main_arg1) = m ((c.tc : Thread Cert.AinRefIdeal.nD Cert.AinRefIdeal.τ).loc Cert.AinRefIdeal.main_arg1)
      ∧ r.2.mem ((c.tc : Thread Cert.AinRefIdeal.nD Cert.AinRefIdeal.τ).loc Cert.AinRefIdeal.main_arg2) = m ((c.tc : Thread Cert.AinRefIdeal.nD Cert.AinRefIdeal.τ).loc Cert.AinRefIdeal.main_arg2))
      ∧ r.2.sem = fun _ => 0)

def quiescent_Bin [hBin : Cert.Bin.Facts] : Prop :=
  ∀ (m : (ℓ : Loc Cert.Bin.nD Cert.Bin.τ Cert.Bin.sig) → Buf (Elt Bits) ℓ) (g : Dev Cert.Bin.nD → PrngReg), Pre_Bin m →
    θ_run (Cert.Bin.defs (F := Bits)) (onTc (τ := Cert.Bin.τ) (Cert.Bin.main (F := Bits))) ⟨m, fun _ => 0, g⟩ (fun r => (∀ c : Dev Cert.Bin.nD,
      r.2.mem ((c.tc : Thread Cert.Bin.nD Cert.Bin.τ).loc Cert.Bin.main_arg0) = m ((c.tc : Thread Cert.Bin.nD Cert.Bin.τ).loc Cert.Bin.main_arg0)
      ∧ r.2.mem ((c.tc : Thread Cert.Bin.nD Cert.Bin.τ).loc Cert.Bin.main_arg1) = m ((c.tc : Thread Cert.Bin.nD Cert.Bin.τ).loc Cert.Bin.main_arg1)
      ∧ r.2.mem ((c.tc : Thread Cert.Bin.nD Cert.Bin.τ).loc Cert.Bin.main_arg2) = m ((c.tc : Thread Cert.Bin.nD Cert.Bin.τ).loc Cert.Bin.main_arg2))
      ∧ r.2.sem = fun _ => 0)

def quiescent_BinIdeal [hBinIdeal : Cert.BinIdeal.Facts] : Prop :=
  ∀ (m : (ℓ : Loc Cert.BinIdeal.nD Cert.BinIdeal.τ Cert.BinIdeal.sig) → Buf (Elt Ideal) ℓ) (g : Dev Cert.BinIdeal.nD → PrngReg), Pre_BinIdeal m →
    θ_run (Cert.BinIdeal.defs (F := Ideal)) (onTc (τ := Cert.BinIdeal.τ) (Cert.BinIdeal.main (F := Ideal))) ⟨m, fun _ => 0, g⟩ (fun r => (∀ c : Dev Cert.BinIdeal.nD,
      r.2.mem ((c.tc : Thread Cert.BinIdeal.nD Cert.BinIdeal.τ).loc Cert.BinIdeal.main_arg0) = m ((c.tc : Thread Cert.BinIdeal.nD Cert.BinIdeal.τ).loc Cert.BinIdeal.main_arg0)
      ∧ r.2.mem ((c.tc : Thread Cert.BinIdeal.nD Cert.BinIdeal.τ).loc Cert.BinIdeal.main_arg1) = m ((c.tc : Thread Cert.BinIdeal.nD Cert.BinIdeal.τ).loc Cert.BinIdeal.main_arg1)
      ∧ r.2.mem ((c.tc : Thread Cert.BinIdeal.nD Cert.BinIdeal.τ).loc Cert.BinIdeal.main_arg2) = m ((c.tc : Thread Cert.BinIdeal.nD Cert.BinIdeal.τ).loc Cert.BinIdeal.main_arg2))
      ∧ r.2.sem = fun _ => 0)

def quiescent_BinIdeal_pre_q_squares [hBinIdeal : Cert.BinIdeal.Facts] [hPre_q_squares : Cert.Pre_q_squares.Facts] : Prop :=
  ∀ (m : (ℓ : Loc Cert.BinIdeal.nD Cert.BinIdeal.τ Cert.BinIdeal.sig) → Buf (Elt Ideal) ℓ) (g : Dev Cert.BinIdeal.nD → PrngReg), Pre_BinIdeal_q_squares m →
    θ_run (Cert.BinIdeal.defs (F := Ideal)) (onTc (τ := Cert.BinIdeal.τ) (Cert.BinIdeal.main (F := Ideal))) ⟨m, fun _ => 0, g⟩ (fun r => (∀ c : Dev Cert.BinIdeal.nD,
      r.2.mem ((c.tc : Thread Cert.BinIdeal.nD Cert.BinIdeal.τ).loc Cert.BinIdeal.main_arg0) = m ((c.tc : Thread Cert.BinIdeal.nD Cert.BinIdeal.τ).loc Cert.BinIdeal.main_arg0)
      ∧ r.2.mem ((c.tc : Thread Cert.BinIdeal.nD Cert.BinIdeal.τ).loc Cert.BinIdeal.main_arg1) = m ((c.tc : Thread Cert.BinIdeal.nD Cert.BinIdeal.τ).loc Cert.BinIdeal.main_arg1)
      ∧ r.2.mem ((c.tc : Thread Cert.BinIdeal.nD Cert.BinIdeal.τ).loc Cert.BinIdeal.main_arg2) = m ((c.tc : Thread Cert.BinIdeal.nD Cert.BinIdeal.τ).loc Cert.BinIdeal.main_arg2))
      ∧ r.2.sem = fun _ => 0)

def quiescent_BinRefIdeal [hBinRefIdeal : Cert.BinRefIdeal.Facts] : Prop :=
  ∀ (m : (ℓ : Loc Cert.BinRefIdeal.nD Cert.BinRefIdeal.τ Cert.BinRefIdeal.sig) → Buf (Elt Ideal) ℓ) (g : Dev Cert.BinRefIdeal.nD → PrngReg), Pre_BinRefIdeal m →
    θ_run (Cert.BinRefIdeal.defs (F := Ideal)) (onTc (τ := Cert.BinRefIdeal.τ) (Cert.BinRefIdeal.main (F := Ideal))) ⟨m, fun _ => 0, g⟩ (fun r => (∀ c : Dev Cert.BinRefIdeal.nD,
      r.2.mem ((c.tc : Thread Cert.BinRefIdeal.nD Cert.BinRefIdeal.τ).loc Cert.BinRefIdeal.main_arg0) = m ((c.tc : Thread Cert.BinRefIdeal.nD Cert.BinRefIdeal.τ).loc Cert.BinRefIdeal.main_arg0)
      ∧ r.2.mem ((c.tc : Thread Cert.BinRefIdeal.nD Cert.BinRefIdeal.τ).loc Cert.BinRefIdeal.main_arg1) = m ((c.tc : Thread Cert.BinRefIdeal.nD Cert.BinRefIdeal.τ).loc Cert.BinRefIdeal.main_arg1)
      ∧ r.2.mem ((c.tc : Thread Cert.BinRefIdeal.nD Cert.BinRefIdeal.τ).loc Cert.BinRefIdeal.main_arg2) = m ((c.tc : Thread Cert.BinRefIdeal.nD Cert.BinRefIdeal.τ).loc Cert.BinRefIdeal.main_arg2))
      ∧ r.2.sem = fun _ => 0)

def quiescent_BinRefIdeal_pre_q_squares [hBinRefIdeal : Cert.BinRefIdeal.Facts] [hPre_q_squares : Cert.Pre_q_squares.Facts] : Prop :=
  ∀ (m : (ℓ : Loc Cert.BinRefIdeal.nD Cert.BinRefIdeal.τ Cert.BinRefIdeal.sig) → Buf (Elt Ideal) ℓ) (g : Dev Cert.BinRefIdeal.nD → PrngReg), Pre_BinRefIdeal_q_squares m →
    θ_run (Cert.BinRefIdeal.defs (F := Ideal)) (onTc (τ := Cert.BinRefIdeal.τ) (Cert.BinRefIdeal.main (F := Ideal))) ⟨m, fun _ => 0, g⟩ (fun r => (∀ c : Dev Cert.BinRefIdeal.nD,
      r.2.mem ((c.tc : Thread Cert.BinRefIdeal.nD Cert.BinRefIdeal.τ).loc Cert.BinRefIdeal.main_arg0) = m ((c.tc : Thread Cert.BinRefIdeal.nD Cert.BinRefIdeal.τ).loc Cert.BinRefIdeal.main_arg0)
      ∧ r.2.mem ((c.tc : Thread Cert.BinRefIdeal.nD Cert.BinRefIdeal.τ).loc Cert.BinRefIdeal.main_arg1) = m ((c.tc : Thread Cert.BinRefIdeal.nD Cert.BinRefIdeal.τ).loc Cert.BinRefIdeal.main_arg1)
      ∧ r.2.mem ((c.tc : Thread Cert.BinRefIdeal.nD Cert.BinRefIdeal.τ).loc Cert.BinRefIdeal.main_arg2) = m ((c.tc : Thread Cert.BinRefIdeal.nD Cert.BinRefIdeal.τ).loc Cert.BinRefIdeal.main_arg2))
      ∧ r.2.sem = fun _ => 0)

def quiescent_Key [hKey : Cert.Key.Facts] : Prop :=
  ∀ (m : (ℓ : Loc Cert.Key.nD Cert.Key.τ Cert.Key.sig) → Buf (Elt Bits) ℓ) (g : Dev Cert.Key.nD → PrngReg), Pre_Key m →
    θ_run (Cert.Key.defs (F := Bits)) (onTc (τ := Cert.Key.τ) (Cert.Key.main (F := Bits))) ⟨m, fun _ => 0, g⟩ (fun r => (∀ c : Dev Cert.Key.nD,
      r.2.mem ((c.tc : Thread Cert.Key.nD Cert.Key.τ).loc Cert.Key.main_arg0) = m ((c.tc : Thread Cert.Key.nD Cert.Key.τ).loc Cert.Key.main_arg0)
      ∧ r.2.mem ((c.tc : Thread Cert.Key.nD Cert.Key.τ).loc Cert.Key.main_arg1) = m ((c.tc : Thread Cert.Key.nD Cert.Key.τ).loc Cert.Key.main_arg1)
      ∧ r.2.mem ((c.tc : Thread Cert.Key.nD Cert.Key.τ).loc Cert.Key.main_arg2) = m ((c.tc : Thread Cert.Key.nD Cert.Key.τ).loc Cert.Key.main_arg2))
      ∧ r.2.sem = fun _ => 0)

def quiescent_KeyIdeal [hKeyIdeal : Cert.KeyIdeal.Facts] : Prop :=
  ∀ (m : (ℓ : Loc Cert.KeyIdeal.nD Cert.KeyIdeal.τ Cert.KeyIdeal.sig) → Buf (Elt Ideal) ℓ) (g : Dev Cert.KeyIdeal.nD → PrngReg), Pre_KeyIdeal m →
    θ_run (Cert.KeyIdeal.defs (F := Ideal)) (onTc (τ := Cert.KeyIdeal.τ) (Cert.KeyIdeal.main (F := Ideal))) ⟨m, fun _ => 0, g⟩ (fun r => (∀ c : Dev Cert.KeyIdeal.nD,
      r.2.mem ((c.tc : Thread Cert.KeyIdeal.nD Cert.KeyIdeal.τ).loc Cert.KeyIdeal.main_arg0) = m ((c.tc : Thread Cert.KeyIdeal.nD Cert.KeyIdeal.τ).loc Cert.KeyIdeal.main_arg0)
      ∧ r.2.mem ((c.tc : Thread Cert.KeyIdeal.nD Cert.KeyIdeal.τ).loc Cert.KeyIdeal.main_arg1) = m ((c.tc : Thread Cert.KeyIdeal.nD Cert.KeyIdeal.τ).loc Cert.KeyIdeal.main_arg1)
      ∧ r.2.mem ((c.tc : Thread Cert.KeyIdeal.nD Cert.KeyIdeal.τ).loc Cert.KeyIdeal.main_arg2) = m ((c.tc : Thread Cert.KeyIdeal.nD Cert.KeyIdeal.τ).loc Cert.KeyIdeal.main_arg2))
      ∧ r.2.sem = fun _ => 0)

def quiescent_KeyIdeal_pre_key_squares [hKeyIdeal : Cert.KeyIdeal.Facts] [hPre_key_squares : Cert.Pre_key_squares.Facts] : Prop :=
  ∀ (m : (ℓ : Loc Cert.KeyIdeal.nD Cert.KeyIdeal.τ Cert.KeyIdeal.sig) → Buf (Elt Ideal) ℓ) (g : Dev Cert.KeyIdeal.nD → PrngReg), Pre_KeyIdeal_key_squares m →
    θ_run (Cert.KeyIdeal.defs (F := Ideal)) (onTc (τ := Cert.KeyIdeal.τ) (Cert.KeyIdeal.main (F := Ideal))) ⟨m, fun _ => 0, g⟩ (fun r => (∀ c : Dev Cert.KeyIdeal.nD,
      r.2.mem ((c.tc : Thread Cert.KeyIdeal.nD Cert.KeyIdeal.τ).loc Cert.KeyIdeal.main_arg0) = m ((c.tc : Thread Cert.KeyIdeal.nD Cert.KeyIdeal.τ).loc Cert.KeyIdeal.main_arg0)
      ∧ r.2.mem ((c.tc : Thread Cert.KeyIdeal.nD Cert.KeyIdeal.τ).loc Cert.KeyIdeal.main_arg1) = m ((c.tc : Thread Cert.KeyIdeal.nD Cert.KeyIdeal.τ).loc Cert.KeyIdeal.main_arg1)
      ∧ r.2.mem ((c.tc : Thread Cert.KeyIdeal.nD Cert.KeyIdeal.τ).loc Cert.KeyIdeal.main_arg2) = m ((c.tc : Thread Cert.KeyIdeal.nD Cert.KeyIdeal.τ).loc Cert.KeyIdeal.main_arg2))
      ∧ r.2.sem = fun _ => 0)

def quiescent_KeyRefIdeal [hKeyRefIdeal : Cert.KeyRefIdeal.Facts] : Prop :=
  ∀ (m : (ℓ : Loc Cert.KeyRefIdeal.nD Cert.KeyRefIdeal.τ Cert.KeyRefIdeal.sig) → Buf (Elt Ideal) ℓ) (g : Dev Cert.KeyRefIdeal.nD → PrngReg), Pre_KeyRefIdeal m →
    θ_run (Cert.KeyRefIdeal.defs (F := Ideal)) (onTc (τ := Cert.KeyRefIdeal.τ) (Cert.KeyRefIdeal.main (F := Ideal))) ⟨m, fun _ => 0, g⟩ (fun r => (∀ c : Dev Cert.KeyRefIdeal.nD,
      r.2.mem ((c.tc : Thread Cert.KeyRefIdeal.nD Cert.KeyRefIdeal.τ).loc Cert.KeyRefIdeal.main_arg0) = m ((c.tc : Thread Cert.KeyRefIdeal.nD Cert.KeyRefIdeal.τ).loc Cert.KeyRefIdeal.main_arg0)
      ∧ r.2.mem ((c.tc : Thread Cert.KeyRefIdeal.nD Cert.KeyRefIdeal.τ).loc Cert.KeyRefIdeal.main_arg1) = m ((c.tc : Thread Cert.KeyRefIdeal.nD Cert.KeyRefIdeal.τ).loc Cert.KeyRefIdeal.main_arg1)
      ∧ r.2.mem ((c.tc : Thread Cert.KeyRefIdeal.nD Cert.KeyRefIdeal.τ).loc Cert.KeyRefIdeal.main_arg2) = m ((c.tc : Thread Cert.KeyRefIdeal.nD Cert.KeyRefIdeal.τ).loc Cert.KeyRefIdeal.main_arg2))
      ∧ r.2.sem = fun _ => 0)

def quiescent_KeyRefIdeal_pre_key_squares [hKeyRefIdeal : Cert.KeyRefIdeal.Facts] [hPre_key_squares : Cert.Pre_key_squares.Facts] : Prop :=
  ∀ (m : (ℓ : Loc Cert.KeyRefIdeal.nD Cert.KeyRefIdeal.τ Cert.KeyRefIdeal.sig) → Buf (Elt Ideal) ℓ) (g : Dev Cert.KeyRefIdeal.nD → PrngReg), Pre_KeyRefIdeal_key_squares m →
    θ_run (Cert.KeyRefIdeal.defs (F := Ideal)) (onTc (τ := Cert.KeyRefIdeal.τ) (Cert.KeyRefIdeal.main (F := Ideal))) ⟨m, fun _ => 0, g⟩ (fun r => (∀ c : Dev Cert.KeyRefIdeal.nD,
      r.2.mem ((c.tc : Thread Cert.KeyRefIdeal.nD Cert.KeyRefIdeal.τ).loc Cert.KeyRefIdeal.main_arg0) = m ((c.tc : Thread Cert.KeyRefIdeal.nD Cert.KeyRefIdeal.τ).loc Cert.KeyRefIdeal.main_arg0)
      ∧ r.2.mem ((c.tc : Thread Cert.KeyRefIdeal.nD Cert.KeyRefIdeal.τ).loc Cert.KeyRefIdeal.main_arg1) = m ((c.tc : Thread Cert.KeyRefIdeal.nD Cert.KeyRefIdeal.τ).loc Cert.KeyRefIdeal.main_arg1)
      ∧ r.2.mem ((c.tc : Thread Cert.KeyRefIdeal.nD Cert.KeyRefIdeal.τ).loc Cert.KeyRefIdeal.main_arg2) = m ((c.tc : Thread Cert.KeyRefIdeal.nD Cert.KeyRefIdeal.τ).loc Cert.KeyRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpIdeal_pre_up_squares [hUpIdeal : Cert.UpIdeal.Facts] [hPre_up_squares : Cert.Pre_up_squares.Facts] : Prop :=
  ∀ (m : (ℓ : Loc Cert.UpIdeal.nD Cert.UpIdeal.τ Cert.UpIdeal.sig) → Buf (Elt Ideal) ℓ) (g : Dev Cert.UpIdeal.nD → PrngReg), Pre_UpIdeal_up_squares m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_UpRefIdeal_pre_up_squares [hUpRefIdeal : Cert.UpRefIdeal.Facts] [hPre_up_squares : Cert.Pre_up_squares.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_up_squares m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Values [hValues : Cert.Values.Facts] : Prop :=
  ∀ (m : (ℓ : Loc Cert.Values.nD Cert.Values.τ Cert.Values.sig) → Buf (Elt Bits) ℓ) (g : Dev Cert.Values.nD → PrngReg), Pre_Values m →
    θ_run (Cert.Values.defs (F := Bits)) (onTc (τ := Cert.Values.τ) (Cert.Values.main (F := Bits))) ⟨m, fun _ => 0, g⟩ (fun r => (∀ c : Dev Cert.Values.nD,
      r.2.mem ((c.tc : Thread Cert.Values.nD Cert.Values.τ).loc Cert.Values.main_arg0) = m ((c.tc : Thread Cert.Values.nD Cert.Values.τ).loc Cert.Values.main_arg0)
      ∧ r.2.mem ((c.tc : Thread Cert.Values.nD Cert.Values.τ).loc Cert.Values.main_arg1) = m ((c.tc : Thread Cert.Values.nD Cert.Values.τ).loc Cert.Values.main_arg1)
      ∧ r.2.mem ((c.tc : Thread Cert.Values.nD Cert.Values.τ).loc Cert.Values.main_arg2) = m ((c.tc : Thread Cert.Values.nD Cert.Values.τ).loc Cert.Values.main_arg2))
      ∧ r.2.sem = fun _ => 0)

def quiescent_ValuesIdeal [hValuesIdeal : Cert.ValuesIdeal.Facts] : Prop :=
  ∀ (m : (ℓ : Loc Cert.ValuesIdeal.nD Cert.ValuesIdeal.τ Cert.ValuesIdeal.sig) → Buf (Elt Ideal) ℓ) (g : Dev Cert.ValuesIdeal.nD → PrngReg), Pre_ValuesIdeal m →
    θ_run (Cert.ValuesIdeal.defs (F := Ideal)) (onTc (τ := Cert.ValuesIdeal.τ) (Cert.ValuesIdeal.main (F := Ideal))) ⟨m, fun _ => 0, g⟩ (fun r => (∀ c : Dev Cert.ValuesIdeal.nD,
      r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
      ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1)
      ∧ r.2.mem ((c.tc : Thread Cert.ValuesIdeal.nD Cert.ValuesIdeal.τ).loc Cert.ValuesIdeal.main_arg2) = m ((c.tc : Thread Cert.ValuesIdeal.nD Cert.ValuesIdeal.τ).loc Cert.ValuesIdeal.main_arg2))
      ∧ r.2.sem = fun _ => 0)

def quiescent_ValuesIdeal_pre_values_squares [hValuesIdeal : Cert.ValuesIdeal.Facts] [hPre_values_squares : Cert.Pre_values_squares.Facts] : Prop :=
  ∀ (m : (ℓ : Loc Cert.ValuesIdeal.nD Cert.ValuesIdeal.τ Cert.ValuesIdeal.sig) → Buf (Elt Ideal) ℓ) (g : Dev Cert.ValuesIdeal.nD → PrngReg), Pre_ValuesIdeal_values_squares m →
    θ_run (Cert.ValuesIdeal.defs (F := Ideal)) (onTc (τ := Cert.ValuesIdeal.τ) (Cert.ValuesIdeal.main (F := Ideal))) ⟨m, fun _ => 0, g⟩ (fun r => (∀ c : Dev Cert.ValuesIdeal.nD,
      r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
      ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1)
      ∧ r.2.mem ((c.tc : Thread Cert.ValuesIdeal.nD Cert.ValuesIdeal.τ).loc Cert.ValuesIdeal.main_arg2) = m ((c.tc : Thread Cert.ValuesIdeal.nD Cert.ValuesIdeal.τ).loc Cert.ValuesIdeal.main_arg2))
      ∧ r.2.sem = fun _ => 0)

def quiescent_ValuesRefIdeal [hValuesRefIdeal : Cert.ValuesRefIdeal.Facts] : Prop :=
  ∀ (m : (ℓ : Loc Cert.ValuesRefIdeal.nD Cert.ValuesRefIdeal.τ Cert.ValuesRefIdeal.sig) → Buf (Elt Ideal) ℓ) (g : Dev Cert.ValuesRefIdeal.nD → PrngReg), Pre_ValuesRefIdeal m →
    θ_run (Cert.ValuesRefIdeal.defs (F := Ideal)) (onTc (τ := Cert.ValuesRefIdeal.τ) (Cert.ValuesRefIdeal.main (F := Ideal))) ⟨m, fun _ => 0, g⟩ (fun r => (∀ c : Dev Cert.ValuesRefIdeal.nD,
      r.2.mem ((c.tc : Thread Cert.ValuesRefIdeal.nD Cert.ValuesRefIdeal.τ).loc Cert.ValuesRefIdeal.main_arg0) = m ((c.tc : Thread Cert.ValuesRefIdeal.nD Cert.ValuesRefIdeal.τ).loc Cert.ValuesRefIdeal.main_arg0)
      ∧ r.2.mem ((c.tc : Thread Cert.ValuesRefIdeal.nD Cert.ValuesRefIdeal.τ).loc Cert.ValuesRefIdeal.main_arg1) = m ((c.tc : Thread Cert.ValuesRefIdeal.nD Cert.ValuesRefIdeal.τ).loc Cert.ValuesRefIdeal.main_arg1)
      ∧ r.2.mem ((c.tc : Thread Cert.ValuesRefIdeal.nD Cert.ValuesRefIdeal.τ).loc Cert.ValuesRefIdeal.main_arg2) = m ((c.tc : Thread Cert.ValuesRefIdeal.nD Cert.ValuesRefIdeal.τ).loc Cert.ValuesRefIdeal.main_arg2))
      ∧ r.2.sem = fun _ => 0)

def quiescent_ValuesRefIdeal_pre_values_squares [hValuesRefIdeal : Cert.ValuesRefIdeal.Facts] [hPre_values_squares : Cert.Pre_values_squares.Facts] : Prop :=
  ∀ (m : (ℓ : Loc Cert.ValuesRefIdeal.nD Cert.ValuesRefIdeal.τ Cert.ValuesRefIdeal.sig) → Buf (Elt Ideal) ℓ) (g : Dev Cert.ValuesRefIdeal.nD → PrngReg), Pre_ValuesRefIdeal_values_squares m →
    θ_run (Cert.ValuesRefIdeal.defs (F := Ideal)) (onTc (τ := Cert.ValuesRefIdeal.τ) (Cert.ValuesRefIdeal.main (F := Ideal))) ⟨m, fun _ => 0, g⟩ (fun r => (∀ c : Dev Cert.ValuesRefIdeal.nD,
      r.2.mem ((c.tc : Thread Cert.ValuesRefIdeal.nD Cert.ValuesRefIdeal.τ).loc Cert.ValuesRefIdeal.main_arg0) = m ((c.tc : Thread Cert.ValuesRefIdeal.nD Cert.ValuesRefIdeal.τ).loc Cert.ValuesRefIdeal.main_arg0)
      ∧ r.2.mem ((c.tc : Thread Cert.ValuesRefIdeal.nD Cert.ValuesRefIdeal.τ).loc Cert.ValuesRefIdeal.main_arg1) = m ((c.tc : Thread Cert.ValuesRefIdeal.nD Cert.ValuesRefIdeal.τ).loc Cert.ValuesRefIdeal.main_arg1)
      ∧ r.2.mem ((c.tc : Thread Cert.ValuesRefIdeal.nD Cert.ValuesRefIdeal.τ).loc Cert.ValuesRefIdeal.main_arg2) = m ((c.tc : Thread Cert.ValuesRefIdeal.nD Cert.ValuesRefIdeal.τ).loc Cert.ValuesRefIdeal.main_arg2))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1))
      ∧ r.2.sem = fun _ => 0)

def quiescent_MemoryRefIdeal [hMemoryRefIdeal : Cert.MemoryRefIdeal.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1))
      ∧ r.2.sem = fun _ => 0)

def quiescent_Memkv [hMemkv : Cert.Memkv.Facts] : Prop :=
  ∀ (m : (ℓ : Loc Cert.Memkv.nD Cert.Memkv.τ Cert.Memkv.sig) → Buf (Elt Bits) ℓ) (g : Dev Cert.Memkv.nD → PrngReg), Pre_Memkv m →
    θ_run (Cert.Memkv.defs (F := Bits)) (onTc (τ := Cert.Memkv.τ) (Cert.Memkv.main (F := Bits))) ⟨m, fun _ => 0, g⟩ (fun r => (∀ c : Dev Cert.Memkv.nD,
      r.2.mem ((c.tc : Thread Cert.Memkv.nD Cert.Memkv.τ).loc Cert.Memkv.main_arg0) = m ((c.tc : Thread Cert.Memkv.nD Cert.Memkv.τ).loc Cert.Memkv.main_arg0)
      ∧ r.2.mem ((c.tc : Thread Cert.Memkv.nD Cert.Memkv.τ).loc Cert.Memkv.main_arg1) = m ((c.tc : Thread Cert.Memkv.nD Cert.Memkv.τ).loc Cert.Memkv.main_arg1))
      ∧ r.2.sem = fun _ => 0)

def quiescent_MemkvIdeal [hMemkvIdeal : Cert.MemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg), Pre_MemkvIdeal m →
    θ_run (Cert.MemkvIdeal.defs (F := Ideal)) (onTc (τ := Cert.MemkvIdeal.τ) (Cert.MemkvIdeal.main (F := Ideal))) ⟨m, fun _ => 0, g⟩ (fun r => (∀ c : Dev Cert.MemkvIdeal.nD,
      r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
      ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1))
      ∧ r.2.sem = fun _ => 0)

def quiescent_MemkvRefIdeal [hMemkvRefIdeal : Cert.MemkvRefIdeal.Facts] : Prop :=
  ∀ (m : (ℓ : Loc Cert.MemkvRefIdeal.nD Cert.MemkvRefIdeal.τ Cert.MemkvRefIdeal.sig) → Buf (Elt Ideal) ℓ) (g : Dev Cert.MemkvRefIdeal.nD → PrngReg), Pre_MemkvRefIdeal m →
    θ_run (Cert.MemkvRefIdeal.defs (F := Ideal)) (onTc (τ := Cert.MemkvRefIdeal.τ) (Cert.MemkvRefIdeal.main (F := Ideal))) ⟨m, fun _ => 0, g⟩ (fun r => (∀ c : Dev Cert.MemkvRefIdeal.nD,
      r.2.mem ((c.tc : Thread Cert.MemkvRefIdeal.nD Cert.MemkvRefIdeal.τ).loc Cert.MemkvRefIdeal.main_arg0) = m ((c.tc : Thread Cert.MemkvRefIdeal.nD Cert.MemkvRefIdeal.τ).loc Cert.MemkvRefIdeal.main_arg0)
      ∧ r.2.mem ((c.tc : Thread Cert.MemkvRefIdeal.nD Cert.MemkvRefIdeal.τ).loc Cert.MemkvRefIdeal.main_arg1) = m ((c.tc : Thread Cert.MemkvRefIdeal.nD Cert.MemkvRefIdeal.τ).loc Cert.MemkvRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Bmem [hBmem : Cert.Bmem.Facts] : Prop :=
  ∀ (m : (ℓ : Loc Cert.Bmem.nD Cert.Bmem.τ Cert.Bmem.sig) → Buf (Elt Bits) ℓ) (g : Dev Cert.Bmem.nD → PrngReg), Pre_Bmem m →
    θ_run (Cert.Bmem.defs (F := Bits)) (onTc (τ := Cert.Bmem.τ) (Cert.Bmem.main (F := Bits))) ⟨m, fun _ => 0, g⟩ (fun r => (∀ c : Dev Cert.Bmem.nD,
      r.2.mem ((c.tc : Thread Cert.Bmem.nD Cert.Bmem.τ).loc Cert.Bmem.main_arg0) = m ((c.tc : Thread Cert.Bmem.nD Cert.Bmem.τ).loc Cert.Bmem.main_arg0)
      ∧ r.2.mem ((c.tc : Thread Cert.Bmem.nD Cert.Bmem.τ).loc Cert.Bmem.main_arg1) = m ((c.tc : Thread Cert.Bmem.nD Cert.Bmem.τ).loc Cert.Bmem.main_arg1))
      ∧ r.2.sem = fun _ => 0)

def quiescent_BmemIdeal [hBmemIdeal : Cert.BmemIdeal.Facts] : Prop :=
  ∀ (m : (ℓ : Loc Cert.BmemIdeal.nD Cert.BmemIdeal.τ Cert.BmemIdeal.sig) → Buf (Elt Ideal) ℓ) (g : Dev Cert.BmemIdeal.nD → PrngReg), Pre_BmemIdeal m →
    θ_run (Cert.BmemIdeal.defs (F := Ideal)) (onTc (τ := Cert.BmemIdeal.τ) (Cert.BmemIdeal.main (F := Ideal))) ⟨m, fun _ => 0, g⟩ (fun r => (∀ c : Dev Cert.BmemIdeal.nD,
      r.2.mem ((c.tc : Thread Cert.BmemIdeal.nD Cert.BmemIdeal.τ).loc Cert.BmemIdeal.main_arg0) = m ((c.tc : Thread Cert.BmemIdeal.nD Cert.BmemIdeal.τ).loc Cert.BmemIdeal.main_arg0)
      ∧ r.2.mem ((c.tc : Thread Cert.BmemIdeal.nD Cert.BmemIdeal.τ).loc Cert.BmemIdeal.main_arg1) = m ((c.tc : Thread Cert.BmemIdeal.nD Cert.BmemIdeal.τ).loc Cert.BmemIdeal.main_arg1))
      ∧ r.2.sem = fun _ => 0)

def quiescent_BmemRefIdeal [hBmemRefIdeal : Cert.BmemRefIdeal.Facts] : Prop :=
  ∀ (m : (ℓ : Loc Cert.BmemRefIdeal.nD Cert.BmemRefIdeal.τ Cert.BmemRefIdeal.sig) → Buf (Elt Ideal) ℓ) (g : Dev Cert.BmemRefIdeal.nD → PrngReg), Pre_BmemRefIdeal m →
    θ_run (Cert.BmemRefIdeal.defs (F := Ideal)) (onTc (τ := Cert.BmemRefIdeal.τ) (Cert.BmemRefIdeal.main (F := Ideal))) ⟨m, fun _ => 0, g⟩ (fun r => (∀ c : Dev Cert.BmemRefIdeal.nD,
      r.2.mem ((c.tc : Thread Cert.BmemRefIdeal.nD Cert.BmemRefIdeal.τ).loc Cert.BmemRefIdeal.main_arg0) = m ((c.tc : Thread Cert.BmemRefIdeal.nD Cert.BmemRefIdeal.τ).loc Cert.BmemRefIdeal.main_arg0)
      ∧ r.2.mem ((c.tc : Thread Cert.BmemRefIdeal.nD Cert.BmemRefIdeal.τ).loc Cert.BmemRefIdeal.main_arg1) = m ((c.tc : Thread Cert.BmemRefIdeal.nD Cert.BmemRefIdeal.τ).loc Cert.BmemRefIdeal.main_arg1))
      ∧ r.2.sem = fun _ => 0)

def quiescent_Memnorm [hMemnorm : Cert.Memnorm.Facts] : Prop :=
  ∀ (m : (ℓ : Loc Cert.Memnorm.nD Cert.Memnorm.τ Cert.Memnorm.sig) → Buf (Elt Bits) ℓ) (g : Dev Cert.Memnorm.nD → PrngReg), Pre_Memnorm m →
    θ_run (Cert.Memnorm.defs (F := Bits)) (onTc (τ := Cert.Memnorm.τ) (Cert.Memnorm.main (F := Bits))) ⟨m, fun _ => 0, g⟩ (fun r => (∀ c : Dev Cert.Memnorm.nD,
      r.2.mem ((c.tc : Thread Cert.Memnorm.nD Cert.Memnorm.τ).loc Cert.Memnorm.main_arg0) = m ((c.tc : Thread Cert.Memnorm.nD Cert.Memnorm.τ).loc Cert.Memnorm.main_arg0)
      ∧ r.2.mem ((c.tc : Thread Cert.Memnorm.nD Cert.Memnorm.τ).loc Cert.Memnorm.main_arg1) = m ((c.tc : Thread Cert.Memnorm.nD Cert.Memnorm.τ).loc Cert.Memnorm.main_arg1))
      ∧ r.2.sem = fun _ => 0)

def quiescent_MemnormIdeal [hMemnormIdeal : Cert.MemnormIdeal.Facts] : Prop :=
  ∀ (m : (ℓ : Loc Cert.MemnormIdeal.nD Cert.MemnormIdeal.τ Cert.MemnormIdeal.sig) → Buf (Elt Ideal) ℓ) (g : Dev Cert.MemnormIdeal.nD → PrngReg), Pre_MemnormIdeal m →
    θ_run (Cert.MemnormIdeal.defs (F := Ideal)) (onTc (τ := Cert.MemnormIdeal.τ) (Cert.MemnormIdeal.main (F := Ideal))) ⟨m, fun _ => 0, g⟩ (fun r => (∀ c : Dev Cert.MemnormIdeal.nD,
      r.2.mem ((c.tc : Thread Cert.MemnormIdeal.nD Cert.MemnormIdeal.τ).loc Cert.MemnormIdeal.main_arg0) = m ((c.tc : Thread Cert.MemnormIdeal.nD Cert.MemnormIdeal.τ).loc Cert.MemnormIdeal.main_arg0)
      ∧ r.2.mem ((c.tc : Thread Cert.MemnormIdeal.nD Cert.MemnormIdeal.τ).loc Cert.MemnormIdeal.main_arg1) = m ((c.tc : Thread Cert.MemnormIdeal.nD Cert.MemnormIdeal.τ).loc Cert.MemnormIdeal.main_arg1))
      ∧ r.2.sem = fun _ => 0)

def quiescent_MemnormRefIdeal [hMemnormRefIdeal : Cert.MemnormRefIdeal.Facts] : Prop :=
  ∀ (m : (ℓ : Loc Cert.MemnormRefIdeal.nD Cert.MemnormRefIdeal.τ Cert.MemnormRefIdeal.sig) → Buf (Elt Ideal) ℓ) (g : Dev Cert.MemnormRefIdeal.nD → PrngReg), Pre_MemnormRefIdeal m →
    θ_run (Cert.MemnormRefIdeal.defs (F := Ideal)) (onTc (τ := Cert.MemnormRefIdeal.τ) (Cert.MemnormRefIdeal.main (F := Ideal))) ⟨m, fun _ => 0, g⟩ (fun r => (∀ c : Dev Cert.MemnormRefIdeal.nD,
      r.2.mem ((c.tc : Thread Cert.MemnormRefIdeal.nD Cert.MemnormRefIdeal.τ).loc Cert.MemnormRefIdeal.main_arg0) = m ((c.tc : Thread Cert.MemnormRefIdeal.nD Cert.MemnormRefIdeal.τ).loc Cert.MemnormRefIdeal.main_arg0)
      ∧ r.2.mem ((c.tc : Thread Cert.MemnormRefIdeal.nD Cert.MemnormRefIdeal.τ).loc Cert.MemnormRefIdeal.main_arg1) = m ((c.tc : Thread Cert.MemnormRefIdeal.nD Cert.MemnormRefIdeal.τ).loc Cert.MemnormRefIdeal.main_arg1))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2))
      ∧ r.2.sem = fun _ => 0)

def quiescent_Turn [hTurn : Cert.Turn.Facts] : Prop :=
  ∀ (m : (ℓ : Loc Cert.Turn.nD Cert.Turn.τ Cert.Turn.sig) → Buf (Elt Bits) ℓ) (g : Dev Cert.Turn.nD → PrngReg), Pre_Turn m →
    θ_run (Cert.Turn.defs (F := Bits)) (onTc (τ := Cert.Turn.τ) (Cert.Turn.main (F := Bits))) ⟨m, fun _ => 0, g⟩ (fun r => (∀ c : Dev Cert.Turn.nD,
      r.2.mem ((c.tc : Thread Cert.Turn.nD Cert.Turn.τ).loc Cert.Turn.main_arg0) = m ((c.tc : Thread Cert.Turn.nD Cert.Turn.τ).loc Cert.Turn.main_arg0)
      ∧ r.2.mem ((c.tc : Thread Cert.Turn.nD Cert.Turn.τ).loc Cert.Turn.main_arg1) = m ((c.tc : Thread Cert.Turn.nD Cert.Turn.τ).loc Cert.Turn.main_arg1)
      ∧ r.2.mem ((c.tc : Thread Cert.Turn.nD Cert.Turn.τ).loc Cert.Turn.main_arg2) = m ((c.tc : Thread Cert.Turn.nD Cert.Turn.τ).loc Cert.Turn.main_arg2)
      ∧ r.2.mem ((c.tc : Thread Cert.Turn.nD Cert.Turn.τ).loc Cert.Turn.main_arg3) = m ((c.tc : Thread Cert.Turn.nD Cert.Turn.τ).loc Cert.Turn.main_arg3)
      ∧ r.2.mem ((c.tc : Thread Cert.Turn.nD Cert.Turn.τ).loc Cert.Turn.main_arg4) = m ((c.tc : Thread Cert.Turn.nD Cert.Turn.τ).loc Cert.Turn.main_arg4))
      ∧ r.2.sem = fun _ => 0)

def quiescent_TurnIdeal [hTurnIdeal : Cert.TurnIdeal.Facts] : Prop :=
  ∀ (m : (ℓ : Loc Cert.TurnIdeal.nD Cert.TurnIdeal.τ Cert.TurnIdeal.sig) → Buf (Elt Ideal) ℓ) (g : Dev Cert.TurnIdeal.nD → PrngReg), Pre_TurnIdeal m →
    θ_run (Cert.TurnIdeal.defs (F := Ideal)) (onTc (τ := Cert.TurnIdeal.τ) (Cert.TurnIdeal.main (F := Ideal))) ⟨m, fun _ => 0, g⟩ (fun r => (∀ c : Dev Cert.TurnIdeal.nD,
      r.2.mem ((c.tc : Thread Cert.TurnIdeal.nD Cert.TurnIdeal.τ).loc Cert.TurnIdeal.main_arg0) = m ((c.tc : Thread Cert.TurnIdeal.nD Cert.TurnIdeal.τ).loc Cert.TurnIdeal.main_arg0)
      ∧ r.2.mem ((c.tc : Thread Cert.TurnIdeal.nD Cert.TurnIdeal.τ).loc Cert.TurnIdeal.main_arg1) = m ((c.tc : Thread Cert.TurnIdeal.nD Cert.TurnIdeal.τ).loc Cert.TurnIdeal.main_arg1)
      ∧ r.2.mem ((c.tc : Thread Cert.TurnIdeal.nD Cert.TurnIdeal.τ).loc Cert.TurnIdeal.main_arg2) = m ((c.tc : Thread Cert.TurnIdeal.nD Cert.TurnIdeal.τ).loc Cert.TurnIdeal.main_arg2)
      ∧ r.2.mem ((c.tc : Thread Cert.TurnIdeal.nD Cert.TurnIdeal.τ).loc Cert.TurnIdeal.main_arg3) = m ((c.tc : Thread Cert.TurnIdeal.nD Cert.TurnIdeal.τ).loc Cert.TurnIdeal.main_arg3)
      ∧ r.2.mem ((c.tc : Thread Cert.TurnIdeal.nD Cert.TurnIdeal.τ).loc Cert.TurnIdeal.main_arg4) = m ((c.tc : Thread Cert.TurnIdeal.nD Cert.TurnIdeal.τ).loc Cert.TurnIdeal.main_arg4))
      ∧ r.2.sem = fun _ => 0)

def quiescent_TurnRefIdeal [hTurnRefIdeal : Cert.TurnRefIdeal.Facts] : Prop :=
  ∀ (m : (ℓ : Loc Cert.TurnRefIdeal.nD Cert.TurnRefIdeal.τ Cert.TurnRefIdeal.sig) → Buf (Elt Ideal) ℓ) (g : Dev Cert.TurnRefIdeal.nD → PrngReg), Pre_TurnRefIdeal m →
    θ_run (Cert.TurnRefIdeal.defs (F := Ideal)) (onTc (τ := Cert.TurnRefIdeal.τ) (Cert.TurnRefIdeal.main (F := Ideal))) ⟨m, fun _ => 0, g⟩ (fun r => (∀ c : Dev Cert.TurnRefIdeal.nD,
      r.2.mem ((c.tc : Thread Cert.TurnRefIdeal.nD Cert.TurnRefIdeal.τ).loc Cert.TurnRefIdeal.main_arg0) = m ((c.tc : Thread Cert.TurnRefIdeal.nD Cert.TurnRefIdeal.τ).loc Cert.TurnRefIdeal.main_arg0)
      ∧ r.2.mem ((c.tc : Thread Cert.TurnRefIdeal.nD Cert.TurnRefIdeal.τ).loc Cert.TurnRefIdeal.main_arg1) = m ((c.tc : Thread Cert.TurnRefIdeal.nD Cert.TurnRefIdeal.τ).loc Cert.TurnRefIdeal.main_arg1)
      ∧ r.2.mem ((c.tc : Thread Cert.TurnRefIdeal.nD Cert.TurnRefIdeal.τ).loc Cert.TurnRefIdeal.main_arg2) = m ((c.tc : Thread Cert.TurnRefIdeal.nD Cert.TurnRefIdeal.τ).loc Cert.TurnRefIdeal.main_arg2)
      ∧ r.2.mem ((c.tc : Thread Cert.TurnRefIdeal.nD Cert.TurnRefIdeal.τ).loc Cert.TurnRefIdeal.main_arg3) = m ((c.tc : Thread Cert.TurnRefIdeal.nD Cert.TurnRefIdeal.τ).loc Cert.TurnRefIdeal.main_arg3)
      ∧ r.2.mem ((c.tc : Thread Cert.TurnRefIdeal.nD Cert.TurnRefIdeal.τ).loc Cert.TurnRefIdeal.main_arg4) = m ((c.tc : Thread Cert.TurnRefIdeal.nD Cert.TurnRefIdeal.τ).loc Cert.TurnRefIdeal.main_arg4))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ r.2.sem = fun _ => 0)

def quiescent_BiasRefIdeal [hBiasRefIdeal : Cert.BiasRefIdeal.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0))
      ∧ r.2.sem = fun _ => 0)

def preserves_Retention_RetentionIdeal : Prop :=
  True

def algebraic_RetentionIdeal_RetentionRefIdeal_pre_finite [hRetentionIdeal : Cert.RetentionIdeal.Facts] [hRetentionRefIdeal : Cert.RetentionRefIdeal.Facts] [hPre_finite : Cert.Pre_finite.Facts] : Prop :=
  ∀ (m : (ℓ : Loc Cert.RetentionIdeal.nD Cert.RetentionIdeal.τ Cert.RetentionIdeal.sig) → Buf (Elt Ideal) ℓ) (g : Dev Cert.RetentionIdeal.nD → PrngReg)
    (m' : (ℓ : Loc Cert.RetentionRefIdeal.nD Cert.RetentionRefIdeal.τ Cert.RetentionRefIdeal.sig) → Buf (Elt Ideal) ℓ) (g' : Dev Cert.RetentionRefIdeal.nD → PrngReg), Pre_RetentionIdeal_finite m →
    (∀ c : Dev Cert.RetentionIdeal.nD,
      m' ((c.tc : Thread Cert.RetentionRefIdeal.nD Cert.RetentionRefIdeal.τ).loc Cert.RetentionRefIdeal.main_arg0) = m ((c.tc : Thread Cert.RetentionIdeal.nD Cert.RetentionIdeal.τ).loc Cert.RetentionIdeal.main_arg0)) →
    ∃ (v0 : (c : Dev Cert.RetentionIdeal.nD) → Buf (Elt Ideal) ((c.tc : Thread Cert.RetentionIdeal.nD Cert.RetentionIdeal.τ).loc Cert.RetentionIdeal.main_v76)),
      θ_run (Cert.RetentionIdeal.defs (F := Ideal)) (onTc (τ := Cert.RetentionIdeal.τ) (Cert.RetentionIdeal.main (F := Ideal))) ⟨m, fun _ => 0, g⟩ (fun r => ∀ c : Dev Cert.RetentionIdeal.nD,
          r.2.mem ((c.tc : Thread Cert.RetentionIdeal.nD Cert.RetentionIdeal.τ).loc Cert.RetentionIdeal.main_v76) = v0 c
          ∧ r.2.mem ((c.tc : Thread Cert.RetentionIdeal.nD Cert.RetentionIdeal.τ).loc Cert.RetentionIdeal.main_arg0) = m ((c.tc : Thread Cert.RetentionIdeal.nD Cert.RetentionIdeal.τ).loc Cert.RetentionIdeal.main_arg0))
      ∧ θ_run (Cert.RetentionRefIdeal.defs (F := Ideal)) (onTc (τ := Cert.RetentionRefIdeal.τ) (Cert.RetentionRefIdeal.main (F := Ideal))) ⟨m', fun _ => 0, g'⟩ (fun r => ∀ c : Dev Cert.RetentionRefIdeal.nD,
          r.2.mem ((c.tc : Thread Cert.RetentionRefIdeal.nD Cert.RetentionRefIdeal.τ).loc Cert.RetentionRefIdeal.main_v152) = v0 c
          ∧ r.2.mem ((c.tc : Thread Cert.RetentionRefIdeal.nD Cert.RetentionRefIdeal.τ).loc Cert.RetentionRefIdeal.main_arg0) = m' ((c.tc : Thread Cert.RetentionRefIdeal.nD Cert.RetentionRefIdeal.τ).loc Cert.RetentionRefIdeal.main_arg0))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v1_0)) (v1 : (c : Dev Cert.DownIdeal.nD) → Buf (Elt Ideal) ((c.tc : Thread Cert.DownIdeal.nD Cert.DownIdeal.τ).loc Cert.DownIdeal.main_v1_1)) (v2 : (c : Dev Cert.DownIdeal.nD) → Buf (Elt Ideal) ((c.tc : Thread Cert.DownIdeal.nD Cert.DownIdeal.τ).loc Cert.DownIdeal.main_v1_2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1_0) = v0 c
          ∧ r.2.mem ((c.tc : Thread Cert.DownIdeal.nD Cert.DownIdeal.τ).loc Cert.DownIdeal.main_v1_1) = v1 c
          ∧ r.2.mem ((c.tc : Thread Cert.DownIdeal.nD Cert.DownIdeal.τ).loc Cert.DownIdeal.main_v1_2) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_v12) = v1 c
          ∧ r.2.mem ((c.tc : Thread Cert.DownRefIdeal.nD Cert.DownRefIdeal.τ).loc Cert.DownRefIdeal.main_v8) = v2 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Ain_AinIdeal : Prop :=
  True

def algebraic_AinIdeal_AinRefIdeal_pre_in_squares [hAinIdeal : Cert.AinIdeal.Facts] [hAinRefIdeal : Cert.AinRefIdeal.Facts] [hPre_in_squares : Cert.Pre_in_squares.Facts] : Prop :=
  ∀ (m : (ℓ : Loc Cert.AinIdeal.nD Cert.AinIdeal.τ Cert.AinIdeal.sig) → Buf (Elt Ideal) ℓ) (g : Dev Cert.AinIdeal.nD → PrngReg)
    (m' : (ℓ : Loc Cert.AinRefIdeal.nD Cert.AinRefIdeal.τ Cert.AinRefIdeal.sig) → Buf (Elt Ideal) ℓ) (g' : Dev Cert.AinRefIdeal.nD → PrngReg), Pre_AinIdeal_in_squares m →
    (∀ c : Dev Cert.AinIdeal.nD,
      m' ((c.tc : Thread Cert.AinRefIdeal.nD Cert.AinRefIdeal.τ).loc Cert.AinRefIdeal.main_arg0) = m ((c.tc : Thread Cert.AinIdeal.nD Cert.AinIdeal.τ).loc Cert.AinIdeal.main_arg0)
      ∧ m' ((c.tc : Thread Cert.AinRefIdeal.nD Cert.AinRefIdeal.τ).loc Cert.AinRefIdeal.main_arg1) = m ((c.tc : Thread Cert.AinIdeal.nD Cert.AinIdeal.τ).loc Cert.AinIdeal.main_arg1)
      ∧ m' ((c.tc : Thread Cert.AinRefIdeal.nD Cert.AinRefIdeal.τ).loc Cert.AinRefIdeal.main_arg2) = m ((c.tc : Thread Cert.AinIdeal.nD Cert.AinIdeal.τ).loc Cert.AinIdeal.main_arg2)) →
    ∃ (v0 : (c : Dev Cert.AinIdeal.nD) → Buf (Elt Ideal) ((c.tc : Thread Cert.AinIdeal.nD Cert.AinIdeal.τ).loc Cert.AinIdeal.main_v0)),
      θ_run (Cert.AinIdeal.defs (F := Ideal)) (onTc (τ := Cert.AinIdeal.τ) (Cert.AinIdeal.main (F := Ideal))) ⟨m, fun _ => 0, g⟩ (fun r => ∀ c : Dev Cert.AinIdeal.nD,
          r.2.mem ((c.tc : Thread Cert.AinIdeal.nD Cert.AinIdeal.τ).loc Cert.AinIdeal.main_v0) = v0 c
          ∧ r.2.mem ((c.tc : Thread Cert.AinIdeal.nD Cert.AinIdeal.τ).loc Cert.AinIdeal.main_arg0) = m ((c.tc : Thread Cert.AinIdeal.nD Cert.AinIdeal.τ).loc Cert.AinIdeal.main_arg0)
          ∧ r.2.mem ((c.tc : Thread Cert.AinIdeal.nD Cert.AinIdeal.τ).loc Cert.AinIdeal.main_arg1) = m ((c.tc : Thread Cert.AinIdeal.nD Cert.AinIdeal.τ).loc Cert.AinIdeal.main_arg1)
          ∧ r.2.mem ((c.tc : Thread Cert.AinIdeal.nD Cert.AinIdeal.τ).loc Cert.AinIdeal.main_arg2) = m ((c.tc : Thread Cert.AinIdeal.nD Cert.AinIdeal.τ).loc Cert.AinIdeal.main_arg2))
      ∧ θ_run (Cert.AinRefIdeal.defs (F := Ideal)) (onTc (τ := Cert.AinRefIdeal.τ) (Cert.AinRefIdeal.main (F := Ideal))) ⟨m', fun _ => 0, g'⟩ (fun r => ∀ c : Dev Cert.AinRefIdeal.nD,
          r.2.mem ((c.tc : Thread Cert.AinRefIdeal.nD Cert.AinRefIdeal.τ).loc Cert.AinRefIdeal.main_v13) = v0 c
          ∧ r.2.mem ((c.tc : Thread Cert.AinRefIdeal.nD Cert.AinRefIdeal.τ).loc Cert.AinRefIdeal.main_arg0) = m' ((c.tc : Thread Cert.AinRefIdeal.nD Cert.AinRefIdeal.τ).loc Cert.AinRefIdeal.main_arg0)
          ∧ r.2.mem ((c.tc : Thread Cert.AinRefIdeal.nD Cert.AinRefIdeal.τ).loc Cert.AinRefIdeal.main_arg1) = m' ((c.tc : Thread Cert.AinRefIdeal.nD Cert.AinRefIdeal.τ).loc Cert.AinRefIdeal.main_arg1)
          ∧ r.2.mem ((c.tc : Thread Cert.AinRefIdeal.nD Cert.AinRefIdeal.τ).loc Cert.AinRefIdeal.main_arg2) = m' ((c.tc : Thread Cert.AinRefIdeal.nD Cert.AinRefIdeal.τ).loc Cert.AinRefIdeal.main_arg2))

def preserves_Bin_BinIdeal : Prop :=
  True

def algebraic_BinIdeal_BinRefIdeal_pre_q_squares [hBinIdeal : Cert.BinIdeal.Facts] [hBinRefIdeal : Cert.BinRefIdeal.Facts] [hPre_q_squares : Cert.Pre_q_squares.Facts] : Prop :=
  ∀ (m : (ℓ : Loc Cert.BinIdeal.nD Cert.BinIdeal.τ Cert.BinIdeal.sig) → Buf (Elt Ideal) ℓ) (g : Dev Cert.BinIdeal.nD → PrngReg)
    (m' : (ℓ : Loc Cert.BinRefIdeal.nD Cert.BinRefIdeal.τ Cert.BinRefIdeal.sig) → Buf (Elt Ideal) ℓ) (g' : Dev Cert.BinRefIdeal.nD → PrngReg), Pre_BinIdeal_q_squares m →
    (∀ c : Dev Cert.BinIdeal.nD,
      m' ((c.tc : Thread Cert.BinRefIdeal.nD Cert.BinRefIdeal.τ).loc Cert.BinRefIdeal.main_arg0) = m ((c.tc : Thread Cert.BinIdeal.nD Cert.BinIdeal.τ).loc Cert.BinIdeal.main_arg0)
      ∧ m' ((c.tc : Thread Cert.BinRefIdeal.nD Cert.BinRefIdeal.τ).loc Cert.BinRefIdeal.main_arg1) = m ((c.tc : Thread Cert.BinIdeal.nD Cert.BinIdeal.τ).loc Cert.BinIdeal.main_arg1)
      ∧ m' ((c.tc : Thread Cert.BinRefIdeal.nD Cert.BinRefIdeal.τ).loc Cert.BinRefIdeal.main_arg2) = m ((c.tc : Thread Cert.BinIdeal.nD Cert.BinIdeal.τ).loc Cert.BinIdeal.main_arg2)) →
    ∃ (v0 : (c : Dev Cert.BinIdeal.nD) → Buf (Elt Ideal) ((c.tc : Thread Cert.BinIdeal.nD Cert.BinIdeal.τ).loc Cert.BinIdeal.main_v0)),
      θ_run (Cert.BinIdeal.defs (F := Ideal)) (onTc (τ := Cert.BinIdeal.τ) (Cert.BinIdeal.main (F := Ideal))) ⟨m, fun _ => 0, g⟩ (fun r => ∀ c : Dev Cert.BinIdeal.nD,
          r.2.mem ((c.tc : Thread Cert.BinIdeal.nD Cert.BinIdeal.τ).loc Cert.BinIdeal.main_v0) = v0 c
          ∧ r.2.mem ((c.tc : Thread Cert.BinIdeal.nD Cert.BinIdeal.τ).loc Cert.BinIdeal.main_arg0) = m ((c.tc : Thread Cert.BinIdeal.nD Cert.BinIdeal.τ).loc Cert.BinIdeal.main_arg0)
          ∧ r.2.mem ((c.tc : Thread Cert.BinIdeal.nD Cert.BinIdeal.τ).loc Cert.BinIdeal.main_arg1) = m ((c.tc : Thread Cert.BinIdeal.nD Cert.BinIdeal.τ).loc Cert.BinIdeal.main_arg1)
          ∧ r.2.mem ((c.tc : Thread Cert.BinIdeal.nD Cert.BinIdeal.τ).loc Cert.BinIdeal.main_arg2) = m ((c.tc : Thread Cert.BinIdeal.nD Cert.BinIdeal.τ).loc Cert.BinIdeal.main_arg2))
      ∧ θ_run (Cert.BinRefIdeal.defs (F := Ideal)) (onTc (τ := Cert.BinRefIdeal.τ) (Cert.BinRefIdeal.main (F := Ideal))) ⟨m', fun _ => 0, g'⟩ (fun r => ∀ c : Dev Cert.BinRefIdeal.nD,
          r.2.mem ((c.tc : Thread Cert.BinRefIdeal.nD Cert.BinRefIdeal.τ).loc Cert.BinRefIdeal.main_v13) = v0 c
          ∧ r.2.mem ((c.tc : Thread Cert.BinRefIdeal.nD Cert.BinRefIdeal.τ).loc Cert.BinRefIdeal.main_arg0) = m' ((c.tc : Thread Cert.BinRefIdeal.nD Cert.BinRefIdeal.τ).loc Cert.BinRefIdeal.main_arg0)
          ∧ r.2.mem ((c.tc : Thread Cert.BinRefIdeal.nD Cert.BinRefIdeal.τ).loc Cert.BinRefIdeal.main_arg1) = m' ((c.tc : Thread Cert.BinRefIdeal.nD Cert.BinRefIdeal.τ).loc Cert.BinRefIdeal.main_arg1)
          ∧ r.2.mem ((c.tc : Thread Cert.BinRefIdeal.nD Cert.BinRefIdeal.τ).loc Cert.BinRefIdeal.main_arg2) = m' ((c.tc : Thread Cert.BinRefIdeal.nD Cert.BinRefIdeal.τ).loc Cert.BinRefIdeal.main_arg2))

def preserves_Key_KeyIdeal : Prop :=
  True

def algebraic_KeyIdeal_KeyRefIdeal_pre_key_squares [hKeyIdeal : Cert.KeyIdeal.Facts] [hKeyRefIdeal : Cert.KeyRefIdeal.Facts] [hPre_key_squares : Cert.Pre_key_squares.Facts] : Prop :=
  ∀ (m : (ℓ : Loc Cert.KeyIdeal.nD Cert.KeyIdeal.τ Cert.KeyIdeal.sig) → Buf (Elt Ideal) ℓ) (g : Dev Cert.KeyIdeal.nD → PrngReg)
    (m' : (ℓ : Loc Cert.KeyRefIdeal.nD Cert.KeyRefIdeal.τ Cert.KeyRefIdeal.sig) → Buf (Elt Ideal) ℓ) (g' : Dev Cert.KeyRefIdeal.nD → PrngReg), Pre_KeyIdeal_key_squares m →
    (∀ c : Dev Cert.KeyIdeal.nD,
      m' ((c.tc : Thread Cert.KeyRefIdeal.nD Cert.KeyRefIdeal.τ).loc Cert.KeyRefIdeal.main_arg0) = m ((c.tc : Thread Cert.KeyIdeal.nD Cert.KeyIdeal.τ).loc Cert.KeyIdeal.main_arg0)
      ∧ m' ((c.tc : Thread Cert.KeyRefIdeal.nD Cert.KeyRefIdeal.τ).loc Cert.KeyRefIdeal.main_arg1) = m ((c.tc : Thread Cert.KeyIdeal.nD Cert.KeyIdeal.τ).loc Cert.KeyIdeal.main_arg1)
      ∧ m' ((c.tc : Thread Cert.KeyRefIdeal.nD Cert.KeyRefIdeal.τ).loc Cert.KeyRefIdeal.main_arg2) = m ((c.tc : Thread Cert.KeyIdeal.nD Cert.KeyIdeal.τ).loc Cert.KeyIdeal.main_arg2)) →
    ∃ (v0 : (c : Dev Cert.KeyIdeal.nD) → Buf (Elt Ideal) ((c.tc : Thread Cert.KeyIdeal.nD Cert.KeyIdeal.τ).loc Cert.KeyIdeal.main_v1)),
      θ_run (Cert.KeyIdeal.defs (F := Ideal)) (onTc (τ := Cert.KeyIdeal.τ) (Cert.KeyIdeal.main (F := Ideal))) ⟨m, fun _ => 0, g⟩ (fun r => ∀ c : Dev Cert.KeyIdeal.nD,
          r.2.mem ((c.tc : Thread Cert.KeyIdeal.nD Cert.KeyIdeal.τ).loc Cert.KeyIdeal.main_v1) = v0 c
          ∧ r.2.mem ((c.tc : Thread Cert.KeyIdeal.nD Cert.KeyIdeal.τ).loc Cert.KeyIdeal.main_arg0) = m ((c.tc : Thread Cert.KeyIdeal.nD Cert.KeyIdeal.τ).loc Cert.KeyIdeal.main_arg0)
          ∧ r.2.mem ((c.tc : Thread Cert.KeyIdeal.nD Cert.KeyIdeal.τ).loc Cert.KeyIdeal.main_arg1) = m ((c.tc : Thread Cert.KeyIdeal.nD Cert.KeyIdeal.τ).loc Cert.KeyIdeal.main_arg1)
          ∧ r.2.mem ((c.tc : Thread Cert.KeyIdeal.nD Cert.KeyIdeal.τ).loc Cert.KeyIdeal.main_arg2) = m ((c.tc : Thread Cert.KeyIdeal.nD Cert.KeyIdeal.τ).loc Cert.KeyIdeal.main_arg2))
      ∧ θ_run (Cert.KeyRefIdeal.defs (F := Ideal)) (onTc (τ := Cert.KeyRefIdeal.τ) (Cert.KeyRefIdeal.main (F := Ideal))) ⟨m', fun _ => 0, g'⟩ (fun r => ∀ c : Dev Cert.KeyRefIdeal.nD,
          r.2.mem ((c.tc : Thread Cert.KeyRefIdeal.nD Cert.KeyRefIdeal.τ).loc Cert.KeyRefIdeal.main_v12) = v0 c
          ∧ r.2.mem ((c.tc : Thread Cert.KeyRefIdeal.nD Cert.KeyRefIdeal.τ).loc Cert.KeyRefIdeal.main_arg0) = m' ((c.tc : Thread Cert.KeyRefIdeal.nD Cert.KeyRefIdeal.τ).loc Cert.KeyRefIdeal.main_arg0)
          ∧ r.2.mem ((c.tc : Thread Cert.KeyRefIdeal.nD Cert.KeyRefIdeal.τ).loc Cert.KeyRefIdeal.main_arg1) = m' ((c.tc : Thread Cert.KeyRefIdeal.nD Cert.KeyRefIdeal.τ).loc Cert.KeyRefIdeal.main_arg1)
          ∧ r.2.mem ((c.tc : Thread Cert.KeyRefIdeal.nD Cert.KeyRefIdeal.τ).loc Cert.KeyRefIdeal.main_arg2) = m' ((c.tc : Thread Cert.KeyRefIdeal.nD Cert.KeyRefIdeal.τ).loc Cert.KeyRefIdeal.main_arg2))

def preserves_Up_UpIdeal : Prop :=
  True

def algebraic_UpIdeal_UpRefIdeal_pre_up_squares [hUpIdeal : Cert.UpIdeal.Facts] [hUpRefIdeal : Cert.UpRefIdeal.Facts] [hPre_up_squares : Cert.Pre_up_squares.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal_up_squares m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v46) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v1_0)) (v1 : (c : Dev Cert.OutIdeal.nD) → Buf (Elt Ideal) ((c.tc : Thread Cert.OutIdeal.nD Cert.OutIdeal.τ).loc Cert.OutIdeal.main_v1_1)) (v2 : (c : Dev Cert.OutIdeal.nD) → Buf (Elt Ideal) ((c.tc : Thread Cert.OutIdeal.nD Cert.OutIdeal.τ).loc Cert.OutIdeal.main_v1_2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1_0) = v0 c
          ∧ r.2.mem ((c.tc : Thread Cert.OutIdeal.nD Cert.OutIdeal.τ).loc Cert.OutIdeal.main_v1_1) = v1 c
          ∧ r.2.mem ((c.tc : Thread Cert.OutIdeal.nD Cert.OutIdeal.τ).loc Cert.OutIdeal.main_v1_2) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v5) = v0 c
          ∧ r.2.mem ((c.tc : Thread Cert.OutRefIdeal.nD Cert.OutRefIdeal.τ).loc Cert.OutRefIdeal.main_v12) = v1 c
          ∧ r.2.mem ((c.tc : Thread Cert.OutRefIdeal.nD Cert.OutRefIdeal.τ).loc Cert.OutRefIdeal.main_v8) = v2 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Values_ValuesIdeal : Prop :=
  True

def algebraic_ValuesIdeal_ValuesRefIdeal_pre_values_squares [hValuesIdeal : Cert.ValuesIdeal.Facts] [hValuesRefIdeal : Cert.ValuesRefIdeal.Facts] [hPre_values_squares : Cert.Pre_values_squares.Facts] : Prop :=
  ∀ (m : (ℓ : Loc Cert.ValuesIdeal.nD Cert.ValuesIdeal.τ Cert.ValuesIdeal.sig) → Buf (Elt Ideal) ℓ) (g : Dev Cert.ValuesIdeal.nD → PrngReg)
    (m' : (ℓ : Loc Cert.ValuesRefIdeal.nD Cert.ValuesRefIdeal.τ Cert.ValuesRefIdeal.sig) → Buf (Elt Ideal) ℓ) (g' : Dev Cert.ValuesRefIdeal.nD → PrngReg), Pre_ValuesIdeal_values_squares m →
    (∀ c : Dev Cert.ValuesIdeal.nD,
      m' ((c.tc : Thread Cert.ValuesRefIdeal.nD Cert.ValuesRefIdeal.τ).loc Cert.ValuesRefIdeal.main_arg0) = m ((c.tc : Thread Cert.ValuesIdeal.nD Cert.ValuesIdeal.τ).loc Cert.ValuesIdeal.main_arg0)
      ∧ m' ((c.tc : Thread Cert.ValuesRefIdeal.nD Cert.ValuesRefIdeal.τ).loc Cert.ValuesRefIdeal.main_arg1) = m ((c.tc : Thread Cert.ValuesIdeal.nD Cert.ValuesIdeal.τ).loc Cert.ValuesIdeal.main_arg1)
      ∧ m' ((c.tc : Thread Cert.ValuesRefIdeal.nD Cert.ValuesRefIdeal.τ).loc Cert.ValuesRefIdeal.main_arg2) = m ((c.tc : Thread Cert.ValuesIdeal.nD Cert.ValuesIdeal.τ).loc Cert.ValuesIdeal.main_arg2)) →
    ∃ (v0 : (c : Dev Cert.ValuesIdeal.nD) → Buf (Elt Ideal) ((c.tc : Thread Cert.ValuesIdeal.nD Cert.ValuesIdeal.τ).loc Cert.ValuesIdeal.main_v0)),
      θ_run (Cert.ValuesIdeal.defs (F := Ideal)) (onTc (τ := Cert.ValuesIdeal.τ) (Cert.ValuesIdeal.main (F := Ideal))) ⟨m, fun _ => 0, g⟩ (fun r => ∀ c : Dev Cert.ValuesIdeal.nD,
          r.2.mem ((c.tc : Thread Cert.ValuesIdeal.nD Cert.ValuesIdeal.τ).loc Cert.ValuesIdeal.main_v0) = v0 c
          ∧ r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
          ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1)
          ∧ r.2.mem ((c.tc : Thread Cert.ValuesIdeal.nD Cert.ValuesIdeal.τ).loc Cert.ValuesIdeal.main_arg2) = m ((c.tc : Thread Cert.ValuesIdeal.nD Cert.ValuesIdeal.τ).loc Cert.ValuesIdeal.main_arg2))
      ∧ θ_run (Cert.ValuesRefIdeal.defs (F := Ideal)) (onTc (τ := Cert.ValuesRefIdeal.τ) (Cert.ValuesRefIdeal.main (F := Ideal))) ⟨m', fun _ => 0, g'⟩ (fun r => ∀ c : Dev Cert.ValuesRefIdeal.nD,
          r.2.mem ((c.tc : Thread Cert.ValuesRefIdeal.nD Cert.ValuesRefIdeal.τ).loc Cert.ValuesRefIdeal.main_v16) = v0 c
          ∧ r.2.mem ((c.tc : Thread Cert.ValuesRefIdeal.nD Cert.ValuesRefIdeal.τ).loc Cert.ValuesRefIdeal.main_arg0) = m' ((c.tc : Thread Cert.ValuesRefIdeal.nD Cert.ValuesRefIdeal.τ).loc Cert.ValuesRefIdeal.main_arg0)
          ∧ r.2.mem ((c.tc : Thread Cert.ValuesRefIdeal.nD Cert.ValuesRefIdeal.τ).loc Cert.ValuesRefIdeal.main_arg1) = m' ((c.tc : Thread Cert.ValuesRefIdeal.nD Cert.ValuesRefIdeal.τ).loc Cert.ValuesRefIdeal.main_arg1)
          ∧ r.2.mem ((c.tc : Thread Cert.ValuesRefIdeal.nD Cert.ValuesRefIdeal.τ).loc Cert.ValuesRefIdeal.main_arg2) = m' ((c.tc : Thread Cert.ValuesRefIdeal.nD Cert.ValuesRefIdeal.τ).loc Cert.ValuesRefIdeal.main_arg2))

def preserves_Memory_MemoryIdeal : Prop :=
  True

def algebraic_MemoryIdeal_MemoryRefIdeal [hMemoryIdeal : Cert.MemoryIdeal.Facts] [hMemoryRefIdeal : Cert.MemoryRefIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryRefIdeal.nD Cert.MemoryRefIdeal.τ Cert.MemoryRefIdeal.sig) → Buf (Elt Ideal) ℓ) (g' : Dev Cert.MemoryRefIdeal.nD → PrngReg), Pre_MemoryIdeal m →
    (∀ c : Dev Cert.MemoryIdeal.nD,
      m' ((c.tc : Thread Cert.MemoryRefIdeal.nD Cert.MemoryRefIdeal.τ).loc Cert.MemoryRefIdeal.main_arg0) = m ((c.tc : Thread Cert.MemoryIdeal.nD Cert.MemoryIdeal.τ).loc Cert.MemoryIdeal.main_arg0)
      ∧ m' ((c.tc : Thread Cert.MemoryRefIdeal.nD Cert.MemoryRefIdeal.τ).loc Cert.MemoryRefIdeal.main_arg1) = m ((c.tc : Thread Cert.MemoryIdeal.nD Cert.MemoryIdeal.τ).loc Cert.MemoryIdeal.main_arg1)) →
    ∃ (v0 : (c : Dev Cert.MemoryIdeal.nD) → Buf (Elt Ideal) ((c.tc : Thread Cert.MemoryIdeal.nD Cert.MemoryIdeal.τ).loc Cert.MemoryIdeal.main_v0)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v0) = v0 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1))
      ∧ θ_run (Cert.MemoryRefIdeal.defs (F := Ideal)) (onTc (τ := Cert.MemoryRefIdeal.τ) (Cert.MemoryRefIdeal.main (F := Ideal))) ⟨m', fun _ => 0, g'⟩ (fun r => ∀ c : Dev Cert.MemoryRefIdeal.nD,
          r.2.mem ((c.tc : Thread Cert.MemoryRefIdeal.nD Cert.MemoryRefIdeal.τ).loc Cert.MemoryRefIdeal.main_v25) = v0 c
          ∧ r.2.mem ((c.tc : Thread Cert.MemoryRefIdeal.nD Cert.MemoryRefIdeal.τ).loc Cert.MemoryRefIdeal.main_arg0) = m' ((c.tc : Thread Cert.MemoryRefIdeal.nD Cert.MemoryRefIdeal.τ).loc Cert.MemoryRefIdeal.main_arg0)
          ∧ r.2.mem ((c.tc : Thread Cert.MemoryRefIdeal.nD Cert.MemoryRefIdeal.τ).loc Cert.MemoryRefIdeal.main_arg1) = m' ((c.tc : Thread Cert.MemoryRefIdeal.nD Cert.MemoryRefIdeal.τ).loc Cert.MemoryRefIdeal.main_arg1))

def preserves_Memkv_MemkvIdeal : Prop :=
  True

def algebraic_MemkvIdeal_MemkvRefIdeal [hMemkvIdeal : Cert.MemkvIdeal.Facts] [hMemkvRefIdeal : Cert.MemkvRefIdeal.Facts] : Prop :=
  ∀ (m : (ℓ : Loc Cert.MemkvIdeal.nD Cert.MemkvIdeal.τ Cert.MemkvIdeal.sig) → Buf (Elt Ideal) ℓ) (g : Dev Cert.MemkvIdeal.nD → PrngReg)
    (m' : (ℓ : Loc Cert.MemkvRefIdeal.nD Cert.MemkvRefIdeal.τ Cert.MemkvRefIdeal.sig) → Buf (Elt Ideal) ℓ) (g' : Dev Cert.MemkvRefIdeal.nD → PrngReg), Pre_MemkvIdeal m →
    (∀ c : Dev Cert.MemkvIdeal.nD,
      m' ((c.tc : Thread Cert.MemkvRefIdeal.nD Cert.MemkvRefIdeal.τ).loc Cert.MemkvRefIdeal.main_arg0) = m ((c.tc : Thread Cert.MemkvIdeal.nD Cert.MemkvIdeal.τ).loc Cert.MemkvIdeal.main_arg0)
      ∧ m' ((c.tc : Thread Cert.MemkvRefIdeal.nD Cert.MemkvRefIdeal.τ).loc Cert.MemkvRefIdeal.main_arg1) = m ((c.tc : Thread Cert.MemkvIdeal.nD Cert.MemkvIdeal.τ).loc Cert.MemkvIdeal.main_arg1)) →
    ∃ (v0 : (c : Dev Cert.MemkvIdeal.nD) → Buf (Elt Ideal) ((c.tc : Thread Cert.MemkvIdeal.nD Cert.MemkvIdeal.τ).loc Cert.MemkvIdeal.main_v0)),
      θ_run (Cert.MemkvIdeal.defs (F := Ideal)) (onTc (τ := Cert.MemkvIdeal.τ) (Cert.MemkvIdeal.main (F := Ideal))) ⟨m, fun _ => 0, g⟩ (fun r => ∀ c : Dev Cert.MemkvIdeal.nD,
          r.2.mem ((c.tc : Thread Cert.MemkvIdeal.nD Cert.MemkvIdeal.τ).loc Cert.MemkvIdeal.main_v0) = v0 c
          ∧ r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
          ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1))
      ∧ θ_run (Cert.MemkvRefIdeal.defs (F := Ideal)) (onTc (τ := Cert.MemkvRefIdeal.τ) (Cert.MemkvRefIdeal.main (F := Ideal))) ⟨m', fun _ => 0, g'⟩ (fun r => ∀ c : Dev Cert.MemkvRefIdeal.nD,
          r.2.mem ((c.tc : Thread Cert.MemkvRefIdeal.nD Cert.MemkvRefIdeal.τ).loc Cert.MemkvRefIdeal.main_v4) = v0 c
          ∧ r.2.mem ((c.tc : Thread Cert.MemkvRefIdeal.nD Cert.MemkvRefIdeal.τ).loc Cert.MemkvRefIdeal.main_arg0) = m' ((c.tc : Thread Cert.MemkvRefIdeal.nD Cert.MemkvRefIdeal.τ).loc Cert.MemkvRefIdeal.main_arg0)
          ∧ r.2.mem ((c.tc : Thread Cert.MemkvRefIdeal.nD Cert.MemkvRefIdeal.τ).loc Cert.MemkvRefIdeal.main_arg1) = m' ((c.tc : Thread Cert.MemkvRefIdeal.nD Cert.MemkvRefIdeal.τ).loc Cert.MemkvRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Bmem_BmemIdeal : Prop :=
  True

def algebraic_BmemIdeal_BmemRefIdeal [hBmemIdeal : Cert.BmemIdeal.Facts] [hBmemRefIdeal : Cert.BmemRefIdeal.Facts] : Prop :=
  ∀ (m : (ℓ : Loc Cert.BmemIdeal.nD Cert.BmemIdeal.τ Cert.BmemIdeal.sig) → Buf (Elt Ideal) ℓ) (g : Dev Cert.BmemIdeal.nD → PrngReg)
    (m' : (ℓ : Loc Cert.BmemRefIdeal.nD Cert.BmemRefIdeal.τ Cert.BmemRefIdeal.sig) → Buf (Elt Ideal) ℓ) (g' : Dev Cert.BmemRefIdeal.nD → PrngReg), Pre_BmemIdeal m →
    (∀ c : Dev Cert.BmemIdeal.nD,
      m' ((c.tc : Thread Cert.BmemRefIdeal.nD Cert.BmemRefIdeal.τ).loc Cert.BmemRefIdeal.main_arg0) = m ((c.tc : Thread Cert.BmemIdeal.nD Cert.BmemIdeal.τ).loc Cert.BmemIdeal.main_arg0)
      ∧ m' ((c.tc : Thread Cert.BmemRefIdeal.nD Cert.BmemRefIdeal.τ).loc Cert.BmemRefIdeal.main_arg1) = m ((c.tc : Thread Cert.BmemIdeal.nD Cert.BmemIdeal.τ).loc Cert.BmemIdeal.main_arg1)) →
    ∃ (v0 : (c : Dev Cert.BmemIdeal.nD) → Buf (Elt Ideal) ((c.tc : Thread Cert.BmemIdeal.nD Cert.BmemIdeal.τ).loc Cert.BmemIdeal.main_v0)),
      θ_run (Cert.BmemIdeal.defs (F := Ideal)) (onTc (τ := Cert.BmemIdeal.τ) (Cert.BmemIdeal.main (F := Ideal))) ⟨m, fun _ => 0, g⟩ (fun r => ∀ c : Dev Cert.BmemIdeal.nD,
          r.2.mem ((c.tc : Thread Cert.BmemIdeal.nD Cert.BmemIdeal.τ).loc Cert.BmemIdeal.main_v0) = v0 c
          ∧ r.2.mem ((c.tc : Thread Cert.BmemIdeal.nD Cert.BmemIdeal.τ).loc Cert.BmemIdeal.main_arg0) = m ((c.tc : Thread Cert.BmemIdeal.nD Cert.BmemIdeal.τ).loc Cert.BmemIdeal.main_arg0)
          ∧ r.2.mem ((c.tc : Thread Cert.BmemIdeal.nD Cert.BmemIdeal.τ).loc Cert.BmemIdeal.main_arg1) = m ((c.tc : Thread Cert.BmemIdeal.nD Cert.BmemIdeal.τ).loc Cert.BmemIdeal.main_arg1))
      ∧ θ_run (Cert.BmemRefIdeal.defs (F := Ideal)) (onTc (τ := Cert.BmemRefIdeal.τ) (Cert.BmemRefIdeal.main (F := Ideal))) ⟨m', fun _ => 0, g'⟩ (fun r => ∀ c : Dev Cert.BmemRefIdeal.nD,
          r.2.mem ((c.tc : Thread Cert.BmemRefIdeal.nD Cert.BmemRefIdeal.τ).loc Cert.BmemRefIdeal.main_v25) = v0 c
          ∧ r.2.mem ((c.tc : Thread Cert.BmemRefIdeal.nD Cert.BmemRefIdeal.τ).loc Cert.BmemRefIdeal.main_arg0) = m' ((c.tc : Thread Cert.BmemRefIdeal.nD Cert.BmemRefIdeal.τ).loc Cert.BmemRefIdeal.main_arg0)
          ∧ r.2.mem ((c.tc : Thread Cert.BmemRefIdeal.nD Cert.BmemRefIdeal.τ).loc Cert.BmemRefIdeal.main_arg1) = m' ((c.tc : Thread Cert.BmemRefIdeal.nD Cert.BmemRefIdeal.τ).loc Cert.BmemRefIdeal.main_arg1))

def preserves_Memnorm_MemnormIdeal : Prop :=
  True

def algebraic_MemnormIdeal_MemnormRefIdeal [hMemnormIdeal : Cert.MemnormIdeal.Facts] [hMemnormRefIdeal : Cert.MemnormRefIdeal.Facts] : Prop :=
  ∀ (m : (ℓ : Loc Cert.MemnormIdeal.nD Cert.MemnormIdeal.τ Cert.MemnormIdeal.sig) → Buf (Elt Ideal) ℓ) (g : Dev Cert.MemnormIdeal.nD → PrngReg)
    (m' : (ℓ : Loc Cert.MemnormRefIdeal.nD Cert.MemnormRefIdeal.τ Cert.MemnormRefIdeal.sig) → Buf (Elt Ideal) ℓ) (g' : Dev Cert.MemnormRefIdeal.nD → PrngReg), Pre_MemnormIdeal m →
    (∀ c : Dev Cert.MemnormIdeal.nD,
      m' ((c.tc : Thread Cert.MemnormRefIdeal.nD Cert.MemnormRefIdeal.τ).loc Cert.MemnormRefIdeal.main_arg0) = m ((c.tc : Thread Cert.MemnormIdeal.nD Cert.MemnormIdeal.τ).loc Cert.MemnormIdeal.main_arg0)
      ∧ m' ((c.tc : Thread Cert.MemnormRefIdeal.nD Cert.MemnormRefIdeal.τ).loc Cert.MemnormRefIdeal.main_arg1) = m ((c.tc : Thread Cert.MemnormIdeal.nD Cert.MemnormIdeal.τ).loc Cert.MemnormIdeal.main_arg1)) →
    ∃ (v0 : (c : Dev Cert.MemnormIdeal.nD) → Buf (Elt Ideal) ((c.tc : Thread Cert.MemnormIdeal.nD Cert.MemnormIdeal.τ).loc Cert.MemnormIdeal.main_v1)),
      θ_run (Cert.MemnormIdeal.defs (F := Ideal)) (onTc (τ := Cert.MemnormIdeal.τ) (Cert.MemnormIdeal.main (F := Ideal))) ⟨m, fun _ => 0, g⟩ (fun r => ∀ c : Dev Cert.MemnormIdeal.nD,
          r.2.mem ((c.tc : Thread Cert.MemnormIdeal.nD Cert.MemnormIdeal.τ).loc Cert.MemnormIdeal.main_v1) = v0 c
          ∧ r.2.mem ((c.tc : Thread Cert.MemnormIdeal.nD Cert.MemnormIdeal.τ).loc Cert.MemnormIdeal.main_arg0) = m ((c.tc : Thread Cert.MemnormIdeal.nD Cert.MemnormIdeal.τ).loc Cert.MemnormIdeal.main_arg0)
          ∧ r.2.mem ((c.tc : Thread Cert.MemnormIdeal.nD Cert.MemnormIdeal.τ).loc Cert.MemnormIdeal.main_arg1) = m ((c.tc : Thread Cert.MemnormIdeal.nD Cert.MemnormIdeal.τ).loc Cert.MemnormIdeal.main_arg1))
      ∧ θ_run (Cert.MemnormRefIdeal.defs (F := Ideal)) (onTc (τ := Cert.MemnormRefIdeal.τ) (Cert.MemnormRefIdeal.main (F := Ideal))) ⟨m', fun _ => 0, g'⟩ (fun r => ∀ c : Dev Cert.MemnormRefIdeal.nD,
          r.2.mem ((c.tc : Thread Cert.MemnormRefIdeal.nD Cert.MemnormRefIdeal.τ).loc Cert.MemnormRefIdeal.main_v13) = v0 c
          ∧ r.2.mem ((c.tc : Thread Cert.MemnormRefIdeal.nD Cert.MemnormRefIdeal.τ).loc Cert.MemnormRefIdeal.main_arg0) = m' ((c.tc : Thread Cert.MemnormRefIdeal.nD Cert.MemnormRefIdeal.τ).loc Cert.MemnormRefIdeal.main_arg0)
          ∧ r.2.mem ((c.tc : Thread Cert.MemnormRefIdeal.nD Cert.MemnormRefIdeal.τ).loc Cert.MemnormRefIdeal.main_arg1) = m' ((c.tc : Thread Cert.MemnormRefIdeal.nD Cert.MemnormRefIdeal.τ).loc Cert.MemnormRefIdeal.main_arg1))

def preserves_First_FirstIdeal : Prop :=
  True

def algebraic_FirstIdeal_FirstRefIdeal [hFirstIdeal : Cert.FirstIdeal.Facts] [hFirstRefIdeal : Cert.FirstRefIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)) →
    ∃ (v0 : (c : Dev Cert.FirstIdeal.nD) → Buf (Elt Ideal) ((c.tc : Thread Cert.FirstIdeal.nD Cert.FirstIdeal.τ).loc Cert.FirstIdeal.main_v1)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v1) = v0 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          r.2.mem ((c.tc : Thread Cert.FirstRefIdeal.nD Cert.FirstRefIdeal.τ).loc Cert.FirstRefIdeal.main_v13) = v0 c
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)) →
    ∃ (v0 : (c : Dev Cert.LastIdeal.nD) → Buf (Elt Ideal) ((c.tc : Thread Cert.LastIdeal.nD Cert.LastIdeal.τ).loc Cert.LastIdeal.main_v0)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v0) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v5) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2))

def preserves_Turn_TurnIdeal : Prop :=
  True

def algebraic_TurnIdeal_TurnRefIdeal [hTurnIdeal : Cert.TurnIdeal.Facts] [hTurnRefIdeal : Cert.TurnRefIdeal.Facts] : Prop :=
  ∀ (m : (ℓ : Loc Cert.TurnIdeal.nD Cert.TurnIdeal.τ Cert.TurnIdeal.sig) → Buf (Elt Ideal) ℓ) (g : Dev Cert.TurnIdeal.nD → PrngReg)
    (m' : (ℓ : Loc Cert.TurnRefIdeal.nD Cert.TurnRefIdeal.τ Cert.TurnRefIdeal.sig) → Buf (Elt Ideal) ℓ) (g' : Dev Cert.TurnRefIdeal.nD → PrngReg), Pre_TurnIdeal m →
    (∀ c : Dev Cert.TurnIdeal.nD,
      m' ((c.tc : Thread Cert.TurnRefIdeal.nD Cert.TurnRefIdeal.τ).loc Cert.TurnRefIdeal.main_arg0) = m ((c.tc : Thread Cert.TurnIdeal.nD Cert.TurnIdeal.τ).loc Cert.TurnIdeal.main_arg0)
      ∧ m' ((c.tc : Thread Cert.TurnRefIdeal.nD Cert.TurnRefIdeal.τ).loc Cert.TurnRefIdeal.main_arg1) = m ((c.tc : Thread Cert.TurnIdeal.nD Cert.TurnIdeal.τ).loc Cert.TurnIdeal.main_arg1)
      ∧ m' ((c.tc : Thread Cert.TurnRefIdeal.nD Cert.TurnRefIdeal.τ).loc Cert.TurnRefIdeal.main_arg2) = m ((c.tc : Thread Cert.TurnIdeal.nD Cert.TurnIdeal.τ).loc Cert.TurnIdeal.main_arg2)
      ∧ m' ((c.tc : Thread Cert.TurnRefIdeal.nD Cert.TurnRefIdeal.τ).loc Cert.TurnRefIdeal.main_arg3) = m ((c.tc : Thread Cert.TurnIdeal.nD Cert.TurnIdeal.τ).loc Cert.TurnIdeal.main_arg3)
      ∧ m' ((c.tc : Thread Cert.TurnRefIdeal.nD Cert.TurnRefIdeal.τ).loc Cert.TurnRefIdeal.main_arg4) = m ((c.tc : Thread Cert.TurnIdeal.nD Cert.TurnIdeal.τ).loc Cert.TurnIdeal.main_arg4)) →
    ∃ (v0 : (c : Dev Cert.TurnIdeal.nD) → Buf (Elt Ideal) ((c.tc : Thread Cert.TurnIdeal.nD Cert.TurnIdeal.τ).loc Cert.TurnIdeal.main_v2_0)) (v1 : (c : Dev Cert.TurnIdeal.nD) → Buf (Elt Ideal) ((c.tc : Thread Cert.TurnIdeal.nD Cert.TurnIdeal.τ).loc Cert.TurnIdeal.main_v2_1)) (v2 : (c : Dev Cert.TurnIdeal.nD) → Buf (Elt Ideal) ((c.tc : Thread Cert.TurnIdeal.nD Cert.TurnIdeal.τ).loc Cert.TurnIdeal.main_v2_2)) (v3 : (c : Dev Cert.TurnIdeal.nD) → Buf (Elt Ideal) ((c.tc : Thread Cert.TurnIdeal.nD Cert.TurnIdeal.τ).loc Cert.TurnIdeal.main_v2_3)),
      θ_run (Cert.TurnIdeal.defs (F := Ideal)) (onTc (τ := Cert.TurnIdeal.τ) (Cert.TurnIdeal.main (F := Ideal))) ⟨m, fun _ => 0, g⟩ (fun r => ∀ c : Dev Cert.TurnIdeal.nD,
          r.2.mem ((c.tc : Thread Cert.TurnIdeal.nD Cert.TurnIdeal.τ).loc Cert.TurnIdeal.main_v2_0) = v0 c
          ∧ r.2.mem ((c.tc : Thread Cert.TurnIdeal.nD Cert.TurnIdeal.τ).loc Cert.TurnIdeal.main_v2_1) = v1 c
          ∧ r.2.mem ((c.tc : Thread Cert.TurnIdeal.nD Cert.TurnIdeal.τ).loc Cert.TurnIdeal.main_v2_2) = v2 c
          ∧ r.2.mem ((c.tc : Thread Cert.TurnIdeal.nD Cert.TurnIdeal.τ).loc Cert.TurnIdeal.main_v2_3) = v3 c
          ∧ r.2.mem ((c.tc : Thread Cert.TurnIdeal.nD Cert.TurnIdeal.τ).loc Cert.TurnIdeal.main_arg0) = m ((c.tc : Thread Cert.TurnIdeal.nD Cert.TurnIdeal.τ).loc Cert.TurnIdeal.main_arg0)
          ∧ r.2.mem ((c.tc : Thread Cert.TurnIdeal.nD Cert.TurnIdeal.τ).loc Cert.TurnIdeal.main_arg1) = m ((c.tc : Thread Cert.TurnIdeal.nD Cert.TurnIdeal.τ).loc Cert.TurnIdeal.main_arg1)
          ∧ r.2.mem ((c.tc : Thread Cert.TurnIdeal.nD Cert.TurnIdeal.τ).loc Cert.TurnIdeal.main_arg2) = m ((c.tc : Thread Cert.TurnIdeal.nD Cert.TurnIdeal.τ).loc Cert.TurnIdeal.main_arg2)
          ∧ r.2.mem ((c.tc : Thread Cert.TurnIdeal.nD Cert.TurnIdeal.τ).loc Cert.TurnIdeal.main_arg3) = m ((c.tc : Thread Cert.TurnIdeal.nD Cert.TurnIdeal.τ).loc Cert.TurnIdeal.main_arg3)
          ∧ r.2.mem ((c.tc : Thread Cert.TurnIdeal.nD Cert.TurnIdeal.τ).loc Cert.TurnIdeal.main_arg4) = m ((c.tc : Thread Cert.TurnIdeal.nD Cert.TurnIdeal.τ).loc Cert.TurnIdeal.main_arg4))
      ∧ θ_run (Cert.TurnRefIdeal.defs (F := Ideal)) (onTc (τ := Cert.TurnRefIdeal.τ) (Cert.TurnRefIdeal.main (F := Ideal))) ⟨m', fun _ => 0, g'⟩ (fun r => ∀ c : Dev Cert.TurnRefIdeal.nD,
          r.2.mem ((c.tc : Thread Cert.TurnRefIdeal.nD Cert.TurnRefIdeal.τ).loc Cert.TurnRefIdeal.main_v5) = v0 c
          ∧ r.2.mem ((c.tc : Thread Cert.TurnRefIdeal.nD Cert.TurnRefIdeal.τ).loc Cert.TurnRefIdeal.main_v12) = v1 c
          ∧ r.2.mem ((c.tc : Thread Cert.TurnRefIdeal.nD Cert.TurnRefIdeal.τ).loc Cert.TurnRefIdeal.main_v16) = v2 c
          ∧ r.2.mem ((c.tc : Thread Cert.TurnRefIdeal.nD Cert.TurnRefIdeal.τ).loc Cert.TurnRefIdeal.main_v8) = v3 c
          ∧ r.2.mem ((c.tc : Thread Cert.TurnRefIdeal.nD Cert.TurnRefIdeal.τ).loc Cert.TurnRefIdeal.main_arg0) = m' ((c.tc : Thread Cert.TurnRefIdeal.nD Cert.TurnRefIdeal.τ).loc Cert.TurnRefIdeal.main_arg0)
          ∧ r.2.mem ((c.tc : Thread Cert.TurnRefIdeal.nD Cert.TurnRefIdeal.τ).loc Cert.TurnRefIdeal.main_arg1) = m' ((c.tc : Thread Cert.TurnRefIdeal.nD Cert.TurnRefIdeal.τ).loc Cert.TurnRefIdeal.main_arg1)
          ∧ r.2.mem ((c.tc : Thread Cert.TurnRefIdeal.nD Cert.TurnRefIdeal.τ).loc Cert.TurnRefIdeal.main_arg2) = m' ((c.tc : Thread Cert.TurnRefIdeal.nD Cert.TurnRefIdeal.τ).loc Cert.TurnRefIdeal.main_arg2)
          ∧ r.2.mem ((c.tc : Thread Cert.TurnRefIdeal.nD Cert.TurnRefIdeal.τ).loc Cert.TurnRefIdeal.main_arg3) = m' ((c.tc : Thread Cert.TurnRefIdeal.nD Cert.TurnRefIdeal.τ).loc Cert.TurnRefIdeal.main_arg3)
          ∧ r.2.mem ((c.tc : Thread Cert.TurnRefIdeal.nD Cert.TurnRefIdeal.τ).loc Cert.TurnRefIdeal.main_arg4) = m' ((c.tc : Thread Cert.TurnRefIdeal.nD Cert.TurnRefIdeal.τ).loc Cert.TurnRefIdeal.main_arg4))

def preserves_Bias_BiasIdeal : Prop :=
  True

def algebraic_BiasIdeal_BiasRefIdeal [hBiasIdeal : Cert.BiasIdeal.Facts] [hBiasRefIdeal : Cert.BiasRefIdeal.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasRefIdeal.nD Cert.BiasRefIdeal.τ Cert.BiasRefIdeal.sig) → Buf (Elt Ideal) ℓ) (g' : Dev Cert.BiasRefIdeal.nD → PrngReg), Pre_BiasIdeal m →
    (∀ c : Dev Cert.BiasIdeal.nD,
      m' ((c.tc : Thread Cert.BiasRefIdeal.nD Cert.BiasRefIdeal.τ).loc Cert.BiasRefIdeal.main_arg0) = m ((c.tc : Thread Cert.BiasIdeal.nD Cert.BiasIdeal.τ).loc Cert.BiasIdeal.main_arg0)) →
    ∃ (v0 : (c : Dev Cert.BiasIdeal.nD) → Buf (Elt Ideal) ((c.tc : Thread Cert.BiasIdeal.nD Cert.BiasIdeal.τ).loc Cert.BiasIdeal.main_v47)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v47) = v0 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ θ_run (Cert.BiasRefIdeal.defs (F := Ideal)) (onTc (τ := Cert.BiasRefIdeal.τ) (Cert.BiasRefIdeal.main (F := Ideal))) ⟨m', fun _ => 0, g'⟩ (fun r => ∀ c : Dev Cert.BiasRefIdeal.nD,
          r.2.mem ((c.tc : Thread Cert.BiasRefIdeal.nD Cert.BiasRefIdeal.τ).loc Cert.BiasRefIdeal.main_v61) = v0 c
          ∧ r.2.mem ((c.tc : Thread Cert.BiasRefIdeal.nD Cert.BiasRefIdeal.τ).loc Cert.BiasRefIdeal.main_arg0) = m' ((c.tc : Thread Cert.BiasRefIdeal.nD Cert.BiasRefIdeal.τ).loc Cert.BiasRefIdeal.main_arg0))

def Claim : Prop :=
  ∃ (hRetention : Cert.Retention.Facts) (hRetentionIdeal : Cert.RetentionIdeal.Facts) (hRetentionRefIdeal : Cert.RetentionRefIdeal.Facts) (hDown : Cert.Down.Facts) (hDownIdeal : Cert.DownIdeal.Facts) (hDownRefIdeal : Cert.DownRefIdeal.Facts) (hAin : Cert.Ain.Facts) (hAinIdeal : Cert.AinIdeal.Facts) (hAinRefIdeal : Cert.AinRefIdeal.Facts) (hBin : Cert.Bin.Facts) (hBinIdeal : Cert.BinIdeal.Facts) (hBinRefIdeal : Cert.BinRefIdeal.Facts) (hKey : Cert.Key.Facts) (hKeyIdeal : Cert.KeyIdeal.Facts) (hKeyRefIdeal : Cert.KeyRefIdeal.Facts) (hUp : Cert.Up.Facts) (hUpIdeal : Cert.UpIdeal.Facts) (hUpRefIdeal : Cert.UpRefIdeal.Facts) (hOut : Cert.Out.Facts) (hOutIdeal : Cert.OutIdeal.Facts) (hOutRefIdeal : Cert.OutRefIdeal.Facts) (hValues : Cert.Values.Facts) (hValuesIdeal : Cert.ValuesIdeal.Facts) (hValuesRefIdeal : Cert.ValuesRefIdeal.Facts) (hMemory : Cert.Memory.Facts) (hMemoryIdeal : Cert.MemoryIdeal.Facts) (hMemoryRefIdeal : Cert.MemoryRefIdeal.Facts) (hMemkv : Cert.Memkv.Facts) (hMemkvIdeal : Cert.MemkvIdeal.Facts) (hMemkvRefIdeal : Cert.MemkvRefIdeal.Facts) (hNorm : Cert.Norm.Facts) (hNormIdeal : Cert.NormIdeal.Facts) (hNormRefIdeal : Cert.NormRefIdeal.Facts) (hBmem : Cert.Bmem.Facts) (hBmemIdeal : Cert.BmemIdeal.Facts) (hBmemRefIdeal : Cert.BmemRefIdeal.Facts) (hMemnorm : Cert.Memnorm.Facts) (hMemnormIdeal : Cert.MemnormIdeal.Facts) (hMemnormRefIdeal : Cert.MemnormRefIdeal.Facts) (hFirst : Cert.First.Facts) (hFirstIdeal : Cert.FirstIdeal.Facts) (hFirstRefIdeal : Cert.FirstRefIdeal.Facts) (hLast : Cert.Last.Facts) (hLastIdeal : Cert.LastIdeal.Facts) (hLastRefIdeal : Cert.LastRefIdeal.Facts) (hTurn : Cert.Turn.Facts) (hTurnIdeal : Cert.TurnIdeal.Facts) (hTurnRefIdeal : Cert.TurnRefIdeal.Facts) (hBias : Cert.Bias.Facts) (hBiasIdeal : Cert.BiasIdeal.Facts) (hBiasRefIdeal : Cert.BiasRefIdeal.Facts) (hPre_finite : Cert.Pre_finite.Facts) (hPre_in_squares : Cert.Pre_in_squares.Facts) (hPre_q_squares : Cert.Pre_q_squares.Facts) (hPre_key_squares : Cert.Pre_key_squares.Facts) (hPre_up_squares : Cert.Pre_up_squares.Facts) (hPre_values_squares : Cert.Pre_values_squares.Facts),
    quiescent_Retention (hRetention := hRetention)
    ∧ quiescent_RetentionIdeal (hRetentionIdeal := hRetentionIdeal)
    ∧ quiescent_RetentionIdeal_pre_finite (hRetentionIdeal := hRetentionIdeal) (hPre_finite := hPre_finite)
    ∧ quiescent_RetentionRefIdeal (hRetentionRefIdeal := hRetentionRefIdeal)
    ∧ quiescent_RetentionRefIdeal_pre_finite (hRetentionRefIdeal := hRetentionRefIdeal) (hPre_finite := hPre_finite)
    ∧ quiescent_Down (hDown := hDown)
    ∧ quiescent_DownIdeal (hDownIdeal := hDownIdeal)
    ∧ quiescent_DownRefIdeal (hDownRefIdeal := hDownRefIdeal)
    ∧ quiescent_Ain (hAin := hAin)
    ∧ quiescent_AinIdeal (hAinIdeal := hAinIdeal)
    ∧ quiescent_AinIdeal_pre_in_squares (hAinIdeal := hAinIdeal) (hPre_in_squares := hPre_in_squares)
    ∧ quiescent_AinRefIdeal (hAinRefIdeal := hAinRefIdeal)
    ∧ quiescent_AinRefIdeal_pre_in_squares (hAinRefIdeal := hAinRefIdeal) (hPre_in_squares := hPre_in_squares)
    ∧ quiescent_Bin (hBin := hBin)
    ∧ quiescent_BinIdeal (hBinIdeal := hBinIdeal)
    ∧ quiescent_BinIdeal_pre_q_squares (hBinIdeal := hBinIdeal) (hPre_q_squares := hPre_q_squares)
    ∧ quiescent_BinRefIdeal (hBinRefIdeal := hBinRefIdeal)
    ∧ quiescent_BinRefIdeal_pre_q_squares (hBinRefIdeal := hBinRefIdeal) (hPre_q_squares := hPre_q_squares)
    ∧ quiescent_Key (hKey := hKey)
    ∧ quiescent_KeyIdeal (hKeyIdeal := hKeyIdeal)
    ∧ quiescent_KeyIdeal_pre_key_squares (hKeyIdeal := hKeyIdeal) (hPre_key_squares := hPre_key_squares)
    ∧ quiescent_KeyRefIdeal (hKeyRefIdeal := hKeyRefIdeal)
    ∧ quiescent_KeyRefIdeal_pre_key_squares (hKeyRefIdeal := hKeyRefIdeal) (hPre_key_squares := hPre_key_squares)
    ∧ quiescent_Up (hUp := hUp)
    ∧ quiescent_UpIdeal (hUpIdeal := hUpIdeal)
    ∧ quiescent_UpIdeal_pre_up_squares (hUpIdeal := hUpIdeal) (hPre_up_squares := hPre_up_squares)
    ∧ quiescent_UpRefIdeal (hUpRefIdeal := hUpRefIdeal)
    ∧ quiescent_UpRefIdeal_pre_up_squares (hUpRefIdeal := hUpRefIdeal) (hPre_up_squares := hPre_up_squares)
    ∧ quiescent_Out (hOut := hOut)
    ∧ quiescent_OutIdeal (hOutIdeal := hOutIdeal)
    ∧ quiescent_OutRefIdeal (hOutRefIdeal := hOutRefIdeal)
    ∧ quiescent_Values (hValues := hValues)
    ∧ quiescent_ValuesIdeal (hValuesIdeal := hValuesIdeal)
    ∧ quiescent_ValuesIdeal_pre_values_squares (hValuesIdeal := hValuesIdeal) (hPre_values_squares := hPre_values_squares)
    ∧ quiescent_ValuesRefIdeal (hValuesRefIdeal := hValuesRefIdeal)
    ∧ quiescent_ValuesRefIdeal_pre_values_squares (hValuesRefIdeal := hValuesRefIdeal) (hPre_values_squares := hPre_values_squares)
    ∧ quiescent_Memory (hMemory := hMemory)
    ∧ quiescent_MemoryIdeal (hMemoryIdeal := hMemoryIdeal)
    ∧ quiescent_MemoryRefIdeal (hMemoryRefIdeal := hMemoryRefIdeal)
    ∧ quiescent_Memkv (hMemkv := hMemkv)
    ∧ quiescent_MemkvIdeal (hMemkvIdeal := hMemkvIdeal)
    ∧ quiescent_MemkvRefIdeal (hMemkvRefIdeal := hMemkvRefIdeal)
    ∧ quiescent_Norm (hNorm := hNorm)
    ∧ quiescent_NormIdeal (hNormIdeal := hNormIdeal)
    ∧ quiescent_NormRefIdeal (hNormRefIdeal := hNormRefIdeal)
    ∧ quiescent_Bmem (hBmem := hBmem)
    ∧ quiescent_BmemIdeal (hBmemIdeal := hBmemIdeal)
    ∧ quiescent_BmemRefIdeal (hBmemRefIdeal := hBmemRefIdeal)
    ∧ quiescent_Memnorm (hMemnorm := hMemnorm)
    ∧ quiescent_MemnormIdeal (hMemnormIdeal := hMemnormIdeal)
    ∧ quiescent_MemnormRefIdeal (hMemnormRefIdeal := hMemnormRefIdeal)
    ∧ quiescent_First (hFirst := hFirst)
    ∧ quiescent_FirstIdeal (hFirstIdeal := hFirstIdeal)
    ∧ quiescent_FirstRefIdeal (hFirstRefIdeal := hFirstRefIdeal)
    ∧ quiescent_Last (hLast := hLast)
    ∧ quiescent_LastIdeal (hLastIdeal := hLastIdeal)
    ∧ quiescent_LastRefIdeal (hLastRefIdeal := hLastRefIdeal)
    ∧ quiescent_Turn (hTurn := hTurn)
    ∧ quiescent_TurnIdeal (hTurnIdeal := hTurnIdeal)
    ∧ quiescent_TurnRefIdeal (hTurnRefIdeal := hTurnRefIdeal)
    ∧ quiescent_Bias (hBias := hBias)
    ∧ quiescent_BiasIdeal (hBiasIdeal := hBiasIdeal)
    ∧ quiescent_BiasRefIdeal (hBiasRefIdeal := hBiasRefIdeal)
    ∧ preserves_Retention_RetentionIdeal
    ∧ algebraic_RetentionIdeal_RetentionRefIdeal_pre_finite (hRetentionIdeal := hRetentionIdeal) (hRetentionRefIdeal := hRetentionRefIdeal) (hPre_finite := hPre_finite)
    ∧ preserves_Down_DownIdeal
    ∧ algebraic_DownIdeal_DownRefIdeal (hDownIdeal := hDownIdeal) (hDownRefIdeal := hDownRefIdeal)
    ∧ preserves_Ain_AinIdeal
    ∧ algebraic_AinIdeal_AinRefIdeal_pre_in_squares (hAinIdeal := hAinIdeal) (hAinRefIdeal := hAinRefIdeal) (hPre_in_squares := hPre_in_squares)
    ∧ preserves_Bin_BinIdeal
    ∧ algebraic_BinIdeal_BinRefIdeal_pre_q_squares (hBinIdeal := hBinIdeal) (hBinRefIdeal := hBinRefIdeal) (hPre_q_squares := hPre_q_squares)
    ∧ preserves_Key_KeyIdeal
    ∧ algebraic_KeyIdeal_KeyRefIdeal_pre_key_squares (hKeyIdeal := hKeyIdeal) (hKeyRefIdeal := hKeyRefIdeal) (hPre_key_squares := hPre_key_squares)
    ∧ preserves_Up_UpIdeal
    ∧ algebraic_UpIdeal_UpRefIdeal_pre_up_squares (hUpIdeal := hUpIdeal) (hUpRefIdeal := hUpRefIdeal) (hPre_up_squares := hPre_up_squares)
    ∧ preserves_Out_OutIdeal
    ∧ algebraic_OutIdeal_OutRefIdeal (hOutIdeal := hOutIdeal) (hOutRefIdeal := hOutRefIdeal)
    ∧ preserves_Values_ValuesIdeal
    ∧ algebraic_ValuesIdeal_ValuesRefIdeal_pre_values_squares (hValuesIdeal := hValuesIdeal) (hValuesRefIdeal := hValuesRefIdeal) (hPre_values_squares := hPre_values_squares)
    ∧ preserves_Memory_MemoryIdeal
    ∧ algebraic_MemoryIdeal_MemoryRefIdeal (hMemoryIdeal := hMemoryIdeal) (hMemoryRefIdeal := hMemoryRefIdeal)
    ∧ preserves_Memkv_MemkvIdeal
    ∧ algebraic_MemkvIdeal_MemkvRefIdeal (hMemkvIdeal := hMemkvIdeal) (hMemkvRefIdeal := hMemkvRefIdeal)
    ∧ preserves_Norm_NormIdeal
    ∧ algebraic_NormIdeal_NormRefIdeal (hNormIdeal := hNormIdeal) (hNormRefIdeal := hNormRefIdeal)
    ∧ preserves_Bmem_BmemIdeal
    ∧ algebraic_BmemIdeal_BmemRefIdeal (hBmemIdeal := hBmemIdeal) (hBmemRefIdeal := hBmemRefIdeal)
    ∧ preserves_Memnorm_MemnormIdeal
    ∧ algebraic_MemnormIdeal_MemnormRefIdeal (hMemnormIdeal := hMemnormIdeal) (hMemnormRefIdeal := hMemnormRefIdeal)
    ∧ preserves_First_FirstIdeal
    ∧ algebraic_FirstIdeal_FirstRefIdeal (hFirstIdeal := hFirstIdeal) (hFirstRefIdeal := hFirstRefIdeal)
    ∧ preserves_Last_LastIdeal
    ∧ algebraic_LastIdeal_LastRefIdeal (hLastIdeal := hLastIdeal) (hLastRefIdeal := hLastRefIdeal)
    ∧ preserves_Turn_TurnIdeal
    ∧ algebraic_TurnIdeal_TurnRefIdeal (hTurnIdeal := hTurnIdeal) (hTurnRefIdeal := hTurnRefIdeal)
    ∧ preserves_Bias_BiasIdeal
    ∧ algebraic_BiasIdeal_BiasRefIdeal (hBiasIdeal := hBiasIdeal) (hBiasRefIdeal := hBiasRefIdeal)
-- ==== Pre_finite.lean ====
abbrev S2x8192x13312 : Shape := ⟨3, ![2, 8192, 13312]⟩
abbrev S2x8192x9216 : Shape := ⟨3, ![2, 8192, 9216]⟩
abbrev S_ : Shape := ⟨0, ![]⟩

class Facts : Prop where
  slices_S2x8192x13312_S2x8192x9216_0_0_0 : S2x8192x13312.Slices ![0, 0, 0] S2x8192x9216
  bitsLt_bf16_f32 : FTy.bits .bf16 < FTy.bits .f32
  bcast_S_S2x8192x9216 : S_.BroadcastsInDim S2x8192x9216 (![] : Fin 0 → Fin S2x8192x9216.rank)

variable [Facts]

def fn {F : FTy → Type} [FloatOps F] (main_arg0 : FVec F S2x8192x13312 .bf16) : IVec S2x8192x9216 1 :=
  let main_v0 : FVec F S2x8192x9216 .bf16 := (extractStridedSlice S2x8192x9216 ![0, 0, 0] · slices_S2x8192x13312_S2x8192x9216_0_0_0) main_arg0
  let main_v1 : FVec F S2x8192x9216 .f32 := (extf .f32 · bitsLt_bf16_f32) main_v0
  let main_v2 : FVec F S2x8192x9216 .f32 := Host.absf main_v1
  let main_cst : FVec F S_ .f32 := constant S_ .f32 0x7F800000#32
  let main_v3 : FVec F S2x8192x9216 .f32 := broadcastInDim S2x8192x9216 ![] bcast_S_S2x8192x9216 main_cst
  let main_v4 : IVec S2x8192x9216 1 := cmpf .olt main_v2 main_v3
  main_v4
-- ==== Pre_in_squares.lean ====
abbrev S16384x4096 : Shape := ⟨2, ![16384, 4096]⟩
abbrev S16384x128 : Shape := ⟨2, ![16384, 128]⟩
abbrev S2x4096x13312 : Shape := ⟨3, ![2, 4096, 13312]⟩
abbrev S_ : Shape := ⟨0, ![]⟩

class Facts : Prop where
  bcast_S_S16384x128 : S_.BroadcastsInDim S16384x128 (![] : Fin 0 → Fin S16384x128.rank)

variable [Facts]

def fn {F : FTy → Type} [FloatOps F] (main_arg0 : FVec F S16384x4096 .bf16) (main_arg1 : FVec F S16384x128 .f32) (main_arg2 : FVec F S2x4096x13312 .f32) : IVec S16384x128 1 :=
  let main_cst : FVec F S_ .f32 := constant S_ .f32 0x00000000#32
  let main_v0 : FVec F S16384x128 .f32 := broadcastInDim S16384x128 ![] bcast_S_S16384x128 main_cst
  let main_v1 : IVec S16384x128 1 := cmpf .oge main_arg1 main_v0
  main_v1
-- ==== Pre_key_squares.lean ====
abbrev S16384x4096 : Shape := ⟨2, ![16384, 4096]⟩
abbrev S16384x128 : Shape := ⟨2, ![16384, 128]⟩
abbrev S4096x6144 : Shape := ⟨2, ![4096, 6144]⟩
abbrev S_ : Shape := ⟨0, ![]⟩

class Facts : Prop where
  bcast_S_S16384x128 : S_.BroadcastsInDim S16384x128 (![] : Fin 0 → Fin S16384x128.rank)

variable [Facts]

def fn {F : FTy → Type} [FloatOps F] (main_arg0 : FVec F S16384x4096 .bf16) (main_arg1 : FVec F S16384x128 .f32) (main_arg2 : FVec F S4096x6144 .f32) : IVec S16384x128 1 :=
  let main_cst : FVec F S_ .f32 := constant S_ .f32 0x00000000#32
  let main_v0 : FVec F S16384x128 .f32 := broadcastInDim S16384x128 ![] bcast_S_S16384x128 main_cst
  let main_v1 : IVec S16384x128 1 := cmpf .oge main_arg1 main_v0
  main_v1
-- ==== Pre_q_squares.lean ====
abbrev S16384x4096 : Shape := ⟨2, ![16384, 4096]⟩
abbrev S16384x128 : Shape := ⟨2, ![16384, 128]⟩
abbrev S2x4096x4096 : Shape := ⟨3, ![2, 4096, 4096]⟩
abbrev S_ : Shape := ⟨0, ![]⟩

class Facts : Prop where
  bcast_S_S16384x128 : S_.BroadcastsInDim S16384x128 (![] : Fin 0 → Fin S16384x128.rank)

variable [Facts]

def fn {F : FTy → Type} [FloatOps F] (main_arg0 : FVec F S16384x4096 .bf16) (main_arg1 : FVec F S16384x128 .f32) (main_arg2 : FVec F S2x4096x4096 .f32) : IVec S16384x128 1 :=
  let main_cst : FVec F S_ .f32 := constant S_ .f32 0x00000000#32
  let main_v0 : FVec F S16384x128 .f32 := broadcastInDim S16384x128 ![] bcast_S_S16384x128 main_cst
  let main_v1 : IVec S16384x128 1 := cmpf .oge main_arg1 main_v0
  main_v1
-- ==== Pre_up_squares.lean ====
abbrev S16384x4096 : Shape := ⟨2, ![16384, 4096]⟩
abbrev S16384x128 : Shape := ⟨2, ![16384, 128]⟩
abbrev S4x4096x16384 : Shape := ⟨3, ![4, 4096, 16384]⟩
abbrev S4x3x16384 : Shape := ⟨3, ![4, 3, 16384]⟩
abbrev S4x16384 : Shape := ⟨2, ![4, 16384]⟩
abbrev S_ : Shape := ⟨0, ![]⟩

class Facts : Prop where
  bcast_S_S16384x128 : S_.BroadcastsInDim S16384x128 (![] : Fin 0 → Fin S16384x128.rank)

variable [Facts]

def fn {F : FTy → Type} [FloatOps F] (main_arg0 : FVec F S16384x4096 .bf16) (main_arg1 : FVec F S16384x128 .f32) (main_arg2 : FVec F S4x4096x16384 .bf16) (main_arg3 : FVec F S4x3x16384 .f32) (main_arg4 : FVec F S4x16384 .f32) : IVec S16384x128 1 :=
  let main_cst : FVec F S_ .f32 := constant S_ .f32 0x00000000#32
  let main_v0 : FVec F S16384x128 .f32 := broadcastInDim S16384x128 ![] bcast_S_S16384x128 main_cst
  let main_v1 : IVec S16384x128 1 := cmpf .oge main_arg1 main_v0
  main_v1
-- ==== Pre_values_squares.lean ====
abbrev S16384x4096 : Shape := ⟨2, ![16384, 4096]⟩
abbrev S16384x128 : Shape := ⟨2, ![16384, 128]⟩
abbrev S4096x6144 : Shape := ⟨2, ![4096, 6144]⟩
abbrev S_ : Shape := ⟨0, ![]⟩

class Facts : Prop where
  bcast_S_S16384x128 : S_.BroadcastsInDim S16384x128 (![] : Fin 0 → Fin S16384x128.rank)

variable [Facts]

def fn {F : FTy → Type} [FloatOps F] (main_arg0 : FVec F S16384x4096 .bf16) (main_arg1 : FVec F S16384x128 .f32) (main_arg2 : FVec F S4096x6144 .f32) : IVec S16384x128 1 :=
  let main_cst : FVec F S_ .f32 := constant S_ .f32 0x00000000#32
  let main_v0 : FVec F S16384x128 .f32 := broadcastInDim S16384x128 ![] bcast_S_S16384x128 main_cst
  let main_v1 : IVec S16384x128 1 := cmpf .oge main_arg1 main_v0
  main_v1
-- ==== Retention.lean ====
abbrev S2x8192x13312 : Shape := ⟨3, ![2, 8192, 13312]⟩
abbrev S8192 : Shape := ⟨1, ![8192]⟩
abbrev S128 : Shape := ⟨1, ![128]⟩
abbrev S_ : Shape := ⟨0, ![]⟩
abbrev S8192x1 : Shape := ⟨2, ![8192, 1]⟩
abbrev S1x128 : Shape := ⟨2, ![1, 128]⟩
abbrev S8192x128 : Shape := ⟨2, ![8192, 128]⟩
abbrev S12 : Shape := ⟨1, ![12]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S12x1x1 : Shape := ⟨3, ![12, 1, 1]⟩
abbrev S12x256x256 : Shape := ⟨3, ![12, 256, 256]⟩
abbrev S12x1 : Shape := ⟨2, ![12, 1]⟩
abbrev S12x256 : Shape := ⟨2, ![12, 256]⟩
abbrev S12x1x256 : Shape := ⟨3, ![12, 1, 256]⟩
abbrev S12x256x1 : Shape := ⟨3, ![12, 256, 1]⟩
abbrev S12x256x128 : Shape := ⟨3, ![12, 256, 128]⟩
abbrev S2x8192x3072 : Shape := ⟨3, ![2, 8192, 3072]⟩
abbrev S1x2048x256 : Shape := ⟨3, ![1, 2048, 256]⟩
abbrev S2048x128 : Shape := ⟨2, ![2048, 128]⟩
abbrev S1x256x128 : Shape := ⟨3, ![1, 256, 128]⟩
abbrev S1x1x256 : Shape := ⟨3, ![1, 1, 256]⟩
abbrev S256x128 : Shape := ⟨2, ![256, 128]⟩

abbrev nBuf : Space → Nat
  | .hbm => 107
  | .vmem => 23
  | .smem => 0
  | _ => 0

abbrev bufTy : (tb : Table) → Fin (tcTables nBuf tb) → BufTy
  | .hbm, ⟨0, _⟩ => ⟨S2x8192x13312, .bf16⟩
  | .hbm, ⟨1, _⟩ => ⟨S8192, .f32⟩
  | .hbm, ⟨2, _⟩ => ⟨S128, .f32⟩
  | .hbm, ⟨3, _⟩ => ⟨S128, .f32⟩
  | .hbm, ⟨4, _⟩ => ⟨S_, .f32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S128, .f32⟩
  | .hbm, ⟨9, _⟩ => ⟨S128, .f32⟩
  | .hbm, ⟨10, _⟩ => ⟨S8192x1, .f32⟩
  | .hbm, ⟨11, _⟩ => ⟨S1x128, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S12, .f32⟩
  | .hbm, ⟨18, _⟩ => ⟨S_, .f32⟩
  | .hbm, ⟨19, _⟩ => ⟨S12, .f32⟩
  | .hbm, ⟨20, _⟩ => ⟨S12, .f32⟩
  | .hbm, ⟨21, _⟩ => ⟨S_, .f32⟩
  | .hbm, ⟨22, _⟩ => ⟨S12, .f32⟩
  | .hbm, ⟨23, _⟩ => ⟨S12, .f32⟩
  | .hbm, ⟨24, _⟩ => ⟨S_, .f32⟩
  | .hbm, ⟨25, _⟩ => ⟨S12, .f32⟩
  | .hbm, ⟨26, _⟩ => ⟨S12, .f32⟩
  | .hbm, ⟨27, _⟩ => ⟨S12, .f32⟩
  | .hbm, ⟨28, _⟩ => ⟨S256, .f32⟩
  | .hbm, ⟨29, _⟩ => ⟨S256, .i32⟩
  | .hbm, ⟨30, _⟩ => ⟨S_, .i32⟩
  | .hbm, ⟨31, _⟩ => ⟨S_, .i32⟩
  | .hbm, ⟨32, _⟩ => ⟨S256, .i32⟩
  | .hbm, ⟨33, _⟩ => ⟨S256, .i32⟩
  | .hbm, ⟨34, _⟩ => ⟨S256, .i32⟩
  | .hbm, ⟨35, _⟩ => ⟨S_, .i32⟩
  | .hbm, ⟨36, _⟩ => ⟨S256, .i32⟩
  | .hbm, ⟨37, _⟩ => ⟨S256, .i1⟩
  | .hbm, ⟨38, _⟩ => ⟨S256, .i32⟩
  | .hbm, ⟨39, _⟩ => ⟨S256, .i32⟩
  | .hbm, ⟨40, _⟩ => ⟨S_, .i32⟩
  | .hbm, ⟨41, _⟩ => ⟨S256, .i32⟩
  | .hbm, ⟨42, _⟩ => ⟨S256, .i1⟩
  | .hbm, ⟨43, _⟩ => ⟨S256, .i1⟩
  | .hbm, ⟨44, _⟩ => ⟨S_, .i32⟩
  | .hbm, ⟨45, _⟩ => ⟨S256, .i32⟩
  | .hbm, ⟨46, _⟩ => ⟨S256, .i32⟩
  | .hbm, ⟨47, _⟩ => ⟨S256, .i32⟩
  | .hbm, ⟨48, _⟩ => ⟨S256x1, .f32⟩
  | .hbm, ⟨49, _⟩ => ⟨S1x256, .f32⟩
  | .hbm, ⟨50, _⟩ => ⟨S256x256, .f32⟩
  | .hbm, ⟨51, _⟩ => ⟨S256x256, .f32⟩
  | .hbm, ⟨52, _⟩ => ⟨S256x256, .f32⟩
  | .hbm, ⟨53, _⟩ => ⟨S256x1, .i32⟩
  | .hbm, ⟨54, _⟩ => ⟨S1x256, .i32⟩
  | .hbm, ⟨55, _⟩ => ⟨S256x256, .i32⟩
  | .hbm, ⟨56, _⟩ => ⟨S256x256, .i32⟩
  | .hbm, ⟨57, _⟩ => ⟨S256x256, .i1⟩
  | .hbm, ⟨58, _⟩ => ⟨S1x256, .i32⟩
  | .hbm, ⟨59, _⟩ => ⟨S256x1, .i32⟩
  | .hbm, ⟨60, _⟩ => ⟨S256x256, .i32⟩
  | .hbm, ⟨61, _⟩ => ⟨S256x256, .i32⟩
  | .hbm, ⟨62, _⟩ => ⟨S256x256, .i1⟩
  | .hbm, ⟨63, _⟩ => ⟨S256x256, .f32⟩
  | .hbm, ⟨64, _⟩ => ⟨S256x256, .f32⟩
  | .hbm, ⟨65, _⟩ => ⟨S256x256, .i1⟩
  | .hbm, ⟨66, _⟩ => ⟨S1x256x256, .i1⟩
  | .hbm, ⟨67, _⟩ => ⟨S12x1x1, .f32⟩
  | .hbm, ⟨68, _⟩ => ⟨S1x256x256, .f32⟩
  | .hbm, ⟨69, _⟩ => ⟨S12x256x256, .f32⟩
  | .hbm, ⟨70, _⟩ => ⟨S12x256x256, .f32⟩
  | .hbm, ⟨71, _⟩ => ⟨S12x256x256, .f32⟩
  | .hbm, ⟨72, _⟩ => ⟨S12x256x256, .f32⟩
  | .hbm, ⟨73, _⟩ => ⟨S_, .f32⟩
  | .hbm, ⟨74, _⟩ => ⟨S_, .f32⟩
  | .hbm, ⟨75, _⟩ => ⟨S12x256x256, .i1⟩
  | .hbm, ⟨76, _⟩ => ⟨S12x256x256, .f32⟩
  | .hbm, ⟨77, _⟩ => ⟨S12x256x256, .f32⟩
  | .hbm, ⟨78, _⟩ => ⟨S1x256, .f32⟩
  | .hbm, ⟨79, _⟩ => ⟨S_, .f32⟩
  | .hbm, ⟨80, _⟩ => ⟨S1x256, .f32⟩
  | .hbm, ⟨81, _⟩ => ⟨S1x256, .f32⟩
  | .hbm, ⟨82, _⟩ => ⟨S12x1, .f32⟩
  | .hbm, ⟨83, _⟩ => ⟨S12x256, .f32⟩
  | .hbm, ⟨84, _⟩ => ⟨S12x256, .f32⟩
  | .hbm, ⟨85, _⟩ => ⟨S12x256, .f32⟩
  | .hbm, ⟨86, _⟩ => ⟨S12x256, .f32⟩
  | .hbm, ⟨87, _⟩ => ⟨S1x256, .f32⟩
  | .hbm, ⟨88, _⟩ => ⟨S_, .f32⟩
  | .hbm, ⟨89, _⟩ => ⟨S1x256, .f32⟩
  | .hbm, ⟨90, _⟩ => ⟨S1x256, .f32⟩
  | .hbm, ⟨91, _⟩ => ⟨S12x1, .f32⟩
  | .hbm, ⟨92, _⟩ => ⟨S12x256, .f32⟩
  | .hbm, ⟨93, _⟩ => ⟨S12x256, .f32⟩
  | .hbm, ⟨94, _⟩ => ⟨S12x256, .f32⟩
  | .hbm, ⟨95, _⟩ => ⟨S12x256, .f32⟩
  | .hbm, ⟨96, _⟩ => ⟨S_, .f32⟩
  | .hbm, ⟨97, _⟩ => ⟨S12, .f32⟩
  | .hbm, ⟨98, _⟩ => ⟨S12, .f32⟩
  | .hbm, ⟨99, _⟩ => ⟨S12, .f32⟩
  | .hbm, ⟨100, _⟩ => ⟨S12x1x1, .f32⟩
  | .hbm, ⟨101, _⟩ => ⟨S12x1x256, .f32⟩
  | .hbm, ⟨102, _⟩ => ⟨S12x256x1, .f32⟩
  | .hbm, ⟨103, _⟩ => ⟨S12x256x128, .f32⟩
  | .hbm, ⟨104, _⟩ => ⟨S12x256x1, .f32⟩
  | .hbm, ⟨105, _⟩ => ⟨S12x256x128, .f32⟩
  | .hbm, ⟨106, _⟩ => ⟨S2x8192x3072, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S1x256x256, .f32⟩
  | .local _ .vmem, ⟨13, _⟩ => ⟨S1x256x256, .f32⟩
  | .local _ .vmem, ⟨14, _⟩ => ⟨S1x256x128, .f32⟩
  | .local _ .vmem, ⟨15, _⟩ => ⟨S1x256x128, .f32⟩
  | .local _ .vmem, ⟨16, _⟩ => ⟨S1x256x128, .f32⟩
  | .local _ .vmem, ⟨17, _⟩ => ⟨S1x256x128, .f32⟩
  | .local _ .vmem, ⟨18, _⟩ => ⟨S1x1x256, .f32⟩
  | .local _ .vmem, ⟨19, _⟩ => ⟨S1x1x256, .f32⟩
  | .local _ .vmem, ⟨20, _⟩ => ⟨S1x2048x256, .bf16⟩
  | .local _ .vmem, ⟨21, _⟩ => ⟨S1x2048x256, .bf16⟩
  | .local _ .vmem, ⟨22, _⟩ => ⟨S256x256, .f32⟩
  | _, _ => ⟨S2x8192x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_1 : Ref sig .tc := ⟨.hbm, 18, rfl⟩
abbrev main_v15 : Ref sig .tc := ⟨.hbm, 19, rfl⟩
abbrev main_v16 : Ref sig .tc := ⟨.hbm, 20, rfl⟩
abbrev main_cst_2 : Ref sig .tc := ⟨.hbm, 21, rfl⟩
abbrev main_v17 : Ref sig .tc := ⟨.hbm, 22, rfl⟩
abbrev main_v18 : Ref sig .tc := ⟨.hbm, 23, rfl⟩
abbrev main_cst_3 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_c : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_0 : Ref sig .tc := ⟨.hbm, 44, rfl⟩
abbrev main_call0_v12 : Ref sig .tc := ⟨.hbm, 45, rfl⟩
abbrev main_call0_v13 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_4 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_v50 : Ref sig .tc := ⟨.hbm, 77, rfl⟩
abbrev main_v51 : Ref sig .tc := ⟨.hbm, 78, rfl⟩
abbrev main_cst_5 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_6 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_7 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 12, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c36_i32 : BitVec 32 := 36#32
  let v0 : BitVec 32 := Scalar.addi c36_i32 arg1
  let c0_i32 : BitVec 32 := 0#32
  ![arg0.toNat, arg2.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S1x2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== RetentionRefIdeal.lean ====
abbrev S2x8192x13312 : Shape := ⟨3, ![2, 8192, 13312]⟩
abbrev S8192 : Shape := ⟨1, ![8192]⟩
abbrev S2x8192x3072 : Shape := ⟨3, ![2, 8192, 3072]⟩
abbrev S2x8192x12x256 : Shape := ⟨4, ![2, 8192, 12, 256]⟩
abbrev S128 : Shape := ⟨1, ![128]⟩
abbrev S_ : Shape := ⟨0, ![]⟩
abbrev S8192x1 : Shape := ⟨2, ![8192, 1]⟩
abbrev S1x128 : Shape := ⟨2, ![1, 128]⟩
abbrev S8192x128 : Shape := ⟨2, ![8192, 128]⟩
abbrev S1x8192x1x128 : Shape := ⟨4, ![1, 8192, 1, 128]⟩
abbrev S2x8192x12x128 : Shape := ⟨4, ![2, 8192, 12, 128]⟩
abbrev S12 : Shape := ⟨1, ![12]⟩
abbrev S2x128x64x12x256 : Shape := ⟨5, ![2, 128, 64, 12, 256]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S12x1x1 : Shape := ⟨3, ![12, 1, 1]⟩
abbrev S1x64x64 : Shape := ⟨3, ![1, 64, 64]⟩
abbrev S12x64x64 : Shape := ⟨3, ![12, 64, 64]⟩
abbrev S2x128x12x64x64 : Shape := ⟨5, ![2, 128, 12, 64, 64]⟩
abbrev S1x1x12x64x64 : Shape := ⟨5, ![1, 1, 12, 64, 64]⟩
abbrev S2x128x12x256x64 : Shape := ⟨5, ![2, 128, 12, 256, 64]⟩
abbrev S1x12 : Shape := ⟨2, ![1, 12]⟩
abbrev S64x12 : Shape := ⟨2, ![64, 12]⟩
abbrev S64x12x1 : Shape := ⟨3, ![64, 12, 1]⟩
abbrev S1x12x1x1 : Shape := ⟨4, ![1, 12, 1, 1]⟩
abbrev S128x2x64x12x256 : Shape := ⟨5, ![128, 2, 64, 12, 256]⟩
abbrev S2x12x256x256 : Shape := ⟨4, ![2, 12, 256, 256]⟩
abbrev S1x2x64x12x256 : Shape := ⟨5, ![1, 2, 64, 12, 256]⟩
abbrev S2x64x12x256 : Shape := ⟨4, ![2, 64, 12, 256]⟩
abbrev S1x64x12x1 : Shape := ⟨4, ![1, 64, 12, 1]⟩
abbrev S2x12x256x64 : Shape := ⟨4, ![2, 12, 256, 64]⟩
abbrev S2x8192x12 : Shape := ⟨3, ![2, 8192, 12]⟩
abbrev S2x8192x12x1 : Shape := ⟨4, ![2, 8192, 12, 1]⟩

abbrev nBuf : Space → Nat
  | .hbm => 237
  | .vmem => 0
  | .smem => 0
  | _ => 0

abbrev hbmTy0_0 (i : Nat) : BufTy := match i % 128 with
  | 0 => ⟨S2x8192x13312, .bf16⟩
  | 1 => ⟨S8192, .i32⟩
  | 2 => ⟨S2x8192x3072, .bf16⟩
  | 3 => ⟨S2x8192x3072, .f32⟩
  | 4 => ⟨S2x8192x3072, .bf16⟩
  | 5 => ⟨S2x8192x3072, .f32⟩
  | 6 => ⟨S2x8192x3072, .bf16⟩
  | 7 => ⟨S2x8192x3072, .f32⟩
  | 8 => ⟨S2x8192x12x256, .f32⟩
  | 9 => ⟨S128, .f32⟩
  | 10 => ⟨S128, .f32⟩
  | 11 => ⟨S_, .f32⟩
  | 12 => ⟨S128, .f32⟩
  | 13 => ⟨S128, .f32⟩
  | 14 => ⟨S_, .f32⟩
  | 15 => ⟨S128, .f32⟩
  | 16 => ⟨S128, .f32⟩
  | 17 => ⟨S8192, .f32⟩
  | 18 => ⟨S8192x1, .f32⟩
  | 19 => ⟨S1x128, .f32⟩
  | 20 => ⟨S8192x128, .f32⟩
  | 21 => ⟨S8192x128, .f32⟩
  | 22 => ⟨S8192x128, .f32⟩
  | 23 => ⟨S8192x128, .f32⟩
  | 24 => ⟨S1x8192x1x128, .f32⟩
  | 25 => ⟨S8192x128, .f32⟩
  | 26 => ⟨S1x8192x1x128, .f32⟩
  | 27 => ⟨S2x8192x12x128, .f32⟩
  | 28 => ⟨S2x8192x12x128, .f32⟩
  | 29 => ⟨S2x8192x12x128, .f32⟩
  | 30 => ⟨S2x8192x12x128, .f32⟩
  | 31 => ⟨S2x8192x12x128, .f32⟩
  | 32 => ⟨S2x8192x12x128, .f32⟩
  | 33 => ⟨S2x8192x12x128, .f32⟩
  | 34 => ⟨S2x8192x12x128, .f32⟩
  | 35 => ⟨S2x8192x12x128, .f32⟩
  | 36 => ⟨S2x8192x12x128, .f32⟩
  | 37 => ⟨S2x8192x12x128, .f32⟩
  | 38 => ⟨S2x8192x12x128, .f32⟩
  | 39 => ⟨S2x8192x12x256, .f32⟩
  | 40 => ⟨S2x8192x12x256, .f32⟩
  | 41 => ⟨S128, .f32⟩
  | 42 => ⟨S128, .f32⟩
  | 43 => ⟨S_, .f32⟩
  | 44 => ⟨S128, .f32⟩
  | 45 => ⟨S128, .f32⟩
  | 46 => ⟨S_, .f32⟩
  | 47 => ⟨S128, .f32⟩
  | 48 => ⟨S128, .f32⟩
  | 49 => ⟨S8192, .f32⟩
  | 50 => ⟨S8192x1, .f32⟩
  | 51 => ⟨S1x128, .f32⟩
  | 52 => ⟨S8192x128, .f32⟩
  | 53 => ⟨S8192x128, .f32⟩
  | 54 => ⟨S8192x128, .f32⟩
  | 55 => ⟨S8192x128, .f32⟩
  | 56 => ⟨S1x8192x1x128, .f32⟩
  | 57 => ⟨S8192x128, .f32⟩
  | 58 => ⟨S1x8192x1x128, .f32⟩
  | 59 => ⟨S2x8192x12x128, .f32⟩
  | 60 => ⟨S2x8192x12x128, .f32⟩
  | 61 => ⟨S2x8192x12x128, .f32⟩
  | 62 => ⟨S2x8192x12x128, .f32⟩
  | 63 => ⟨S2x8192x12x128, .f32⟩
  | 64 => ⟨S2x8192x12x128, .f32⟩
  | 65 => ⟨S2x8192x12x128, .f32⟩
  | 66 => ⟨S2x8192x12x128, .f32⟩
  | 67 => ⟨S2x8192x12x128, .f32⟩
  | 68 => ⟨S2x8192x12x128, .f32⟩
  | 69 => ⟨S2x8192x12x128, .f32⟩
  | 70 => ⟨S2x8192x12x128, .f32⟩
  | 71 => ⟨S2x8192x12x256, .f32⟩
  | 72 => ⟨S_, .f32⟩
  | 73 => ⟨S2x8192x12x256, .f32⟩
  | 74 => ⟨S2x8192x12x256, .f32⟩
  | 75 => ⟨S2x8192x12x256, .f32⟩
  | 76 => ⟨S12, .f32⟩
  | 77 => ⟨S_, .f32⟩
  | 78 => ⟨S12, .f32⟩
  | 79 => ⟨S12, .f32⟩
  | 80 => ⟨S_, .f32⟩
  | 81 => ⟨S12, .f32⟩
  | 82 => ⟨S12, .f32⟩
  | 83 => ⟨S_, .f32⟩
  | 84 => ⟨S12, .f32⟩
  | 85 => ⟨S12, .f32⟩
  | 86 => ⟨S12, .f32⟩
  | 87 => ⟨S2x128x64x12x256, .f32⟩
  | 88 => ⟨S2x128x64x12x256, .f32⟩
  | 89 => ⟨S2x128x64x12x256, .f32⟩
  | 90 => ⟨S64, .f32⟩
  | 91 => ⟨S64x1, .f32⟩
  | 92 => ⟨S1x64, .f32⟩
  | 93 => ⟨S64x64, .f32⟩
  | 94 => ⟨S64x64, .f32⟩
  | 95 => ⟨S64x64, .f32⟩
  | 96 => ⟨S64x64, .f32⟩
  | 97 => ⟨S12x1x1, .f32⟩
  | 98 => ⟨S1x64x64, .f32⟩
  | 99 => ⟨S12x64x64, .f32⟩
  | 100 => ⟨S12x64x64, .f32⟩
  | 101 => ⟨S12x64x64, .f32⟩
  | 102 => ⟨S12x64x64, .f32⟩
  | 103 => ⟨S2x128x12x64x64, .f32⟩
  | 104 => ⟨S1x1x12x64x64, .f32⟩
  | 105 => ⟨S2x128x12x64x64, .f32⟩
  | 106 => ⟨S2x128x12x64x64, .f32⟩
  | 107 => ⟨S2x128x12x256x64, .f32⟩
  | 108 => ⟨S2x128x64x12x256, .f32⟩
  | 109 => ⟨S64x1, .f32⟩
  | 110 => ⟨S_, .f32⟩
  | 111 => ⟨S64x1, .f32⟩
  | 112 => ⟨S64x1, .f32⟩
  | 113 => ⟨S1x12, .f32⟩
  | 114 => ⟨S64x12, .f32⟩
  | 115 => ⟨S64x12, .f32⟩
  | 116 => ⟨S64x12, .f32⟩
  | 117 => ⟨S64x12, .f32⟩
  | 118 => ⟨S64x12x1, .f32⟩
  | 119 => ⟨S64x1, .f32⟩
  | 120 => ⟨S_, .f32⟩
  | 121 => ⟨S64x1, .f32⟩
  | 122 => ⟨S64x1, .f32⟩
  | 123 => ⟨S1x12, .f32⟩
  | 124 => ⟨S64x12, .f32⟩
  | 125 => ⟨S64x12, .f32⟩
  | 126 => ⟨S64x12, .f32⟩
  | 127 => ⟨S64x12, .f32⟩
  | _ => ⟨S2x8192x13312, .bf16⟩

abbrev hbmTy0_1 (i : Nat) : BufTy := match i % 128 with
  | 0 => ⟨S64x12x1, .f32⟩
  | 1 => ⟨S_, .f32⟩
  | 2 => ⟨S12, .f32⟩
  | 3 => ⟨S12, .f32⟩
  | 4 => ⟨S12, .f32⟩
  | 5 => ⟨S1x12x1x1, .f32⟩
  | 6 => ⟨S128x2x64x12x256, .f32⟩
  | 7 => ⟨S128x2x64x12x256, .f32⟩
  | 8 => ⟨S128x2x64x12x256, .f32⟩
  | 9 => ⟨S128x2x64x12x256, .f32⟩
  | 10 => ⟨S_, .f32⟩
  | 11 => ⟨S2x12x256x256, .f32⟩
  | 12 => ⟨S_, .f32⟩
  | 13 => ⟨S128x2x64x12x256, .f32⟩
  | 14 => ⟨S_, .i32⟩
  | 15 => ⟨S128x2x64x12x256, .f32⟩
  | 16 => ⟨S128x2x64x12x256, .f32⟩
  | 17 => ⟨S128x2x64x12x256, .f32⟩
  | 18 => ⟨S128x2x64x12x256, .f32⟩
  | 19 => ⟨S64x12x1, .f32⟩
  | 20 => ⟨S1x12x1x1, .f32⟩
  | 21 => ⟨S64x12x1, .f32⟩
  | 22 => ⟨S_, .i32⟩
  | 23 => ⟨S2x12x256x256, .f32⟩
  | 24 => ⟨S128x2x64x12x256, .f32⟩
  | 25 => ⟨S_, .i32⟩
  | 26 => ⟨S_, .i1⟩
  | 27 => ⟨S_, .i32⟩
  | 28 => ⟨S_, .i32⟩
  | 29 => ⟨S_, .i32⟩
  | 30 => ⟨S_, .i32⟩
  | 31 => ⟨S1x2x64x12x256, .f32⟩
  | 32 => ⟨S2x64x12x256, .f32⟩
  | 33 => ⟨S_, .i32⟩
  | 34 => ⟨S_, .i32⟩
  | 35 => ⟨S_, .i32⟩
  | 36 => ⟨S_, .i32⟩
  | 37 => ⟨S1x2x64x12x256, .f32⟩
  | 38 => ⟨S2x64x12x256, .f32⟩
  | 39 => ⟨S_, .i32⟩
  | 40 => ⟨S_, .i32⟩
  | 41 => ⟨S_, .i32⟩
  | 42 => ⟨S_, .i32⟩
  | 43 => ⟨S1x2x64x12x256, .f32⟩
  | 44 => ⟨S2x64x12x256, .f32⟩
  | 45 => ⟨S_, .i32⟩
  | 46 => ⟨S_, .i32⟩
  | 47 => ⟨S_, .i32⟩
  | 48 => ⟨S_, .i32⟩
  | 49 => ⟨S1x2x64x12x256, .f32⟩
  | 50 => ⟨S2x64x12x256, .f32⟩
  | 51 => ⟨S1x64x12x1, .f32⟩
  | 52 => ⟨S2x64x12x256, .f32⟩
  | 53 => ⟨S2x64x12x256, .f32⟩
  | 54 => ⟨S2x12x256x64, .f32⟩
  | 55 => ⟨S2x64x12x256, .f32⟩
  | 56 => ⟨S2x64x12x256, .f32⟩
  | 57 => ⟨S2x12x256x256, .f32⟩
  | 58 => ⟨S2x12x256x256, .f32⟩
  | 59 => ⟨S1x64x12x1, .f32⟩
  | 60 => ⟨S2x64x12x256, .f32⟩
  | 61 => ⟨S2x64x12x256, .f32⟩
  | 62 => ⟨S2x12x256x256, .f32⟩
  | 63 => ⟨S2x12x256x256, .f32⟩
  | 64 => ⟨S1x2x64x12x256, .f32⟩
  | 65 => ⟨S_, .i32⟩
  | 66 => ⟨S_, .i32⟩
  | 67 => ⟨S_, .i32⟩
  | 68 => ⟨S_, .i32⟩
  | 69 => ⟨S128x2x64x12x256, .f32⟩
  | 70 => ⟨S_, .i32⟩
  | 71 => ⟨S_, .i32⟩
  | 72 => ⟨S2x128x64x12x256, .f32⟩
  | 73 => ⟨S2x8192x12x256, .f32⟩
  | 74 => ⟨S_, .f32⟩
  | 75 => ⟨S2x8192x12, .f32⟩
  | 76 => ⟨S2x8192x12x1, .f32⟩
  | 77 => ⟨S_, .f32⟩
  | 78 => ⟨S2x8192x12x1, .f32⟩
  | 79 => ⟨S2x8192x12x1, .f32⟩
  | 80 => ⟨S2x8192x12x256, .f32⟩
  | 81 => ⟨S2x8192x12x256, .f32⟩
  | 82 => ⟨S2x8192x12x256, .f32⟩
  | 83 => ⟨S_, .f32⟩
  | 84 => ⟨S2x8192x12, .f32⟩
  | 85 => ⟨S2x8192x12x1, .f32⟩
  | 86 => ⟨S_, .f32⟩
  | 87 => ⟨S2x8192x12x1, .f32⟩
  | 88 => ⟨S2x8192x12x1, .f32⟩
  | 89 => ⟨S_, .f32⟩
  | 90 => ⟨S2x8192x12x1, .f32⟩
  | 91 => ⟨S2x8192x12x1, .f32⟩
  | 92 => ⟨S2x8192x12x1, .f32⟩
  | 93 => ⟨S2x8192x12x256, .f32⟩
  | 94 => ⟨S2x8192x12x256, .f32⟩
  | 95 => ⟨S2x8192x3072, .f32⟩
  | 96 => ⟨S2x8192x3072, .bf16⟩
  | 97 => ⟨S2x8192x3072, .f32⟩
  | 98 => ⟨S2x8192x3072, .f32⟩
  | 99 => ⟨S2x8192x3072, .f32⟩
  | 100 => ⟨S_, .f32⟩
  | 101 => ⟨S2x8192x3072, .f32⟩
  | 102 => ⟨S2x8192x3072, .f32⟩
  | 103 => ⟨S_, .f32⟩
  | 104 => ⟨S2x8192x3072, .f32⟩
  | 105 => ⟨S2x8192x3072, .f32⟩
  | 106 => ⟨S2x8192x3072, .f32⟩
  | 107 => ⟨S2x8192x3072, .f32⟩
  | 108 => ⟨S2x8192x3072, .bf16⟩
  | _ => ⟨S2x8192x13312, .bf16⟩

abbrev hbmTy (i : Nat) : BufTy := match i / 128 with
  | 0 => hbmTy0_0 i
  | 1 => hbmTy0_1 i
  | _ => ⟨S2x8192x13312, .bf16⟩

abbrev bufTy : (tb : Table) → Fin (tcTables nBuf tb) → BufTy
  | .hbm, ⟨i, _⟩ => hbmTy i
  | _, _ => ⟨S2x8192x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_cst_0 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_cst_1 : Ref sig .tc := ⟨.hbm, 43, rfl⟩
abbrev main_v40 : Ref sig .tc := ⟨.hbm, 44, rfl⟩
abbrev main_v41 : Ref sig .tc := ⟨.hbm, 45, rfl⟩
abbrev main_cst_2 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_cst_3 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_cst_4 : Ref sig .tc := ⟨.hbm, 77, rfl⟩
abbrev main_v71 : Ref sig .tc := ⟨.hbm, 78, rfl⟩
abbrev main_v72 : Ref sig .tc := ⟨.hbm, 79, rfl⟩
abbrev main_cst_5 : Ref sig .tc := ⟨.hbm, 80, rfl⟩
abbrev main_v73 : Ref sig .tc := ⟨.hbm, 81, rfl⟩
abbrev main_v74 : Ref sig .tc := ⟨.hbm, 82, rfl⟩
abbrev main_cst_6 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_cst_7 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_cst_8 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_cst_9 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_cst_10 : Ref sig .tc := ⟨.hbm, 138, rfl⟩
abbrev main_v126 : Ref sig .tc := ⟨.hbm, 139, rfl⟩
abbrev main_cst_11 : Ref sig .tc := ⟨.hbm, 140, rfl⟩
abbrev main_v127 : Ref sig .tc := ⟨.hbm, 141, rfl⟩
abbrev main_c : Ref sig .tc := ⟨.hbm, 142, rfl⟩
abbrev main_v128_0 : Ref sig .tc := ⟨.hbm, 143, rfl⟩
abbrev main_v128_1 : Ref sig .tc := ⟨.hbm, 144, rfl⟩
abbrev main_v128_2 : Ref sig .tc := ⟨.hbm, 145, rfl⟩
abbrev main_v128_3 : Ref sig .tc := ⟨.hbm, 146, rfl⟩
abbrev main_v128_4 : Ref sig .tc := ⟨.hbm, 147, rfl⟩
abbrev main_v128_5 : Ref sig .tc := ⟨.hbm, 148, rfl⟩
abbrev main_v128_6 : Ref sig .tc := ⟨.hbm, 149, rfl⟩
abbrev main_v128_7 : Ref sig .tc := ⟨.hbm, 150, rfl⟩
abbrev main_v128_8 : Ref sig .tc := ⟨.hbm, 151, rfl⟩
abbrev main_v128_9 : Ref sig .tc := ⟨.hbm, 152, rfl⟩
abbrev main_while0c_c_26 : Ref sig .tc := ⟨.hbm, 153, rfl⟩
abbrev main_while0c_v153 : Ref sig .tc := ⟨.hbm, 154, rfl⟩
abbrev main_while0b_call0_c : Ref sig .tc := ⟨.hbm, 155, rfl⟩
abbrev main_while0b_call0_c_0 : Ref sig .tc := ⟨.hbm, 156, rfl⟩
abbrev main_while0b_call0_c_1 : Ref sig .tc := ⟨.hbm, 157, rfl⟩
abbrev main_while0b_call0_c_2 : Ref sig .tc := ⟨.hbm, 158, rfl⟩
abbrev main_while0b_call0_v0 : Ref sig .tc := ⟨.hbm, 159, rfl⟩
abbrev main_while0b_v153 : Ref sig .tc := ⟨.hbm, 160, rfl⟩
abbrev main_while0b_call1_c : Ref sig .tc := ⟨.hbm, 161, rfl⟩
abbrev main_while0b_call1_c_0 : Ref sig .tc := ⟨.hbm, 162, rfl⟩
abbrev main_while0b_call1_c_1 : Ref sig .tc := ⟨.hbm, 163, rfl⟩
abbrev main_while0b_call1_c_2 : Ref sig .tc := ⟨.hbm, 164, rfl⟩
abbrev main_while0b_call1_v0 : Ref sig .tc := ⟨.hbm, 165, rfl⟩
abbrev main_while0b_v154 : Ref sig .tc := ⟨.hbm, 166, rfl⟩
abbrev main_while0b_call2_c : Ref sig .tc := ⟨.hbm, 167, rfl⟩
abbrev main_while0b_call2_c_0 : Ref sig .tc := ⟨.hbm, 168, rfl⟩
abbrev main_while0b_call2_c_1 : Ref sig .tc := ⟨.hbm, 169, rfl⟩
abbrev main_while0b_call2_c_2 : Ref sig .tc := ⟨.hbm, 170, rfl⟩
abbrev main_while0b_call2_v0 : Ref sig .tc := ⟨.hbm, 171, rfl⟩
abbrev main_while0b_v155 : Ref sig .tc := ⟨.hbm, 172, rfl⟩
abbrev main_while0b_call3_c : Ref sig .tc := ⟨.hbm, 173, rfl⟩
abbrev main_while0b_call3_c_0 : Ref sig .tc := ⟨.hbm, 174, rfl⟩
abbrev main_while0b_call3_c_1 : Ref sig .tc := ⟨.hbm, 175, rfl⟩
abbrev main_while0b_call3_c_2 : Ref sig .tc := ⟨.hbm, 176, rfl⟩
abbrev main_while0b_call3_v0 : Ref sig .tc := ⟨.hbm, 177, rfl⟩
abbrev main_while0b_v156 : Ref sig .tc := ⟨.hbm, 178, rfl⟩
abbrev main_while0b_v157 : Ref sig .tc := ⟨.hbm, 179, rfl⟩
abbrev main_while0b_v158 : Ref sig .tc := ⟨.hbm, 180, rfl⟩
abbrev main_while0b_v159 : Ref sig .tc := ⟨.hbm, 181, rfl⟩
abbrev main_while0b_v160 : Ref sig .tc := ⟨.hbm, 182, rfl⟩
abbrev main_while0b_v161 : Ref sig .tc := ⟨.hbm, 183, rfl⟩
abbrev main_while0b_v162 : Ref sig .tc := ⟨.hbm, 184, rfl⟩
abbrev main_while0b_v163 : Ref sig .tc := ⟨.hbm, 185, rfl⟩
abbrev main_while0b_v164 : Ref sig .tc := ⟨.hbm, 186, rfl⟩
abbrev main_while0b_v165 : Ref sig .tc := ⟨.hbm, 187, rfl⟩
abbrev main_while0b_v166 : Ref sig .tc := ⟨.hbm, 188, rfl⟩
abbrev main_while0b_v167 : Ref sig .tc := ⟨.hbm, 189, rfl⟩
abbrev main_while0b_v168 : Ref sig .tc := ⟨.hbm, 190, rfl⟩
abbrev main_while0b_v169 : Ref sig .tc := ⟨.hbm, 191, rfl⟩
abbrev main_while0b_call4_v0 : Ref sig .tc := ⟨.hbm, 192, rfl⟩
abbrev main_while0b_call4_c : Ref sig .tc := ⟨.hbm, 193, rfl⟩
abbrev main_while0b_call4_c_0 : Ref sig .tc := ⟨.hbm, 194, rfl⟩
abbrev main_while0b_call4_c_1 : Ref sig .tc := ⟨.hbm, 195, rfl⟩
abbrev main_while0b_call4_c_2 : Ref sig .tc := ⟨.hbm, 196, rfl⟩
abbrev main_while0b_v170 : Ref sig .tc := ⟨.hbm, 197, rfl⟩
abbrev main_while0b_c_26 : Ref sig .tc := ⟨.hbm, 198, rfl⟩
abbrev main_while0b_v171 : Ref sig .tc := ⟨.hbm, 199, rfl⟩
abbrev main_v129 : Ref sig .tc := ⟨.hbm, 200, rfl⟩
abbrev main_v130 : Ref sig .tc := ⟨.hbm, 201, rfl⟩
abbrev main_cst_12 : Ref sig .tc := ⟨.hbm, 202, rfl⟩
abbrev main_v131 : Ref sig .tc := ⟨.hbm, 203, rfl⟩
abbrev main_v132 : Ref sig .tc := ⟨.hbm, 204, rfl⟩
abbrev main_cst_13 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_cst_14 : Ref sig .tc := ⟨.hbm, 211, rfl⟩
abbrev main_v138 : Ref sig .tc := ⟨.hbm, 212, rfl⟩
abbrev main_v139 : Ref sig .tc := ⟨.hbm, 213, rfl⟩
abbrev main_cst_15 : Ref sig .tc := ⟨.hbm, 214, rfl⟩
abbrev main_v140 : Ref sig .tc := ⟨.hbm, 215, rfl⟩
abbrev main_v141 : Ref sig .tc := ⟨.hbm, 216, rfl⟩
abbrev main_cst_16 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_call5_v0 : Ref sig .tc := ⟨.hbm, 226, rfl⟩
abbrev main_call5_v1 : Ref sig .tc := ⟨.hbm, 227, rfl⟩
abbrev main_call5_cst : Ref sig .tc := ⟨.hbm, 228, rfl⟩
abbrev main_call5_v2 : Ref sig .tc := ⟨.hbm, 229, rfl⟩
abbrev main_call5_v3 : Ref sig .tc := ⟨.hbm, 230, rfl⟩
abbrev main_call5_cst_0 : Ref sig .tc := ⟨.hbm, 231, rfl⟩
abbrev main_call5_v4 : Ref sig .tc := ⟨.hbm, 232, rfl⟩
abbrev main_call5_v5 : Ref sig .tc := ⟨.hbm, 233, rfl⟩
abbrev main_v150 : Ref sig .tc := ⟨.hbm, 234, rfl⟩
abbrev main_v151 : Ref sig .tc := ⟨.hbm, 235, rfl⟩
abbrev main_v152 : Ref sig .tc := ⟨.hbm, 236, rfl⟩

abbrev nD : Nat := 1
abbrev τ : Topo := Topo.v7x

variable {F : FTy → Type} [FloatOps F]

abbrev main_while0_count : Scf.Loop 32 := ⟨0#32, 128#32, 1#32⟩
-- ==== Down.lean ====
abbrev S16384x8192 : Shape := ⟨2, ![16384, 8192]⟩
abbrev S4x8192x4096 : Shape := ⟨3, ![4, 8192, 4096]⟩
abbrev S16384x4096 : Shape := ⟨2, ![16384, 4096]⟩
abbrev S4096 : Shape := ⟨1, ![4096]⟩
abbrev S1x4096 : Shape := ⟨2, ![1, 4096]⟩
abbrev S16384x128 : Shape := ⟨2, ![16384, 128]⟩
abbrev S1024x8192 : Shape := ⟨2, ![1024, 8192]⟩
abbrev S1x8192x512 : Shape := ⟨3, ![1, 8192, 512]⟩
abbrev S1024x512 : Shape := ⟨2, ![1024, 512]⟩
abbrev S1x512 : Shape := ⟨2, ![1, 512]⟩
abbrev S1024x128 : Shape := ⟨2, ![1024, 128]⟩
abbrev S8192x512 : Shape := ⟨2, ![8192, 512]⟩

abbrev nBuf : Space → Nat
  | .hbm => 8
  | .vmem => 13
  | .smem => 0
  | _ => 0

abbrev bufTy : (tb : Table) → Fin (tcTables nBuf tb) → BufTy
  | .hbm, ⟨0, _⟩ => ⟨S16384x8192, .bf16⟩
  | .hbm, ⟨1, _⟩ => ⟨S4x8192x4096, .bf16⟩
  | .hbm, ⟨2, _⟩ => ⟨S16384x4096, .f32⟩
  | .hbm, ⟨3, _⟩ => ⟨S4096, .f32⟩
  | .hbm, ⟨4, _⟩ => ⟨S1x4096, .f32⟩
  | .hbm, ⟨5, _⟩ => ⟨S16384x4096, .f32⟩
  | .hbm, ⟨6, _⟩ => ⟨S16384x4096, .bf16⟩
  | .hbm, ⟨7, _⟩ => ⟨S16384x128, .f32⟩
  | .local _ .vmem, ⟨0, _⟩ => ⟨S1024x8192, .bf16⟩
  | .local _ .vmem, ⟨1, _⟩ => ⟨S1x8192x512, .bf16⟩
  | .local _ .vmem, ⟨2, _⟩ => ⟨S1x8192x512, .bf16⟩
  | .local _ .vmem, ⟨3, _⟩ => ⟨S1024x512, .f32⟩
  | .local _ .vmem, ⟨4, _⟩ => ⟨S1024x512, .f32⟩
  | .local _ .vmem, ⟨5, _⟩ => ⟨S1x512, .f32⟩
  | .local _ .vmem, ⟨6, _⟩ => ⟨S1x512, .f32⟩
  | .local _ .vmem, ⟨7, _⟩ => ⟨S1024x512, .f32⟩
  | .local _ .vmem, ⟨8, _⟩ => ⟨S1024x512, .f32⟩
  | .local _ .vmem, ⟨9, _⟩ => ⟨S1024x512, .bf16⟩
  | .local _ .vmem, ⟨10, _⟩ => ⟨S1024x512, .bf16⟩
  | .local _ .vmem, ⟨11, _⟩ => ⟨S1024x128, .f32⟩
  | .local _ .vmem, ⟨12, _⟩ => ⟨S1024x128, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== DownRefIdeal.lean ====
abbrev S16384x8192 : Shape := ⟨2, ![16384, 8192]⟩
abbrev S4x8192x4096 : Shape := ⟨3, ![4, 8192, 4096]⟩
abbrev S16384x4096 : Shape := ⟨2, ![16384, 4096]⟩
abbrev S4096 : Shape := ⟨1, ![4096]⟩
abbrev S1x8192x4096 : Shape := ⟨3, ![1, 8192, 4096]⟩
abbrev S8192x4096 : Shape := ⟨2, ![8192, 4096]⟩
abbrev S16384x32x128 : Shape := ⟨3, ![16384, 32, 128]⟩
abbrev S_ : Shape := ⟨0, ![]⟩
abbrev S16384x128 : Shape := ⟨2, ![16384, 128]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x8192, .bf16⟩
  | .hbm, ⟨1, _⟩ => ⟨S4x8192x4096, .bf16⟩
  | .hbm, ⟨2, _⟩ => ⟨S16384x4096, .f32⟩
  | .hbm, ⟨3, _⟩ => ⟨S4096, .f32⟩
  | .hbm, ⟨4, _⟩ => ⟨S16384x8192, .f32⟩
  | .hbm, ⟨5, _⟩ => ⟨S1x8192x4096, .bf16⟩
  | .hbm, ⟨6, _⟩ => ⟨S8192x4096, .bf16⟩
  | .hbm, ⟨7, _⟩ => ⟨S8192x4096, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S16384x32x128, .f32⟩
  | .hbm, ⟨12, _⟩ => ⟨S_, .f32⟩
  | .hbm, ⟨13, _⟩ => ⟨S16384x128, .f32⟩
  | .hbm, ⟨14, _⟩ => ⟨S1x4096, .f32⟩
  | .hbm, ⟨15, _⟩ => ⟨S16384x4096, .f32⟩
  | .hbm, ⟨16, _⟩ => ⟨S16384x4096, .f32⟩
  | .hbm, ⟨17, _⟩ => ⟨S16384x4096, .bf16⟩
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Ain.lean ====
abbrev S16384x4096 : Shape := ⟨2, ![16384, 4096]⟩
abbrev S16384x128 : Shape := ⟨2, ![16384, 128]⟩
abbrev S2x4096x13312 : Shape := ⟨3, ![2, 4096, 13312]⟩
abbrev S16384x13312 : Shape := ⟨2, ![16384, 13312]⟩
abbrev S2048x4096 : Shape := ⟨2, ![2048, 4096]⟩
abbrev S1x4096x512 : Shape := ⟨3, ![1, 4096, 512]⟩
abbrev S2048x128 : Shape := ⟨2, ![2048, 128]⟩
abbrev S2048x512 : Shape := ⟨2, ![2048, 512]⟩
abbrev S4096x512 : Shape := ⟨2, ![4096, 512]⟩
abbrev S2048 : Shape := ⟨1, ![2048]⟩
abbrev S2048x1 : Shape := ⟨2, ![2048, 1]⟩

abbrev nBuf : Space → Nat
  | .hbm => 4
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S16384x128, .f32⟩
  | .hbm, ⟨2, _⟩ => ⟨S2x4096x13312, .f32⟩
  | .hbm, ⟨3, _⟩ => ⟨S16384x13312, .bf16⟩
  | .local _ .vmem, ⟨0, _⟩ => ⟨S2048x4096, .bf16⟩
  | .local _ .vmem, ⟨1, _⟩ => ⟨S1x4096x512, .f32⟩
  | .local _ .vmem, ⟨2, _⟩ => ⟨S1x4096x512, .f32⟩
  | .local _ .vmem, ⟨3, _⟩ => ⟨S2048x128, .f32⟩
  | .local _ .vmem, ⟨4, _⟩ => ⟨S2048x128, .f32⟩
  | .local _ .vmem, ⟨5, _⟩ => ⟨S2048x512, .bf16⟩
  | .local _ .vmem, ⟨6, _⟩ => ⟨S2048x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 26], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AinIdeal.lean ====
abbrev S16384x4096 : Shape := ⟨2, ![16384, 4096]⟩
abbrev S16384x128 : Shape := ⟨2, ![16384, 128]⟩
abbrev S2x4096x13312 : Shape := ⟨3, ![2, 4096, 13312]⟩
abbrev S16384x13312 : Shape := ⟨2, ![16384, 13312]⟩
abbrev S2048x4096 : Shape := ⟨2, ![2048, 4096]⟩
abbrev S1x4096x512 : Shape := ⟨3, ![1, 4096, 512]⟩
abbrev S2048x128 : Shape := ⟨2, ![2048, 128]⟩
abbrev S2048x512 : Shape := ⟨2, ![2048, 512]⟩
abbrev S4096x512 : Shape := ⟨2, ![4096, 512]⟩
abbrev S2048 : Shape := ⟨1, ![2048]⟩
abbrev S2048x1 : Shape := ⟨2, ![2048, 1]⟩

abbrev nBuf : Space → Nat
  | .hbm => 4
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S16384x128, .f32⟩
  | .hbm, ⟨2, _⟩ => ⟨S2x4096x13312, .f32⟩
  | .hbm, ⟨3, _⟩ => ⟨S16384x13312, .bf16⟩
  | .local _ .vmem, ⟨0, _⟩ => ⟨S2048x4096, .bf16⟩
  | .local _ .vmem, ⟨1, _⟩ => ⟨S1x4096x512, .f32⟩
  | .local _ .vmem, ⟨2, _⟩ => ⟨S1x4096x512, .f32⟩
  | .local _ .vmem, ⟨3, _⟩ => ⟨S2048x128, .f32⟩
  | .local _ .vmem, ⟨4, _⟩ => ⟨S2048x128, .f32⟩
  | .local _ .vmem, ⟨5, _⟩ => ⟨S2048x512, .bf16⟩
  | .local _ .vmem, ⟨6, _⟩ => ⟨S2048x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 26], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AinRefIdeal.lean ====
abbrev S16384x4096 : Shape := ⟨2, ![16384, 4096]⟩
abbrev S16384x128 : Shape := ⟨2, ![16384, 128]⟩
abbrev S2x4096x13312 : Shape := ⟨3, ![2, 4096, 13312]⟩
abbrev S_ : Shape := ⟨0, ![]⟩
abbrev S16384 : Shape := ⟨1, ![16384]⟩
abbrev S16384x1 : Shape := ⟨2, ![16384, 1]⟩
abbrev S1x4096x13312 : Shape := ⟨3, ![1, 4096, 13312]⟩
abbrev S4096x13312 : Shape := ⟨2, ![4096, 13312]⟩
abbrev S16384x13312 : Shape := ⟨2, ![16384, 13312]⟩

abbrev nBuf : Space → Nat
  | .hbm => 20
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x128, .f32⟩
  | .hbm, ⟨2, _⟩ => ⟨S2x4096x13312, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096x13312, .f32⟩
  | .hbm, ⟨17, _⟩ => ⟨S4096x13312, .f32⟩
  | .hbm, ⟨18, _⟩ => ⟨S16384x13312, .f32⟩
  | .hbm, ⟨19, _⟩ => ⟨S16384x13312, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Bin.lean ====
abbrev S16384x4096 : Shape := ⟨2, ![16384, 4096]⟩
abbrev S16384x128 : Shape := ⟨2, ![16384, 128]⟩
abbrev S2x4096x4096 : Shape := ⟨3, ![2, 4096, 4096]⟩
abbrev S2048x4096 : Shape := ⟨2, ![2048, 4096]⟩
abbrev S1x4096x512 : Shape := ⟨3, ![1, 4096, 512]⟩
abbrev S2048x128 : Shape := ⟨2, ![2048, 128]⟩
abbrev S2048x512 : Shape := ⟨2, ![2048, 512]⟩
abbrev S4096x512 : Shape := ⟨2, ![4096, 512]⟩
abbrev S2048 : Shape := ⟨1, ![2048]⟩
abbrev S2048x1 : Shape := ⟨2, ![2048, 1]⟩

abbrev nBuf : Space → Nat
  | .hbm => 4
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S16384x128, .f32⟩
  | .hbm, ⟨2, _⟩ => ⟨S2x4096x4096, .f32⟩
  | .hbm, ⟨3, _⟩ => ⟨S16384x4096, .bf16⟩
  | .local _ .vmem, ⟨0, _⟩ => ⟨S2048x4096, .bf16⟩
  | .local _ .vmem, ⟨1, _⟩ => ⟨S1x4096x512, .f32⟩
  | .local _ .vmem, ⟨2, _⟩ => ⟨S1x4096x512, .f32⟩
  | .local _ .vmem, ⟨3, _⟩ => ⟨S2048x128, .f32⟩
  | .local _ .vmem, ⟨4, _⟩ => ⟨S2048x128, .f32⟩
  | .local _ .vmem, ⟨5, _⟩ => ⟨S2048x512, .bf16⟩
  | .local _ .vmem, ⟨6, _⟩ => ⟨S2048x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== BinRefIdeal.lean ====
abbrev S16384x4096 : Shape := ⟨2, ![16384, 4096]⟩
abbrev S16384x128 : Shape := ⟨2, ![16384, 128]⟩
abbrev S2x4096x4096 : Shape := ⟨3, ![2, 4096, 4096]⟩
abbrev S_ : Shape := ⟨0, ![]⟩
abbrev S16384 : Shape := ⟨1, ![16384]⟩
abbrev S16384x1 : Shape := ⟨2, ![16384, 1]⟩
abbrev S1x4096x4096 : Shape := ⟨3, ![1, 4096, 4096]⟩
abbrev S4096x4096 : Shape := ⟨2, ![4096, 4096]⟩

abbrev nBuf : Space → Nat
  | .hbm => 20
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x128, .f32⟩
  | .hbm, ⟨2, _⟩ => ⟨S2x4096x4096, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096x4096, .f32⟩
  | .hbm, ⟨17, _⟩ => ⟨S4096x4096, .f32⟩
  | .hbm, ⟨18, _⟩ => ⟨S16384x4096, .f32⟩
  | .hbm, ⟨19, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Key.lean ====
abbrev S16384x4096 : Shape := ⟨2, ![16384, 4096]⟩
abbrev S16384x128 : Shape := ⟨2, ![16384, 128]⟩
abbrev S4096x6144 : Shape := ⟨2, ![4096, 6144]⟩
abbrev S1x4096x6144 : Shape := ⟨3, ![1, 4096, 6144]⟩
abbrev S16384x3072 : Shape := ⟨2, ![16384, 3072]⟩
abbrev S2048x4096 : Shape := ⟨2, ![2048, 4096]⟩
abbrev S1x4096x512 : Shape := ⟨3, ![1, 4096, 512]⟩
abbrev S2048x128 : Shape := ⟨2, ![2048, 128]⟩
abbrev S2048x512 : Shape := ⟨2, ![2048, 512]⟩
abbrev S4096x512 : Shape := ⟨2, ![4096, 512]⟩
abbrev S2048 : Shape := ⟨1, ![2048]⟩
abbrev S2048x1 : Shape := ⟨2, ![2048, 1]⟩

abbrev nBuf : Space → Nat
  | .hbm => 5
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S16384x128, .f32⟩
  | .hbm, ⟨2, _⟩ => ⟨S4096x6144, .f32⟩
  | .hbm, ⟨3, _⟩ => ⟨S1x4096x6144, .f32⟩
  | .hbm, ⟨4, _⟩ => ⟨S16384x3072, .bf16⟩
  | .local _ .vmem, ⟨0, _⟩ => ⟨S2048x4096, .bf16⟩
  | .local _ .vmem, ⟨1, _⟩ => ⟨S1x4096x512, .f32⟩
  | .local _ .vmem, ⟨2, _⟩ => ⟨S1x4096x512, .f32⟩
  | .local _ .vmem, ⟨3, _⟩ => ⟨S2048x128, .f32⟩
  | .local _ .vmem, ⟨4, _⟩ => ⟨S2048x128, .f32⟩
  | .local _ .vmem, ⟨5, _⟩ => ⟨S2048x512, .bf16⟩
  | .local _ .vmem, ⟨6, _⟩ => ⟨S2048x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KeyRefIdeal.lean ====
abbrev S16384x4096 : Shape := ⟨2, ![16384, 4096]⟩
abbrev S16384x128 : Shape := ⟨2, ![16384, 128]⟩
abbrev S4096x6144 : Shape := ⟨2, ![4096, 6144]⟩
abbrev S_ : Shape := ⟨0, ![]⟩
abbrev S16384 : Shape := ⟨1, ![16384]⟩
abbrev S16384x1 : Shape := ⟨2, ![16384, 1]⟩
abbrev S4096x3072 : Shape := ⟨2, ![4096, 3072]⟩
abbrev S16384x3072 : Shape := ⟨2, ![16384, 3072]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x128, .f32⟩
  | .hbm, ⟨2, _⟩ => ⟨S4096x6144, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S4096x3072, .f32⟩
  | .hbm, ⟨17, _⟩ => ⟨S16384x3072, .f32⟩
  | .hbm, ⟨18, _⟩ => ⟨S16384x3072, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Up.lean ====
abbrev S16384x4096 : Shape := ⟨2, ![16384, 4096]⟩
abbrev S16384x128 : Shape := ⟨2, ![16384, 128]⟩
abbrev S4x4096x16384 : Shape := ⟨3, ![4, 4096, 16384]⟩
abbrev S4x3x16384 : Shape := ⟨3, ![4, 3, 16384]⟩
abbrev S4x16384 : Shape := ⟨2, ![4, 16384]⟩
abbrev S4x1x16384 : Shape := ⟨3, ![4, 1, 16384]⟩
abbrev S16384x8192 : Shape := ⟨2, ![16384, 8192]⟩
abbrev S1024x4096 : Shape := ⟨2, ![1024, 4096]⟩
abbrev S1024x128 : Shape := ⟨2, ![1024, 128]⟩
abbrev S1x4096x512 : Shape := ⟨3, ![1, 4096, 512]⟩
abbrev S1x3x512 : Shape := ⟨3, ![1, 3, 512]⟩
abbrev S1x1x512 : Shape := ⟨3, ![1, 1, 512]⟩
abbrev S1024x512 : Shape := ⟨2, ![1024, 512]⟩
abbrev S8x512 : Shape := ⟨2, ![8, 512]⟩
abbrev S4096x512 : Shape := ⟨2, ![4096, 512]⟩
abbrev S1024 : Shape := ⟨1, ![1024]⟩
abbrev S1024x1 : Shape := ⟨2, ![1024, 1]⟩
abbrev S256x4096 : Shape := ⟨2, ![256, 4096]⟩
abbrev S256x1 : Shape := ⟨2, ![256, 1]⟩
abbrev S256x512 : Shape := ⟨2, ![256, 512]⟩
abbrev S1x512 : Shape := ⟨2, ![1, 512]⟩
abbrev S248x512 : Shape := ⟨2, ![248, 512]⟩
abbrev S3x512 : Shape := ⟨2, ![3, 512]⟩

abbrev nBuf : Space → Nat
  | .hbm => 7
  | .vmem => 20
  | .smem => 0
  | _ => 0

abbrev bufTy : (tb : Table) → Fin (tcTables nBuf tb) → BufTy
  | .hbm, ⟨0, _⟩ => ⟨S16384x4096, .bf16⟩
  | .hbm, ⟨1, _⟩ => ⟨S16384x128, .f32⟩
  | .hbm, ⟨2, _⟩ => ⟨S4x4096x16384, .bf16⟩
  | .hbm, ⟨3, _⟩ => ⟨S4x3x16384, .f32⟩
  | .hbm, ⟨4, _⟩ => ⟨S4x16384, .f32⟩
  | .hbm, ⟨5, _⟩ => ⟨S4x1x16384, .f32⟩
  | .hbm, ⟨6, _⟩ => ⟨S16384x8192, .bf16⟩
  | .local _ .vmem, ⟨0, _⟩ => ⟨S1024x4096, .bf16⟩
  | .local _ .vmem, ⟨1, _⟩ => ⟨S1024x4096, .bf16⟩
  | .local _ .vmem, ⟨2, _⟩ => ⟨S1024x128, .f32⟩
  | .local _ .vmem, ⟨3, _⟩ => ⟨S1024x128, .f32⟩
  | .local _ .vmem, ⟨4, _⟩ => ⟨S1x4096x512, .bf16⟩
  | .local _ .vmem, ⟨5, _⟩ => ⟨S1x4096x512, .bf16⟩
  | .local _ .vmem, ⟨6, _⟩ => ⟨S1x4096x512, .bf16⟩
  | .local _ .vmem, ⟨7, _⟩ => ⟨S1x4096x512, .bf16⟩
  | .local _ .vmem, ⟨8, _⟩ => ⟨S1x3x512, .f32⟩
  | .local _ .vmem, ⟨9, _⟩ => ⟨S1x3x512, .f32⟩
  | .local _ .vmem, ⟨10, _⟩ => ⟨S1x3x512, .f32⟩
  | .local _ .vmem, ⟨11, _⟩ => ⟨S1x3x512, .f32⟩
  | .local _ .vmem, ⟨12, _⟩ => ⟨S1x1x512, .f32⟩
  | .local _ .vmem, ⟨13, _⟩ => ⟨S1x1x512, .f32⟩
  | .local _ .vmem, ⟨14, _⟩ => ⟨S1x1x512, .f32⟩
  | .local _ .vmem, ⟨15, _⟩ => ⟨S1x1x512, .f32⟩
  | .local _ .vmem, ⟨16, _⟩ => ⟨S1024x512, .bf16⟩
  | .local _ .vmem, ⟨17, _⟩ => ⟨S1024x512, .bf16⟩
  | .local _ .vmem, ⟨18, _⟩ => ⟨S8x512, .f32⟩
  | .local _ .vmem, ⟨19, _⟩ => ⟨S8x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_7 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![c0_i32.toNat, c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== UpRefIdeal.lean ====
abbrev S16384x4096 : Shape := ⟨2, ![16384, 4096]⟩
abbrev S16384x128 : Shape := ⟨2, ![16384, 128]⟩
abbrev S4x4096x16384 : Shape := ⟨3, ![4, 4096, 16384]⟩
abbrev S4x3x16384 : Shape := ⟨3, ![4, 3, 16384]⟩
abbrev S4x16384 : Shape := ⟨2, ![4, 16384]⟩
abbrev S_ : Shape := ⟨0, ![]⟩
abbrev S16384 : Shape := ⟨1, ![16384]⟩
abbrev S16384x1 : Shape := ⟨2, ![16384, 1]⟩
abbrev S2x8192x4096 : Shape := ⟨3, ![2, 8192, 4096]⟩
abbrev S1x4096x16384 : Shape := ⟨3, ![1, 4096, 16384]⟩
abbrev S4096x16384 : Shape := ⟨2, ![4096, 16384]⟩
abbrev S2x8192x16384 : Shape := ⟨3, ![2, 8192, 16384]⟩
abbrev S2x8194x16384 : Shape := ⟨3, ![2, 8194, 16384]⟩
abbrev S1x16384 : Shape := ⟨2, ![1, 16384]⟩
abbrev S1x1x16384 : Shape := ⟨3, ![1, 1, 16384]⟩
abbrev S2x8192x8192 : Shape := ⟨3, ![2, 8192, 8192]⟩
abbrev S16384x8192 : Shape := ⟨2, ![16384, 8192]⟩

abbrev nBuf : Space → Nat
  | .hbm => 65
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x128, .f32⟩
  | .hbm, ⟨2, _⟩ => ⟨S4x4096x16384, .bf16⟩
  | .hbm, ⟨3, _⟩ => ⟨S4x3x16384, .f32⟩
  | .hbm, ⟨4, _⟩ => ⟨S4x16384, .f32⟩
  | .hbm, ⟨5, _⟩ => ⟨S16384x4096, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x4096, .f32⟩
  | .hbm, ⟨17, _⟩ => ⟨S16384x4096, .f32⟩
  | .hbm, ⟨18, _⟩ => ⟨S2x8192x4096, .f32⟩
  | .hbm, ⟨19, _⟩ => ⟨S1x4096x16384, .bf16⟩
  | .hbm, ⟨20, _⟩ => ⟨S4096x16384, .bf16⟩
  | .hbm, ⟨21, _⟩ => ⟨S4096x16384, .f32⟩
  | .hbm, ⟨22, _⟩ => ⟨S2x8192x16384, .f32⟩
  | .hbm, ⟨23, _⟩ => ⟨S_, .i32⟩
  | .hbm, ⟨24, _⟩ => ⟨S_, .f32⟩
  | .hbm, ⟨25, _⟩ => ⟨S2x8194x16384, .f32⟩
  | .hbm, ⟨26, _⟩ => ⟨S1x16384, .f32⟩
  | .hbm, ⟨27, _⟩ => ⟨S16384, .f32⟩
  | .hbm, ⟨28, _⟩ => ⟨S1x1x16384, .f32⟩
  | .hbm, ⟨29, _⟩ => ⟨S16384, .f32⟩
  | .hbm, ⟨30, _⟩ => ⟨S2x8192x16384, .f32⟩
  | .hbm, ⟨31, _⟩ => ⟨S1x1x16384, .f32⟩
  | .hbm, ⟨32, _⟩ => ⟨S2x8192x16384, .f32⟩
  | .hbm, ⟨33, _⟩ => ⟨S2x8192x16384, .f32⟩
  | .hbm, ⟨34, _⟩ => ⟨S1x1x16384, .f32⟩
  | .hbm, ⟨35, _⟩ => ⟨S2x8192x16384, .f32⟩
  | .hbm, ⟨36, _⟩ => ⟨S2x8192x16384, .f32⟩
  | .hbm, ⟨37, _⟩ => ⟨S1x1x16384, .f32⟩
  | .hbm, ⟨38, _⟩ => ⟨S16384, .f32⟩
  | .hbm, ⟨39, _⟩ => ⟨S2x8192x16384, .f32⟩
  | .hbm, ⟨40, _⟩ => ⟨S1x1x16384, .f32⟩
  | .hbm, ⟨41, _⟩ => ⟨S2x8192x16384, .f32⟩
  | .hbm, ⟨42, _⟩ => ⟨S2x8192x16384, .f32⟩
  | .hbm, ⟨43, _⟩ => ⟨S2x8192x16384, .f32⟩
  | .hbm, ⟨44, _⟩ => ⟨S1x1x16384, .f32⟩
  | .hbm, ⟨45, _⟩ => ⟨S16384, .f32⟩
  | .hbm, ⟨46, _⟩ => ⟨S2x8192x16384, .f32⟩
  | .hbm, ⟨47, _⟩ => ⟨S1x1x16384, .f32⟩
  | .hbm, ⟨48, _⟩ => ⟨S2x8192x16384, .f32⟩
  | .hbm, ⟨49, _⟩ => ⟨S2x8192x16384, .f32⟩
  | .hbm, ⟨50, _⟩ => ⟨S2x8192x16384, .f32⟩
  | .hbm, ⟨51, _⟩ => ⟨S2x8192x8192, .f32⟩
  | .hbm, ⟨52, _⟩ => ⟨S2x8192x8192, .f32⟩
  | .hbm, ⟨53, _⟩ => ⟨S2x8192x8192, .f32⟩
  | .hbm, ⟨54, _⟩ => ⟨S2x8192x8192, .f32⟩
  | .hbm, ⟨55, _⟩ => ⟨S_, .f32⟩
  | .hbm, ⟨56, _⟩ => ⟨S2x8192x8192, .f32⟩
  | .hbm, ⟨57, _⟩ => ⟨S2x8192x8192, .f32⟩
  | .hbm, ⟨58, _⟩ => ⟨S_, .f32⟩
  | .hbm, ⟨59, _⟩ => ⟨S2x8192x8192, .f32⟩
  | .hbm, ⟨60, _⟩ => ⟨S2x8192x8192, .f32⟩
  | .hbm, ⟨61, _⟩ => ⟨S2x8192x8192, .f32⟩
  | .hbm, ⟨62, _⟩ => ⟨S2x8192x8192, .f32⟩
  | .hbm, ⟨63, _⟩ => ⟨S2x8192x8192, .bf16⟩
  | .hbm, ⟨64, _⟩ => ⟨S16384x8192, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_call1_v0 : Ref sig .tc := ⟨.hbm, 53, rfl⟩
abbrev main_call1_v1 : Ref sig .tc := ⟨.hbm, 54, rfl⟩
abbrev main_call1_cst : Ref sig .tc := ⟨.hbm, 55, rfl⟩
abbrev main_call1_v2 : Ref sig .tc := ⟨.hbm, 56, rfl⟩
abbrev main_call1_v3 : Ref sig .tc := ⟨.hbm, 57, rfl⟩
abbrev main_call1_cst_0 : Ref sig .tc := ⟨.hbm, 58, rfl⟩
abbrev main_call1_v4 : Ref sig .tc := ⟨.hbm, 59, rfl⟩
abbrev main_call1_v5 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]
-- ==== Out.lean ====
abbrev S16384x3072 : Shape := ⟨2, ![16384, 3072]⟩
abbrev S16384x1024 : Shape := ⟨2, ![16384, 1024]⟩
abbrev S4x4096x4096 : Shape := ⟨3, ![4, 4096, 4096]⟩
abbrev S16384x4096 : Shape := ⟨2, ![16384, 4096]⟩
abbrev S4096 : Shape := ⟨1, ![4096]⟩
abbrev S1x4096 : Shape := ⟨2, ![1, 4096]⟩
abbrev S16384x128 : Shape := ⟨2, ![16384, 128]⟩
abbrev S1x3072x256 : Shape := ⟨3, ![1, 3072, 256]⟩
abbrev S2048x3072 : Shape := ⟨2, ![2048, 3072]⟩
abbrev S2048x1024 : Shape := ⟨2, ![2048, 1024]⟩
abbrev S1x1024x256 : Shape := ⟨3, ![1, 1024, 256]⟩
abbrev S2048x256 : Shape := ⟨2, ![2048, 256]⟩
abbrev S1x256 : Shape := ⟨2, ![1, 256]⟩
abbrev S2048x128 : Shape := ⟨2, ![2048, 128]⟩
abbrev S3072x256 : Shape := ⟨2, ![3072, 256]⟩
abbrev S1024x256 : Shape := ⟨2, ![1024, 256]⟩

abbrev nBuf : Space → Nat
  | .hbm => 9
  | .vmem => 16
  | .smem => 0
  | _ => 0

abbrev bufTy : (tb : Table) → Fin (tcTables nBuf tb) → BufTy
  | .hbm, ⟨0, _⟩ => ⟨S16384x3072, .bf16⟩
  | .hbm, ⟨1, _⟩ => ⟨S16384x1024, .bf16⟩
  | .hbm, ⟨2, _⟩ => ⟨S4x4096x4096, .f32⟩
  | .hbm, ⟨3, _⟩ => ⟨S16384x4096, .f32⟩
  | .hbm, ⟨4, _⟩ => ⟨S4096, .f32⟩
  | .hbm, ⟨5, _⟩ => ⟨S1x4096, .f32⟩
  | .hbm, ⟨6, _⟩ => ⟨S16384x4096, .f32⟩
  | .hbm, ⟨7, _⟩ => ⟨S16384x4096, .bf16⟩
  | .hbm, ⟨8, _⟩ => ⟨S16384x128, .f32⟩
  | .local _ .vmem, ⟨0, _⟩ => ⟨S1x3072x256, .f32⟩
  | .local _ .vmem, ⟨1, _⟩ => ⟨S1x3072x256, .f32⟩
  | .local _ .vmem, ⟨2, _⟩ => ⟨S2048x3072, .bf16⟩
  | .local _ .vmem, ⟨3, _⟩ => ⟨S2048x1024, .bf16⟩
  | .local _ .vmem, ⟨4, _⟩ => ⟨S1x1024x256, .f32⟩
  | .local _ .vmem, ⟨5, _⟩ => ⟨S1x1024x256, .f32⟩
  | .local _ .vmem, ⟨6, _⟩ => ⟨S2048x256, .f32⟩
  | .local _ .vmem, ⟨7, _⟩ => ⟨S2048x256, .f32⟩
  | .local _ .vmem, ⟨8, _⟩ => ⟨S1x256, .f32⟩
  | .local _ .vmem, ⟨9, _⟩ => ⟨S1x256, .f32⟩
  | .local _ .vmem, ⟨10, _⟩ => ⟨S2048x256, .f32⟩
  | .local _ .vmem, ⟨11, _⟩ => ⟨S2048x256, .f32⟩
  | .local _ .vmem, ⟨12, _⟩ => ⟨S2048x256, .bf16⟩
  | .local _ .vmem, ⟨13, _⟩ => ⟨S2048x256, .bf16⟩
  | .local _ .vmem, ⟨14, _⟩ => ⟨S2048x128, .f32⟩
  | .local _ .vmem, ⟨15, _⟩ => ⟨S2048x128, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![c0_i32.toNat, c3_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x3072x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== OutRefIdeal.lean ====
abbrev S16384x3072 : Shape := ⟨2, ![16384, 3072]⟩
abbrev S16384x1024 : Shape := ⟨2, ![16384, 1024]⟩
abbrev S4x4096x4096 : Shape := ⟨3, ![4, 4096, 4096]⟩
abbrev S16384x4096 : Shape := ⟨2, ![16384, 4096]⟩
abbrev S4096 : Shape := ⟨1, ![4096]⟩
abbrev S1x4096x4096 : Shape := ⟨3, ![1, 4096, 4096]⟩
abbrev S4096x4096 : Shape := ⟨2, ![4096, 4096]⟩
abbrev S16384x32x128 : Shape := ⟨3, ![16384, 32, 128]⟩
abbrev S_ : Shape := ⟨0, ![]⟩
abbrev S16384x128 : Shape := ⟨2, ![16384, 128]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S16384x1024, .bf16⟩
  | .hbm, ⟨2, _⟩ => ⟨S4x4096x4096, .f32⟩
  | .hbm, ⟨3, _⟩ => ⟨S16384x4096, .f32⟩
  | .hbm, ⟨4, _⟩ => ⟨S4096, .f32⟩
  | .hbm, ⟨5, _⟩ => ⟨S16384x4096, .bf16⟩
  | .hbm, ⟨6, _⟩ => ⟨S16384x4096, .f32⟩
  | .hbm, ⟨7, _⟩ => ⟨S1x4096x4096, .f32⟩
  | .hbm, ⟨8, _⟩ => ⟨S4096x4096, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S16384x32x128, .f32⟩
  | .hbm, ⟨13, _⟩ => ⟨S_, .f32⟩
  | .hbm, ⟨14, _⟩ => ⟨S16384x128, .f32⟩
  | .hbm, ⟨15, _⟩ => ⟨S1x4096, .f32⟩
  | .hbm, ⟨16, _⟩ => ⟨S16384x4096, .f32⟩
  | .hbm, ⟨17, _⟩ => ⟨S16384x4096, .f32⟩
  | .hbm, ⟨18, _⟩ => ⟨S16384x4096, .bf16⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Values.lean ====
abbrev S16384x4096 : Shape := ⟨2, ![16384, 4096]⟩
abbrev S16384x128 : Shape := ⟨2, ![16384, 128]⟩
abbrev S4096x6144 : Shape := ⟨2, ![4096, 6144]⟩
abbrev S2x12x16x272x512 : Shape := ⟨5, ![2, 12, 16, 272, 512]⟩
abbrev S2048x4096 : Shape := ⟨2, ![2048, 4096]⟩
abbrev S4096x512 : Shape := ⟨2, ![4096, 512]⟩
abbrev S2048x128 : Shape := ⟨2, ![2048, 128]⟩
abbrev S1x2x4x272x512 : Shape := ⟨5, ![1, 2, 4, 272, 512]⟩
abbrev S2048x512 : Shape := ⟨2, ![2048, 512]⟩
abbrev S2048 : Shape := ⟨1, ![2048]⟩
abbrev S2048x1 : Shape := ⟨2, ![2048, 1]⟩
abbrev S16x512 : Shape := ⟨2, ![16, 512]⟩
abbrev S512x256 : Shape := ⟨2, ![512, 256]⟩
abbrev S256x512 : Shape := ⟨2, ![256, 512]⟩
abbrev S1x1x1x256x512 : Shape := ⟨5, ![1, 1, 1, 256, 512]⟩
abbrev S1x1x1x16x512 : Shape := ⟨5, ![1, 1, 1, 16, 512]⟩

abbrev nBuf : Space → Nat
  | .hbm => 4
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S16384x128, .f32⟩
  | .hbm, ⟨2, _⟩ => ⟨S4096x6144, .f32⟩
  | .hbm, ⟨3, _⟩ => ⟨S2x12x16x272x512, .bf16⟩
  | .local _ .vmem, ⟨0, _⟩ => ⟨S2048x4096, .bf16⟩
  | .local _ .vmem, ⟨1, _⟩ => ⟨S4096x512, .f32⟩
  | .local _ .vmem, ⟨2, _⟩ => ⟨S4096x512, .f32⟩
  | .local _ .vmem, ⟨3, _⟩ => ⟨S2048x128, .f32⟩
  | .local _ .vmem, ⟨4, _⟩ => ⟨S2048x128, .f32⟩
  | .local _ .vmem, ⟨5, _⟩ => ⟨S1x2x4x272x512, .bf16⟩
  | .local _ .vmem, ⟨6, _⟩ => ⟨S1x2x4x272x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, arg1.toNat, v26.toNat, c0_i32_10.toNat, c0_i32_11.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x4x272x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ValuesRefIdeal.lean ====
abbrev S16384x4096 : Shape := ⟨2, ![16384, 4096]⟩
abbrev S16384x128 : Shape := ⟨2, ![16384, 128]⟩
abbrev S4096x6144 : Shape := ⟨2, ![4096, 6144]⟩
abbrev S_ : Shape := ⟨0, ![]⟩
abbrev S16384 : Shape := ⟨1, ![16384]⟩
abbrev S16384x1 : Shape := ⟨2, ![16384, 1]⟩
abbrev S4096x3072 : Shape := ⟨2, ![4096, 3072]⟩
abbrev S16384x3072 : Shape := ⟨2, ![16384, 3072]⟩
abbrev S2x16x512x12x256 : Shape := ⟨5, ![2, 16, 512, 12, 256]⟩
abbrev S2x12x16x256x512 : Shape := ⟨5, ![2, 12, 16, 256, 512]⟩
abbrev S2x12x16x16x512 : Shape := ⟨5, ![2, 12, 16, 16, 512]⟩
abbrev S2x12x16x272x512 : Shape := ⟨5, ![2, 12, 16, 272, 512]⟩

abbrev nBuf : Space → Nat
  | .hbm => 24
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x128, .f32⟩
  | .hbm, ⟨2, _⟩ => ⟨S4096x6144, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S4096x3072, .f32⟩
  | .hbm, ⟨17, _⟩ => ⟨S16384x3072, .f32⟩
  | .hbm, ⟨18, _⟩ => ⟨S2x16x512x12x256, .f32⟩
  | .hbm, ⟨19, _⟩ => ⟨S2x12x16x256x512, .f32⟩
  | .hbm, ⟨20, _⟩ => ⟨S_, .f32⟩
  | .hbm, ⟨21, _⟩ => ⟨S2x12x16x16x512, .f32⟩
  | .hbm, ⟨22, _⟩ => ⟨S2x12x16x272x512, .f32⟩
  | .hbm, ⟨23, _⟩ => ⟨S2x12x16x272x512, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Memory.lean ====
abbrev S2x8192x13312 : Shape := ⟨3, ![2, 8192, 13312]⟩
abbrev S2x256x2048 : Shape := ⟨3, ![2, 256, 2048]⟩
abbrev S2x8192x1024 : Shape := ⟨3, ![2, 8192, 1024]⟩
abbrev S1x2048x1024 : Shape := ⟨3, ![1, 2048, 1024]⟩
abbrev S1x256x2048 : Shape := ⟨3, ![1, 256, 2048]⟩
abbrev S1x2048x256 : Shape := ⟨3, ![1, 2048, 256]⟩
abbrev S2048x256 : Shape := ⟨2, ![2048, 256]⟩
abbrev S1x256x256 : Shape := ⟨3, ![1, 256, 256]⟩
abbrev S256x256 : Shape := ⟨2, ![256, 256]⟩
abbrev S2048 : Shape := ⟨1, ![2048]⟩
abbrev S2048x1 : Shape := ⟨2, ![2048, 1]⟩

abbrev nBuf : Space → Nat
  | .hbm => 3
  | .vmem => 6
  | .smem => 0
  | _ => 0

abbrev bufTy : (tb : Table) → Fin (tcTables nBuf tb) → BufTy
  | .hbm, ⟨0, _⟩ => ⟨S2x8192x13312, .bf16⟩
  | .hbm, ⟨1, _⟩ => ⟨S2x256x2048, .bf16⟩
  | .hbm, ⟨2, _⟩ => ⟨S2x8192x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x2048x1024, .bf16⟩
  | .local _ .vmem, ⟨5, _⟩ => ⟨S1x2048x1024, .bf16⟩
  | _, _ => ⟨S2x8192x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg0.toNat, arg1.toNat, c12_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemoryRefIdeal.lean ====
abbrev S2x8192x13312 : Shape := ⟨3, ![2, 8192, 13312]⟩
abbrev S2x256x2048 : Shape := ⟨3, ![2, 256, 2048]⟩
abbrev S2x8192x1024 : Shape := ⟨3, ![2, 8192, 1024]⟩
abbrev S2x8192x4x256 : Shape := ⟨4, ![2, 8192, 4, 256]⟩
abbrev S2x256x1024 : Shape := ⟨3, ![2, 256, 1024]⟩
abbrev S2x256x4x256 : Shape := ⟨4, ![2, 256, 4, 256]⟩
abbrev S2x4x8192x256 : Shape := ⟨4, ![2, 4, 8192, 256]⟩
abbrev S_ : Shape := ⟨0, ![]⟩
abbrev S2x4x8192 : Shape := ⟨3, ![2, 4, 8192]⟩
abbrev S2x4x8192x1 : Shape := ⟨4, ![2, 4, 8192, 1]⟩
abbrev S2x4x256x8192 : Shape := ⟨4, ![2, 4, 256, 8192]⟩

abbrev nBuf : Space → Nat
  | .hbm => 32
  | .vmem => 0
  | .smem => 0
  | _ => 0

abbrev bufTy : (tb : Table) → Fin (tcTables nBuf tb) → BufTy
  | .hbm, ⟨0, _⟩ => ⟨S2x8192x13312, .bf16⟩
  | .hbm, ⟨1, _⟩ => ⟨S2x256x2048, .bf16⟩
  | .hbm, ⟨2, _⟩ => ⟨S2x8192x1024, .bf16⟩
  | .hbm, ⟨3, _⟩ => ⟨S2x8192x1024, .f32⟩
  | .hbm, ⟨4, _⟩ => ⟨S2x8192x4x256, .f32⟩
  | .hbm, ⟨5, _⟩ => ⟨S2x256x2048, .f32⟩
  | .hbm, ⟨6, _⟩ => ⟨S2x256x1024, .f32⟩
  | .hbm, ⟨7, _⟩ => ⟨S2x256x1024, .f32⟩
  | .hbm, ⟨8, _⟩ => ⟨S2x256x4x256, .f32⟩
  | .hbm, ⟨9, _⟩ => ⟨S2x256x4x256, .f32⟩
  | .hbm, ⟨10, _⟩ => ⟨S2x4x8192x256, .f32⟩
  | .hbm, ⟨11, _⟩ => ⟨S_, .f32⟩
  | .hbm, ⟨12, _⟩ => ⟨S2x4x8192x256, .f32⟩
  | .hbm, ⟨13, _⟩ => ⟨S2x4x8192x256, .f32⟩
  | .hbm, ⟨14, _⟩ => ⟨S_, .f32⟩
  | .hbm, ⟨15, _⟩ => ⟨S2x4x8192, .f32⟩
  | .hbm, ⟨16, _⟩ => ⟨S_, .f32⟩
  | .hbm, ⟨17, _⟩ => ⟨S2x4x8192, .f32⟩
  | .hbm, ⟨18, _⟩ => ⟨S2x4x8192, .f32⟩
  | .hbm, ⟨19, _⟩ => ⟨S2x4x8192x1, .f32⟩
  | .hbm, ⟨20, _⟩ => ⟨S2x4x8192x256, .f32⟩
  | .hbm, ⟨21, _⟩ => ⟨S2x4x8192x256, .f32⟩
  | .hbm, ⟨22, _⟩ => ⟨S2x4x8192x256, .f32⟩
  | .hbm, ⟨23, _⟩ => ⟨S_, .f32⟩
  | .hbm, ⟨24, _⟩ => ⟨S2x4x8192, .f32⟩
  | .hbm, ⟨25, _⟩ => ⟨S2x4x8192x1, .f32⟩
  | .hbm, ⟨26, _⟩ => ⟨S2x4x8192x256, .f32⟩
  | .hbm, ⟨27, _⟩ => ⟨S2x4x8192x256, .f32⟩
  | .hbm, ⟨28, _⟩ => ⟨S2x4x256x8192, .f32⟩
  | .hbm, ⟨29, _⟩ => ⟨S2x8192x4x256, .f32⟩
  | .hbm, ⟨30, _⟩ => ⟨S2x8192x1024, .f32⟩
  | .hbm, ⟨31, _⟩ => ⟨S2x8192x1024, .bf16⟩
  | _, _ => ⟨S2x8192x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Memkv.lean ====
abbrev S512x4096 : Shape := ⟨2, ![512, 4096]⟩
abbrev S4x4096x2048 : Shape := ⟨3, ![4, 4096, 2048]⟩
abbrev S512x2048 : Shape := ⟨2, ![512, 2048]⟩
abbrev S1x4096x512 : Shape := ⟨3, ![1, 4096, 512]⟩
abbrev S512x512 : Shape := ⟨2, ![512, 512]⟩
abbrev S4096x512 : Shape := ⟨2, ![4096, 512]⟩

abbrev nBuf : Space → Nat
  | .hbm => 3
  | .vmem => 5
  | .smem => 0
  | _ => 0

abbrev bufTy : (tb : Table) → Fin (tcTables nBuf tb) → BufTy
  | .hbm, ⟨0, _⟩ => ⟨S512x4096, .bf16⟩
  | .hbm, ⟨1, _⟩ => ⟨S4x4096x2048, .f32⟩
  | .hbm, ⟨2, _⟩ => ⟨S512x2048, .bf16⟩
  | .local _ .vmem, ⟨0, _⟩ => ⟨S512x4096, .bf16⟩
  | .local _ .vmem, ⟨1, _⟩ => ⟨S1x4096x512, .f32⟩
  | .local _ .vmem, ⟨2, _⟩ => ⟨S1x4096x512, .f32⟩
  | .local _ .vmem, ⟨3, _⟩ => ⟨S512x512, .bf16⟩
  | .local _ .vmem, ⟨4, _⟩ => ⟨S512x512, .bf16⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemkvRefIdeal.lean ====
abbrev S512x4096 : Shape := ⟨2, ![512, 4096]⟩
abbrev S4x4096x2048 : Shape := ⟨3, ![4, 4096, 2048]⟩
abbrev S1x4096x2048 : Shape := ⟨3, ![1, 4096, 2048]⟩
abbrev S4096x2048 : Shape := ⟨2, ![4096, 2048]⟩
abbrev S512x2048 : Shape := ⟨2, ![512, 2048]⟩

abbrev nBuf : Space → Nat
  | .hbm => 7
  | .vmem => 0
  | .smem => 0
  | _ => 0

abbrev bufTy : (tb : Table) → Fin (tcTables nBuf tb) → BufTy
  | .hbm, ⟨0, _⟩ => ⟨S512x4096, .bf16⟩
  | .hbm, ⟨1, _⟩ => ⟨S4x4096x2048, .f32⟩
  | .hbm, ⟨2, _⟩ => ⟨S512x4096, .f32⟩
  | .hbm, ⟨3, _⟩ => ⟨S1x4096x2048, .f32⟩
  | .hbm, ⟨4, _⟩ => ⟨S4096x2048, .f32⟩
  | .hbm, ⟨5, _⟩ => ⟨S512x2048, .f32⟩
  | .hbm, ⟨6, _⟩ => ⟨S512x2048, .bf16⟩
  | _, _ => ⟨S512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Norm.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Bmem.lean ====
abbrev S2x8192x4096 : Shape := ⟨3, ![2, 8192, 4096]⟩
abbrev S2x256x2048 : Shape := ⟨3, ![2, 256, 2048]⟩
abbrev S2x8192x1024 : Shape := ⟨3, ![2, 8192, 1024]⟩
abbrev S1x2048x1024 : Shape := ⟨3, ![1, 2048, 1024]⟩
abbrev S1x256x2048 : Shape := ⟨3, ![1, 256, 2048]⟩
abbrev S1x2048x256 : Shape := ⟨3, ![1, 2048, 256]⟩
abbrev S2048x256 : Shape := ⟨2, ![2048, 256]⟩
abbrev S1x256x256 : Shape := ⟨3, ![1, 256, 256]⟩
abbrev S256x256 : Shape := ⟨2, ![256, 256]⟩
abbrev S2048 : Shape := ⟨1, ![2048]⟩
abbrev S2048x1 : Shape := ⟨2, ![2048, 1]⟩

abbrev nBuf : Space → Nat
  | .hbm => 3
  | .vmem => 6
  | .smem => 0
  | _ => 0

abbrev bufTy : (tb : Table) → Fin (tcTables nBuf tb) → BufTy
  | .hbm, ⟨0, _⟩ => ⟨S2x8192x4096, .bf16⟩
  | .hbm, ⟨1, _⟩ => ⟨S2x256x2048, .bf16⟩
  | .hbm, ⟨2, _⟩ => ⟨S2x8192x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x2048x1024, .bf16⟩
  | .local _ .vmem, ⟨5, _⟩ => ⟨S1x2048x1024, .bf16⟩
  | _, _ => ⟨S2x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== BmemRefIdeal.lean ====
abbrev S2x8192x4096 : Shape := ⟨3, ![2, 8192, 4096]⟩
abbrev S2x256x2048 : Shape := ⟨3, ![2, 256, 2048]⟩
abbrev S2x8192x1024 : Shape := ⟨3, ![2, 8192, 1024]⟩
abbrev S2x8192x4x256 : Shape := ⟨4, ![2, 8192, 4, 256]⟩
abbrev S2x256x1024 : Shape := ⟨3, ![2, 256, 1024]⟩
abbrev S2x256x4x256 : Shape := ⟨4, ![2, 256, 4, 256]⟩
abbrev S2x4x8192x256 : Shape := ⟨4, ![2, 4, 8192, 256]⟩
abbrev S_ : Shape := ⟨0, ![]⟩
abbrev S2x4x8192 : Shape := ⟨3, ![2, 4, 8192]⟩
abbrev S2x4x8192x1 : Shape := ⟨4, ![2, 4, 8192, 1]⟩
abbrev S2x4x256x8192 : Shape := ⟨4, ![2, 4, 256, 8192]⟩

abbrev nBuf : Space → Nat
  | .hbm => 32
  | .vmem => 0
  | .smem => 0
  | _ => 0

abbrev bufTy : (tb : Table) → Fin (tcTables nBuf tb) → BufTy
  | .hbm, ⟨0, _⟩ => ⟨S2x8192x4096, .bf16⟩
  | .hbm, ⟨1, _⟩ => ⟨S2x256x2048, .bf16⟩
  | .hbm, ⟨2, _⟩ => ⟨S2x8192x1024, .bf16⟩
  | .hbm, ⟨3, _⟩ => ⟨S2x8192x1024, .f32⟩
  | .hbm, ⟨4, _⟩ => ⟨S2x8192x4x256, .f32⟩
  | .hbm, ⟨5, _⟩ => ⟨S2x256x2048, .f32⟩
  | .hbm, ⟨6, _⟩ => ⟨S2x256x1024, .f32⟩
  | .hbm, ⟨7, _⟩ => ⟨S2x256x1024, .f32⟩
  | .hbm, ⟨8, _⟩ => ⟨S2x256x4x256, .f32⟩
  | .hbm, ⟨9, _⟩ => ⟨S2x256x4x256, .f32⟩
  | .hbm, ⟨10, _⟩ => ⟨S2x4x8192x256, .f32⟩
  | .hbm, ⟨11, _⟩ => ⟨S_, .f32⟩
  | .hbm, ⟨12, _⟩ => ⟨S2x4x8192x256, .f32⟩
  | .hbm, ⟨13, _⟩ => ⟨S2x4x8192x256, .f32⟩
  | .hbm, ⟨14, _⟩ => ⟨S_, .f32⟩
  | .hbm, ⟨15, _⟩ => ⟨S2x4x8192, .f32⟩
  | .hbm, ⟨16, _⟩ => ⟨S_, .f32⟩
  | .hbm, ⟨17, _⟩ => ⟨S2x4x8192, .f32⟩
  | .hbm, ⟨18, _⟩ => ⟨S2x4x8192, .f32⟩
  | .hbm, ⟨19, _⟩ => ⟨S2x4x8192x1, .f32⟩
  | .hbm, ⟨20, _⟩ => ⟨S2x4x8192x256, .f32⟩
  | .hbm, ⟨21, _⟩ => ⟨S2x4x8192x256, .f32⟩
  | .hbm, ⟨22, _⟩ => ⟨S2x4x8192x256, .f32⟩
  | .hbm, ⟨23, _⟩ => ⟨S_, .f32⟩
  | .hbm, ⟨24, _⟩ => ⟨S2x4x8192, .f32⟩
  | .hbm, ⟨25, _⟩ => ⟨S2x4x8192x1, .f32⟩
  | .hbm, ⟨26, _⟩ => ⟨S2x4x8192x256, .f32⟩
  | .hbm, ⟨27, _⟩ => ⟨S2x4x8192x256, .f32⟩
  | .hbm, ⟨28, _⟩ => ⟨S2x4x256x8192, .f32⟩
  | .hbm, ⟨29, _⟩ => ⟨S2x8192x4x256, .f32⟩
  | .hbm, ⟨30, _⟩ => ⟨S2x8192x1024, .f32⟩
  | .hbm, ⟨31, _⟩ => ⟨S2x8192x1024, .bf16⟩
  | _, _ => ⟨S2x8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Memnorm.lean ====
abbrev S512x4096 : Shape := ⟨2, ![512, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S512x4096, .f32⟩
  | .hbm, ⟨1, _⟩ => ⟨S4096, .f32⟩
  | .hbm, ⟨2, _⟩ => ⟨S1x4096, .f32⟩
  | .hbm, ⟨3, _⟩ => ⟨S512x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MemnormIdeal.lean ====
abbrev S512x4096 : Shape := ⟨2, ![512, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S512x4096, .f32⟩
  | .hbm, ⟨1, _⟩ => ⟨S4096, .f32⟩
  | .hbm, ⟨2, _⟩ => ⟨S1x4096, .f32⟩
  | .hbm, ⟨3, _⟩ => ⟨S512x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MemnormRefIdeal.lean ====
abbrev S512x4096 : Shape := ⟨2, ![512, 4096]⟩
abbrev S4096 : Shape := ⟨1, ![4096]⟩
abbrev S_ : Shape := ⟨0, ![]⟩
abbrev S512 : Shape := ⟨1, ![512]⟩
abbrev S512x1 : Shape := ⟨2, ![512, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S4096, .f32⟩
  | .hbm, ⟨2, _⟩ => ⟨S512x4096, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S_, .f32⟩
  | .hbm, ⟨7, _⟩ => ⟨S512x1, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S512x1, .f32⟩
  | .hbm, ⟨13, _⟩ => ⟨S512x4096, .f32⟩
  | .hbm, ⟨14, _⟩ => ⟨S512x4096, .f32⟩
  | .hbm, ⟨15, _⟩ => ⟨S1x4096, .f32⟩
  | .hbm, ⟨16, _⟩ => ⟨S512x4096, .f32⟩
  | .hbm, ⟨17, _⟩ => ⟨S512x4096, .f32⟩
  | .hbm, ⟨18, _⟩ => ⟨S512x4096, .bf16⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== First.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FirstRefIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | .hbm, ⟨18, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Last.lean ====
abbrev S16384x8192 : Shape := ⟨2, ![16384, 8192]⟩
abbrev S4x8192x4096 : Shape := ⟨3, ![4, 8192, 4096]⟩
abbrev S16384x4096 : Shape := ⟨2, ![16384, 4096]⟩
abbrev S1024x8192 : Shape := ⟨2, ![1024, 8192]⟩
abbrev S1x8192x512 : Shape := ⟨3, ![1, 8192, 512]⟩
abbrev S1024x512 : Shape := ⟨2, ![1024, 512]⟩
abbrev S8192x512 : Shape := ⟨2, ![8192, 512]⟩

abbrev nBuf : Space → Nat
  | .hbm => 4
  | .vmem => 7
  | .smem => 0
  | _ => 0

abbrev bufTy : (tb : Table) → Fin (tcTables nBuf tb) → BufTy
  | .hbm, ⟨0, _⟩ => ⟨S16384x8192, .bf16⟩
  | .hbm, ⟨1, _⟩ => ⟨S4x8192x4096, .bf16⟩
  | .hbm, ⟨2, _⟩ => ⟨S16384x4096, .f32⟩
  | .hbm, ⟨3, _⟩ => ⟨S16384x4096, .f32⟩
  | .local _ .vmem, ⟨0, _⟩ => ⟨S1024x8192, .bf16⟩
  | .local _ .vmem, ⟨1, _⟩ => ⟨S1x8192x512, .bf16⟩
  | .local _ .vmem, ⟨2, _⟩ => ⟨S1x8192x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LastRefIdeal.lean ====
abbrev S16384x8192 : Shape := ⟨2, ![16384, 8192]⟩
abbrev S4x8192x4096 : Shape := ⟨3, ![4, 8192, 4096]⟩
abbrev S16384x4096 : Shape := ⟨2, ![16384, 4096]⟩
abbrev S1x8192x4096 : Shape := ⟨3, ![1, 8192, 4096]⟩
abbrev S8192x4096 : Shape := ⟨2, ![8192, 4096]⟩

abbrev nBuf : Space → Nat
  | .hbm => 9
  | .vmem => 0
  | .smem => 0
  | _ => 0

abbrev bufTy : (tb : Table) → Fin (tcTables nBuf tb) → BufTy
  | .hbm, ⟨0, _⟩ => ⟨S16384x8192, .bf16⟩
  | .hbm, ⟨1, _⟩ => ⟨S4x8192x4096, .bf16⟩
  | .hbm, ⟨2, _⟩ => ⟨S16384x4096, .f32⟩
  | .hbm, ⟨3, _⟩ => ⟨S16384x8192, .f32⟩
  | .hbm, ⟨4, _⟩ => ⟨S1x8192x4096, .bf16⟩
  | .hbm, ⟨5, _⟩ => ⟨S8192x4096, .bf16⟩
  | .hbm, ⟨6, _⟩ => ⟨S8192x4096, .f32⟩
  | .hbm, ⟨7, _⟩ => ⟨S16384x4096, .f32⟩
  | .hbm, ⟨8, _⟩ => ⟨S16384x4096, .f32⟩
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Turn.lean ====
abbrev S16384x8192 : Shape := ⟨2, ![16384, 8192]⟩
abbrev S4x8192x4096 : Shape := ⟨3, ![4, 8192, 4096]⟩
abbrev S16384x4096 : Shape := ⟨2, ![16384, 4096]⟩
abbrev S4096 : Shape := ⟨1, ![4096]⟩
abbrev S1x4096 : Shape := ⟨2, ![1, 4096]⟩
abbrev S16384x128 : Shape := ⟨2, ![16384, 128]⟩
abbrev S1024x8192 : Shape := ⟨2, ![1024, 8192]⟩
abbrev S1x8192x512 : Shape := ⟨3, ![1, 8192, 512]⟩
abbrev S1024x512 : Shape := ⟨2, ![1024, 512]⟩
abbrev S1x512 : Shape := ⟨2, ![1, 512]⟩
abbrev S1024x128 : Shape := ⟨2, ![1024, 128]⟩
abbrev S8192x512 : Shape := ⟨2, ![8192, 512]⟩

abbrev nBuf : Space → Nat
  | .hbm => 11
  | .vmem => 17
  | .smem => 0
  | _ => 0

abbrev bufTy : (tb : Table) → Fin (tcTables nBuf tb) → BufTy
  | .hbm, ⟨0, _⟩ => ⟨S16384x8192, .bf16⟩
  | .hbm, ⟨1, _⟩ => ⟨S4x8192x4096, .bf16⟩
  | .hbm, ⟨2, _⟩ => ⟨S16384x4096, .f32⟩
  | .hbm, ⟨3, _⟩ => ⟨S4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S16384x4096, .f32⟩
  | .hbm, ⟨8, _⟩ => ⟨S16384x4096, .bf16⟩
  | .hbm, ⟨9, _⟩ => ⟨S16384x4096, .bf16⟩
  | .hbm, ⟨10, _⟩ => ⟨S16384x128, .f32⟩
  | .local _ .vmem, ⟨0, _⟩ => ⟨S1024x8192, .bf16⟩
  | .local _ .vmem, ⟨1, _⟩ => ⟨S1x8192x512, .bf16⟩
  | .local _ .vmem, ⟨2, _⟩ => ⟨S1x8192x512, .bf16⟩
  | .local _ .vmem, ⟨3, _⟩ => ⟨S1024x512, .f32⟩
  | .local _ .vmem, ⟨4, _⟩ => ⟨S1024x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1024x512, .f32⟩
  | .local _ .vmem, ⟨10, _⟩ => ⟨S1024x512, .f32⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x128, .f32⟩
  | .local _ .vmem, ⟨16, _⟩ => ⟨S1024x128, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== TurnRefIdeal.lean ====
abbrev S16384x8192 : Shape := ⟨2, ![16384, 8192]⟩
abbrev S4x8192x4096 : Shape := ⟨3, ![4, 8192, 4096]⟩
abbrev S16384x4096 : Shape := ⟨2, ![16384, 4096]⟩
abbrev S4096 : Shape := ⟨1, ![4096]⟩
abbrev S1x8192x4096 : Shape := ⟨3, ![1, 8192, 4096]⟩
abbrev S8192x4096 : Shape := ⟨2, ![8192, 4096]⟩
abbrev S16384x32x128 : Shape := ⟨3, ![16384, 32, 128]⟩
abbrev S_ : Shape := ⟨0, ![]⟩
abbrev S16384x128 : Shape := ⟨2, ![16384, 128]⟩
abbrev S1x4096 : Shape := ⟨2, ![1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S16384x8192, .bf16⟩
  | .hbm, ⟨1, _⟩ => ⟨S4x8192x4096, .bf16⟩
  | .hbm, ⟨2, _⟩ => ⟨S16384x4096, .f32⟩
  | .hbm, ⟨3, _⟩ => ⟨S4096, .f32⟩
  | .hbm, ⟨4, _⟩ => ⟨S4096, .f32⟩
  | .hbm, ⟨5, _⟩ => ⟨S16384x8192, .f32⟩
  | .hbm, ⟨6, _⟩ => ⟨S1x8192x4096, .bf16⟩
  | .hbm, ⟨7, _⟩ => ⟨S8192x4096, .bf16⟩
  | .hbm, ⟨8, _⟩ => ⟨S8192x4096, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S16384x32x128, .f32⟩
  | .hbm, ⟨13, _⟩ => ⟨S_, .f32⟩
  | .hbm, ⟨14, _⟩ => ⟨S16384x128, .f32⟩
  | .hbm, ⟨15, _⟩ => ⟨S1x4096, .f32⟩
  | .hbm, ⟨16, _⟩ => ⟨S16384x4096, .f32⟩
  | .hbm, ⟨17, _⟩ => ⟨S16384x4096, .f32⟩
  | .hbm, ⟨18, _⟩ => ⟨S16384x4096, .bf16⟩
  | .hbm, ⟨19, _⟩ => ⟨S1x4096, .f32⟩
  | .hbm, ⟨20, _⟩ => ⟨S16384x4096, .f32⟩
  | .hbm, ⟨21, _⟩ => ⟨S16384x4096, .f32⟩
  | .hbm, ⟨22, _⟩ => ⟨S16384x4096, .bf16⟩
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Bias.lean ====
abbrev S32x12 : Shape := ⟨2, ![32, 12]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S1x512x512 : Shape := ⟨3, ![1, 512, 512]⟩
abbrev S2x512x512 : Shape := ⟨3, ![2, 512, 512]⟩
abbrev S1 : Shape := ⟨1, ![1]⟩
abbrev S12x2x512x512 : Shape := ⟨4, ![12, 2, 512, 512]⟩
abbrev S1x2x512x512 : Shape := ⟨4, ![1, 2, 512, 512]⟩
abbrev S1x1 : Shape := ⟨2, ![1, 1]⟩
abbrev S1x64x512 : Shape := ⟨3, ![1, 64, 512]⟩
abbrev S64x512 : Shape := ⟨2, ![64, 512]⟩
abbrev S1x1x64x512 : Shape := ⟨4, ![1, 1, 64, 512]⟩

abbrev nBuf : Space → Nat
  | .hbm => 100
  | .vmem => 3
  | .smem => 1
  | _ => 0

abbrev bufTy : (tb : Table) → Fin (tcTables nBuf tb) → BufTy
  | .hbm, ⟨0, _⟩ => ⟨S32x12, .f32⟩
  | .hbm, ⟨1, _⟩ => ⟨S512, .i32⟩
  | .hbm, ⟨2, _⟩ => ⟨S512x1, .i32⟩
  | .hbm, ⟨3, _⟩ => ⟨S1x512, .i32⟩
  | .hbm, ⟨4, _⟩ => ⟨S512x512, .i32⟩
  | .hbm, ⟨5, _⟩ => ⟨S512x512, .i32⟩
  | .hbm, ⟨6, _⟩ => ⟨S512x512, .i32⟩
  | .hbm, ⟨7, _⟩ => ⟨S_, .i32⟩
  | .hbm, ⟨8, _⟩ => ⟨S512x512, .i32⟩
  | .hbm, ⟨9, _⟩ => ⟨S512x512, .i32⟩
  | .hbm, ⟨10, _⟩ => ⟨S1x512x512, .i32⟩
  | .hbm, ⟨11, _⟩ => ⟨S1x512x512, .i32⟩
  | .hbm, ⟨12, _⟩ => ⟨S2x512x512, .i32⟩
  | .hbm, ⟨13, _⟩ => ⟨S_, .i32⟩
  | .hbm, ⟨14, _⟩ => ⟨S2x512x512, .i32⟩
  | .hbm, ⟨15, _⟩ => ⟨S2x512x512, .i1⟩
  | .hbm, ⟨16, _⟩ => ⟨S_, .i32⟩
  | .hbm, ⟨17, _⟩ => ⟨S_, .i32⟩
  | .hbm, ⟨18, _⟩ => ⟨S2x512x512, .i32⟩
  | .hbm, ⟨19, _⟩ => ⟨S2x512x512, .i32⟩
  | .hbm, ⟨20, _⟩ => ⟨S2x512x512, .i32⟩
  | .hbm, ⟨21, _⟩ => ⟨S2x512x512, .i32⟩
  | .hbm, ⟨22, _⟩ => ⟨S_, .i32⟩
  | .hbm, ⟨23, _⟩ => ⟨S2x512x512, .i32⟩
  | .hbm, ⟨24, _⟩ => ⟨S2x512x512, .i32⟩
  | .hbm, ⟨25, _⟩ => ⟨S2x512x512, .f32⟩
  | .hbm, ⟨26, _⟩ => ⟨S_, .f32⟩
  | .hbm, ⟨27, _⟩ => ⟨S2x512x512, .f32⟩
  | .hbm, ⟨28, _⟩ => ⟨S2x512x512, .f32⟩
  | .hbm, ⟨29, _⟩ => ⟨S2x512x512, .f32⟩
  | .hbm, ⟨30, _⟩ => ⟨S_, .f32⟩
  | .hbm, ⟨31, _⟩ => ⟨S2x512x512, .f32⟩
  | .hbm, ⟨32, _⟩ => ⟨S2x512x512, .f32⟩
  | .hbm, ⟨33, _⟩ => ⟨S_, .f32⟩
  | .hbm, ⟨34, _⟩ => ⟨S2x512x512, .f32⟩
  | .hbm, ⟨35, _⟩ => ⟨S2x512x512, .f32⟩
  | .hbm, ⟨36, _⟩ => ⟨S2x512x512, .i32⟩
  | .hbm, ⟨37, _⟩ => ⟨S_, .i32⟩
  | .hbm, ⟨38, _⟩ => ⟨S2x512x512, .i32⟩
  | .hbm, ⟨39, _⟩ => ⟨S2x512x512, .i32⟩
  | .hbm, ⟨40, _⟩ => ⟨S_, .i32⟩
  | .hbm, ⟨41, _⟩ => ⟨S2x512x512, .i32⟩
  | .hbm, ⟨42, _⟩ => ⟨S2x512x512, .i32⟩
  | .hbm, ⟨43, _⟩ => ⟨S_, .i32⟩
  | .hbm, ⟨44, _⟩ => ⟨S2x512x512, .i32⟩
  | .hbm, ⟨45, _⟩ => ⟨S2x512x512, .i1⟩
  | .hbm, ⟨46, _⟩ => ⟨S2x512x512, .i32⟩
  | .hbm, ⟨47, _⟩ => ⟨S2x512x512, .i32⟩
  | .hbm, ⟨48, _⟩ => ⟨S2x512x512, .i32⟩
  | .hbm, ⟨49, _⟩ => ⟨S512x1, .i32⟩
  | .hbm, ⟨50, _⟩ => ⟨S_, .i32⟩
  | .hbm, ⟨51, _⟩ => ⟨S_, .i32⟩
  | .hbm, ⟨52, _⟩ => ⟨S512x1, .i32⟩
  | .hbm, ⟨53, _⟩ => ⟨S512x1, .i32⟩
  | .hbm, ⟨54, _⟩ => ⟨S512x1, .i32⟩
  | .hbm, ⟨55, _⟩ => ⟨S_, .i32⟩
  | .hbm, ⟨56, _⟩ => ⟨S512x1, .i32⟩
  | .hbm, ⟨57, _⟩ => ⟨S512x1, .i1⟩
  | .hbm, ⟨58, _⟩ => ⟨S512x1, .i32⟩
  | .hbm, ⟨59, _⟩ => ⟨S512x1, .i32⟩
  | .hbm, ⟨60, _⟩ => ⟨S_, .i32⟩
  | .hbm, ⟨61, _⟩ => ⟨S512x1, .i32⟩
  | .hbm, ⟨62, _⟩ => ⟨S512x1, .i1⟩
  | .hbm, ⟨63, _⟩ => ⟨S512x1, .i1⟩
  | .hbm, ⟨64, _⟩ => ⟨S_, .i32⟩
  | .hbm, ⟨65, _⟩ => ⟨S512x1, .i32⟩
  | .hbm, ⟨66, _⟩ => ⟨S512x1, .i32⟩
  | .hbm, ⟨67, _⟩ => ⟨S512x1, .i32⟩
  | .hbm, ⟨68, _⟩ => ⟨S1x512, .i32⟩
  | .hbm, ⟨69, _⟩ => ⟨S_, .i32⟩
  | .hbm, ⟨70, _⟩ => ⟨S_, .i32⟩
  | .hbm, ⟨71, _⟩ => ⟨S1x512, .i32⟩
  | .hbm, ⟨72, _⟩ => ⟨S1x512, .i32⟩
  | .hbm, ⟨73, _⟩ => ⟨S1x512, .i32⟩
  | .hbm, ⟨74, _⟩ => ⟨S_, .i32⟩
  | .hbm, ⟨75, _⟩ => ⟨S1x512, .i32⟩
  | .hbm, ⟨76, _⟩ => ⟨S1x512, .i1⟩
  | .hbm, ⟨77, _⟩ => ⟨S1x512, .i32⟩
  | .hbm, ⟨78, _⟩ => ⟨S1x512, .i32⟩
  | .hbm, ⟨79, _⟩ => ⟨S_, .i32⟩
  | .hbm, ⟨80, _⟩ => ⟨S1x512, .i32⟩
  | .hbm, ⟨81, _⟩ => ⟨S1x512, .i1⟩
  | .hbm, ⟨82, _⟩ => ⟨S1x512, .i1⟩
  | .hbm, ⟨83, _⟩ => ⟨S_, .i32⟩
  | .hbm, ⟨84, _⟩ => ⟨S1x512, .i32⟩
  | .hbm, ⟨85, _⟩ => ⟨S1x512, .i32⟩
  | .hbm, ⟨86, _⟩ => ⟨S1x512, .i32⟩
  | .hbm, ⟨87, _⟩ => ⟨S512x512, .i32⟩
  | .hbm, ⟨88, _⟩ => ⟨S512x512, .i32⟩
  | .hbm, ⟨89, _⟩ => ⟨S512x512, .i1⟩
  | .hbm, ⟨90, _⟩ => ⟨S1x512x512, .i32⟩
  | .hbm, ⟨91, _⟩ => ⟨S512x512, .i32⟩
  | .hbm, ⟨92, _⟩ => ⟨S_, .i32⟩
  | .hbm, ⟨93, _⟩ => ⟨S_, .i32⟩
  | .hbm, ⟨94, _⟩ => ⟨S512x512, .i32⟩
  | .hbm, ⟨95, _⟩ => ⟨S512x512, .i32⟩
  | .hbm, ⟨96, _⟩ => ⟨S_, .i32⟩
  | .hbm, ⟨97, _⟩ => ⟨S1, .i32⟩
  | .hbm, ⟨98, _⟩ => ⟨S2x512x512, .i32⟩
  | .hbm, ⟨99, _⟩ => ⟨S12x2x512x512, .f32⟩
  | .local _ .vmem, ⟨0, _⟩ => ⟨S2x512x512, .i32⟩
  | .local _ .vmem, ⟨1, _⟩ => ⟨S1x2x512x512, .f32⟩
  | .local _ .vmem, ⟨2, _⟩ => ⟨S1x2x512x512, .f32⟩
  | .local _ .smem, ⟨0, _⟩ => ⟨S32x12, .f32⟩
  | _, _ => ⟨S32x12, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c_0 : Ref sig .tc := ⟨.hbm, 13, rfl⟩
abbrev main_v11 : Ref sig .tc := ⟨.hbm, 14, rfl⟩
abbrev main_v12 : Ref sig .tc := ⟨.hbm, 15, rfl⟩
abbrev main_c_1 : Ref sig .tc := ⟨.hbm, 16, rfl⟩
abbrev main_c_2 : Ref sig .tc := ⟨.hbm, 17, rfl⟩
abbrev main_call0_v0 : Ref sig .tc := ⟨.hbm, 18, rfl⟩
abbrev main_call0_v1 : Ref sig .tc := ⟨.hbm, 19, rfl⟩
abbrev main_v13 : Ref sig .tc := ⟨.hbm, 20, rfl⟩
abbrev main_v14 : Ref sig .tc := ⟨.hbm, 21, rfl⟩
abbrev main_c_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_6 : Ref sig .tc := ⟨.hbm, 37, rfl⟩
abbrev main_v26 : Ref sig .tc := ⟨.hbm, 38, rfl⟩
abbrev main_v27 : Ref sig .tc := ⟨.hbm, 39, rfl⟩
abbrev main_c_7 : Ref sig .tc := ⟨.hbm, 40, rfl⟩
abbrev main_v28 : Ref sig .tc := ⟨.hbm, 41, rfl⟩
abbrev main_v29 : Ref sig .tc := ⟨.hbm, 42, rfl⟩
abbrev main_c_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_9 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_c : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_0 : Ref sig .tc := ⟨.hbm, 64, rfl⟩
abbrev main_call2_v12 : Ref sig .tc := ⟨.hbm, 65, rfl⟩
abbrev main_call2_v13 : Ref sig .tc := ⟨.hbm, 66, rfl⟩
abbrev main_v36 : Ref sig .tc := ⟨.hbm, 67, rfl⟩
abbrev main_v37 : Ref sig .tc := ⟨.hbm, 68, rfl⟩
abbrev main_c_10 : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_call3_v5 : Ref sig .tc := ⟨.hbm, 75, rfl⟩
abbrev main_call3_v6 : Ref sig .tc := ⟨.hbm, 76, rfl⟩
abbrev main_call3_v7 : Ref sig .tc := ⟨.hbm, 77, rfl⟩
abbrev main_call3_v8 : Ref sig .tc := ⟨.hbm, 78, rfl⟩
abbrev main_call3_c : Ref sig .tc := ⟨.hbm, 79, rfl⟩
abbrev main_call3_v9 : Ref sig .tc := ⟨.hbm, 80, rfl⟩
abbrev main_call3_v10 : Ref sig .tc := ⟨.hbm, 81, rfl⟩
abbrev main_call3_v11 : Ref sig .tc := ⟨.hbm, 82, rfl⟩
abbrev main_call3_c_0 : Ref sig .tc := ⟨.hbm, 83, rfl⟩
abbrev main_call3_v12 : Ref sig .tc := ⟨.hbm, 84, rfl⟩
abbrev main_call3_v13 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_c_11 : Ref sig .tc := ⟨.hbm, 92, rfl⟩
abbrev main_call4_v0 : Ref sig .tc := ⟨.hbm, 93, rfl⟩
abbrev main_call4_v1 : Ref sig .tc := ⟨.hbm, 94, rfl⟩
abbrev main_v44 : Ref sig .tc := ⟨.hbm, 95, rfl⟩
abbrev main_c_12 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![12], ![false]⟩

def k0_off1 (i : grid0.Coords) : Fin 2 → Nat :=
  let c15 : Index := 15#32
  let arg0 : BitVec 32 := BitVec.ofNat 32 (i 0).val
  let v0 : Index := Scalar.indexCast arg0
  ![15, v0.toNat]
@[reducible] def k0_t1_loop : Scf.Loop 32 :=
  let c0_i32 : BitVec 32 := 0#32
  let c8_i32 : BitVec 32 := 8#32
  let v2 : BitVec 32 := Scalar.addi c0_i32 c8_i32
  let c1_i32 : BitVec 32 := 1#32
  ⟨c0_i32, v2, c1_i32⟩
def k0_off2 (k0_t1 : Fin k0_t1_loop.trips) : Fin 3 → Nat :=
  let c0 : Index := 0#32
  let c0_i32 : BitVec 32 := 0#32
  let c1_i32 : BitVec 32 := 1#32
  let arg4 : BitVec 32 := Scf.iv c0_i32 c1_i32 k0_t1
  let c64_i32 : BitVec 32 := 64#32
  let v3 : BitVec 32 := Scalar.muli arg4 c64_i32
  let v4 : Index := Scalar.indexCast v3
  let c0_1 : Index := 0#32
  ![0, v4.toNat, 0]
def k0_off3 (i : grid0.Coords) : Fin 2 → Nat :=
  let c0_3 : Index := 0#32
  let arg0 : BitVec 32 := BitVec.ofNat 32 (i 0).val
  let v10 : Index := Scalar.indexCast arg0
  ![0, v10.toNat]
def k0_off4 (i : grid0.Coords) : Fin 2 → Nat :=
  let c1 : Index := 1#32
  let arg0 : BitVec 32 := BitVec.ofNat 32 (i 0).val
  let v18 : Index := Scalar.indexCast arg0
  ![1, v18.toNat]
def k0_off5 (i : grid0.Coords) : Fin 2 → Nat :=
  let c2 : Index := 2#32
  let arg0 : BitVec 32 := BitVec.ofNat 32 (i 0).val
  let v26 : Index := Scalar.indexCast arg0
  ![2, v26.toNat]
def k0_off6 (i : grid0.Coords) : Fin 2 → Nat :=
  let c3 : Index := 3#32
  let arg0 : BitVec 32 := BitVec.ofNat 32 (i 0).val
  let v34 : Index := Scalar.indexCast arg0
  ![3, v34.toNat]
def k0_off7 (i : grid0.Coords) : Fin 2 → Nat :=
  let c4 : Index := 4#32
  let arg0 : BitVec 32 := BitVec.ofNat 32 (i 0).val
  let v42 : Index := Scalar.indexCast arg0
  ![4, v42.toNat]
def k0_off8 (i : grid0.Coords) : Fin 2 → Nat :=
  let c5 : Index := 5#32
  let arg0 : BitVec 32 := BitVec.ofNat 32 (i 0).val
  let v50 : Index := Scalar.indexCast arg0
  ![5, v50.toNat]
def k0_off9 (i : grid0.Coords) : Fin 2 → Nat :=
  let c6 : Index := 6#32
  let arg0 : BitVec 32 := BitVec.ofNat 32 (i 0).val
  let v58 : Index := Scalar.indexCast arg0
  ![6, v58.toNat]
def k0_off10 (i : grid0.Coords) : Fin 2 → Nat :=
  let c7 : Index := 7#32
  let arg0 : BitVec 32 := BitVec.ofNat 32 (i 0).val
  let v66 : Index := Scalar.indexCast arg0
  ![7, v66.toNat]
def k0_off11 (i : grid0.Coords) : Fin 2 → Nat :=
  let c8 : Index := 8#32
  let arg0 : BitVec 32 := BitVec.ofNat 32 (i 0).val
  let v74 : Index := Scalar.indexCast arg0
  ![8, v74.toNat]
def k0_off12 (i : grid0.Coords) : Fin 2 → Nat :=
  let c9 : Index := 9#32
  let arg0 : BitVec 32 := BitVec.ofNat 32 (i 0).val
  let v82 : Index := Scalar.indexCast arg0
  ![9, v82.toNat]
def k0_off13 (i : grid0.Coords) : Fin 2 → Nat :=
  let c10 : Index := 10#32
  let arg0 : BitVec 32 := BitVec.ofNat 32 (i 0).val
  let v90 : Index := Scalar.indexCast arg0
  ![10, v90.toNat]
def k0_off14 (i : grid0.Coords) : Fin 2 → Nat :=
  let c11 : Index := 11#32
  let arg0 : BitVec 32 := BitVec.ofNat 32 (i 0).val
  let v98 : Index := Scalar.indexCast arg0
  ![11, v98.toNat]
def k0_off15 (i : grid0.Coords) : Fin 2 → Nat :=
  let c12 : Index := 12#32
  let arg0 : BitVec 32 := BitVec.ofNat 32 (i 0).val
  let v106 : Index := Scalar.indexCast arg0
  ![12, v106.toNat]
def k0_off16 (i : grid0.Coords) : Fin 2 → Nat :=
  let c13 : Index := 13#32
  let arg0 : BitVec 32 := BitVec.ofNat 32 (i 0).val
  let v114 : Index := Scalar.indexCast arg0
  ![13, v114.toNat]
def k0_off17 (i : grid0.Coords) : Fin 2 → Nat :=
  let c14 : Index := 14#32
  let arg0 : BitVec 32 := BitVec.ofNat 32 (i 0).val
  let v122 : Index := Scalar.indexCast arg0
  ![14, v122.toNat]
def k0_off18 (i : grid0.Coords) : Fin 2 → Nat :=
  let c15_21 : Index := 15#32
  let arg0 : BitVec 32 := BitVec.ofNat 32 (i 0).val
  let v130 : Index := Scalar.indexCast arg0
  ![15, v130.toNat]
def k0_off19 (i : grid0.Coords) : Fin 2 → Nat :=
  let c16 : Index := 16#32
  let arg0 : BitVec 32 := BitVec.ofNat 32 (i 0).val
  let v138 : Index := Scalar.indexCast arg0
  ![16, v138.toNat]
def k0_off20 (i : grid0.Coords) : Fin 2 → Nat :=
  let c17 : Index := 17#32
  let arg0 : BitVec 32 := BitVec.ofNat 32 (i 0).val
  let v146 : Index := Scalar.indexCast arg0
  ![17, v146.toNat]
def k0_off21 (i : grid0.Coords) : Fin 2 → Nat :=
  let c18 : Index := 18#32
  let arg0 : BitVec 32 := BitVec.ofNat 32 (i 0).val
  let v154 : Index := Scalar.indexCast arg0
  ![18, v154.toNat]
def k0_off22 (i : grid0.Coords) : Fin 2 → Nat :=
  let c19 : Index := 19#32
  let arg0 : BitVec 32 := BitVec.ofNat 32 (i 0).val
  let v162 : Index := Scalar.indexCast arg0
  ![19, v162.toNat]
def k0_off23 (i : grid0.Coords) : Fin 2 → Nat :=
  let c20 : Index := 20#32
  let arg0 : BitVec 32 := BitVec.ofNat 32 (i 0).val
  let v170 : Index := Scalar.indexCast arg0
  ![20, v170.toNat]
def k0_off24 (i : grid0.Coords) : Fin 2 → Nat :=
  let c21 : Index := 21#32
  let arg0 : BitVec 32 := BitVec.ofNat 32 (i 0).val
  let v178 : Index := Scalar.indexCast arg0
  ![21, v178.toNat]
def k0_off25 (i : grid0.Coords) : Fin 2 → Nat :=
  let c22 : Index := 22#32
  let arg0 : BitVec 32 := BitVec.ofNat 32 (i 0).val
  let v186 : Index := Scalar.indexCast arg0
  ![22, v186.toNat]
def k0_off26 (i : grid0.Coords) : Fin 2 → Nat :=
  let c23 : Index := 23#32
  let arg0 : BitVec 32 := BitVec.ofNat 32 (i 0).val
  let v194 : Index := Scalar.indexCast arg0
  ![23, v194.toNat]
def k0_off27 (i : grid0.Coords) : Fin 2 → Nat :=
  let c24 : Index := 24#32
  let arg0 : BitVec 32 := BitVec.ofNat 32 (i 0).val
  let v202 : Index := Scalar.indexCast arg0
  ![24, v202.toNat]
def k0_off28 (i : grid0.Coords) : Fin 2 → Nat :=
  let c25 : Index := 25#32
  let arg0 : BitVec 32 := BitVec.ofNat 32 (i 0).val
  let v210 : Index := Scalar.indexCast arg0
  ![25, v210.toNat]
def k0_off29 (i : grid0.Coords) : Fin 2 → Nat :=
  let c26 : Index := 26#32
  let arg0 : BitVec 32 := BitVec.ofNat 32 (i 0).val
  let v218 : Index := Scalar.indexCast arg0
  ![26, v218.toNat]
def k0_off30 (i : grid0.Coords) : Fin 2 → Nat :=
  let c27 : Index := 27#32
  let arg0 : BitVec 32 := BitVec.ofNat 32 (i 0).val
  let v226 : Index := Scalar.indexCast arg0
  ![27, v226.toNat]
def k0_off31 (i : grid0.Coords) : Fin 2 → Nat :=
  let c28 : Index := 28#32
  let arg0 : BitVec 32 := BitVec.ofNat 32 (i 0).val
  let v234 : Index := Scalar.indexCast arg0
  ![28, v234.toNat]
def k0_off32 (i : grid0.Coords) : Fin 2 → Nat :=
  let c29 : Index := 29#32
  let arg0 : BitVec 32 := BitVec.ofNat 32 (i 0).val
  let v242 : Index := Scalar.indexCast arg0
  ![29, v242.toNat]
def k0_off33 (i : grid0.Coords) : Fin 2 → Nat :=
  let c30 : Index := 30#32
  let arg0 : BitVec 32 := BitVec.ofNat 32 (i 0).val
  let v250 : Index := Scalar.indexCast arg0
  ![30, v250.toNat]
def k0_off34 (i : grid0.Coords) : Fin 2 → Nat :=
  let c31 : Index := 31#32
  let arg0 : BitVec 32 := BitVec.ofNat 32 (i 0).val
  let v258 : Index := Scalar.indexCast arg0
  ![31, v258.toNat]
def k0_off35 (k0_t1 : Fin k0_t1_loop.trips) : Fin 4 → Nat :=
  let c0_40 : Index := 0#32
  let c0_41 : Index := 0#32
  let c0_i32 : BitVec 32 := 0#32
  let c1_i32 : BitVec 32 := 1#32
  let arg4 : BitVec 32 := Scf.iv c0_i32 c1_i32 k0_t1
  let c64_i32_39 : BitVec 32 := 64#32
  let v264 : BitVec 32 := Scalar.muli arg4 c64_i32_39
  let v265 : Index := Scalar.indexCast v264
  let c0_42 : Index := 0#32
  ![0, 0, v265.toNat, 0]
def k0_off36 (k0_t1 : Fin k0_t1_loop.trips) : Fin 3 → Nat :=
  let c1_44 : Index := 1#32
  let c0_i32 : BitVec 32 := 0#32
  let c1_i32 : BitVec 32 := 1#32
  let arg4 : BitVec 32 := Scf.iv c0_i32 c1_i32 k0_t1
  let c64_i32_43 : BitVec 32 := 64#32
  let v269 : BitVec 32 := Scalar.muli arg4 c64_i32_43
  let v270 : Index := Scalar.indexCast v269
  let c0_45 : Index := 0#32
  ![1, v270.toNat, 0]
def k0_off37 (k0_t1 : Fin k0_t1_loop.trips) : Fin 4 → Nat :=
  let c0_144 : Index := 0#32
  let c1_145 : Index := 1#32
  let c0_i32 : BitVec 32 := 0#32
  let c1_i32 : BitVec 32 := 1#32
  let arg4 : BitVec 32 := Scf.iv c0_i32 c1_i32 k0_t1
  let c64_i32_143 : BitVec 32 := 64#32
  let v530 : BitVec 32 := Scalar.muli arg4 c64_i32_143
  let v531 : Index := Scalar.indexCast v530
  let c0_146 : Index := 0#32
  ![0, 1, v531.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S32x12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x512x512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== BiasRefIdeal.lean ====
abbrev S32x12 : Shape := ⟨2, ![32, 12]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S1x512x512 : Shape := ⟨3, ![1, 512, 512]⟩
abbrev S2x512x512 : Shape := ⟨3, ![2, 512, 512]⟩
abbrev S2x512x512x1 : Shape := ⟨4, ![2, 512, 512, 1]⟩
abbrev S2x512x512x12 : Shape := ⟨4, ![2, 512, 512, 12]⟩
abbrev S12x2x512x512 : Shape := ⟨4, ![12, 2, 512, 512]⟩
abbrev S1x12 : Shape := ⟨2, ![1, 12]⟩
abbrev S12 : Shape := ⟨1, ![12]⟩
abbrev S12x1x1x1 : Shape := ⟨4, ![12, 1, 1, 1]⟩

abbrev nBuf : Space → Nat
  | .hbm => 118
  | .vmem => 0
  | .smem => 0
  | _ => 0

abbrev bufTy : (tb : Table) → Fin (tcTables nBuf tb) → BufTy
  | .hbm, ⟨0, _⟩ => ⟨S32x12, .f32⟩
  | .hbm, ⟨1, _⟩ => ⟨S512, .i32⟩
  | .hbm, ⟨2, _⟩ => ⟨S512x1, .i32⟩
  | .hbm, ⟨3, _⟩ => ⟨S1x512, .i32⟩
  | .hbm, ⟨4, _⟩ => ⟨S512x512, .i32⟩
  | .hbm, ⟨5, _⟩ => ⟨S512x512, .i32⟩
  | .hbm, ⟨6, _⟩ => ⟨S512x512, .i32⟩
  | .hbm, ⟨7, _⟩ => ⟨S_, .i32⟩
  | .hbm, ⟨8, _⟩ => ⟨S512x512, .i32⟩
  | .hbm, ⟨9, _⟩ => ⟨S512x512, .i32⟩
  | .hbm, ⟨10, _⟩ => ⟨S1x512x512, .i32⟩
  | .hbm, ⟨11, _⟩ => ⟨S1x512x512, .i32⟩
  | .hbm, ⟨12, _⟩ => ⟨S2x512x512, .i32⟩
  | .hbm, ⟨13, _⟩ => ⟨S_, .i32⟩
  | .hbm, ⟨14, _⟩ => ⟨S2x512x512, .i32⟩
  | .hbm, ⟨15, _⟩ => ⟨S2x512x512, .i1⟩
  | .hbm, ⟨16, _⟩ => ⟨S_, .i32⟩
  | .hbm, ⟨17, _⟩ => ⟨S_, .i32⟩
  | .hbm, ⟨18, _⟩ => ⟨S2x512x512, .i32⟩
  | .hbm, ⟨19, _⟩ => ⟨S2x512x512, .i32⟩
  | .hbm, ⟨20, _⟩ => ⟨S2x512x512, .i32⟩
  | .hbm, ⟨21, _⟩ => ⟨S2x512x512, .i32⟩
  | .hbm, ⟨22, _⟩ => ⟨S_, .i32⟩
  | .hbm, ⟨23, _⟩ => ⟨S2x512x512, .i32⟩
  | .hbm, ⟨24, _⟩ => ⟨S2x512x512, .i32⟩
  | .hbm, ⟨25, _⟩ => ⟨S2x512x512, .f32⟩
  | .hbm, ⟨26, _⟩ => ⟨S_, .f32⟩
  | .hbm, ⟨27, _⟩ => ⟨S2x512x512, .f32⟩
  | .hbm, ⟨28, _⟩ => ⟨S2x512x512, .f32⟩
  | .hbm, ⟨29, _⟩ => ⟨S2x512x512, .f32⟩
  | .hbm, ⟨30, _⟩ => ⟨S_, .f32⟩
  | .hbm, ⟨31, _⟩ => ⟨S2x512x512, .f32⟩
  | .hbm, ⟨32, _⟩ => ⟨S2x512x512, .f32⟩
  | .hbm, ⟨33, _⟩ => ⟨S_, .f32⟩
  | .hbm, ⟨34, _⟩ => ⟨S2x512x512, .f32⟩
  | .hbm, ⟨35, _⟩ => ⟨S2x512x512, .f32⟩
  | .hbm, ⟨36, _⟩ => ⟨S2x512x512, .i32⟩
  | .hbm, ⟨37, _⟩ => ⟨S_, .i32⟩
  | .hbm, ⟨38, _⟩ => ⟨S2x512x512, .i32⟩
  | .hbm, ⟨39, _⟩ => ⟨S2x512x512, .i32⟩
  | .hbm, ⟨40, _⟩ => ⟨S_, .i32⟩
  | .hbm, ⟨41, _⟩ => ⟨S2x512x512, .i32⟩
  | .hbm, ⟨42, _⟩ => ⟨S2x512x512, .i32⟩
  | .hbm, ⟨43, _⟩ => ⟨S_, .i32⟩
  | .hbm, ⟨44, _⟩ => ⟨S2x512x512, .i32⟩
  | .hbm, ⟨45, _⟩ => ⟨S2x512x512, .i1⟩
  | .hbm, ⟨46, _⟩ => ⟨S2x512x512, .i32⟩
  | .hbm, ⟨47, _⟩ => ⟨S2x512x512, .i32⟩
  | .hbm, ⟨48, _⟩ => ⟨S2x512x512, .i32⟩
  | .hbm, ⟨49, _⟩ => ⟨S_, .i32⟩
  | .hbm, ⟨50, _⟩ => ⟨S2x512x512, .i32⟩
  | .hbm, ⟨51, _⟩ => ⟨S2x512x512, .i1⟩
  | .hbm, ⟨52, _⟩ => ⟨S_, .i32⟩
  | .hbm, ⟨53, _⟩ => ⟨S2x512x512, .i32⟩
  | .hbm, ⟨54, _⟩ => ⟨S2x512x512, .i32⟩
  | .hbm, ⟨55, _⟩ => ⟨S2x512x512, .i32⟩
  | .hbm, ⟨56, _⟩ => ⟨S2x512x512x1, .i32⟩
  | .hbm, ⟨57, _⟩ => ⟨S2x512x512x12, .f32⟩
  | .hbm, ⟨58, _⟩ => ⟨S12x2x512x512, .f32⟩
  | .hbm, ⟨59, _⟩ => ⟨S1x12, .f32⟩
  | .hbm, ⟨60, _⟩ => ⟨S12, .f32⟩
  | .hbm, ⟨61, _⟩ => ⟨S12x1x1x1, .f32⟩
  | .hbm, ⟨62, _⟩ => ⟨S12x2x512x512, .f32⟩
  | .hbm, ⟨63, _⟩ => ⟨S12x2x512x512, .f32⟩
  | .hbm, ⟨64, _⟩ => ⟨S_, .f32⟩
  | .hbm, ⟨65, _⟩ => ⟨S12x2x512x512, .f32⟩
  | .hbm, ⟨66, _⟩ => ⟨S12x2x512x512, .f32⟩
  | .hbm, ⟨67, _⟩ => ⟨S512x1, .i32⟩
  | .hbm, ⟨68, _⟩ => ⟨S_, .i32⟩
  | .hbm, ⟨69, _⟩ => ⟨S_, .i32⟩
  | .hbm, ⟨70, _⟩ => ⟨S512x1, .i32⟩
  | .hbm, ⟨71, _⟩ => ⟨S512x1, .i32⟩
  | .hbm, ⟨72, _⟩ => ⟨S512x1, .i32⟩
  | .hbm, ⟨73, _⟩ => ⟨S_, .i32⟩
  | .hbm, ⟨74, _⟩ => ⟨S512x1, .i32⟩
  | .hbm, ⟨75, _⟩ => ⟨S512x1, .i1⟩
  | .hbm, ⟨76, _⟩ => ⟨S512x1, .i32⟩
  | .hbm, ⟨77, _⟩ => ⟨S512x1, .i32⟩
  | .hbm, ⟨78, _⟩ => ⟨S_, .i32⟩
  | .hbm, ⟨79, _⟩ => ⟨S512x1, .i32⟩
  | .hbm, ⟨80, _⟩ => ⟨S512x1, .i1⟩
  | .hbm, ⟨81, _⟩ => ⟨S512x1, .i1⟩
  | .hbm, ⟨82, _⟩ => ⟨S_, .i32⟩
  | .hbm, ⟨83, _⟩ => ⟨S512x1, .i32⟩
  | .hbm, ⟨84, _⟩ => ⟨S512x1, .i32⟩
  | .hbm, ⟨85, _⟩ => ⟨S512x1, .i32⟩
  | .hbm, ⟨86, _⟩ => ⟨S1x512, .i32⟩
  | .hbm, ⟨87, _⟩ => ⟨S_, .i32⟩
  | .hbm, ⟨88, _⟩ => ⟨S_, .i32⟩
  | .hbm, ⟨89, _⟩ => ⟨S1x512, .i32⟩
  | .hbm, ⟨90, _⟩ => ⟨S1x512, .i32⟩
  | .hbm, ⟨91, _⟩ => ⟨S1x512, .i32⟩
  | .hbm, ⟨92, _⟩ => ⟨S_, .i32⟩
  | .hbm, ⟨93, _⟩ => ⟨S1x512, .i32⟩
  | .hbm, ⟨94, _⟩ => ⟨S1x512, .i1⟩
  | .hbm, ⟨95, _⟩ => ⟨S1x512, .i32⟩
  | .hbm, ⟨96, _⟩ => ⟨S1x512, .i32⟩
  | .hbm, ⟨97, _⟩ => ⟨S_, .i32⟩
  | .hbm, ⟨98, _⟩ => ⟨S1x512, .i32⟩
  | .hbm, ⟨99, _⟩ => ⟨S1x512, .i1⟩
  | .hbm, ⟨100, _⟩ => ⟨S1x512, .i1⟩
  | .hbm, ⟨101, _⟩ => ⟨S_, .i32⟩
  | .hbm, ⟨102, _⟩ => ⟨S1x512, .i32⟩
  | .hbm, ⟨103, _⟩ => ⟨S1x512, .i32⟩
  | .hbm, ⟨104, _⟩ => ⟨S1x512, .i32⟩
  | .hbm, ⟨105, _⟩ => ⟨S512x512, .i32⟩
  | .hbm, ⟨106, _⟩ => ⟨S512x512, .i32⟩
  | .hbm, ⟨107, _⟩ => ⟨S512x512, .i1⟩
  | .hbm, ⟨108, _⟩ => ⟨S_, .i1⟩
  | .hbm, ⟨109, _⟩ => ⟨S512x512, .i1⟩
  | .hbm, ⟨110, _⟩ => ⟨S1x512x512, .i1⟩
  | .hbm, ⟨111, _⟩ => ⟨S1x512x512, .i1⟩
  | .hbm, ⟨112, _⟩ => ⟨S2x512x512, .i1⟩
  | .hbm, ⟨113, _⟩ => ⟨S_, .f32⟩
  | .hbm, ⟨114, _⟩ => ⟨S_, .f32⟩
  | .hbm, ⟨115, _⟩ => ⟨S12x2x512x512, .i1⟩
  | .hbm, ⟨116, _⟩ => ⟨S12x2x512x512, .f32⟩
  | .hbm, ⟨117, _⟩ => ⟨S12x2x512x512, .f32⟩
  | _, _ => ⟨S32x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c_0 : Ref sig .tc := ⟨.hbm, 13, rfl⟩
abbrev main_v11 : Ref sig .tc := ⟨.hbm, 14, rfl⟩
abbrev main_v12 : Ref sig .tc := ⟨.hbm, 15, rfl⟩
abbrev main_c_1 : Ref sig .tc := ⟨.hbm, 16, rfl⟩
abbrev main_c_2 : Ref sig .tc := ⟨.hbm, 17, rfl⟩
abbrev main_call0_v0 : Ref sig .tc := ⟨.hbm, 18, rfl⟩
abbrev main_call0_v1 : Ref sig .tc := ⟨.hbm, 19, rfl⟩
abbrev main_v13 : Ref sig .tc := ⟨.hbm, 20, rfl⟩
abbrev main_v14 : Ref sig .tc := ⟨.hbm, 21, rfl⟩
abbrev main_c_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_6 : Ref sig .tc := ⟨.hbm, 37, rfl⟩
abbrev main_v26 : Ref sig .tc := ⟨.hbm, 38, rfl⟩
abbrev main_v27 : Ref sig .tc := ⟨.hbm, 39, rfl⟩
abbrev main_c_7 : Ref sig .tc := ⟨.hbm, 40, rfl⟩
abbrev main_v28 : Ref sig .tc := ⟨.hbm, 41, rfl⟩
abbrev main_v29 : Ref sig .tc := ⟨.hbm, 42, rfl⟩
abbrev main_c_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_9 : Ref sig .tc := ⟨.hbm, 49, rfl⟩
abbrev main_v35 : Ref sig .tc := ⟨.hbm, 50, rfl⟩
abbrev main_v36 : Ref sig .tc := ⟨.hbm, 51, rfl⟩
abbrev main_c_10 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_11 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c_12 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_c : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_c_0 : Ref sig .tc := ⟨.hbm, 82, rfl⟩
abbrev main_call2_v12 : Ref sig .tc := ⟨.hbm, 83, rfl⟩
abbrev main_call2_v13 : Ref sig .tc := ⟨.hbm, 84, rfl⟩
abbrev main_v51 : Ref sig .tc := ⟨.hbm, 85, rfl⟩
abbrev main_v52 : Ref sig .tc := ⟨.hbm, 86, rfl⟩
abbrev main_c_13 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_v5 : Ref sig .tc := ⟨.hbm, 93, rfl⟩
abbrev main_call3_v6 : Ref sig .tc := ⟨.hbm, 94, rfl⟩
abbrev main_call3_v7 : Ref sig .tc := ⟨.hbm, 95, rfl⟩
abbrev main_call3_v8 : Ref sig .tc := ⟨.hbm, 96, rfl⟩
abbrev main_call3_c : Ref sig .tc := ⟨.hbm, 97, rfl⟩
abbrev main_call3_v9 : Ref sig .tc := ⟨.hbm, 98, rfl⟩
abbrev main_call3_v10 : Ref sig .tc := ⟨.hbm, 99, rfl⟩
abbrev main_call3_v11 : Ref sig .tc := ⟨.hbm, 100, rfl⟩
abbrev main_call3_c_0 : Ref sig .tc := ⟨.hbm, 101, rfl⟩
abbrev main_call3_v12 : Ref sig .tc := ⟨.hbm, 102, rfl⟩
abbrev main_call3_v13 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_c_14 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_cst_15 : Ref sig .tc := ⟨.hbm, 113, rfl⟩
abbrev main_call4_v0 : Ref sig .tc := ⟨.hbm, 114, rfl⟩
abbrev main_call4_v1 : Ref sig .tc := ⟨.hbm, 115, rfl⟩
abbrev main_call4_v2 : Ref sig .tc := ⟨.hbm, 116, rfl⟩
abbrev main_v61 : Ref sig .tc := ⟨.hbm, 117, rfl⟩

abbrev nD : Nat := 1
abbrev τ : Topo := Topo.v7x

variable {F : FTy → Type} [FloatOps F]
-- ==== Proof.RetReal.lean ====
/-
  The retention recurrence over the real numbers, for one batch entry and one head.

  `q`, `k`, `v` give the query, key and value rows by position, `w` is the logarithm of the head's decay. A
  sequence is cut into chunks of `C` rows. The state before chunk `n` has one closed form whatever `C` is
  (`state_closed`): every earlier row decayed by its distance. So two runs with different chunk lengths agree
  wherever a chunk of one starts at a chunk of the other, and the rows between the two starts are an ordinary
  decayed sum (`inter_closed`, `out_small`, `out_big`, `out_agree`).
-/
module

public import Mathlib.Analysis.SpecialFunctions.Exp
public import Mathlib.Algebra.BigOperators.Intervals

@[expose] public section

noncomputable section

namespace Cert.Ret

open Finset Real

variable (w : ℝ) (q k v : ℕ → ℕ → ℝ)

/-- The query of row `i` against the key of row `j`. -/
def score (i j : ℕ) : ℝ := ∑ d ∈ range 256, q i d * k j d

/-- The state before chunk `n`, chunks of `C` rows. -/
def state (C : ℕ) : ℕ → ℕ → ℕ → ℝ
  | 0, _, _ => 0
  | n + 1, d, e => state C n d e * exp (C * w)
      + ∑ j ∈ range C, k (C * n + j) d * exp (((C : ℝ) - 1 - j) * w) * v (C * n + j) e

/-- The state before chunk `n` is the sum over every earlier row, decayed by its distance to the chunk. -/
theorem state_closed (C n d e : ℕ) :
    state w k v C n d e = ∑ j ∈ range (C * n), k j d * exp (((C : ℝ) * n - 1 - j) * w) * v j e := by
  induction n with
  | zero => simp [state]
  | succ n ih =>
    rw [state, ih, Nat.mul_succ, sum_range_add, sum_mul]
    congr 1
    · refine sum_congr rfl fun j _ => ?_
      have h : ((C : ℝ) * ((n + 1 : ℕ) : ℝ) - 1 - j) * w = ((C : ℝ) * n - 1 - j) * w + C * w := by
        push_cast; ring
      rw [h, exp_add]; ring
    · refine sum_congr rfl fun j _ => ?_
      have h : ((C : ℝ) * ((n + 1 : ℕ) : ℝ) - 1 - ((C * n + j : ℕ) : ℝ)) * w = ((C : ℝ) - 1 - j) * w := by
        push_cast; ring
      rw [h]

/-- What row `i` of chunk `n` reads from the state: the decayed sum over the rows before the chunk. -/
theorem inter_closed (C n i e : ℕ) :
    ∑ d ∈ range 256, q (C * n + i) d * exp (((i : ℝ) + 1) * w) * state w k v C n d e
      = ∑ j ∈ range (C * n), score q k (C * n + i) j * exp ((((C * n + i : ℕ) : ℝ) - j) * w) * v j e := by
  simp only [state_closed, mul_sum]
  rw [sum_comm]
  refine sum_congr rfl fun j _ => ?_
  rw [score, sum_mul, sum_mul]
  refine sum_congr rfl fun d _ => ?_
  have h : (((C * n + i : ℕ) : ℝ) - j) * w = ((i : ℝ) + 1) * w + ((C : ℝ) * n - 1 - j) * w := by
    push_cast; ring
  rw [h, exp_add]; ring

/-- The row `i` of chunk `n`, chunks of 64 rows: decayed both ways inside the chunk, and the state. -/
def outSmall (n i e : ℕ) : ℝ :=
  ∑ j ∈ range 64, score q k (64 * n + i) (64 * n + j) * exp (w * |(i : ℝ) - j|) * v (64 * n + j) e
    + ∑ d ∈ range 256, q (64 * n + i) d * exp (((i : ℝ) + 1) * w) * state w k v 64 n d e

/-- The weight of row `j` for row `i` inside a block of 256 rows: both ways inside a chunk of 64, forward from an
    earlier chunk, nothing from a later one. -/
def weight (i j : ℕ) : ℝ :=
  if i / 64 = j / 64 then exp (w * |(i : ℝ) - j|) else if j / 64 < i / 64 then exp (w * ((i : ℝ) - j)) else 0

/-- The row `i` of block `m`, blocks of 256 rows. -/
def outBig (m i e : ℕ) : ℝ :=
  ∑ j ∈ range 256, score q k (256 * m + i) (256 * m + j) * weight w i j * v (256 * m + j) e
    + ∑ d ∈ range 256, q (256 * m + i) d * exp (((i : ℝ) + 1) * w) * state w k v 256 m d e

/-- Both chunk lengths give the same row: row `64 a + i` of block `m` is row `i` of chunk `4 m + a`. -/
theorem out_agree (m a i e : ℕ) (ha : a < 4) (hi : i < 64) :
    outBig w q k v m (64 * a + i) e = outSmall w q k v (4 * m + a) i e := by
  unfold outBig outSmall
  rw [inter_closed, inter_closed]
  have e1 : 64 * (4 * m + a) + i = 256 * m + (64 * a + i) := by ring
  have e2 : 64 * (4 * m + a) = 256 * m + 64 * a := by ring
  have e3 : 256 = 64 * a + 64 + (256 - (64 * a + 64)) := by omega
  rw [e1, e2]
  conv_lhs => rw [e3, sum_range_add, sum_range_add, ← e3]
  rw [sum_range_add _ (256 * m) (64 * a)]
  have z : ∑ x ∈ range (256 - (64 * a + 64)), score q k (256 * m + (64 * a + i)) (256 * m + (64 * a + 64 + x))
      * weight w (64 * a + i) (64 * a + 64 + x) * v (256 * m + (64 * a + 64 + x)) e = 0 := by
    refine sum_eq_zero fun x _ => ?_
    have : weight w (64 * a + i) (64 * a + 64 + x) = 0 := by
      unfold weight
      rw [if_neg (by omega), if_neg (by omega)]
    rw [this]; ring
  have s1 : ∑ x ∈ range (64 * a), score q k (256 * m + (64 * a + i)) (256 * m + x) * weight w (64 * a + i) x
        * v (256 * m + x) e
      = ∑ x ∈ range (64 * a), score q k (256 * m + (64 * a + i)) (256 * m + x)
        * exp ((((256 * m + (64 * a + i) : ℕ) : ℝ) - ((256 * m + x : ℕ) : ℝ)) * w) * v (256 * m + x) e := by
    refine sum_congr rfl fun x hx => ?_
    have hx' := mem_range.mp hx
    unfold weight
    rw [if_neg (by omega), if_pos (by omega)]
    have : w * (((64 * a + i : ℕ) : ℝ) - x) = (((256 * m + (64 * a + i) : ℕ) : ℝ) - ((256 * m + x : ℕ) : ℝ)) * w := by
      push_cast; ring
    rw [this]
  have s2 : ∑ x ∈ range 64, score q k (256 * m + (64 * a + i)) (256 * m + (64 * a + x))
        * weight w (64 * a + i) (64 * a + x) * v (256 * m + (64 * a + x)) e
      = ∑ x ∈ range 64, score q k (256 * m + (64 * a + i)) (256 * m + 64 * a + x)
        * exp (w * |(i : ℝ) - x|) * v (256 * m + 64 * a + x) e := by
    refine sum_congr rfl fun x hx => ?_
    have hx' := mem_range.mp hx
    unfold weight
    rw [if_pos (by omega)]
    have : |((64 * a + i : ℕ) : ℝ) - ((64 * a + x : ℕ) : ℝ)| = |(i : ℝ) - x| := by
      congr 1; push_cast; ring
    rw [this, Nat.add_assoc]
  rw [z, s1, s2]
  ring

end Cert.Ret

end
-- ==== Proof.RetRow.lean ====
/-
  What both retention programs compute in one row, as functions of real arrays: the rotary embedding of a row
  (`rot`), and the head normalisation and gate of a row of outputs (`normGate`), over the extended reals.
-/
module

public import proofs.«01_k».proof.Proof.RetReal
public import Idealize.ShloMosaic.Lib.Pointwise

@[expose] public section

noncomputable section

namespace Cert.Ret

open Finset Idealize.ShloMosaic

/-- A finite sum of reals, taken in the extended reals. -/
theorem coe_sum {ι : Type} (S : Finset ι) (f : ι → ℝ) : ((∑ i ∈ S, f i : ℝ) : EReal) = ∑ i ∈ S, (f i : EReal) := by
  classical
  induction S using Finset.induction_on with
  | empty => simp
  | insert a s ha ih => rw [sum_insert ha, sum_insert ha, EReal.coe_add, ih]

/-- The f32 pattern of one sixteenth. -/
theorem sixteenth : Ideal.ofBits .f32 0x3D800000#32 = ((1 / 16 : ℝ) : EReal) := by
  simp [Ideal.ofBits, Ideal.ieee, -EReal.coe_mul]; norm_num

/-- A sum over 256 columns is one over the first 128 and one over the last. -/
theorem sum_halves (f : ℕ → ℝ) :
    ∑ d ∈ range 256, f d = ∑ x : Fin 128, f x.val + ∑ x : Fin 128, f (128 + x.val) := by
  rw [show 256 = 128 + 128 from rfl, sum_range_add, sum_range, sum_range]

/-- The rotary embedding of row `p`: the two halves of the row turned by the position's angles. -/
def rot (c s x : ℕ → ℕ → ℝ) (p d : ℕ) : ℝ :=
  if d < 128 then x p d * c p d - x p (128 + d) * s p d
  else x p d * c p (d - 128) + x p (d - 128) * s p (d - 128)

/-- The scaled rotary embedding, which the keys take. -/
def rotK (c s x : ℕ → ℕ → ℝ) (p d : ℕ) : ℝ := rot c s x p d * (1 / 16)

theorem rot_lo (c s x : ℕ → ℕ → ℝ) (p : ℕ) (d : Fin 128) :
    rot c s x p d.val = x p d.val * c p d.val - x p (128 + d.val) * s p d.val := by
  rw [rot, if_pos d.isLt]

theorem rot_hi (c s x : ℕ → ℕ → ℝ) (p : ℕ) (d : Fin 128) :
    rot c s x p (128 + d.val) = x p (128 + d.val) * c p d.val + x p d.val * s p d.val := by
  rw [rot, if_neg (by omega), Nat.add_sub_cancel_left]

/-- A row less its mean. -/
def cen (f : Fin 256 → EReal) (e : Fin 256) : EReal := f e - Ideal.div (∑ x, f x) (Ideal.ofBits .f32 0x43800000#32)

/-- A row normalised to mean zero and variance one, times the gate's `silu`. -/
def normGate (f : Fin 256 → EReal) (g : EReal) (e : Fin 256) : EReal :=
  g * Ideal.logistic g * (cen f e * Ideal.rsqrt
    (Ideal.div (∑ x, cen f x * cen f x) (Ideal.ofBits .f32 0x43800000#32) + Ideal.ofBits .f32 0x358637BD#32))

end Cert.Ret

end
-- ==== Proof.RetTab.lean ====
/-
  The numbers that the position and decay tables are made of: the rotation angle of a position, the logarithm of a
  head's decay, and the literals of their formulas, as real numbers.
-/
module

public import proofs.«01_k».proof.Proof.RetRow
public import Idealize.ShloMosaic.Lib.Pointwise

@[expose] public section

noncomputable section

namespace Cert.Ret

open Finset Idealize.ShloMosaic

/-- The angle by which position `p` turns the pair `j` of a head's lanes. -/
def angle (p j : ℕ) : ℝ := p * Real.rpow 10000 (-(j : ℝ) * (1 / 128))

/-- The logarithm of head `h`'s decay per row. -/
def decay (h : ℕ) : ℝ := Real.log (1 - Real.rpow 2 (-5 - (h : ℝ)))

theorem word_real {n : ℕ} (h : n < 2 ^ 31) : (FloatOps.sitofp FTy.f32 (BitVec.ofNat 32 n) : Ideal .f32) = ((n : ℝ) : EReal) := by
  show (((BitVec.ofNat 32 n).toInt : ℝ) : EReal) = _
  have e : (BitVec.ofNat 32 n).toInt = (n : ℤ) := by
    rw [BitVec.toInt_ofNat', Int.bmod_eq_of_le (by omega) (by omega)]
  rw [e]
  norm_cast

theorem two56 : Ideal.ofBits .f32 0x43800000#32 = ((256 : ℝ) : EReal) := by
  simp [Ideal.ofBits, Ideal.ieee, -EReal.coe_mul]; norm_num
theorem two55 : Ideal.ofBits .f32 0x437F0000#32 = ((255 : ℝ) : EReal) := by
  simp [Ideal.ofBits, Ideal.ieee, -EReal.coe_mul]; norm_num
theorem sixty3 : Ideal.ofBits .f32 0x427C0000#32 = ((63 : ℝ) : EReal) := by
  simp [Ideal.ofBits, Ideal.ieee, -EReal.coe_mul]; norm_num
theorem sixty4 : Ideal.ofBits .f32 0x42800000#32 = ((64 : ℝ) : EReal) := by
  simp [Ideal.ofBits, Ideal.ieee, -EReal.coe_mul]; norm_num
theorem base_lit : Ideal.ofBits .f32 0x461C4000#32 = ((10000 : ℝ) : EReal) := by
  simp [Ideal.ofBits, Ideal.ieee, -EReal.coe_mul]; norm_num
theorem half_lit : Ideal.ofBits .f32 0x43000000#32 = ((128 : ℝ) : EReal) := by
  simp [Ideal.ofBits, Ideal.ieee, -EReal.coe_mul]; norm_num
theorem two_lit : Ideal.ofBits .f32 0x40000000#32 = ((2 : ℝ) : EReal) := by
  simp [Ideal.ofBits, Ideal.ieee, -EReal.coe_mul]; norm_num
theorem neg5_lit : Ideal.ofBits .f32 0xC0A00000#32 = ((-5 : ℝ) : EReal) := by
  simp [Ideal.ofBits, Ideal.ieee, -EReal.coe_mul]; norm_num

theorem angle_eq {p j : ℕ} (hp : p < 8192) (hj : j < 128) :
    (FloatOps.sitofp FTy.f32 (BitVec.ofNat 32 p) : Ideal .f32) * Ideal.pow (Ideal.ofBits .f32 0x461C4000#32)
      (Ideal.div (-(FloatOps.sitofp FTy.f32 (BitVec.ofNat 32 j) : Ideal .f32)) (Ideal.ofBits .f32 0x43000000#32))
    = ((angle p j : ℝ) : EReal) := by
  rw [word_real (by omega), word_real (by omega), base_lit, half_lit, Ideal.div_coe (by norm_num), ← EReal.coe_neg,
    ← EReal.coe_mul, Ideal.pow_coe_coe, ← EReal.coe_mul]
  rfl

theorem decay_eq {h : ℕ} (hh : h < 12) :
    Ideal.log (1 - Ideal.pow (Ideal.ofBits .f32 0x40000000#32)
      (Ideal.ofBits .f32 0xC0A00000#32 - (FloatOps.sitofp FTy.f32 (BitVec.ofNat 32 h) : Ideal .f32)))
    = ((decay h : ℝ) : EReal) := by
  rw [word_real (by omega), two_lit, neg5_lit, ← EReal.coe_sub, Ideal.pow_coe_coe, ← EReal.coe_one, ← EReal.coe_sub,
    Ideal.log_coe, if_neg]
  · rfl
  · have : Real.rpow 2 (-5 - (h : ℝ)) < 1 := Real.rpow_lt_one_of_one_lt_of_neg (by norm_num) (by
      have : (0 : ℝ) ≤ h := Nat.cast_nonneg h
      linarith)
    linarith

/-- The shape of the projections. -/
abbrev ProjShape : Shape := ⟨3, ![2, 8192, 13312]⟩

/-- The projections' entry of batch `b`, row `p` and lane `j`. -/
def entry (x : FVec Ideal ProjShape .bf16) (b p j : ℕ) : EReal :=
  x (ix3 ⟨b % 2, Nat.mod_lt _ (by decide)⟩ ⟨p % 8192, Nat.mod_lt _ (by decide)⟩ ⟨j % 13312, Nat.mod_lt _ (by decide)⟩)

theorem entry_eq (x : FVec Ideal ProjShape .bf16) {b p j : ℕ} (hb : b < 2) (hp : p < 8192) (hj : j < 13312) :
    x (ix3 ⟨b, hb⟩ ⟨p, hp⟩ ⟨j, hj⟩) = entry x b p j := by
  unfold entry
  simp only [Nat.mod_eq_of_lt hb, Nat.mod_eq_of_lt hp, Nat.mod_eq_of_lt hj]

/-- One head of one of the projections' parts, the lanes from `o` on, as real numbers. -/
def part (x : FVec Ideal ProjShape .bf16) (o b h p d : ℕ) : ℝ := (entry x b p (o + 256 * h + d)).toReal

/-- The queries, keys and values hold no infinity. -/
def Reals (x : FVec Ideal ProjShape .bf16) : Prop :=
  ∀ b p j, j < 9216 → ∃ r : ℝ, entry x b p j = (r : EReal)

theorem part_eq {x : FVec Ideal ProjShape .bf16} (hx : Reals x) {o b h p d : ℕ} (hd : o + 256 * h + d < 9216) :
    entry x b p (o + 256 * h + d) = ((part x o b h p d : ℝ) : EReal) := by
  obtain ⟨r, hr⟩ := hx b p _ hd
  unfold part
  rw [hr, EReal.toReal_coe]

/-- The cosine and the sine that turn lane `j` of row `p`. -/
def turnC (p j : ℕ) : ℝ := Real.cos (angle p j)
/-- See `turnC`. -/
def turnS (p j : ℕ) : ℝ := Real.sin (angle p j)

/-- A head's rotated queries. -/
def headQ (x : FVec Ideal ProjShape .bf16) (b h : ℕ) : ℕ → ℕ → ℝ := rot turnC turnS (part x 0 b h)
/-- A head's rotated and scaled keys. -/
def headK (x : FVec Ideal ProjShape .bf16) (b h : ℕ) : ℕ → ℕ → ℝ := rotK turnC turnS (part x 3072 b h)
/-- A head's values. -/
def headV (x : FVec Ideal ProjShape .bf16) (b h : ℕ) : ℕ → ℕ → ℝ := part x 6144 b h

end Cert.Ret
end
-- ==== Proof.RetBlk.lean ====
/-
  One sub-block of the retention kernel: 256 rows of one head. `blkS` is the state the sub-block leaves and
  `blkO` the rows it stores, as functions of its rows of the operands; the launch's eight sub-blocks are these
  two functions eight times over.
-/
module

public import proofs.«01_k».proof.Proof.Gen.RetentionIdeal.Value
public import Idealize.ShloMosaic.Lib.Pipeline.ValueKit
public import Idealize.ShloMosaic.Lib.Pipeline.ReadBack

@[expose] public section

set_option maxRecDepth 16384

noncomputable section

namespace Cert.RetK

open Idealize.ShloMosaic Idealize.ShloMosaic.TcCoe Idealize.SL.Sem
open Idealize.ShloMosaic.Pipeline (Dat)
open Cert.RetentionIdeal Cert.RetentionIdeal.Gen

/-- Rows `o` to `o + 255` of a block of one head. -/
def rows (x : Vec Ideal S1x2048x256 .bf16) (o : ℕ) : Vec Ideal S1x256x256 .bf16 :=
  fun y => x (ix3 0 ⟨(o + (y 1).val) % 2048, Nat.mod_lt _ (by decide)⟩ (y 2))

/-- Rows `o` to `o + 255` of a position table. -/
def tab (x : Vec Ideal S2048x128 .f32) (o : ℕ) : Vec Ideal S256x128 .f32 :=
  fun y => x (ix2 ⟨(o + (y 0).val) % 2048, Nat.mod_lt _ (by decide)⟩ (y 1))

theorem load_rows (x : Vec Ideal S1x2048x256 .bf16) (o : ℕ) (inb : ∀ a, (![0, o, 0] : Fin 3 → ℕ) a + (![1, 256, 256] : Fin 3 → ℕ) a ≤ S1x2048x256.size a) :
    View.ld x (Rect.unit (s := S1x2048x256) ![0, o, 0] ![1, 256, 256] inb) = rows x o := by
  have ho : o + 256 ≤ 2048 := by simpa using inb 1
  funext y
  refine congrArg x (funext fun a => ?_)
  have h1 : (y 1).val < 256 := (y 1).isLt
  fin_cases a
  · exact Subsingleton.elim (α := Fin 1) _ _
  · exact Fin.ext (show o + 1 * (y 1).val = (o + (y 1).val) % 2048 by omega)
  · exact Fin.ext (show 0 + 1 * (y 2).val = (y 2).val by omega)

theorem load_tab (x : Vec Ideal S2048x128 .f32) (o : ℕ) (inb : ∀ a, (![o, 0] : Fin 2 → ℕ) a + (![256, 128] : Fin 2 → ℕ) a ≤ S2048x128.size a) :
    View.ld x (Rect.unit (s := S2048x128) ![o, 0] ![256, 128] inb) = tab x o := by
  have ho : o + 256 ≤ 2048 := by simpa using inb 0
  funext y
  refine congrArg x (funext fun a => ?_)
  have h1 : (y 0).val < 256 := (y 0).isLt
  fin_cases a
  · exact Fin.ext (show o + 1 * (y 0).val = (o + (y 0).val) % 2048 by omega)
  · exact Fin.ext (show 0 + 1 * (y 1).val = (y 1).val by omega)

/-- The state a sub-block leaves. -/
def blkS (cos sin : Vec Ideal S256x128 .f32) (kd : Vec Ideal S1x256x128 .f32) (cd : Vec Ideal S1x1x256 .f32)
    (k v : Vec Ideal S1x256x256 .bf16) (st : Vec Ideal S256x256 .f32) : Vec Ideal S256x256 .f32 :=
  k0_pay22 (F := Ideal) (k0_pay5 kd) st (k0_pay16 cos sin k) (k0_pay17 cos sin k) k0_pay18 v cd

/-- The sub-block's rows before the normalisation, each less its mean. -/
def blkC (cos sin : Vec Ideal S256x128 .f32) (qd : Vec Ideal S1x256x128 .f32) (dm : Vec Ideal S1x256x256 .f32)
    (q k v : Vec Ideal S1x256x256 .bf16) (st : Vec Ideal S256x256 .f32) : FVec Ideal S256x256 .f32 :=
  k0_pay23 (F := Ideal) (k0_pay4 qd) st (k0_pay11 cos sin q) (k0_pay12 cos sin q) (k0_pay16 cos sin k) (k0_pay17 cos sin k)
    k0_pay18 v dm

/-- The rows a sub-block stores. -/
def blkO (cos sin : Vec Ideal S256x128 .f32) (qd : Vec Ideal S1x256x128 .f32) (dm : Vec Ideal S1x256x256 .f32)
    (q k v g : Vec Ideal S1x256x256 .bf16) (st : Vec Ideal S256x256 .f32) : FVec Ideal S1x256x256 .bf16 :=
  k0_pay25 (F := Ideal) (blkC cos sin qd dm q k v st)
    (k0_pay24 (F := Ideal) (k0_pay4 qd) st (k0_pay11 cos sin q) (k0_pay12 cos sin q) (k0_pay16 cos sin k) (k0_pay17 cos sin k)
      k0_pay18 v dm) (Scalar.ofBits .f32 0x43800000#32) g

/-- The state after `n` sub-blocks of a step, of the step's blocks and the state it starts from. -/
def stAfter (cos sin : Vec Ideal S2048x128 .f32) (kd : Vec Ideal S1x256x128 .f32) (cd : Vec Ideal S1x1x256 .f32)
    (k v : Vec Ideal S1x2048x256 .bf16) (st : Vec Ideal S256x256 .f32) : ℕ → Vec Ideal S256x256 .f32
  | 0 => st
  | n + 1 => blkS (tab cos (256 * n)) (tab sin (256 * n)) kd cd (rows k (256 * n)) (rows v (256 * n))
      (stAfter cos sin kd cd k v st n)

section Same

/-! The other sub-blocks of a step compute the same two functions; their text differs in where it names a
subterm. -/

variable (cos sin : Vec Ideal S256x128 .f32) (kd qd : Vec Ideal S1x256x128 .f32) (cd : Vec Ideal S1x1x256 .f32)
  (dm : Vec Ideal S1x256x256 .f32) (q k v g : Vec Ideal S1x256x256 .bf16) (st : Vec Ideal S256x256 .f32)

theorem state0 : k0_pay22 (F := Ideal) (k0_pay5 kd) st (k0_pay16 cos sin k) (k0_pay17 cos sin k) k0_pay18 v cd
    = blkS cos sin kd cd k v st := rfl
theorem state1 : k0_pay42 (F := Ideal) (k0_pay5 kd) st (k0_pay36 cos sin k) (k0_pay37 cos k) (k0_pay38 sin k) v cd
    = blkS cos sin kd cd k v st := rfl
theorem state2 : k0_pay62 (F := Ideal) (k0_pay5 kd) st (k0_pay46 cos) (k0_pay47 sin) (k0_pay54 k) (k0_pay55 k)
    (k0_pay56 cos k) (k0_pay57 sin k) v cd = blkS cos sin kd cd k v st := rfl
theorem state3 : k0_pay79 (F := Ideal) (k0_pay5 kd) st (k0_pay65 cos) (k0_pay66 sin) (k0_pay72 k) (k0_pay73 k) v cd
    = blkS cos sin kd cd k v st := rfl
theorem state4 : k0_pay96 (F := Ideal) (k0_pay5 kd) st (k0_pay82 cos) (k0_pay83 sin) k v cd = blkS cos sin kd cd k v st := rfl
theorem state5 : k0_pay114 (F := Ideal) st (k0_pay112 (k0_pay5 kd) (k0_pay98 cos) (k0_pay99 sin) k v) (k0_pay113 cd)
    = blkS cos sin kd cd k v st := rfl
theorem state6 : k0_pay131 (F := Ideal) st (k0_pay130 (k0_pay5 kd) (k0_pay116 cos) (k0_pay117 sin) k v) cd
    = blkS cos sin kd cd k v st := rfl
theorem state7 : k0_pay2 (F := Ideal) (k0_pay147 st (k0_pay146 (k0_pay5 kd) (k0_pay133 cos) (k0_pay134 sin) k v) cd)
    = blkS cos sin kd cd k v st := shapeCast_self _ _

theorem rows0 : k0_pay25 (F := Ideal)
    (k0_pay23 (k0_pay4 qd) st (k0_pay11 cos sin q) (k0_pay12 cos sin q) (k0_pay16 cos sin k) (k0_pay17 cos sin k) k0_pay18 v dm)
    (k0_pay24 (k0_pay4 qd) st (k0_pay11 cos sin q) (k0_pay12 cos sin q) (k0_pay16 cos sin k) (k0_pay17 cos sin k) k0_pay18 v dm)
    (FloatOps.ofBits FTy.f32 0x43800000#32) g = blkO cos sin qd dm q k v g st := rfl
theorem rows1 : k0_pay45 (F := Ideal)
    (k0_pay43 (k0_pay4 qd) st (k0_pay31 cos sin q) (k0_pay32 cos sin q) (k0_pay36 cos sin k) (k0_pay37 cos k) (k0_pay38 sin k) v dm)
    (k0_pay44 (k0_pay4 qd) st (k0_pay31 cos sin q) (k0_pay32 cos sin q) (k0_pay36 cos sin k) (k0_pay37 cos k) (k0_pay38 sin k) v dm)
    g = blkO cos sin qd dm q k v g st := rfl
theorem rows2 : k0_pay64 (F := Ideal)
    (k0_pay61 (k0_pay4 qd) st (k0_pay46 cos) (k0_pay47 sin) (k0_pay51 cos sin q) (k0_pay52 cos sin q) (k0_pay54 k) (k0_pay55 k)
      (k0_pay56 cos k) (k0_pay57 sin k) v dm)
    (k0_pay63 (k0_pay4 qd) st (k0_pay46 cos) (k0_pay47 sin) (k0_pay51 cos sin q) (k0_pay52 cos sin q) (k0_pay54 k) (k0_pay55 k)
      (k0_pay56 cos k) (k0_pay57 sin k) v dm) g = blkO cos sin qd dm q k v g st := rfl
theorem rows3 : k0_pay81 (F := Ideal)
    (k0_pay78 (k0_pay4 qd) st (k0_pay65 cos) (k0_pay66 sin) (k0_pay70 cos sin q) (k0_pay71 cos sin q) (k0_pay72 k) (k0_pay73 k) v dm)
    (k0_pay80 (k0_pay4 qd) st (k0_pay65 cos) (k0_pay66 sin) (k0_pay70 cos sin q) (k0_pay71 cos sin q) (k0_pay72 k) (k0_pay73 k) v dm)
    (FloatOps.ofBits FTy.f32 0x43800000#32) g = blkO cos sin qd dm q k v g st := rfl
theorem rows4 : k0_pay97 (F := Ideal)
    (k0_pay95 (k0_pay4 qd) st (k0_pay82 cos) (k0_pay83 sin) (k0_pay87 cos sin q) (k0_pay88 cos sin q) k v dm) g
    = blkO cos sin qd dm q k v g st := rfl
theorem rows5 : k0_pay115 (F := Ideal)
    (k0_pay111 (k0_pay4 qd) st (k0_pay98 cos) (k0_pay99 sin) (k0_pay103 cos sin q) (k0_pay104 cos sin q) k v dm) g
    = blkO cos sin qd dm q k v g st := rfl
theorem rows6 : k0_pay132 (F := Ideal)
    (k0_pay129 (k0_pay4 qd) st (k0_pay116 cos) (k0_pay117 sin) (k0_pay119 q) (k0_pay121 cos sin q) (k0_pay122 cos q) k v dm) g
    = blkO cos sin qd dm q k v g st := rfl
theorem rows7 : k0_pay1 (F := Ideal) (k0_pay148
    (k0_pay145 (k0_pay4 qd) st (k0_pay133 cos) (k0_pay134 sin) (k0_pay136 q) (k0_pay137 q) (k0_pay138 cos q) k v dm) g)
    = blkO cos sin qd dm q k v g st := rfl

end Same

variable (m : (ℓ : Loc nD τ sig) → Buf (Elt Ideal) ℓ)

/-- The state a step that is not a head's first leaves. -/
theorem state_B (c : Dev nD) (t : Fin cfg0.N) (h : ¬ t.val % 4 = 0) : (outsAt0 m c t.val t.isLt).2 =
    stAfter (iblk m c 4 t) (iblk m c 5 t) (iblk m c 8 t) (iblk m c 9 t) (iblk m c 1 t) (iblk m c 2 t)
      (outsAt0 m c (t.val - 1) (by omega)).2 8 := by
  rw [outsAt0_B m c t h]
  frame_out
  simp only [load_rows, load_tab, state0, state1, state2, state3, state4, state5, state6, state7, read_unread_whole,
    stAfter, Nat.reduceMul, Nat.mul_zero]

/-- The state a head's first step leaves. -/
theorem state_A (c : Dev nD) (t : Fin cfg0.N) (h : t.val % 4 = 0) : (outsAt0 m c t.val t.isLt).2 =
    stAfter (iblk m c 4 t) (iblk m c 5 t) (iblk m c 8 t) (iblk m c 9 t) (iblk m c 1 t) (iblk m c 2 t)
      (k0_pay3 (F := Ideal)) 8 := by
  rw [outsAt0_A m c t h]
  frame_out
  simp only [load_rows, load_tab, state0, state1, state2, state3, state4, state5, state6, state7, read_unread_whole,
    stAfter, Nat.reduceMul, Nat.mul_zero]

/-- The rows a step stores, of its blocks and the state it starts from. -/
def stepRows (cos sin : Vec Ideal S2048x128 .f32) (kd qd : Vec Ideal S1x256x128 .f32) (cd : Vec Ideal S1x1x256 .f32)
    (dm : Vec Ideal S1x256x256 .f32) (q k v g : Vec Ideal S1x2048x256 .bf16) (st : Vec Ideal S256x256 .f32) (n : ℕ) :
    FVec Ideal S1x256x256 .bf16 :=
  blkO (tab cos (256 * n)) (tab sin (256 * n)) qd dm (rows q (256 * n)) (rows k (256 * n)) (rows v (256 * n))
    (rows g (256 * n)) (stAfter cos sin kd cd k v st n)

theorem stored (f : ℕ → FVec Ideal S1x256x256 .bf16) {y : S1x2048x256.Idx} (n : ℕ) {o : ℕ} (ho : o = 256 * n) {z : S1x256x256.Idx}
    (h1 : (y 1).val = o + (z 1).val) (h2 : (y 2).val = (z 2).val) :
    f n z = f ((y 1).val / 256) (ix3 0 ⟨(y 1).val % 256, Nat.mod_lt _ (by decide)⟩ (y 2)) := by
  have hz : (z 1).val < 256 := (z 1).isLt
  rw [show (y 1).val / 256 = n by omega]
  congr 1
  funext a
  fin_cases a
  · exact Subsingleton.elim (α := Fin 1) _ _
  · exact Fin.ext (show (z 1).val = (y 1).val % 256 by omega)
  · exact Fin.ext h2.symm

/-- The rows a step that is not a head's first stores. -/
theorem rows_B (c : Dev nD) (t : Fin cfg0.N) (h : ¬ t.val % 4 = 0) (x : S1x2048x256.Idx) :
    (outsAt0 m c t.val t.isLt).1 x =
      stepRows (iblk m c 4 t) (iblk m c 5 t) (iblk m c 8 t) (iblk m c 7 t) (iblk m c 9 t) (iblk m c 6 t) (iblk m c 0 t)
        (iblk m c 1 t) (iblk m c 2 t) (iblk m c 3 t) (outsAt0 m c (t.val - 1) (by omega)).2 ((x 1).val / 256)
        (ix3 0 ⟨(x 1).val % 256, Nat.mod_lt _ (by decide)⟩ (x 2)) := by
  rw [outsAt0_B m c t h]
  frame_out
  simp only [load_rows, load_tab, state0, state1, state2, state3, state4, state5, state6, state7, read_unread_whole]
  simp only [rows0, rows1, rows2, rows3, rows4, rows5, rows6, rows7]
  canon_tiles x h
  · refine Eq.trans ?_ (stored _ 7 rfl h1 h2)
    simp only [stepRows, stAfter, Nat.reduceMul, Nat.mul_zero]
  · refine Eq.trans ?_ (stored _ 6 rfl h1 h2)
    simp only [stepRows, stAfter, Nat.reduceMul, Nat.mul_zero]
  · refine Eq.trans ?_ (stored _ 5 rfl h1 h2)
    simp only [stepRows, stAfter, Nat.reduceMul, Nat.mul_zero]
  · refine Eq.trans ?_ (stored _ 4 rfl h1 h2)
    simp only [stepRows, stAfter, Nat.reduceMul, Nat.mul_zero]
  · refine Eq.trans ?_ (stored _ 3 rfl h1 h2)
    simp only [stepRows, stAfter, Nat.reduceMul, Nat.mul_zero]
  · refine Eq.trans ?_ (stored _ 2 rfl h1 h2)
    simp only [stepRows, stAfter, Nat.reduceMul, Nat.mul_zero]
  · refine Eq.trans ?_ (stored _ 1 rfl h1 h2)
    simp only [stepRows, stAfter, Nat.reduceMul, Nat.mul_zero]
  · refine Eq.trans ?_ (stored _ 0 (o := 0) rfl (by omega) h2)
    simp only [stepRows, stAfter, Nat.reduceMul, Nat.mul_zero]

/-- The rows a head's first step stores. -/
theorem rows_A (c : Dev nD) (t : Fin cfg0.N) (h : t.val % 4 = 0) (x : S1x2048x256.Idx) :
    (outsAt0 m c t.val t.isLt).1 x =
      stepRows (iblk m c 4 t) (iblk m c 5 t) (iblk m c 8 t) (iblk m c 7 t) (iblk m c 9 t) (iblk m c 6 t) (iblk m c 0 t)
        (iblk m c 1 t) (iblk m c 2 t) (iblk m c 3 t) (k0_pay3 (F := Ideal)) ((x 1).val / 256)
        (ix3 0 ⟨(x 1).val % 256, Nat.mod_lt _ (by decide)⟩ (x 2)) := by
  rw [outsAt0_A m c t h]
  frame_out
  simp only [load_rows, load_tab, state0, state1, state2, state3, state4, state5, state6, state7, read_unread_whole]
  simp only [rows0, rows1, rows2, rows3, rows4, rows5, rows6, rows7]
  canon_tiles x h
  · refine Eq.trans ?_ (stored _ 7 rfl h1 h2)
    simp only [stepRows, stAfter, Nat.reduceMul, Nat.mul_zero]
  · refine Eq.trans ?_ (stored _ 6 rfl h1 h2)
    simp only [stepRows, stAfter, Nat.reduceMul, Nat.mul_zero]
  · refine Eq.trans ?_ (stored _ 5 rfl h1 h2)
    simp only [stepRows, stAfter, Nat.reduceMul, Nat.mul_zero]
  · refine Eq.trans ?_ (stored _ 4 rfl h1 h2)
    simp only [stepRows, stAfter, Nat.reduceMul, Nat.mul_zero]
  · refine Eq.trans ?_ (stored _ 3 rfl h1 h2)
    simp only [stepRows, stAfter, Nat.reduceMul, Nat.mul_zero]
  · refine Eq.trans ?_ (stored _ 2 rfl h1 h2)
    simp only [stepRows, stAfter, Nat.reduceMul, Nat.mul_zero]
  · refine Eq.trans ?_ (stored _ 1 rfl h1 h2)
    simp only [stepRows, stAfter, Nat.reduceMul, Nat.mul_zero]
  · refine Eq.trans ?_ (stored _ 0 (o := 0) rfl (by omega) h2)
    simp only [stepRows, stAfter, Nat.reduceMul, Nat.mul_zero]

end Cert.RetK

end
-- ==== Proof.RetOps.lean ====
/-
  The tables that the retention kernel's host code computes, read at an index: the rotation's cosines and sines, and
  each head's decays.
-/
module

public import proofs.«01_k».proof.Proof.RetTab
public import proofs.«01_k».proof.Proof.RetBlk
public import Idealize.ShloMosaic.Lib.Claim
public import Idealize.ShloMosaic.Lib.StableHlo.RunRead

@[expose] public section

set_option maxRecDepth 16384

noncomputable section

namespace Cert.RetK

open Idealize.ShloMosaic Idealize.ShloMosaic.TcCoe Idealize.SL.Sem
open Cert.RetentionIdeal Cert.RetentionIdeal.Gen Cert.Ret

variable (m : (ℓ : Loc nD τ sig) → Buf (Elt Ideal) ℓ) (c : Dev nD)

theorem cos_tab (i : Fin 8192) (j : Fin 128) : ∀ X : FVec Ideal S8192x128 .f32, V m c main_v12 = X →
    X (ix2 i j) = ((Real.cos (angle i.val j.val) : ℝ) : EReal) := by
  unfold V
  after_reads_simp
  rintro X rfl
  pointwise
  rw [angle_eq i.isLt j.isLt]
  rfl

theorem sin_tab (i : Fin 8192) (j : Fin 128) : ∀ X : FVec Ideal S8192x128 .f32, V m c main_v13 = X →
    X (ix2 i j) = ((Real.sin (angle i.val j.val) : ℝ) : EReal) := by
  unfold V
  after_reads_simp
  rintro X rfl
  pointwise
  rw [angle_eq i.isLt j.isLt]
  rfl

theorem qd_tab (h : Fin 12) (i : Fin 256) (j : Fin 128) : ∀ X : FVec Ideal S12x256x128 .f32, V m c main_v73 = X →
    X (ix3 h i j) = ((Real.exp (((i.val : ℝ) + 1) * decay h.val) : ℝ) : EReal) := by
  unfold V
  after_reads_simp
  rintro X rfl
  pointwise
  rw [decay_eq h.isLt, word_real (by omega), ← EReal.coe_one, ← EReal.coe_add, ← EReal.coe_mul]
  rfl

theorem kd_tab (h : Fin 12) (i : Fin 256) (j : Fin 128) : ∀ X : FVec Ideal S12x256x128 .f32, V m c main_v75 = X →
    X (ix3 h i j) = ((Real.exp (((256 : ℕ) - 1 - i.val : ℝ) * decay h.val) : ℝ) : EReal) := by
  unfold V
  after_reads_simp
  rintro X rfl
  pointwise
  rw [decay_eq h.isLt, word_real (by omega), two55, ← EReal.coe_sub, ← EReal.coe_mul,
    show (((256 : ℕ) : ℝ) - 1 - i.val) = 255 - i.val by norm_num]
  rfl

theorem cd_tab (h : Fin 12) (j : Fin 256) : ∀ X : FVec Ideal S12x1x256 .f32, V m c main_v71 = X →
    X (ix3 h 0 j) = ((Real.exp ((256 : ℕ) * decay h.val) : ℝ) : EReal) := by
  unfold V
  after_reads_simp
  rintro X rfl
  pointwise
  rw [decay_eq h.isLt, two56, ← EReal.coe_mul]
  rfl

/-- The chunk of 64 rows that a row of a sub-block lies in, as the host code computes it: a floor division. -/
def chunkNo : IVec S256 32 :=
  select (andi (cmpi .ne (signi (iotaInDim S256 32 0)) (broadcastInDim S256 ![] bcast_S_S256 (signi (constantI S_ 32 64#32))))
      (cmpi .ne (Host.remsi (iotaInDim S256 32 0) (broadcastInDim S256 ![] bcast_S_S256 (constantI S_ 32 64#32)))
        (broadcastInDim S256 ![] bcast_S_S256 (constantI S_ 32 0#32))))
    (subi (Host.divsi (iotaInDim S256 32 0) (broadcastInDim S256 ![] bcast_S_S256 (constantI S_ 32 64#32)))
      (broadcastInDim S256 ![] bcast_S_S256 (constantI S_ 32 1#32)))
    (Host.divsi (iotaInDim S256 32 0) (broadcastInDim S256 ![] bcast_S_S256 (constantI S_ 32 64#32)))

theorem chunkNo_eq (i : Fin 256) : chunkNo (ix1 i) = BitVec.ofNat 32 (i.val / 64) := by
  revert i
  decide +kernel

/-- The rows' distances within a sub-block. -/
def rowDiff : FVec Ideal S256x256 .f32 :=
  subf (broadcastInDim S256x256 ![0, 1] bcast_S256x1_S256x256_0_1 (broadcastInDim S256x1 ![0] bcast_S256_S256x1_0 (sitofp .f32 (iotaInDim S256 32 0))))
    (broadcastInDim S256x256 ![0, 1] bcast_S1x256_S256x256_0_1 (broadcastInDim S1x256 ![1] bcast_S256_S1x256_1 (sitofp .f32 (iotaInDim S256 32 0))))

/-- Whether two rows lie in one chunk. -/
def sameChunk : IVec S256x256 1 :=
  cmpi .eq (broadcastInDim S256x256 ![0, 1] bcast_S256x1_S256x256_0_1 (broadcastInDim S256x1 ![0] bcast_S256_S256x1_0 chunkNo))
    (broadcastInDim S256x256 ![0, 1] bcast_S1x256_S256x256_0_1 (broadcastInDim S1x256 ![1] bcast_S256_S1x256_1 chunkNo))

/-- Whether the second row lies in an earlier chunk. -/
def earlier : IVec S256x256 1 :=
  cmpi .slt (broadcastInDim S256x256 ![0, 1] bcast_S1x256_S256x256_0_1 (broadcastInDim S1x256 ![1] bcast_S256_S1x256_1 chunkNo))
    (broadcastInDim S256x256 ![0, 1] bcast_S256x1_S256x256_0_1 (broadcastInDim S256x1 ![0] bcast_S256_S256x1_0 chunkNo))

/-- The weights of a sub-block's rows for each other, per head. -/
def weights : FVec Ideal S12x256x256 .f32 :=
  select (broadcastInDim S12x256x256 ![0, 1, 2] bcast_S1x256x256_S12x256x256_0_1_2
      (broadcastInDim S1x256x256 ![1, 2] bcast_S256x256_S1x256x256_1_2 (ori sameChunk earlier)))
    (Host.exp (mulf (broadcastInDim S12x256x256 ![0, 1, 2] bcast_S12x1x1_S12x256x256_0_1_2
        (broadcastInDim S12x1x1 ![0] bcast_S12_S12x1x1_0 (Host.log (subf (broadcastInDim S12 ![] bcast_S_S12 (constant S_ .f32 0x3F800000#32))
          (Host.powf (broadcastInDim S12 ![] bcast_S_S12 (constant S_ .f32 0x40000000#32))
            (subf (broadcastInDim S12 ![] bcast_S_S12 (constant S_ .f32 0xC0A00000#32)) (sitofp .f32 (iotaInDim S12 32 0))))))))
      (broadcastInDim S12x256x256 ![0, 1, 2] bcast_S1x256x256_S12x256x256_0_1_2 (broadcastInDim S1x256x256 ![1, 2] bcast_S256x256_S1x256x256_1_2
        (select sameChunk (Host.absf rowDiff) rowDiff)))))
    (broadcastInDim S12x256x256 ![] bcast_S_S12x256x256 (constant S_ .f32 0x00000000#32))

theorem weights_made : V m c main_v50 = weights := by
  unfold V
  after_reads_simp
  rfl

theorem sameChunk_eq (i j : Fin 256) : sameChunk (ix2 i j) = if i.val / 64 = j.val / 64 then 1#1 else 0#1 := by
  unfold sameChunk
  pointwise
  rw [chunkNo_eq, chunkNo_eq]
  generalize hx : i.val / 64 = x
  generalize hy : j.val / 64 = y
  have h1 : x < 4 := by omega
  have h2 : y < 4 := by omega
  clear hx hy
  interval_cases x <;> interval_cases y <;> rfl

theorem earlier_eq (i j : Fin 256) : earlier (ix2 i j) = if j.val / 64 < i.val / 64 then 1#1 else 0#1 := by
  unfold earlier
  pointwise
  rw [chunkNo_eq, chunkNo_eq]
  generalize hx : i.val / 64 = x
  generalize hy : j.val / 64 = y
  have h1 : x < 4 := by omega
  have h2 : y < 4 := by omega
  clear hx hy
  interval_cases x <;> interval_cases y <;> rfl

theorem dm_tab (h : Fin 12) (i j : Fin 256) : weights (ix3 h i j) = ((weight (decay h.val) i.val j.val : ℝ) : EReal) := by
  unfold weights rowDiff
  pointwise
  rw [sameChunk_eq, earlier_eq, decay_eq h.isLt, word_real (by omega), word_real (by omega), ← EReal.coe_sub]
  unfold weight
  by_cases h1 : i.val / 64 = j.val / 64
  · have h2 : ¬ j.val / 64 < i.val / 64 := by omega
    rw [if_pos h1, if_neg h2, if_pos h1]
    have e : (FloatOps.absf (F := Ideal) (φ := .f32) (((i.val : ℝ) - j.val : ℝ) : EReal)) = ((|(i.val : ℝ) - j.val| : ℝ) : EReal) := by
      show max _ _ = _
      rw [← EReal.coe_neg, ← EReal.coe_strictMono.monotone.map_max]
      rfl
    rw [e]
    simp only [Scalar.select, show IntOp.ori 1#1 0#1 = 1#1 from rfl]
    rw [if_pos (by rfl), if_pos (by rfl), ← EReal.coe_mul]
    rfl
  · rw [if_neg h1, if_neg h1]
    by_cases h2 : j.val / 64 < i.val / 64
    · rw [if_pos h2, if_pos h2]
      simp only [Scalar.select, show IntOp.ori 0#1 1#1 = 1#1 from rfl]
      rw [if_pos (by rfl), if_neg (by decide), ← EReal.coe_mul]
      rfl
    · rw [if_neg h2, if_neg h2]
      rfl

end Cert.RetK
end
-- ==== Proof.RetElem.lean ====
/-
  One sub-block of the retention kernel at an index, where its operands are real numbers: the state it leaves is
  the decayed state plus the decayed keys times the values, and the rows it stores are the normalised rows of the
  256-row recurrence.
-/
module

public import proofs.«01_k».proof.Proof.RetBlk
public import proofs.«01_k».proof.Proof.RetRow

@[expose] public section

set_option maxRecDepth 16384

noncomputable section

namespace Cert.RetK

open Finset Idealize.ShloMosaic Idealize.ShloMosaic.TcCoe Idealize.SL.Sem
open Cert.RetentionIdeal Cert.RetentionIdeal.Gen Cert.Ret

variable {cos sin : Vec Ideal S256x128 .f32} {kd qd : Vec Ideal S1x256x128 .f32} {cd : Vec Ideal S1x1x256 .f32}
  {dm : Vec Ideal S1x256x256 .f32} {q k v g : Vec Ideal S1x256x256 .bf16} {st : Vec Ideal S256x256 .f32}
variable (w : ℝ) (c s qx kx vx : ℕ → ℕ → ℝ) (m : ℕ)

theorem blkS_real (S : ℕ → ℕ → ℝ)
    (hc : ∀ (i : Fin 256) (j : Fin 128), cos (ix2 i j) = (c (256 * m + i.val) j.val : EReal))
    (hs : ∀ (i : Fin 256) (j : Fin 128), sin (ix2 i j) = (s (256 * m + i.val) j.val : EReal))
    (hk : ∀ i d : Fin 256, k (ix3 0 i d) = (kx (256 * m + i.val) d.val : EReal))
    (hv : ∀ i d : Fin 256, v (ix3 0 i d) = (vx (256 * m + i.val) d.val : EReal))
    (hkd : ∀ (i : Fin 256) (j : Fin 128), kd (ix3 0 i j) = (Real.exp (((256 : ℕ) - 1 - i.val : ℝ) * w) : EReal))
    (hcd : ∀ e : Fin 256, cd (ix3 0 0 e) = (Real.exp ((256 : ℕ) * w) : EReal))
    (hst : ∀ d e : Fin 256, st (ix2 d e) = (S d.val e.val : EReal)) (d e : Fin 256) :
    blkS cos sin kd cd k v st (ix2 d e) =
      ((S d.val e.val * Real.exp ((256 : ℕ) * w) + ∑ j ∈ range 256, rotK c s kx (256 * m + j) d.val
        * Real.exp (((256 : ℕ) - 1 - j : ℝ) * w) * vx (256 * m + j) e.val : ℝ) : EReal) := by
  unfold blkS
  pointwise [k0_pay22, k0_pay5, k0_pay16, k0_pay17, k0_pay18, k0_pay19, k0_pay20, k0_pay21, k0_pay14, k0_pay15,
    k0_pay13, k0_pay6, k0_pay7]
  rw [sixteenth, hst, hcd, EReal.coe_add, EReal.coe_mul, sum_range, coe_sum]
  congr 1
  refine sum_congr rfl fun x _ => ?_
  rw [hv, EReal.coe_mul, rotK, rot]
  congr 1
  by_cases h : d.val < 128
  · rw [dif_pos h, if_pos h]
    simp only [hk, hc, hs, hkd, ← EReal.coe_mul, ← EReal.coe_sub]
  · rw [dif_neg h, if_neg h]
    simp only [hk, hc, hs, hkd, ← EReal.coe_mul, ← EReal.coe_add, show 128 + (d.val - 128) = d.val by omega]

/-- The sub-block's rows before the normalisation. -/
def row (i : ℕ) (e : Fin 256) : EReal :=
  ((outBig w (rot c s qx) (rotK c s kx) vx m i e.val : ℝ) : EReal)

theorem score_halves (i j : ℕ) : score (rot c s qx) (rotK c s kx) i j
    = ∑ x : Fin 128, (qx i x.val * c i x.val - qx i (128 + x.val) * s i x.val)
        * ((kx j x.val * c j x.val - kx j (128 + x.val) * s j x.val) * (1 / 16))
      + ∑ x : Fin 128, (qx i (128 + x.val) * c i x.val + qx i x.val * s i x.val)
        * ((kx j (128 + x.val) * c j x.val + kx j x.val * s j x.val) * (1 / 16)) := by
  rw [score, sum_halves]
  simp only [rotK, rot_lo, rot_hi]

theorem outBig_halves (i : ℕ) (e : ℕ) : outBig w (rot c s qx) (rotK c s kx) vx m i e
    = ∑ x : Fin 256, score (rot c s qx) (rotK c s kx) (256 * m + i) (256 * m + x.val) * weight w i x.val
          * vx (256 * m + x.val) e
      + (∑ x : Fin 128, (qx (256 * m + i) x.val * c (256 * m + i) x.val - qx (256 * m + i) (128 + x.val) * s (256 * m + i) x.val)
            * Real.exp (((i : ℝ) + 1) * w) * state w (rotK c s kx) vx 256 m x.val e
        + ∑ x : Fin 128, (qx (256 * m + i) (128 + x.val) * c (256 * m + i) x.val + qx (256 * m + i) x.val * s (256 * m + i) x.val)
            * Real.exp (((i : ℝ) + 1) * w) * state w (rotK c s kx) vx 256 m (128 + x.val) e) := by
  rw [outBig, sum_range, sum_halves]
  simp only [rot_lo, rot_hi]

theorem blkC_real
    (hc : ∀ (i : Fin 256) (j : Fin 128), cos (ix2 i j) = (c (256 * m + i.val) j.val : EReal))
    (hs : ∀ (i : Fin 256) (j : Fin 128), sin (ix2 i j) = (s (256 * m + i.val) j.val : EReal))
    (hq : ∀ i d : Fin 256, q (ix3 0 i d) = (qx (256 * m + i.val) d.val : EReal))
    (hk : ∀ i d : Fin 256, k (ix3 0 i d) = (kx (256 * m + i.val) d.val : EReal))
    (hv : ∀ i d : Fin 256, v (ix3 0 i d) = (vx (256 * m + i.val) d.val : EReal))
    (hqd : ∀ (i : Fin 256) (j : Fin 128), qd (ix3 0 i j) = (Real.exp (((i.val : ℝ) + 1) * w) : EReal))
    (hdm : ∀ i j : Fin 256, dm (ix3 0 i j) = (weight w i.val j.val : EReal))
    (hst : ∀ d e : Fin 256, st (ix2 d e) = (state w (rotK c s kx) vx 256 m d.val e.val : EReal)) (i e : Fin 256) :
    blkC cos sin qd dm q k v st (ix2 i e) = cen (row w c s qx kx vx m i.val) e := by
  unfold blkC
  pointwise [k0_pay23, k0_pay4, k0_pay11, k0_pay12, k0_pay9, k0_pay10, k0_pay8, k0_pay16, k0_pay17, k0_pay18, k0_pay19,
    k0_pay20, k0_pay21, k0_pay14, k0_pay15, k0_pay13, k0_pay6, k0_pay7]
  simp only [sixteenth, hst, hdm, hqd, hv, hk, hq, hc, hs, ← EReal.coe_mul, ← EReal.coe_sub, ← EReal.coe_add, ← coe_sum]
  simp only [cen, row, ← coe_sum, outBig_halves, score_halves]

/-- The rows a sub-block stores are the normalised rows of the recurrence, gated. -/
theorem blkO_real
    (hc : ∀ (i : Fin 256) (j : Fin 128), cos (ix2 i j) = (c (256 * m + i.val) j.val : EReal))
    (hs : ∀ (i : Fin 256) (j : Fin 128), sin (ix2 i j) = (s (256 * m + i.val) j.val : EReal))
    (hq : ∀ i d : Fin 256, q (ix3 0 i d) = (qx (256 * m + i.val) d.val : EReal))
    (hk : ∀ i d : Fin 256, k (ix3 0 i d) = (kx (256 * m + i.val) d.val : EReal))
    (hv : ∀ i d : Fin 256, v (ix3 0 i d) = (vx (256 * m + i.val) d.val : EReal))
    (hqd : ∀ (i : Fin 256) (j : Fin 128), qd (ix3 0 i j) = (Real.exp (((i.val : ℝ) + 1) * w) : EReal))
    (hdm : ∀ i j : Fin 256, dm (ix3 0 i j) = (weight w i.val j.val : EReal))
    (hst : ∀ d e : Fin 256, st (ix2 d e) = (state w (rotK c s kx) vx 256 m d.val e.val : EReal)) (i e : Fin 256) :
    blkO cos sin qd dm q k v g st (ix3 0 i e) = normGate (row w c s qx kx vx m i.val) (g (ix3 0 i e)) e := by
  have hC := blkC_real w c s qx kx vx m hc hs hq hk hv hqd hdm hst
  have hV : k0_pay24 (F := Ideal) (k0_pay4 qd) st (k0_pay11 cos sin q) (k0_pay12 cos sin q) (k0_pay16 cos sin k)
      (k0_pay17 cos sin k) k0_pay18 v dm (ix2 i 0)
      = ∑ x, cen (row w c s qx kx vx m i.val) x * cen (row w c s qx kx vx m i.val) x := by
    simp only [← hC]
    unfold blkC
    pointwise [k0_pay24]
  unfold blkO
  generalize k0_pay24 (F := Ideal) _ _ _ _ _ _ _ _ _ = V at hV
  generalize blkC cos sin qd dm q k v st = C at hC
  pointwise [k0_pay25]
  rw [hC, hV, normGate]

end Cert.RetK

end
-- ==== Proof.RetLaunch.lean ====
/-
  The retention kernel's launch: what each window reads at each grid point, the state that each point starts from,
  and the rows that it writes.
-/
module

public import proofs.«01_k».proof.Proof.RetOps
public import proofs.«01_k».proof.Proof.RetElem

@[expose] public section

set_option maxRecDepth 16384

noncomputable section

namespace Cert.RetK

open Finset Idealize.ShloMosaic Idealize.ShloMosaic.TcCoe Idealize.SL.Sem
open Idealize.ShloMosaic.Pipeline (Dat)
open Cert.RetentionIdeal Cert.RetentionIdeal.Gen Cert.Ret

/-- Which block of its array each window is on at a grid point: the batch is the point over 48, the head the next
    twelve, the step of 2048 rows the last four. -/
theorem idx : ∀ t : Fin cfg0.N,
    win0_0.index t = ![t.val / 48, t.val % 4, t.val / 4 % 12] ∧
    win0_1.index t = ![t.val / 48, t.val % 4, 12 + t.val / 4 % 12] ∧
    win0_2.index t = ![t.val / 48, t.val % 4, 24 + t.val / 4 % 12] ∧
    win0_3.index t = ![t.val / 48, t.val % 4, 36 + t.val / 4 % 12] ∧
    win0_4.index t = ![t.val % 4, 0] ∧ win0_5.index t = ![t.val % 4, 0] ∧
    win0_6.index t = ![t.val / 4 % 12, 0, 0] ∧ win0_7.index t = ![t.val / 4 % 12, 0, 0] ∧
    win0_8.index t = ![t.val / 4 % 12, 0, 0] ∧ win0_9.index t = ![t.val / 4 % 12, 0, 0] ∧
    win0_10.index t = ![t.val / 48, t.val % 4, t.val / 4 % 12] :=
  (by decide +kernel : ∀ t : Fin grid0.N, _)

variable (m : (ℓ : Loc nD τ sig) → Buf (Elt Ideal) ℓ) (c : Dev nD)

/-- The projections. -/
def proj : FVec Ideal S2x8192x13312 .bf16 := m ((c : Thread nD τ).loc main_arg0)

theorem lt96 (t : Fin cfg0.N) : t.val < 96 := lt_of_lt_of_eq t.isLt N_0

theorem read_q (t : Fin cfg0.N) (r : Fin 2048) (d : Fin 256) : iblk m c 0 t (ix3 0 r d) =
    entry (proj m c) (t.val / 48) (2048 * (t.val % 4) + r.val) (0 + 256 * (t.val / 4 % 12) + d.val) := by
  rw [← entry_eq (proj m c) (by have := lt96 t; omega) (by omega) (by omega)]
  blk_ext [iblk, V, proj, idx t]

theorem read_k (t : Fin cfg0.N) (r : Fin 2048) (d : Fin 256) : iblk m c 1 t (ix3 0 r d) =
    entry (proj m c) (t.val / 48) (2048 * (t.val % 4) + r.val) (3072 + 256 * (t.val / 4 % 12) + d.val) := by
  rw [← entry_eq (proj m c) (by have := lt96 t; omega) (by omega) (by omega)]
  blk_ext [iblk, V, proj, idx t]

theorem read_v (t : Fin cfg0.N) (r : Fin 2048) (d : Fin 256) : iblk m c 2 t (ix3 0 r d) =
    entry (proj m c) (t.val / 48) (2048 * (t.val % 4) + r.val) (6144 + 256 * (t.val / 4 % 12) + d.val) := by
  rw [← entry_eq (proj m c) (by have := lt96 t; omega) (by omega) (by omega)]
  blk_ext [iblk, V, proj, idx t]

theorem read_g (t : Fin cfg0.N) (r : Fin 2048) (d : Fin 256) : iblk m c 3 t (ix3 0 r d) =
    entry (proj m c) (t.val / 48) (2048 * (t.val % 4) + r.val) (9216 + 256 * (t.val / 4 % 12) + d.val) := by
  rw [← entry_eq (proj m c) (by have := lt96 t; omega) (by omega) (by omega)]
  blk_ext [iblk, V, proj, idx t]

theorem read_cos (t : Fin cfg0.N) (r : Fin 2048) (j : Fin 128) : iblk m c 4 t (ix2 r j) =
    ((turnC (2048 * (t.val % 4) + r.val) j.val : ℝ) : EReal) := by
  blk_simp [iblk]
  refine Eq.trans ?_ (cos_tab m c ⟨2048 * (t.val % 4) + r.val, by omega⟩ j _ rfl)
  generalize V m c main_v12 = X
  blk_ext [idx t]

theorem read_sin (t : Fin cfg0.N) (r : Fin 2048) (j : Fin 128) : iblk m c 5 t (ix2 r j) =
    ((turnS (2048 * (t.val % 4) + r.val) j.val : ℝ) : EReal) := by
  blk_simp [iblk]
  refine Eq.trans ?_ (sin_tab m c ⟨2048 * (t.val % 4) + r.val, by omega⟩ j _ rfl)
  generalize V m c main_v13 = X
  blk_ext [idx t]

theorem read_qd (t : Fin cfg0.N) (i : Fin 256) (j : Fin 128) : iblk m c 7 t (ix3 0 i j) =
    ((Real.exp (((i.val : ℝ) + 1) * decay (t.val / 4 % 12)) : ℝ) : EReal) := by
  blk_simp [iblk]
  refine Eq.trans ?_ (qd_tab m c ⟨t.val / 4 % 12, Nat.mod_lt _ (by decide)⟩ i j _ rfl)
  generalize V m c main_v73 = X
  blk_ext [idx t]

theorem read_kd (t : Fin cfg0.N) (i : Fin 256) (j : Fin 128) : iblk m c 8 t (ix3 0 i j) =
    ((Real.exp (((256 : ℕ) - 1 - i.val : ℝ) * decay (t.val / 4 % 12)) : ℝ) : EReal) := by
  blk_simp [iblk]
  refine Eq.trans ?_ (kd_tab m c ⟨t.val / 4 % 12, Nat.mod_lt _ (by decide)⟩ i j _ rfl)
  generalize V m c main_v75 = X
  blk_ext [idx t]

theorem read_cd (t : Fin cfg0.N) (j : Fin 256) : iblk m c 9 t (ix3 0 0 j) =
    ((Real.exp ((256 : ℕ) * decay (t.val / 4 % 12)) : ℝ) : EReal) := by
  blk_simp [iblk]
  refine Eq.trans ?_ (cd_tab m c ⟨t.val / 4 % 12, Nat.mod_lt _ (by decide)⟩ j _ rfl)
  generalize V m c main_v71 = X
  blk_ext [idx t]

theorem read_dm (t : Fin cfg0.N) (i j : Fin 256) : iblk m c 6 t (ix3 0 i j) =
    ((weight (decay (t.val / 4 % 12)) i.val j.val : ℝ) : EReal) := by
  blk_simp [iblk]
  rw [weights_made]
  refine Eq.trans ?_ (dm_tab ⟨t.val / 4 % 12, Nat.mod_lt _ (by decide)⟩ i j)
  blk_ext [idx t]

end Cert.RetK
end
-- ==== Proof.RetState.lean ====
/-
  The retention kernel's state from step to step, and the array that its launch leaves: each head's rows are the
  gated, normalised rows of the recurrence in blocks of 256 rows.
-/
module

public import proofs.«01_k».proof.Proof.RetLaunch

@[expose] public section

set_option maxRecDepth 16384

noncomputable section

namespace Cert.RetK

open Finset Idealize.ShloMosaic Idealize.ShloMosaic.TcCoe Idealize.SL.Sem
open Idealize.ShloMosaic.Pipeline (Dat)
open Cert.RetentionIdeal Cert.RetentionIdeal.Gen Cert.Ret

theorem rows_read {x : Vec Ideal S1x2048x256 .bf16} {f : ℕ → ℕ → EReal} {a n : ℕ} (hn : n < 8)
    (h : ∀ (r : Fin 2048) (d : Fin 256), x (ix3 0 r d) = f (2048 * a + r.val) d.val) (i d : Fin 256) :
    rows x (256 * n) (ix3 0 i d) = f (256 * (8 * a + n) + i.val) d.val := by
  have e : (256 * n + i.val) % 2048 = 256 * n + i.val := Nat.mod_eq_of_lt (by omega)
  refine (h ⟨(256 * n + i.val) % 2048, Nat.mod_lt _ (by decide)⟩ d).trans ?_
  rw [show 2048 * a + (256 * n + i.val) % 2048 = 256 * (8 * a + n) + i.val by omega]

theorem tab_read {x : Vec Ideal S2048x128 .f32} {f : ℕ → ℕ → EReal} {a n : ℕ} (hn : n < 8)
    (h : ∀ (r : Fin 2048) (d : Fin 128), x (ix2 r d) = f (2048 * a + r.val) d.val) (i : Fin 256) (d : Fin 128) :
    tab x (256 * n) (ix2 i d) = f (256 * (8 * a + n) + i.val) d.val := by
  have e : (256 * n + i.val) % 2048 = 256 * n + i.val := Nat.mod_eq_of_lt (by omega)
  refine (h ⟨(256 * n + i.val) % 2048, Nat.mod_lt _ (by decide)⟩ d).trans ?_
  rw [show 2048 * a + (256 * n + i.val) % 2048 = 256 * (8 * a + n) + i.val by omega]

section Step

variable {cos sin : Vec Ideal S2048x128 .f32} {kd qd : Vec Ideal S1x256x128 .f32} {cd : Vec Ideal S1x1x256 .f32}
  {dm : Vec Ideal S1x256x256 .f32} {q k v g : Vec Ideal S1x2048x256 .bf16} {st : Vec Ideal S256x256 .f32}
variable (w : ℝ) (c s qx kx vx : ℕ → ℕ → ℝ) (gx : ℕ → ℕ → EReal) (a : ℕ)

/-- Within a step: the state after `n` sub-blocks, where the step starts at row `2048 * a`. -/
theorem stAfter_real
    (hc : ∀ (r : Fin 2048) (j : Fin 128), cos (ix2 r j) = (c (2048 * a + r.val) j.val : EReal))
    (hs : ∀ (r : Fin 2048) (j : Fin 128), sin (ix2 r j) = (s (2048 * a + r.val) j.val : EReal))
    (hk : ∀ (r : Fin 2048) (d : Fin 256), k (ix3 0 r d) = (kx (2048 * a + r.val) d.val : EReal))
    (hv : ∀ (r : Fin 2048) (d : Fin 256), v (ix3 0 r d) = (vx (2048 * a + r.val) d.val : EReal))
    (hkd : ∀ (i : Fin 256) (j : Fin 128), kd (ix3 0 i j) = (Real.exp (((256 : ℕ) - 1 - i.val : ℝ) * w) : EReal))
    (hcd : ∀ e : Fin 256, cd (ix3 0 0 e) = (Real.exp ((256 : ℕ) * w) : EReal))
    (hst : ∀ d e : Fin 256, st (ix2 d e) = (state w (rotK c s kx) vx 256 (8 * a) d.val e.val : EReal)) :
    ∀ n : ℕ, n ≤ 8 → ∀ d e : Fin 256, stAfter cos sin kd cd k v st n (ix2 d e)
      = (state w (rotK c s kx) vx 256 (8 * a + n) d.val e.val : EReal)
  | 0, _, d, e => hst d e
  | n + 1, hn, d, e =>
    blkS_real w c s kx vx (8 * a + n) (state w (rotK c s kx) vx 256 (8 * a + n))
      (tab_read (f := fun p j => (c p j : EReal)) (by omega) hc) (tab_read (f := fun p j => (s p j : EReal)) (by omega) hs)
      (rows_read (f := fun p j => (kx p j : EReal)) (by omega) hk) (rows_read (f := fun p j => (vx p j : EReal)) (by omega) hv)
      hkd hcd (stAfter_real hc hs hk hv hkd hcd hst n (by omega)) d e

/-- Within a step: the rows that sub-block `n` stores. -/
theorem stepRows_real
    (hc : ∀ (r : Fin 2048) (j : Fin 128), cos (ix2 r j) = (c (2048 * a + r.val) j.val : EReal))
    (hs : ∀ (r : Fin 2048) (j : Fin 128), sin (ix2 r j) = (s (2048 * a + r.val) j.val : EReal))
    (hq : ∀ (r : Fin 2048) (d : Fin 256), q (ix3 0 r d) = (qx (2048 * a + r.val) d.val : EReal))
    (hk : ∀ (r : Fin 2048) (d : Fin 256), k (ix3 0 r d) = (kx (2048 * a + r.val) d.val : EReal))
    (hv : ∀ (r : Fin 2048) (d : Fin 256), v (ix3 0 r d) = (vx (2048 * a + r.val) d.val : EReal))
    (hg : ∀ (r : Fin 2048) (d : Fin 256), g (ix3 0 r d) = gx (2048 * a + r.val) d.val)
    (hqd : ∀ (i : Fin 256) (j : Fin 128), qd (ix3 0 i j) = (Real.exp (((i.val : ℝ) + 1) * w) : EReal))
    (hkd : ∀ (i : Fin 256) (j : Fin 128), kd (ix3 0 i j) = (Real.exp (((256 : ℕ) - 1 - i.val : ℝ) * w) : EReal))
    (hcd : ∀ e : Fin 256, cd (ix3 0 0 e) = (Real.exp ((256 : ℕ) * w) : EReal))
    (hdm : ∀ i j : Fin 256, dm (ix3 0 i j) = (weight w i.val j.val : EReal))
    (hst : ∀ d e : Fin 256, st (ix2 d e) = (state w (rotK c s kx) vx 256 (8 * a) d.val e.val : EReal))
    {n : ℕ} (hn : n < 8) (i e : Fin 256) :
    stepRows cos sin kd qd cd dm q k v g st n (ix3 0 i e)
      = normGate (row w c s qx kx vx (8 * a + n) i.val) (gx (256 * (8 * a + n) + i.val) e.val) e := by
  rw [← rows_read hn hg]
  exact blkO_real w c s qx kx vx (8 * a + n)
      (tab_read (f := fun p j => (c p j : EReal)) hn hc) (tab_read (f := fun p j => (s p j : EReal)) hn hs)
      (rows_read (f := fun p j => (qx p j : EReal)) hn hq)
      (rows_read (f := fun p j => (kx p j : EReal)) hn hk) (rows_read (f := fun p j => (vx p j : EReal)) hn hv)
      hqd hdm (stAfter_real w c s kx vx a hc hs hk hv hkd hcd hst n (by omega)) i e

end Step

variable (m : (ℓ : Loc nD τ sig) → Buf (Elt Ideal) ℓ) (c : Dev nD)

/-- The state that a head starts from is zero. -/
theorem zero_state (w : ℝ) (k v : ℕ → ℕ → ℝ) (d e : Fin 256) :
    k0_pay3 (F := Ideal) (ix2 d e) = (state w k v 256 (8 * 0) d.val e.val : EReal) := by
  pointwise [k0_pay3]
  rfl

variable (hx : Reals (proj m c))

include hx in
theorem part_q (t : Fin cfg0.N) (r : Fin 2048) (d : Fin 256) : iblk m c 0 t (ix3 0 r d) =
    (part (proj m c) 0 (t.val / 48) (t.val / 4 % 12) (2048 * (t.val % 4) + r.val) d.val : EReal) :=
  (read_q m c t r d).trans (part_eq hx (by omega))

include hx in
theorem part_k (t : Fin cfg0.N) (r : Fin 2048) (d : Fin 256) : iblk m c 1 t (ix3 0 r d) =
    (part (proj m c) 3072 (t.val / 48) (t.val / 4 % 12) (2048 * (t.val % 4) + r.val) d.val : EReal) :=
  (read_k m c t r d).trans (part_eq hx (by omega))

include hx in
theorem part_v (t : Fin cfg0.N) (r : Fin 2048) (d : Fin 256) : iblk m c 2 t (ix3 0 r d) =
    (part (proj m c) 6144 (t.val / 48) (t.val / 4 % 12) (2048 * (t.val % 4) + r.val) d.val : EReal) :=
  (read_v m c t r d).trans (part_eq hx (by omega))

include hx in
/-- A step's state, of the state it starts from. -/
theorem state_step (t : Fin cfg0.N) (st : Vec Ideal S256x256 .f32)
    (hst : ∀ d e : Fin 256, st (ix2 d e) = (state (decay (t.val / 4 % 12)) (headK (proj m c) (t.val / 48) (t.val / 4 % 12))
        (headV (proj m c) (t.val / 48) (t.val / 4 % 12)) 256 (8 * (t.val % 4)) d.val e.val : EReal)) (d e : Fin 256) :
    stAfter (iblk m c 4 t) (iblk m c 5 t) (iblk m c 8 t) (iblk m c 9 t) (iblk m c 1 t) (iblk m c 2 t) st 8 (ix2 d e)
    = (state (decay (t.val / 4 % 12)) (headK (proj m c) (t.val / 48) (t.val / 4 % 12))
        (headV (proj m c) (t.val / 48) (t.val / 4 % 12)) 256 (8 * (t.val % 4) + 8) d.val e.val : EReal) :=
  stAfter_real _ turnC turnS _ _ (t.val % 4) (read_cos m c t) (read_sin m c t) (part_k m c hx t) (part_v m c hx t)
    (read_kd m c t) (read_cd m c t) hst 8 le_rfl d e

include hx in
/-- The state after each grid point. -/
theorem state_real : ∀ (n : ℕ) (t : Fin cfg0.N), t.val = n → ∀ d e : Fin 256, (outsAt0 m c t.val t.isLt).2 (ix2 d e)
    = (state (decay (t.val / 4 % 12)) (headK (proj m c) (t.val / 48) (t.val / 4 % 12))
        (headV (proj m c) (t.val / 48) (t.val / 4 % 12)) 256 (8 * (t.val % 4) + 8) d.val e.val : EReal) := by
  intro n
  induction n with
  | zero =>
    intro t ht d e
    have h : t.val % 4 = 0 := by omega
    rw [state_A m c t h]
    refine state_step m c hx t _ (fun d e => ?_) d e
    rw [h]
    exact zero_state _ _ _ d e
  | succ n ih =>
    intro t ht d e
    by_cases h : t.val % 4 = 0
    · rw [state_A m c t h]
      refine state_step m c hx t _ (fun d e => ?_) d e
      rw [h]
      exact zero_state _ _ _ d e
    · rw [state_B m c t h]
      refine state_step m c hx t _ (fun d e => ?_) d e
      refine (ih ⟨t.val - 1, by have := t.isLt; omega⟩ (by simp only; omega) d e).trans ?_
      simp only
      rw [show (t.val - 1) / 4 % 12 = t.val / 4 % 12 by omega, show (t.val - 1) / 48 = t.val / 48 by omega,
        show 8 * ((t.val - 1) % 4) + 8 = 8 * (t.val % 4) by omega]

/-- What the launch leaves in batch `b`, row `p` and lane `e` of head `h`. -/
def final (x : FVec Ideal ProjShape .bf16) (b h p : ℕ) (e : Fin 256) : EReal :=
  normGate (fun e : Fin 256 => (outBig (decay h) (headQ x b h) (headK x b h) (headV x b h) (p / 256) (p % 256) e.val : EReal))
    (entry x b p (9216 + 256 * h + e.val)) e

include hx in
/-- A step's rows, of the state it starts from. -/
theorem rows_step (t : Fin cfg0.N) (st : Vec Ideal S256x256 .f32)
    (hst : ∀ d e : Fin 256, st (ix2 d e) = (state (decay (t.val / 4 % 12)) (headK (proj m c) (t.val / 48) (t.val / 4 % 12))
        (headV (proj m c) (t.val / 48) (t.val / 4 % 12)) 256 (8 * (t.val % 4)) d.val e.val : EReal))
    (r : Fin 2048) (e : Fin 256) :
    stepRows (iblk m c 4 t) (iblk m c 5 t) (iblk m c 8 t) (iblk m c 7 t) (iblk m c 9 t) (iblk m c 6 t) (iblk m c 0 t)
        (iblk m c 1 t) (iblk m c 2 t) (iblk m c 3 t) st (r.val / 256) (ix3 0 ⟨r.val % 256, Nat.mod_lt _ (by decide)⟩ e)
    = final (proj m c) (t.val / 48) (t.val / 4 % 12) (2048 * (t.val % 4) + r.val) e := by
  refine (stepRows_real _ turnC turnS _ _ _
    (fun p d => entry (proj m c) (t.val / 48) p (9216 + 256 * (t.val / 4 % 12) + d)) (t.val % 4) (read_cos m c t) (read_sin m c t)
    (part_q m c hx t) (part_k m c hx t) (part_v m c hx t) (read_g m c t) (read_qd m c t) (read_kd m c t) (read_cd m c t)
    (read_dm m c t) hst (n := r.val / 256) (by omega) ⟨r.val % 256, Nat.mod_lt _ (by decide)⟩ e).trans ?_
  unfold final row
  simp only
  rw [show 256 * (8 * (t.val % 4) + r.val / 256) + r.val % 256 = 2048 * (t.val % 4) + r.val by omega,
    show (2048 * (t.val % 4) + r.val) / 256 = 8 * (t.val % 4) + r.val / 256 by omega,
    show (2048 * (t.val % 4) + r.val) % 256 = r.val % 256 by omega]
  rfl

include hx in
/-- The rows that each grid point writes. -/
theorem rows_real (t : Fin cfg0.N) (x : S1x2048x256.Idx) : (outsAt0 m c t.val t.isLt).1 x
    = final (proj m c) (t.val / 48) (t.val / 4 % 12) (2048 * (t.val % 4) + (x 1).val) (x 2) := by
  by_cases h : t.val % 4 = 0
  · rw [rows_A m c t h]
    refine rows_step m c hx t _ (fun d e => ?_) (x 1) (x 2)
    rw [h]
    exact zero_state _ _ _ d e
  · rw [rows_B m c t h]
    refine rows_step m c hx t _ (fun d e => ?_) (x 1) (x 2)
    refine (state_real m c hx _ ⟨t.val - 1, by have := t.isLt; omega⟩ rfl d e).trans ?_
    simp only
    rw [show (t.val - 1) / 4 % 12 = t.val / 4 % 12 by omega, show (t.val - 1) / 48 = t.val / 48 by omega,
      show 8 * ((t.val - 1) % 4) + 8 = 8 * (t.val % 4) by omega]

/-- The array that the launch leaves. -/
def out (x : FVec Ideal ProjShape .bf16) : FVec Ideal S2x8192x3072 .bf16 := fun i =>
  final x (i 0).val ((i 2).val / 256) (i 1).val ⟨(i 2).val % 256, Nat.mod_lt _ (by decide)⟩

include hx in
theorem out_eq : (dats m 0 c).arrAt 10 cfg0.N = out (proj m c) := by
  refine (dats m 0 c).arrAt_eq_of_covers 10 _ (by decide +kernel) fun t hf y => ?_
  blk_simp
  rw [after0_10]
  refine (rows_real m c hx t y).trans ?_
  have ht := lt96 t
  have h1 : (y 1).val < 2048 := (y 1).isLt
  have h2 : (y 2).val < 256 := (y 2).isLt
  have e : ∀ X : FVec Ideal S2x8192x3072 .bf16, X (ix3 ⟨t.val / 48, by omega⟩ ⟨2048 * (t.val % 4) + (y 1).val, by omega⟩
      ⟨256 * (t.val / 4 % 12) + (y 2).val, by omega⟩) = X ((win0_10.blk t).view.emb y) := fun X => by
    blk_ext [idx t]
  refine Eq.trans ?_ (e (out (proj m c)))
  unfold out
  show _ = final (proj m c) (t.val / 48) ((256 * (t.val / 4 % 12) + (y 2).val) / 256) (2048 * (t.val % 4) + (y 1).val)
    ⟨(256 * (t.val / 4 % 12) + (y 2).val) % 256, Nat.mod_lt _ (by decide)⟩
  rw [show (256 * (t.val / 4 % 12) + (y 2).val) / 256 = t.val / 4 % 12 by omega]
  exact congrArg _ (Fin.ext (show (y 2).val = (256 * (t.val / 4 % 12) + (y 2).val) % 256 by omega))

end Cert.RetK
end
-- ==== Proof.RetRefRun.lean ====
/-
  The reference retention's run as two sequences of arrays: `states x n`, the state before chunk `n`, and
  `outs x n`, the stacked outputs after `n` chunks. `chunkState` and `chunkOut` are one trip of the loop, as
  functions of what the trip reads.
-/
module

public import proofs.«01_k».proof.Proof.Gen.RetentionRefIdeal.Run
public import proofs.«01_k».proof.Proof.Gen.RetentionRefIdeal.Step
public import Idealize.ShloMosaic.Lib.Pointwise

@[expose] public section

set_option maxRecDepth 8192

noncomputable section

namespace Cert.RetRef

open Idealize.ShloMosaic Idealize.ShloMosaic.TcCoe Idealize.SL.Sem Idealize.ShloMosaic.StableHlo
open Cert.RetentionRefIdeal Cert.RetentionRefIdeal.Gen Cert.RetentionRefIdeal.Value Cert.RetentionRefIdeal.Step

/-- The chunk number as the loop's counter holds it. -/
abbrev Ctr := IVec S_ 32
abbrev Chunks := FVec Ideal S128x2x64x12x256 .f32
abbrev St := FVec Ideal S2x12x256x256 .f32

/-- Where chunk `n` starts in an array that leads with the chunks. -/
def start (n : Ctr) : Fin 5 → ℤ :=
  fun k => ((![n, constantI S_ 32 0#32, constantI S_ 32 0#32, constantI S_ 32 0#32, constantI S_ 32 0#32] : Fin 5 → Ctr)
    k (Shape.Idx.first h_S_)).toInt

/-- Chunk `n` of an array that leads with the chunks. -/
def chunk (x : Chunks) (n : Ctr) : FVec Ideal S2x64x12x256 .f32 :=
  shapeCast S2x64x12x256 (Host.dynamicSlice S1x2x64x12x256 x (start n) sliceFits_S128x2x64x12x256_S1x2x64x12x256)
    shapeCasts_S1x2x64x12x256_S2x64x12x256

/-- A per-row, per-head factor over a chunk. -/
def rowFactor (d : FVec Ideal S64x12x1 .f32) : FVec Ideal S2x64x12x256 .f32 :=
  broadcastInDim S2x64x12x256 ![0, 1, 2, 3] bcast_S1x64x12x1_S2x64x12x256_0_1_2_3
    (broadcastInDim S1x64x12x1 ![1, 2, 3] bcast_S64x12x1_S1x64x12x1_1_2_3 d)

/-- The state after chunk `n`: the old one decayed, and the chunk's decayed keys times its values. -/
def chunkState (n : Ctr) (k v : Chunks) (kd : FVec Ideal S64x12x1 .f32) (cd : FVec Ideal S1x12x1x1 .f32) (s : St) : St :=
  addf (mulf s (broadcastInDim S2x12x256x256 ![0, 1, 2, 3] bcast_S1x12x1x1_S2x12x256x256_0_1_2_3 cd))
    (Host.dotGeneral dot_S2x64x12x256_S2x64x12x256_S2x12x256x256_1_1_3_3_02_02 none
      (mulf (chunk k n) (rowFactor kd)) (chunk v n))

/-- Chunk `n`'s outputs: those of its own rows, and its decayed queries against the state. -/
def chunkRows (n : Ctr) (q o : Chunks) (qd : FVec Ideal S64x12x1 .f32) (s : St) : FVec Ideal S2x64x12x256 .f32 :=
  addf (chunk o n) (transpose S2x64x12x256 [0, 3, 1, 2]
    (Host.dotGeneral dot_S2x12x256x256_S2x64x12x256_S2x12x256x64_2_3_3_1_01_02 none s (mulf (chunk q n) (rowFactor qd)))
    transposes_S2x12x256x64_S2x64x12x256_0_3_1_2)

/-- The stacked outputs with chunk `n` filled in. -/
def chunkOut (n : Ctr) (q o : Chunks) (qd : FVec Ideal S64x12x1 .f32) (s : St) (acc : Chunks) : Chunks :=
  Host.dynamicUpdateSlice acc
    (broadcastInDim S1x2x64x12x256 ![1, 2, 3, 4] bcast_S2x64x12x256_S1x2x64x12x256_1_2_3_4 (chunkRows n q o qd s))
    (start n) updateFits_S128x2x64x12x256_S1x2x64x12x256

/-- The counter at chunk `n`. -/
def ctr (n : ℕ) : Ctr := constantI S_ 32 (BitVec.ofNat 32 n)

abbrev Proj := FVec Ideal S2x8192x13312 .bf16

/-- The state before chunk `n`. -/
def states (x : Proj) : ℕ → St
  | 0 => K_main_v126 (F := Ideal)
  | n + 1 => chunkState (ctr n) (A_main_v123 (F := Ideal) x) (A_main_v124 (F := Ideal) x) (K_main_v117 (F := Ideal))
      (K_main_v121 (F := Ideal)) (states x n)

/-- The stacked outputs after `n` chunks. -/
def outs (x : Proj) : ℕ → Chunks
  | 0 => K_main_v127 (F := Ideal)
  | n + 1 => chunkOut (ctr n) (A_main_v122 (F := Ideal) x) (A_main_v125 (F := Ideal) x) (K_main_v108 (F := Ideal))
      (states x n) (outs x n)

/-- What the loop's buffers hold before chunk `n`. -/
structure Before (V : Valuation τ sig (Elt Ideal)) (x : Proj) (n : ℕ) : Prop where
  st : V (Proc.devRef .tc main_v128_8) = states x n
  out : V (Proc.devRef .tc main_v128_9) = outs x n
  q : V (Proc.devRef .tc main_v128_0) = A_main_v122 (F := Ideal) x
  k : V (Proc.devRef .tc main_v128_1) = A_main_v123 (F := Ideal) x
  v : V (Proc.devRef .tc main_v128_2) = A_main_v124 (F := Ideal) x
  o : V (Proc.devRef .tc main_v128_3) = A_main_v125 (F := Ideal) x
  n : V (Proc.devRef .tc main_v128_7) = ctr n
  qd : V (Proc.devRef .tc main_v128_4) = K_main_v108 (F := Ideal)
  cd : V (Proc.devRef .tc main_v128_5) = K_main_v121 (F := Ideal)
  kd : V (Proc.devRef .tc main_v128_6) = K_main_v117 (F := Ideal)

theorem next_st (V : Valuation τ sig (Elt Ideal)) : step_main_v128_8 V = chunkState (V (Proc.devRef .tc main_v128_7))
    (V (Proc.devRef .tc main_v128_1)) (V (Proc.devRef .tc main_v128_2)) (V (Proc.devRef .tc main_v128_6))
    (V (Proc.devRef .tc main_v128_5)) (V (Proc.devRef .tc main_v128_8)) := rfl

theorem next_out (V : Valuation τ sig (Elt Ideal)) : step_main_v128_9 V = chunkOut (V (Proc.devRef .tc main_v128_7))
    (V (Proc.devRef .tc main_v128_0)) (V (Proc.devRef .tc main_v128_3)) (V (Proc.devRef .tc main_v128_4))
    (V (Proc.devRef .tc main_v128_8)) (V (Proc.devRef .tc main_v128_9)) := by
  unfold Value.step_main_v128_9 chunkOut
  refine Eq.trans (id_eq _) ?_
  congr 1

theorem next_ctr (n : ℕ) : addi (ctr n) (constantI S_ 32 1#32) = ctr (n + 1) := by
  funext i
  show BitVec.ofNat 32 n + 1#32 = BitVec.ofNat 32 (n + 1)
  simp only [BitVec.ofNat_add]

/-- One trip of the loop. -/
theorem Before.next {V : Valuation τ sig (Elt Ideal)} {x : Proj} {n : ℕ} (h : Before V x n) : Before (STEP V) x (n + 1) where
  st := (STEP_main_v128_8 V).trans ((next_st V).trans (by rw [h.n, h.k, h.v, h.kd, h.cd, h.st]; rfl))
  out := (STEP_main_v128_9 V).trans ((next_out V).trans (by rw [h.n, h.q, h.o, h.qd, h.st, h.out]; rfl))
  q := (STEP_main_v128_0 V).trans h.q
  k := (STEP_main_v128_1 V).trans h.k
  v := (STEP_main_v128_2 V).trans h.v
  o := (STEP_main_v128_3 V).trans h.o
  n := (STEP_main_v128_7 V).trans ((congrArg (fun y : Ctr => addi y (constantI S_ 32 1#32)) h.n).trans (next_ctr n))
  qd := (STEP_main_v128_4 V).trans h.qd
  cd := (STEP_main_v128_5 V).trans h.cd
  kd := (STEP_main_v128_6 V).trans h.kd

variable (m : (ℓ : Loc nD τ sig) → Buf (Elt Ideal) ℓ) (c : Dev nD)

/-- The projections the run starts from. -/
abbrev arg : Proj := m ((c.tc : Thread nD τ).loc main_arg0)

set_option maxRecDepth 65536 in
set_option maxHeartbeats 800000 in
/-- What the operations before the loop leave. -/
theorem before_zero : Before (entryContents preI m c) (arg m c) 0 := by
  constructor <;> (simp only [entryContents, afterL_cons, afterL_nil]; after_reads_simp) <;> rfl

theorem before : ∀ n, Before (STEP^[n] (entryContents preI m c)) (arg m c) n
  | 0 => before_zero m c
  | n + 1 => by rw [Function.iterate_succ_apply']; exact (before n).next

/-- The result, of the stacked outputs and the projections. -/
def result (x : Proj) : FVec Ideal S2x8192x3072 .bf16 :=
  R_main_v152 (F := Ideal) ⟨states x 128, outs x 128, A_main_v122 (F := Ideal) x, A_main_v123 (F := Ideal) x,
    A_main_v124 (F := Ideal) x, A_main_v125 (F := Ideal) x⟩ x

theorem out_eq {V : Valuation τ sig (Elt Ideal)} {x : Proj} (h : Before V x 128)
    (hx : V (Proc.devRef .tc main_arg0) = x) : out_main_v152 V = result x := by
  unfold out_main_v152 result R_main_v152
  rw [h.out, hx]
  rfl

/-- Every run ends with the result and leaves the projections. -/
theorem run_result (ρ : Dev nD → PrngReg) :
    θ_run (defs (F := Ideal)) (onTc (τ := τ) (main (F := Ideal))) ⟨m, fun _ => 0, ρ⟩ fun r => ∀ c : Dev nD,
      r.2.mem ((c.tc : Thread nD τ).loc main_v152) = result (arg m c)
      ∧ r.2.mem ((c.tc : Thread nD τ).loc main_arg0) = arg m c :=
  (θ_run defs _ _).mono (fun _ h c => ⟨(h c).1.trans (out_eq (before m c 128) (iter_main_arg0 m c 128)), (h c).2⟩)
    (Value.run m ρ)

end Cert.RetRef

end
-- ==== Proof.RetRefElem.lean ====
/-
  The reference retention at an index: one trip of its loop, and what the loop starts from, as sums over the chunk.
-/
module

public import proofs.«01_k».proof.Proof.RetRefRun
public import proofs.«01_k».proof.Proof.RetTab

@[expose] public section

set_option maxRecDepth 16384

noncomputable section

namespace Cert.RetRef

open Finset Idealize.ShloMosaic Idealize.ShloMosaic.TcCoe Idealize.SL.Sem
open Cert.RetentionRefIdeal Cert.RetentionRefIdeal.Gen Cert.RetentionRefIdeal.Value Cert.RetentionRefIdeal.Step Cert.Ret

theorem start_eq {n : ℕ} (hn : n < 128) : start (ctr n) = ![(n : ℤ), 0, 0, 0, 0] := by
  have e : (BitVec.ofNat 32 n).toInt = (n : ℤ) := by
    rw [BitVec.toInt_ofNat', Int.bmod_eq_of_le (by omega) (by omega)]
  funext k
  fin_cases k
  · exact e
  all_goals rfl

theorem chunk_at (x : Chunks) {n : ℕ} (hn : n < 128) (b : Fin 2) (i : Fin 64) (h : Fin 12) (d : Fin 256) :
    chunk x (ctr n) (ix4 b i h d) = x (ix5 ⟨n, hn⟩ b i h d) := by
  unfold chunk
  rw [start_eq hn]
  pointwise
  refine congrArg x (funext fun a => ?_)
  fin_cases a
  · refine Fin.ext ?_
    show (min (max (n : ℤ) 0) ((128 - 1 : ℕ) : ℤ)).toNat = n
    omega
  · exact Fin.ext (Nat.zero_add _)
  · exact Fin.ext (Nat.zero_add _)
  · exact Fin.ext (Nat.zero_add _)
  · exact Fin.ext (Nat.zero_add _)

theorem chunkOut_at {n : ℕ} (hn : n < 128) (q o : Chunks) (qd : FVec Ideal S64x12x1 .f32) (s : St) (acc : Chunks)
    (j : Fin 128) (b : Fin 2) (i : Fin 64) (h : Fin 12) (e : Fin 256) : chunkOut (ctr n) q o qd s acc (ix5 j b i h e)
      = if j.val = n then chunkRows (ctr n) q o qd s (ix4 b i h e) else acc (ix5 j b i h e) := by
  unfold chunkOut
  rw [start_eq hn]
  generalize chunkRows (ctr n) q o qd s = R
  have e0 : Host.clampedStart S128x2x64x12x256 S1x2x64x12x256 updateFits_S128x2x64x12x256_S1x2x64x12x256.1 ![(n : ℤ), 0, 0, 0, 0] 0 = n := by
    show (min (max (n : ℤ) 0) ((128 - 1 : ℕ) : ℤ)).toNat = n
    omega
  pointwise
  by_cases hj : j.val = n
  · rw [dif_pos, if_pos hj]
    · rfl
    · exact ⟨⟨by omega, by omega⟩, Nat.zero_le _, Nat.zero_le _, Nat.zero_le _, Nat.zero_le _⟩
  · rw [dif_neg, if_neg hj]
    rintro ⟨⟨h1, h2⟩, -⟩
    omega

theorem chunkState_at (n : Ctr) (k v : Chunks) (kd : FVec Ideal S64x12x1 .f32) (cd : FVec Ideal S1x12x1x1 .f32) (s : St)
    (b : Fin 2) (h : Fin 12) (d e : Fin 256) : chunkState n k v kd cd s (ix4 b h d e) = s (ix4 b h d e) * cd (ix4 0 h 0 0)
      + ∑ i : Fin 64, chunk k n (ix4 b i h d) * kd (ix3 i h 0) * chunk v n (ix4 b i h e) := by
  unfold chunkState rowFactor
  generalize chunk k n = k
  generalize chunk v n = v
  pointwise

theorem chunkRows_at (n : Ctr) (q o : Chunks) (qd : FVec Ideal S64x12x1 .f32) (s : St)
    (b : Fin 2) (i : Fin 64) (h : Fin 12) (e : Fin 256) : chunkRows n q o qd s (ix4 b i h e) = chunk o n (ix4 b i h e)
      + ∑ d : Fin 256, s (ix4 b h d e) * (chunk q n (ix4 b i h d) * qd (ix3 i h 0)) := by
  unfold chunkRows rowFactor
  generalize chunk q n = q
  generalize chunk o n = o
  pointwise

theorem state0 (b : Fin 2) (h : Fin 12) (d e : Fin 256) : K_main_v126 (F := Ideal) (ix4 b h d e) = (0 : EReal) := by
  unfold K_main_v126 K_main_cst_10
  pointwise

theorem cos_at (i : Fin 8192) (j : Fin 128) : K_main_v20 (F := Ideal) (ix2 i j) = ((turnC i.val j.val : ℝ) : EReal) := by
  unfold K_main_v20 K_main_v19 K_main_v18 K_main_v17 K_main_v16 K_main_v15 K_main_v14 K_main_v13 K_main_v12 K_main_cst_0
    K_main_v11 K_main_v10 K_main_cst K_main_v9 K_main_v8 K_main_v0
  pointwise
  rw [angle_eq i.isLt j.isLt]
  rfl

theorem sin_at (i : Fin 8192) (j : Fin 128) : K_main_v22 (F := Ideal) (ix2 i j) = ((turnS i.val j.val : ℝ) : EReal) := by
  unfold K_main_v22 K_main_v19 K_main_v18 K_main_v17 K_main_v16 K_main_v15 K_main_v14 K_main_v13 K_main_v12 K_main_cst_0
    K_main_v11 K_main_v10 K_main_cst K_main_v9 K_main_v8 K_main_v0
  pointwise
  rw [angle_eq i.isLt j.isLt]
  rfl

theorem decay_at (h : Fin 12) : K_main_v77 (F := Ideal) (ix1 h) = ((decay h.val : ℝ) : EReal) := by
  unfold K_main_v77 K_main_v76 K_main_v75 K_main_cst_6 K_main_v74 K_main_v73 K_main_cst_5 K_main_v72 K_main_v71
    K_main_cst_4 K_main_v70
  pointwise
  rw [decay_eq h.isLt]

theorem qd_at (i : Fin 64) (h : Fin 12) : K_main_v108 (F := Ideal) (ix3 i h 0)
    = ((Real.exp (((i.val : ℝ) + 1) * decay h.val) : ℝ) : EReal) := by
  unfold K_main_v108 K_main_v107 K_main_v106 K_main_v105 K_main_v104 K_main_v103 K_main_v102 K_main_v101 K_main_cst_7
    K_main_v100 K_main_v81
  have hd := decay_at h
  generalize K_main_v77 (F := Ideal) = D at hd
  pointwise
  rw [hd, word_real (by omega), ← EReal.coe_one, ← EReal.coe_add, ← EReal.coe_mul]
  rfl

theorem kd_at (i : Fin 64) (h : Fin 12) : K_main_v117 (F := Ideal) (ix3 i h 0)
    = ((Real.exp (((64 : ℕ) - 1 - i.val : ℝ) * decay h.val) : ℝ) : EReal) := by
  unfold K_main_v117 K_main_v116 K_main_v115 K_main_v114 K_main_v113 K_main_v112 K_main_v111 K_main_v110 K_main_cst_8
    K_main_v109 K_main_v81
  have hd := decay_at h
  generalize K_main_v77 (F := Ideal) = D at hd
  pointwise
  rw [hd, word_real (by omega), sixty3, ← EReal.coe_sub, ← EReal.coe_mul,
    show (((64 : ℕ) : ℝ) - 1 - i.val) = 63 - i.val by norm_num]
  rfl

theorem cd_at (h : Fin 12) : K_main_v121 (F := Ideal) (ix4 0 h 0 0) = ((Real.exp ((64 : ℕ) * decay h.val) : ℝ) : EReal) := by
  unfold K_main_v121 K_main_v120 K_main_v119 K_main_v118 K_main_cst_9
  have hd := decay_at h
  generalize K_main_v77 (F := Ideal) = D at hd
  pointwise
  rw [hd, sixty4, ← EReal.coe_mul]
  rfl

theorem near_at (h : Fin 12) (i j : Fin 64) : K_main_v93 (F := Ideal) (ix3 h i j)
    = ((Real.exp (decay h.val * |(i.val : ℝ) - j.val|) : ℝ) : EReal) := by
  unfold K_main_v93 K_main_v92 K_main_v91 K_main_v90 K_main_v89 K_main_v88 K_main_v87 K_main_v86 K_main_v85 K_main_v84
    K_main_v83 K_main_v82 K_main_v81
  have hd := decay_at h
  generalize K_main_v77 (F := Ideal) = D at hd
  pointwise
  have e : (FloatOps.absf (F := Ideal) (φ := .f32) (((i.val : ℝ) - j.val : ℝ) : EReal)) = ((|(i.val : ℝ) - j.val| : ℝ) : EReal) := by
    show max _ _ = _
    rw [← EReal.coe_neg, ← EReal.coe_strictMono.monotone.map_max]
    rfl
  rw [hd, word_real (by omega), word_real (by omega), ← EReal.coe_sub, e, ← EReal.coe_mul]
  rfl

/-- A row of chunks is read at the row's number. -/
theorem reshape_at (y : FVec Ideal S2x8192x12x256 .f32) (b : Fin 2) (j : Fin 128) (i : Fin 64) (h : Fin 12) (d : Fin 256) :
    shapeCast S2x128x64x12x256 y shapeCasts_S2x8192x12x256_S2x128x64x12x256 (ix5 b j i h d)
      = y (ix4 b ⟨j.val * 64 + i.val, by omega⟩ h d) := by
  pointwise

theorem flip_at (y : FVec Ideal S2x128x64x12x256 .f32) (j : Fin 128) (b : Fin 2) (i : Fin 64) (h : Fin 12) (d : Fin 256) :
    transpose S128x2x64x12x256 [1, 0, 2, 3, 4] y transposes_S2x128x64x12x256_S128x2x64x12x256_1_0_2_3_4 (ix5 j b i h d)
      = y (ix5 b j i h d) := by
  pointwise

/-- A part's heads. -/
theorem heads_at (y : FVec Ideal S2x8192x3072 .f32) (b : Fin 2) (p : Fin 8192) (h : Fin 12) (d : Fin 256) :
    shapeCast S2x8192x12x256 y shapeCasts_S2x8192x3072_S2x8192x12x256 (ix4 b p h d)
      = y (ix3 b p ⟨h.val * 256 + d.val, by omega⟩) := by
  pointwise

/-- The rotary embedding, as the reference writes it. -/
def turn (y : FVec Ideal S2x8192x12x256 .f32) (C S : FVec Ideal S8192x128 .f32) : FVec Ideal S2x8192x12x256 .f32 :=
  concatenate S2x8192x12x256 3 [⟨S2x8192x12x128, subf
      (mulf (extractStridedSlice S2x8192x12x128 ![0, 0, 0, 0] y slices_S2x8192x12x256_S2x8192x12x128_0_0_0_0)
        (broadcastInDim S2x8192x12x128 ![0, 1, 2, 3] bcast_S1x8192x1x128_S2x8192x12x128_0_1_2_3 (broadcastInDim S1x8192x1x128 ![1, 3] bcast_S8192x128_S1x8192x1x128_1_3 C)))
      (mulf (extractStridedSlice S2x8192x12x128 ![0, 0, 0, 128] y slices_S2x8192x12x256_S2x8192x12x128_0_0_0_128)
        (broadcastInDim S2x8192x12x128 ![0, 1, 2, 3] bcast_S1x8192x1x128_S2x8192x12x128_0_1_2_3 (broadcastInDim S1x8192x1x128 ![1, 3] bcast_S8192x128_S1x8192x1x128_1_3 S)))⟩,
    ⟨S2x8192x12x128, addf
      (mulf (extractStridedSlice S2x8192x12x128 ![0, 0, 0, 128] y slices_S2x8192x12x256_S2x8192x12x128_0_0_0_128)
        (broadcastInDim S2x8192x12x128 ![0, 1, 2, 3] bcast_S1x8192x1x128_S2x8192x12x128_0_1_2_3 (broadcastInDim S1x8192x1x128 ![1, 3] bcast_S8192x128_S1x8192x1x128_1_3 C)))
      (mulf (extractStridedSlice S2x8192x12x128 ![0, 0, 0, 0] y slices_S2x8192x12x256_S2x8192x12x128_0_0_0_0)
        (broadcastInDim S2x8192x12x128 ![0, 1, 2, 3] bcast_S1x8192x1x128_S2x8192x12x128_0_1_2_3 (broadcastInDim S1x8192x1x128 ![1, 3] bcast_S8192x128_S1x8192x1x128_1_3 S)))⟩]
    concatenates_S2x8192x12x128_S2x8192x12x128_S2x8192x12x256_d3

theorem turn_at (y : FVec Ideal S2x8192x12x256 .f32) (C S : FVec Ideal S8192x128 .f32) (f c s : ℕ → ℕ → ℝ) (b : Fin 2)
    (p : Fin 8192) (h : Fin 12) (hy : ∀ d : Fin 256, y (ix4 b p h d) = (f p.val d.val : EReal))
    (hc : ∀ j : Fin 128, C (ix2 p j) = (c p.val j.val : EReal)) (hs : ∀ j : Fin 128, S (ix2 p j) = (s p.val j.val : EReal))
    (d : Fin 256) : turn y C S (ix4 b p h d) = ((rot c s f p.val d.val : ℝ) : EReal) := by
  unfold turn
  pointwise
  rw [rot]
  by_cases hd : d.val < 128
  · rw [dif_pos hd, if_pos hd]
    simp only [hy, hc, hs, ← EReal.coe_mul, ← EReal.coe_sub]
  · rw [dif_neg hd, if_neg hd]
    simp only [hy, hc, hs, ← EReal.coe_mul, ← EReal.coe_add, show 128 + (d.val - 128) = d.val by omega]

/-- The rows' sums within their own chunk, as the reference writes them. -/
def within (q k v : FVec Ideal S2x128x64x12x256 .f32) (W : FVec Ideal S12x64x64 .f32) : FVec Ideal S2x128x64x12x256 .f32 :=
  transpose S2x128x64x12x256 [0, 1, 4, 2, 3]
    (Host.dotGeneral dot_S2x128x64x12x256_S2x128x12x64x64_S2x128x12x256x64_2_4_4_3_013_012 none v
      (mulf (Host.dotGeneral dot_S2x128x64x12x256_S2x128x64x12x256_S2x128x12x64x64_4_4_2_2_013_013 none q k)
        (broadcastInDim S2x128x12x64x64 ![0, 1, 2, 3, 4] bcast_S1x1x12x64x64_S2x128x12x64x64_0_1_2_3_4
          (broadcastInDim S1x1x12x64x64 ![2, 3, 4] bcast_S12x64x64_S1x1x12x64x64_2_3_4 W))))
    transposes_S2x128x12x256x64_S2x128x64x12x256_0_1_4_2_3

theorem within_at (q k v : FVec Ideal S2x128x64x12x256 .f32) (W : FVec Ideal S12x64x64 .f32) (b : Fin 2) (n : Fin 128)
    (i : Fin 64) (h : Fin 12) (e : Fin 256) : within q k v W (ix5 b n i h e) = ∑ j : Fin 64, v (ix5 b n j h e)
      * ((∑ d : Fin 256, q (ix5 b n i h d) * k (ix5 b n j h d)) * W (ix3 h i j)) := by
  unfold within
  pointwise

/-- The head normalisation, as the reference writes it. -/
def centred (y : FVec Ideal S2x8192x12x256 .f32) : FVec Ideal S2x8192x12x256 .f32 :=
  subf y (broadcastInDim S2x8192x12x256 ![0, 1, 2, 3] bcast_S2x8192x12x1_S2x8192x12x256_0_1_2_3
    (Host.divf (broadcastInDim S2x8192x12x1 ![0, 1, 2] bcast_S2x8192x12_S2x8192x12x1_0_1_2
        (Host.reduceAdd y (constant S_ .f32 0x00000000#32) reducesTo_S2x8192x12x256_S2x8192x12_d3 h_S_))
      (broadcastInDim S2x8192x12x1 ![] bcast_S_S2x8192x12x1 (constant S_ .f32 0x43800000#32))))

/-- See `centred`. -/
def normed (y : FVec Ideal S2x8192x12x256 .f32) : FVec Ideal S2x8192x12x256 .f32 :=
  mulf (centred y) (broadcastInDim S2x8192x12x256 ![0, 1, 2, 3] bcast_S2x8192x12x1_S2x8192x12x256_0_1_2_3
    (Host.rsqrt (addf (Host.divf (broadcastInDim S2x8192x12x1 ![0, 1, 2] bcast_S2x8192x12_S2x8192x12x1_0_1_2
        (Host.reduceAdd (mulf (centred y) (centred y)) (constant S_ .f32 0x00000000#32) reducesTo_S2x8192x12x256_S2x8192x12_d3 h_S_))
      (broadcastInDim S2x8192x12x1 ![] bcast_S_S2x8192x12x1 (constant S_ .f32 0x43800000#32)))
      (broadcastInDim S2x8192x12x1 ![] bcast_S_S2x8192x12x1 (constant S_ .f32 0x358637BD#32)))))

theorem centred_at (y : FVec Ideal S2x8192x12x256 .f32) (b : Fin 2) (p : Fin 8192) (h : Fin 12) (e : Fin 256) :
    centred y (ix4 b p h e) = cen (fun e => y (ix4 b p h e)) e := by
  unfold centred cen
  pointwise

theorem normed_at (y : FVec Ideal S2x8192x12x256 .f32) (b : Fin 2) (p : Fin 8192) (h : Fin 12) (e : Fin 256) :
    normed y (ix4 b p h e) = cen (fun e => y (ix4 b p h e)) e * Ideal.rsqrt
      (Ideal.div (∑ d, cen (fun e => y (ix4 b p h e)) d * cen (fun e => y (ix4 b p h e)) d) (Ideal.ofBits .f32 0x43800000#32)
        + Ideal.ofBits .f32 0x358637BD#32) := by
  unfold normed
  simp only [← centred_at]
  generalize centred y = z
  pointwise

/-- The gate, as the reference writes it. -/
def gated (y : FVec Ideal S2x8192x12x256 .f32) (x : Proj) : FVec Ideal S2x8192x3072 .bf16 :=
  truncf .bf16 (mulf (mulf (extf .f32 (extractStridedSlice S2x8192x3072 ![0, 0, 9216] x slices_S2x8192x13312_S2x8192x3072_0_0_9216) bitsLt_bf16_f32)
    (Host.divf (broadcastInDim S2x8192x3072 ![] bcast_S_S2x8192x3072 (constant S_ .f32 0x3F800000#32))
      (addf (broadcastInDim S2x8192x3072 ![] bcast_S_S2x8192x3072 (constant S_ .f32 0x3F800000#32))
        (Host.exp (Host.negf (extf .f32 (extractStridedSlice S2x8192x3072 ![0, 0, 9216] x slices_S2x8192x13312_S2x8192x3072_0_0_9216) bitsLt_bf16_f32))))))
    (shapeCast S2x8192x3072 y shapeCasts_S2x8192x12x256_S2x8192x3072)) bitsLt_bf16_f32

theorem gated_at (y : FVec Ideal S2x8192x12x256 .f32) (x : Proj) (b : Fin 2) (p : Fin 8192) (e : Fin 3072) :
    gated y x (ix3 b p e) = x (ix3 b p ⟨9216 + e.val, by omega⟩) * Ideal.logistic (x (ix3 b p ⟨9216 + e.val, by omega⟩))
      * y (ix4 b p ⟨e.val / 256, by omega⟩ ⟨e.val % 256, Nat.mod_lt _ (by decide)⟩) := by
  unfold gated
  pointwise
  rfl

/-- The rows of the stacked outputs. -/
def unchunk (o : Chunks) : FVec Ideal S2x8192x12x256 .f32 :=
  shapeCast S2x8192x12x256 (transpose S2x128x64x12x256 [1, 0, 2, 3, 4] o transposes_S128x2x64x12x256_S2x128x64x12x256_1_0_2_3_4)
    shapeCasts_S2x128x64x12x256_S2x8192x12x256

theorem unchunk_at (o : Chunks) (b : Fin 2) (p : Fin 8192) (h : Fin 12) (e : Fin 256) : unchunk o (ix4 b p h e)
    = o (ix5 ⟨p.val / 64, by omega⟩ b ⟨p.val % 64, Nat.mod_lt _ (by decide)⟩ h e) := by
  unfold unchunk
  pointwise

theorem result_eq (x : Proj) : result x = gated (normed (unchunk (outs x 128))) x := rfl

end Cert.RetRef
-- ==== Proof.RetRefValue.lean ====
/-
  The reference retention's result, read at an index: the normalised and gated row of the 64-row recurrence.
-/
module

public import proofs.«01_k».proof.Proof.RetRefElem

@[expose] public section

set_option maxRecDepth 16384

noncomputable section

namespace Cert.RetRef

open Finset Idealize.ShloMosaic Idealize.ShloMosaic.TcCoe Idealize.SL.Sem
open Cert.RetentionRefIdeal Cert.RetentionRefIdeal.Gen Cert.RetentionRefIdeal.Value Cert.RetentionRefIdeal.Step Cert.Ret

section Sources

variable (x : Proj) (b : Fin 2) (p : Fin 8192) (h : Fin 12) (d : Fin 256)

theorem src_q : A_main_v7 (F := Ideal) x (ix4 b p h d) = entry x b.val p.val (0 + 256 * h.val + d.val) := by
  refine (heads_at _ b p h d).trans ?_
  refine Eq.trans ?_ (entry_eq x b.isLt p.isLt (show 0 + 256 * h.val + d.val < 13312 by omega))
  refine congrArg x (funext fun a => ?_)
  fin_cases a
  · exact Fin.ext (Nat.zero_add _)
  · exact Fin.ext (Nat.zero_add _)
  · exact Fin.ext (show 0 + (h.val * 256 + d.val) = 0 + 256 * h.val + d.val by omega)

theorem src_k : A_main_v37 (F := Ideal) x (ix4 b p h d) = entry x b.val p.val (3072 + 256 * h.val + d.val) := by
  refine (heads_at _ b p h d).trans ?_
  refine Eq.trans ?_ (entry_eq x b.isLt p.isLt (show 3072 + 256 * h.val + d.val < 13312 by omega))
  refine congrArg x (funext fun a => ?_)
  fin_cases a
  · exact Fin.ext (Nat.zero_add _)
  · exact Fin.ext (Nat.zero_add _)
  · exact Fin.ext (show 3072 + (h.val * 256 + d.val) = 3072 + 256 * h.val + d.val by omega)

theorem src_v : A_main_v69 (F := Ideal) x (ix4 b p h d) = entry x b.val p.val (6144 + 256 * h.val + d.val) := by
  refine (heads_at _ b p h d).trans ?_
  refine Eq.trans ?_ (entry_eq x b.isLt p.isLt (show 6144 + 256 * h.val + d.val < 13312 by omega))
  refine congrArg x (funext fun a => ?_)
  fin_cases a
  · exact Fin.ext (Nat.zero_add _)
  · exact Fin.ext (Nat.zero_add _)
  · exact Fin.ext (show 6144 + (h.val * 256 + d.val) = 6144 + 256 * h.val + d.val by omega)

variable {x} (hx : Reals x)
include hx

theorem q_real : A_main_v36 (F := Ideal) x (ix4 b p h d) = ((headQ x b.val h.val p.val d.val : ℝ) : EReal) :=
  turn_at (A_main_v7 (F := Ideal) x) (K_main_v20 (F := Ideal)) (K_main_v22 (F := Ideal)) (part x 0 b.val h.val) turnC turnS
    b p h (fun d => (src_q x b p h d).trans (part_eq hx (by omega))) (cos_at p) (sin_at p) d

theorem k_real : A_main_v68 (F := Ideal) x (ix4 b p h d) = ((headK x b.val h.val p.val d.val : ℝ) : EReal) := by
  have e := turn_at (A_main_v37 (F := Ideal) x) (K_main_v50 (F := Ideal)) (K_main_v52 (F := Ideal)) (part x 3072 b.val h.val)
    turnC turnS b p h (fun d => (src_k x b p h d).trans (part_eq hx (by omega))) (cos_at p) (sin_at p) d
  show A_main_v66 (F := Ideal) x (ix4 b p h d) * Ideal.ofBits .f32 0x3D800000#32 = _
  rw [sixteenth, show A_main_v66 (F := Ideal) x (ix4 b p h d) = _ from e, ← EReal.coe_mul]
  rfl

theorem v_real : A_main_v69 (F := Ideal) x (ix4 b p h d) = ((headV x b.val h.val p.val d.val : ℝ) : EReal) :=
  (src_v x b p h d).trans (part_eq hx (by omega))

end Sources

section Chunked

variable {x : Proj} (hx : Reals x) {n : ℕ} (hn : n < 128) (b : Fin 2) (i : Fin 64) (h : Fin 12) (d : Fin 256)
include hx hn

theorem chunk_q : chunk (A_main_v122 (F := Ideal) x) (ctr n) (ix4 b i h d)
    = ((headQ x b.val h.val (64 * n + i.val) d.val : ℝ) : EReal) := by
  refine (chunk_at _ hn b i h d).trans ((flip_at _ ⟨n, hn⟩ b i h d).trans ((reshape_at _ b ⟨n, hn⟩ i h d).trans
    ((q_real b _ h d hx).trans ?_)))
  simp only [Nat.mul_comm n 64]

theorem chunk_k : chunk (A_main_v123 (F := Ideal) x) (ctr n) (ix4 b i h d)
    = ((headK x b.val h.val (64 * n + i.val) d.val : ℝ) : EReal) := by
  refine (chunk_at _ hn b i h d).trans ((flip_at _ ⟨n, hn⟩ b i h d).trans ((reshape_at _ b ⟨n, hn⟩ i h d).trans
    ((k_real b _ h d hx).trans ?_)))
  simp only [Nat.mul_comm n 64]

theorem chunk_v : chunk (A_main_v124 (F := Ideal) x) (ctr n) (ix4 b i h d)
    = ((headV x b.val h.val (64 * n + i.val) d.val : ℝ) : EReal) := by
  refine (chunk_at _ hn b i h d).trans ((flip_at _ ⟨n, hn⟩ b i h d).trans ((reshape_at _ b ⟨n, hn⟩ i h d).trans
    ((v_real b _ h d hx).trans ?_)))
  simp only [Nat.mul_comm n 64]

/-- A chunk's rows against their own chunk. -/
theorem chunk_o (e : Fin 256) : chunk (A_main_v125 (F := Ideal) x) (ctr n) (ix4 b i h e)
    = ((∑ j ∈ range 64, score (headQ x b.val h.val) (headK x b.val h.val) (64 * n + i.val) (64 * n + j)
        * Real.exp (decay h.val * |(i.val : ℝ) - j|) * headV x b.val h.val (64 * n + j) e.val : ℝ) : EReal) := by
  refine (chunk_at _ hn b i h e).trans ((flip_at _ ⟨n, hn⟩ b i h e).trans ?_)
  refine (within_at (A_main_v78 (F := Ideal) x) (A_main_v79 (F := Ideal) x) (A_main_v80 (F := Ideal) x)
    (K_main_v93 (F := Ideal)) b ⟨n, hn⟩ i h e).trans ?_
  have hq : ∀ (i : Fin 64) (d : Fin 256), A_main_v78 (F := Ideal) x (ix5 b ⟨n, hn⟩ i h d)
      = ((headQ x b.val h.val (64 * n + i.val) d.val : ℝ) : EReal) := fun i d => by
    refine (reshape_at _ b ⟨n, hn⟩ i h d).trans ((q_real b _ h d hx).trans ?_)
    simp only [Nat.mul_comm n 64]
  have hk : ∀ (i : Fin 64) (d : Fin 256), A_main_v79 (F := Ideal) x (ix5 b ⟨n, hn⟩ i h d)
      = ((headK x b.val h.val (64 * n + i.val) d.val : ℝ) : EReal) := fun i d => by
    refine (reshape_at _ b ⟨n, hn⟩ i h d).trans ((k_real b _ h d hx).trans ?_)
    simp only [Nat.mul_comm n 64]
  have hv : ∀ (i : Fin 64) (d : Fin 256), A_main_v80 (F := Ideal) x (ix5 b ⟨n, hn⟩ i h d)
      = ((headV x b.val h.val (64 * n + i.val) d.val : ℝ) : EReal) := fun i d => by
    refine (reshape_at _ b ⟨n, hn⟩ i h d).trans ((v_real b _ h d hx).trans ?_)
    simp only [Nat.mul_comm n 64]
  rw [sum_range, coe_sum]
  refine sum_congr rfl fun j _ => ?_
  rw [hv, near_at]
  simp only [hq, hk, ← EReal.coe_mul]
  rw [← coe_sum, ← EReal.coe_mul, ← EReal.coe_mul, mul_comm, score, sum_range]

end Chunked

section Loop

variable {x : Proj} (hx : Reals x)
include hx

/-- The state before each chunk. -/
theorem states_real (b : Fin 2) (h : Fin 12) (d e : Fin 256) : ∀ n ≤ 128, states x n (ix4 b h d e)
    = ((state (decay h.val) (headK x b.val h.val) (headV x b.val h.val) 64 n d.val e.val : ℝ) : EReal)
  | 0, _ => state0 b h d e
  | n + 1, hn => by
    have ih := states_real b h d e n (by omega)
    unfold states
    rw [chunkState_at, ih, cd_at, state, EReal.coe_add, EReal.coe_mul, sum_range, coe_sum]
    congr 1
    refine sum_congr rfl fun i _ => ?_
    rw [chunk_k hx (show n < 128 by omega), chunk_v hx (show n < 128 by omega), kd_at, ← EReal.coe_mul, ← EReal.coe_mul]

/-- The rows of each chunk. -/
theorem rows_real {n : ℕ} (hn : n < 128) (b : Fin 2) (i : Fin 64) (h : Fin 12) (e : Fin 256) :
    chunkRows (ctr n) (A_main_v122 (F := Ideal) x) (A_main_v125 (F := Ideal) x) (K_main_v108 (F := Ideal)) (states x n)
      (ix4 b i h e) = ((outSmall (decay h.val) (headQ x b.val h.val) (headK x b.val h.val) (headV x b.val h.val)
        n i.val e.val : ℝ) : EReal) := by
  rw [chunkRows_at, chunk_o hx hn, outSmall, EReal.coe_add]
  congr 1
  rw [sum_range, coe_sum]
  refine sum_congr rfl fun d _ => ?_
  rw [states_real hx b h d e n (by omega), chunk_q hx hn, qd_at, ← EReal.coe_mul, ← EReal.coe_mul, mul_comm]

/-- The stacked rows after each chunk. -/
theorem outs_real (j : Fin 128) (b : Fin 2) (i : Fin 64) (h : Fin 12) (e : Fin 256) : ∀ n ≤ 128, j.val < n →
    outs x n (ix5 j b i h e) = ((outSmall (decay h.val) (headQ x b.val h.val) (headK x b.val h.val) (headV x b.val h.val)
        j.val i.val e.val : ℝ) : EReal)
  | 0, _, hj => absurd hj (Nat.not_lt_zero _)
  | n + 1, hn, hj => by
    unfold outs
    rw [chunkOut_at (by omega)]
    by_cases e' : j.val = n
    · rw [if_pos e', rows_real hx (by omega), e']
    · rw [if_neg e']
      exact outs_real j b i h e n (by omega) (by omega)

theorem result_at (b : Fin 2) (p : Fin 8192) (e : Fin 3072) : result x (ix3 b p e)
    = normGate (fun d : Fin 256 => ((outSmall (decay (e.val / 256)) (headQ x b.val (e.val / 256)) (headK x b.val (e.val / 256))
        (headV x b.val (e.val / 256)) (p.val / 64) (p.val % 64) d.val : ℝ) : EReal))
      (entry x b.val p.val (9216 + e.val)) ⟨e.val % 256, Nat.mod_lt _ (by decide)⟩ := by
  rw [result_eq, gated_at, normed_at, normGate]
  have ho : ∀ d : Fin 256, unchunk (outs x 128) (ix4 b p ⟨e.val / 256, by omega⟩ d)
      = ((outSmall (decay (e.val / 256)) (headQ x b.val (e.val / 256)) (headK x b.val (e.val / 256))
        (headV x b.val (e.val / 256)) (p.val / 64) (p.val % 64) d.val : ℝ) : EReal) := fun d =>
    (unchunk_at _ b p _ d).trans (outs_real hx _ b _ _ d 128 le_rfl (by show p.val / 64 < 128; omega))
  simp only [ho]
  rw [show x (ix3 b p ⟨9216 + e.val, by omega⟩) = entry x b.val p.val (9216 + e.val) from
    entry_eq x b.isLt p.isLt (by omega)]

end Loop

end Cert.RetRef
end
-- ==== Proof.RetAgree.lean ====
/-
  The retention's claims: the reference's result is the kernel's array, what the precondition says of the
  projections, the reference's frame and the two runs side by side.
-/
module

public import proofs.«01_k».proof.Defs
public import proofs.«01_k».proof.Proof.Gen.Retention
public import proofs.«01_k».proof.Proof.Gen.RetentionIdeal
public import proofs.«01_k».proof.Proof.Gen.RetentionRefIdeal
public import proofs.«01_k».proof.Proof.Gen.Pre_finite
public import proofs.«01_k».proof.Proof.RetState
public import proofs.«01_k».proof.Proof.RetRefValue
public import Idealize.ShloMosaic.Lib.Claim

@[expose] public section

set_option maxRecDepth 16384

noncomputable section

namespace Cert.RetClaims

open Idealize.ShloMosaic Idealize.ShloMosaic.TcCoe Idealize.SL.Sem Cert.Ret

/-- From real queries, keys and values both programs end with the same array. -/
theorem result_out (x : FVec Ideal ProjShape .bf16) (hx : Reals x) : Cert.RetRef.result x = Cert.RetK.out x := by
  funext i
  have h2 : (i 2).val < 3072 := (i 2).isLt
  have ei : i = ix3 (i 0) (i 1) (i 2) := by
    funext a
    fin_cases a <;> rfl
  rw [ei]
  refine (Cert.RetRef.result_at hx (i 0) (i 1) (i 2)).trans ?_
  show _ = Cert.RetK.final x (i 0).val ((i 2).val / 256) (i 1).val ⟨(i 2).val % 256, Nat.mod_lt _ (by decide)⟩
  unfold Cert.RetK.final
  simp only
  rw [show 9216 + 256 * ((i 2).val / 256) + (i 2).val % 256 = 9216 + (i 2).val by omega]
  congr 1
  funext d
  have e := out_agree (decay ((i 2).val / 256)) (headQ x (i 0).val ((i 2).val / 256)) (headK x (i 0).val ((i 2).val / 256))
    (headV x (i 0).val ((i 2).val / 256)) ((i 1).val / 256) ((i 1).val / 64 % 4) ((i 1).val % 64) d.val
    (Nat.mod_lt _ (by decide)) (Nat.mod_lt _ (by decide))
  rw [show 64 * ((i 1).val / 64 % 4) + (i 1).val % 64 = (i 1).val % 256 by omega,
    show 4 * ((i 1).val / 256) + (i 1).val / 64 % 4 = (i 1).val / 64 by omega] at e
  rw [e]

/-- An extended real whose absolute value is below the infinity is a real number. -/
theorem real_of_abs_lt {y : EReal} (h : max y (-y) < ⊤) : ∃ r : ℝ, y = (r : EReal) := by
  induction y using EReal.rec with
  | bot => exact absurd h (by simp)
  | top => exact absurd h (by simp)
  | coe r => exact ⟨r, rfl⟩

theorem inf_lit : Ideal.ofBits .f32 0x7F800000#32 = (⊤ : EReal) := by
  simp [Ideal.ofBits, Ideal.ieee]

/-- What the precondition says. -/
theorem reals_of_pre [Cert.Pre_finite.Facts] (x : FVec Ideal ProjShape .bf16)
    (h : Cert.Pre_finite.fn (F := Ideal) x = fun _ => 1#1) : Reals x := by
  intro b p j hj
  have e := congrFun h (ix3 ⟨b % 2, Nat.mod_lt _ (by decide)⟩ ⟨p % 8192, Nat.mod_lt _ (by decide)⟩ ⟨j, hj⟩)
  have e1 : Ideal.cmp .olt (max (entry x b p j) (-entry x b p j)) (Ideal.ofBits .f32 0x7F800000#32) = 1#1 := by
    refine Eq.trans ?_ e
    unfold Cert.Pre_finite.fn entry
    pointwise
    simp only [Nat.mod_eq_of_lt (show j < 13312 by omega)]
    rfl
  rw [inf_lit] at e1
  refine real_of_abs_lt ?_
  by_contra hn
  rw [Ideal.cmp] at e1
  simp only [decide_eq_false hn] at e1
  exact absurd e1 (by decide)

theorem frame_ref : Cert.quiescent_RetentionRefIdeal (hRetentionRefIdeal := Cert.RetentionRefIdeal.Gen.facts) := fun m ρ _ =>
  (θ_run Cert.RetentionRefIdeal.defs _ _).mono (fun r h => ⟨fun c => (h c).2, sem_eq_zero_of_no_sems (by decide) r.2⟩)
    (Cert.RetRef.run_result m ρ)

theorem algebraic : Cert.algebraic_RetentionIdeal_RetentionRefIdeal_pre_finite
    (hRetentionIdeal := Cert.RetentionIdeal.Gen.facts) (hRetentionRefIdeal := Cert.RetentionRefIdeal.Gen.facts)
    (hPre_finite := Cert.Pre_finite.Gen.facts) := by
  intro m g m' g' hpre hagree
  refine ⟨fun c => Cert.RetK.out (Cert.RetK.proj m c), ?_, ?_⟩
  · refine (θ_run Cert.RetentionIdeal.defs _ _).mono (fun r h c => ⟨(h c).1.trans ?_, (h c).2⟩)
      (Cert.RetentionIdeal.Value.run_blocks m g)
    exact Cert.RetK.out_eq m c (reals_of_pre _ (hpre c))
  · refine (θ_run Cert.RetentionRefIdeal.defs _ _).mono (fun r h c => ⟨(h c).1.trans ?_, (h c).2⟩)
      (Cert.RetRef.run_result m' g')
    refine (congrArg Cert.RetRef.result (hagree c)).trans ?_
    exact result_out _ (reals_of_pre _ (hpre c))

end Cert.RetClaims
end
-- ==== Proof.DownValue.lean ====
/-
  The second product of the feed-forward block: what each grid point leaves, and the three arrays of the launch - the
  sums with the residual, the same times the next norm's weights, and the sums of squares by lane.
-/
module

public import proofs.«01_k».proof.Proof.Gen.DownIdeal.Value
public import Idealize.ShloMosaic.Lib.Pipeline.ValueKit
public import Idealize.ShloMosaic.Lib.Pipeline.ReadBack
public import Idealize.ShloMosaic.Lib.StableHlo.RunRead
public import Idealize.ShloMosaic.Lib.Pointwise

@[expose] public section

set_option maxRecDepth 16384

noncomputable section

namespace Cert.DownK

open Finset Idealize.ShloMosaic Idealize.ShloMosaic.TcCoe Idealize.SL.Sem
open Idealize.ShloMosaic.Pipeline (Dat)
open Cert.DownIdeal Cert.DownIdeal.Gen

theorem pay2_at (w : Vec Ideal S1x8192x512 .bf16) (a : Vec Ideal S1024x8192 .bf16) (x : Vec Ideal S1024x512 .f32)
    (i : Fin 1024) (j : Fin 512) : k0_pay2 w a x (ix2 i j)
      = x (ix2 i j) + ∑ k : Fin 8192, a (ix2 i k) * w (ix3 0 k j) := by
  unfold k0_pay2
  pointwise

theorem pay3_at (w : Vec Ideal S1x8192x512 .bf16) (a : Vec Ideal S1024x8192 .bf16) (x : Vec Ideal S1024x512 .f32)
    (g : Vec Ideal S1x512 .f32) (i : Fin 1024) (j : Fin 512) : k0_pay3 w a x g (ix2 i j)
      = k0_pay2 w a x (ix2 i j) * g (ix2 0 j) := by
  unfold k0_pay3
  generalize k0_pay2 w a x = p
  pointwise

theorem pay4_at (w : Vec Ideal S1x8192x512 .bf16) (a : Vec Ideal S1024x8192 .bf16) (x : Vec Ideal S1024x512 .f32)
    (s : Vec Ideal S1024x128 .f32) (i : Fin 1024) (l : Fin 128) (p : Fin 512 → EReal)
    (hp : ∀ j, k0_pay2 w a x (ix2 i j) = p j) : k0_pay4 w a x s (ix2 i l)
      = s (ix2 i l) + (((p ⟨l.val, by omega⟩ * p ⟨l.val, by omega⟩
        + p ⟨128 + l.val, by omega⟩ * p ⟨128 + l.val, by omega⟩)
        + p ⟨256 + l.val, by omega⟩ * p ⟨256 + l.val, by omega⟩)
        + p ⟨384 + l.val, by omega⟩ * p ⟨384 + l.val, by omega⟩) := by
  simp only [← hp]
  unfold k0_pay4
  generalize k0_pay2 w a x = p
  pointwise

variable (m : (ℓ : Loc nD τ sig) → Buf (Elt Ideal) ℓ) (c : Dev nD)

theorem outs_B (t : Fin cfg0.N) (h : ¬ t.val % 8 = 0) : outsAt0 m c t.val t.isLt =
    (k0_pay2 (iblk m c 1 t) (iblk m c 0 t) (iblk m c 2 t), k0_pay3 (iblk m c 1 t) (iblk m c 0 t) (iblk m c 2 t) (iblk m c 3 t),
      k0_pay4 (iblk m c 1 t) (iblk m c 0 t) (iblk m c 2 t) (outsAt0 m c (t.val - 1) (by omega)).2.2) := by
  rw [outsAt0_B m c t h]
  frame_out

theorem outs_A (t : Fin cfg0.N) (h : t.val % 8 = 0) : outsAt0 m c t.val t.isLt =
    (k0_pay2 (iblk m c 1 t) (iblk m c 0 t) (iblk m c 2 t), k0_pay3 (iblk m c 1 t) (iblk m c 0 t) (iblk m c 2 t) (iblk m c 3 t),
      k0_pay4 (iblk m c 1 t) (iblk m c 0 t) (iblk m c 2 t) (k0_pay1 (F := Ideal))) := by
  rw [outsAt0_A m c t h]
  frame_out

theorem idx : ∀ t : Fin cfg0.N, win0_0.index t = ![t.val / 8, 0] ∧ win0_1.index t = ![0, 0, t.val % 8] ∧
    win0_2.index t = ![t.val / 8, t.val % 8] ∧ win0_3.index t = ![0, t.val % 8] ∧
    win0_4.index t = ![t.val / 8, t.val % 8] ∧ win0_5.index t = ![t.val / 8, t.val % 8] ∧ win0_6.index t = ![t.val / 8, 0] :=
  (by decide +kernel : ∀ t : Fin grid0.N, _)

theorem lt128 (t : Fin cfg0.N) : t.val < 128 := lt_of_lt_of_eq t.isLt N_0

def acts : FVec Ideal S16384x8192 .bf16 := m ((c : Thread nD τ).loc main_arg0)
def weights : FVec Ideal S4x8192x4096 .bf16 := m ((c : Thread nD τ).loc main_arg1)
def resid : FVec Ideal S16384x4096 .f32 := m ((c : Thread nD τ).loc main_arg2)
def gains : FVec Ideal S4096 .f32 := m ((c : Thread nD τ).loc main_arg3)

theorem read_a (t : Fin cfg0.N) (i : Fin 1024) (k : Fin 8192) : iblk m c 0 t (ix2 i k) =
    acts m c (ix2 ⟨1024 * (t.val / 8) + i.val, by have := lt128 t; omega⟩ k) := by
  blk_ext [iblk, V, acts, idx t]

theorem read_w (t : Fin cfg0.N) (k : Fin 8192) (j : Fin 512) : iblk m c 1 t (ix3 0 k j) =
    weights m c (ix3 0 k ⟨512 * (t.val % 8) + j.val, by omega⟩) := by
  blk_ext [iblk, V, weights, idx t]

theorem read_x (t : Fin cfg0.N) (i : Fin 1024) (j : Fin 512) : iblk m c 2 t (ix2 i j) =
    resid m c (ix2 ⟨1024 * (t.val / 8) + i.val, by have := lt128 t; omega⟩ ⟨512 * (t.val % 8) + j.val, by omega⟩) := by
  blk_ext [iblk, V, resid, idx t]

/-- The gains as a row, which the host makes. -/
theorem made_gains (j : Fin 4096) : ∀ X : FVec Ideal S1x4096 .f32, V m c main_v0 = X →
    X (ix2 0 j) = gains m c (ix1 j) := by
  unfold V gains
  after_reads_simp
  rintro X rfl
  pointwise

theorem read_g (t : Fin cfg0.N) (j : Fin 512) : iblk m c 3 t (ix2 0 j) =
    gains m c (ix1 ⟨512 * (t.val % 8) + j.val, by omega⟩) := by
  blk_simp [iblk]
  refine Eq.trans ?_ (made_gains m c ⟨512 * (t.val % 8) + j.val, by omega⟩ _ rfl)
  generalize V m c main_v0 = X
  blk_ext [idx t]

/-- An entry of the product with the residual. -/
def sumAt (a : FVec Ideal S16384x8192 .bf16) (w : FVec Ideal S4x8192x4096 .bf16) (x : FVec Ideal S16384x4096 .f32)
    (i : Fin 16384) (j : Fin 4096) : EReal := x (ix2 i j) + ∑ k : Fin 8192, a (ix2 i k) * w (ix3 0 k j)

/-- The square of an entry, the column a number. -/
def sq (a : FVec Ideal S16384x8192 .bf16) (w : FVec Ideal S4x8192x4096 .bf16) (x : FVec Ideal S16384x4096 .f32)
    (i : Fin 16384) (n : ℕ) : EReal :=
  sumAt a w x i ⟨n % 4096, Nat.mod_lt _ (by decide)⟩ * sumAt a w x i ⟨n % 4096, Nat.mod_lt _ (by decide)⟩

theorem sq_at (a : FVec Ideal S16384x8192 .bf16) (w : FVec Ideal S4x8192x4096 .bf16) (x : FVec Ideal S16384x4096 .f32)
    (i : Fin 16384) (n : ℕ) (j : Fin 4096) (e : n = j.val) : sq a w x i n = sumAt a w x i j * sumAt a w x i j := by
  subst e
  unfold sq
  simp only [Nat.mod_eq_of_lt j.isLt]

/-- The launch's three arrays. -/
def outX (a : FVec Ideal S16384x8192 .bf16) (w : FVec Ideal S4x8192x4096 .bf16) (x : FVec Ideal S16384x4096 .f32) :
    FVec Ideal S16384x4096 .f32 := fun i => sumAt a w x (i 0) (i 1)
def outG (a : FVec Ideal S16384x8192 .bf16) (w : FVec Ideal S4x8192x4096 .bf16) (x : FVec Ideal S16384x4096 .f32)
    (g : FVec Ideal S4096 .f32) : FVec Ideal S16384x4096 .bf16 := fun i => sumAt a w x (i 0) (i 1) * g (ix1 (i 1))
def outS (a : FVec Ideal S16384x8192 .bf16) (w : FVec Ideal S4x8192x4096 .bf16) (x : FVec Ideal S16384x4096 .f32) :
    FVec Ideal S16384x128 .f32 := fun i => ∑ n ∈ range 32, sq a w x (i 0) (128 * n + (i 1).val)

theorem p_at (t : Fin cfg0.N) (i : Fin 1024) (j : Fin 512) : k0_pay2 (iblk m c 1 t) (iblk m c 0 t) (iblk m c 2 t) (ix2 i j) =
    sumAt (acts m c) (weights m c) (resid m c) ⟨1024 * (t.val / 8) + i.val, by have := lt128 t; omega⟩
      ⟨512 * (t.val % 8) + j.val, by omega⟩ :=
  (pay2_at _ _ _ i j).trans (congrArg₂ (· + ·) (read_x m c t i j)
    (sum_congr rfl fun k _ => congrArg₂ (· * ·) (read_a m c t i k) (read_w m c t k j)))

/-- A point of column block `q` adds the squares of its four groups of lanes. -/
theorem squares (wb : Vec Ideal S1x8192x512 .bf16) (ab : Vec Ideal S1024x8192 .bf16) (xb : Vec Ideal S1024x512 .f32)
    (s : Vec Ideal S1024x128 .f32) (a : FVec Ideal S16384x8192 .bf16) (w : FVec Ideal S4x8192x4096 .bf16)
    (x : FVec Ideal S16384x4096 .f32) (i : Fin 1024) (l : Fin 128) (R : Fin 16384) (q : ℕ) (hq : q < 8)
    (hp : ∀ j : Fin 512, k0_pay2 wb ab xb (ix2 i j) = sumAt a w x R ⟨512 * q + j.val, by omega⟩)
    (hs : s (ix2 i l) = ∑ n ∈ range (4 * q), sq a w x R (128 * n + l.val)) :
    k0_pay4 wb ab xb s (ix2 i l) = ∑ n ∈ range (4 * (q + 1)), sq a w x R (128 * n + l.val) := by
  refine (pay4_at _ _ _ s i l _ hp).trans ?_
  rw [hs, show 4 * (q + 1) = 4 * q + 1 + 1 + 1 + 1 by omega, sum_range_succ, sum_range_succ, sum_range_succ, sum_range_succ]
  rw [sq_at _ _ _ _ (128 * (4 * q) + l.val) ⟨512 * q + l.val, by omega⟩ (by simp only []; omega),
    sq_at _ _ _ _ (128 * (4 * q + 1) + l.val) ⟨512 * q + (128 + l.val), by omega⟩ (by simp only []; omega),
    sq_at _ _ _ _ (128 * (4 * q + 1 + 1) + l.val) ⟨512 * q + (256 + l.val), by omega⟩ (by simp only []; omega),
    sq_at _ _ _ _ (128 * (4 * q + 1 + 1 + 1) + l.val) ⟨512 * q + (384 + l.val), by omega⟩ (by simp only []; omega)]
  simp only [add_assoc]

theorem step (t : Fin cfg0.N) (s : Vec Ideal S1024x128 .f32) (i : Fin 1024) (l : Fin 128) (R : Fin 16384)
    (hR : R.val = 1024 * (t.val / 8) + i.val)
    (hs : s (ix2 i l) = ∑ n ∈ range (4 * (t.val % 8)), sq (acts m c) (weights m c) (resid m c) R (128 * n + l.val)) :
    k0_pay4 (iblk m c 1 t) (iblk m c 0 t) (iblk m c 2 t) s (ix2 i l) =
      ∑ n ∈ range (4 * (t.val % 8 + 1)), sq (acts m c) (weights m c) (resid m c) R (128 * n + l.val) := by
  have ht := lt128 t
  have hi := i.isLt
  rw [show R = ⟨1024 * (t.val / 8) + i.val, by omega⟩ from Fin.ext hR] at hs ⊢
  exact squares _ _ _ s _ _ _ i l _ _ (by omega) (fun j => p_at m c t i j) hs

theorem zeros (i : Fin 1024) (l : Fin 128) : k0_pay1 (F := Ideal) (ix2 i l) = 0 := by
  have e : Ideal.ofBits .f32 0x00000000#32 = (0 : EReal) := by
    simp [Ideal.ofBits, Ideal.ieee]
  refine Eq.trans ?_ e
  unfold k0_pay1
  pointwise

/-- What the sums of squares are after a point: those of the row's columns so far. -/
theorem sums_at : ∀ (n : ℕ) (hn : n < cfg0.N) (i : Fin 1024) (l : Fin 128) (R : Fin 16384) (_ : R.val = 1024 * (n / 8) + i.val),
    (outsAt0 m c n hn).2.2 (ix2 i l) =
      ∑ k ∈ range (4 * (n % 8 + 1)), sq (acts m c) (weights m c) (resid m c) R (128 * k + l.val) := by
  intro n
  induction n with
  | zero =>
    intro hn i l R hR
    rw [outs_A m c ⟨0, hn⟩ rfl]
    exact step m c ⟨0, hn⟩ _ i l R hR ((zeros i l).trans (by simp))
  | succ n ih =>
    intro hn i l R hR
    by_cases h : (n + 1) % 8 = 0
    · rw [outs_A m c ⟨n + 1, hn⟩ h]
      refine step m c ⟨n + 1, hn⟩ _ i l R hR ((zeros i l).trans ?_)
      simp only [h]
      simp
    · rw [outs_B m c ⟨n + 1, hn⟩ h]
      refine step m c ⟨n + 1, hn⟩ _ i l R hR ((ih (by omega) i l R (by omega)).trans ?_)
      rw [show n % 8 + 1 = (n + 1) % 8 by omega]

theorem both (t : Fin cfg0.N) : (outsAt0 m c t.val t.isLt).1 = k0_pay2 (iblk m c 1 t) (iblk m c 0 t) (iblk m c 2 t) ∧
    (outsAt0 m c t.val t.isLt).2.1 = k0_pay3 (iblk m c 1 t) (iblk m c 0 t) (iblk m c 2 t) (iblk m c 3 t) := by
  by_cases h : t.val % 8 = 0
  · rw [outs_A m c t h]
    exact ⟨rfl, rfl⟩
  · rw [outs_B m c t h]
    exact ⟨rfl, rfl⟩

theorem outX_eq : (dats m 0 c).arrAt 4 cfg0.N = outX (acts m c) (weights m c) (resid m c) := by
  refine (dats m 0 c).arrAt_eq_of_covers 4 _ (by decide +kernel) fun t hf y => ?_
  blk_simp
  rw [after0_4, (both m c t).1]
  have ht := lt128 t
  have h0 : (y 0).val < 1024 := (y 0).isLt
  have h1 : (y 1).val < 512 := (y 1).isLt
  have e : ∀ X : FVec Ideal S16384x4096 .f32, X (ix2 ⟨1024 * (t.val / 8) + (y 0).val, by omega⟩
      ⟨512 * (t.val % 8) + (y 1).val, by omega⟩) = X ((win0_4.blk t).view.emb y) := fun X => by
    blk_ext [idx t]
  refine Eq.trans ?_ (e (outX (acts m c) (weights m c) (resid m c)))
  have ey : y = ix2 (y 0) (y 1) := by
    funext a
    fin_cases a <;> rfl
  exact (congrArg (k0_pay2 _ _ _) ey).trans (p_at m c t (y 0) (y 1))

theorem outG_eq : (dats m 0 c).arrAt 5 cfg0.N = outG (acts m c) (weights m c) (resid m c) (gains m c) := by
  refine (dats m 0 c).arrAt_eq_of_covers 5 _ (by decide +kernel) fun t hf y => ?_
  blk_simp
  rw [after0_5, (both m c t).2]
  have ht := lt128 t
  have h0 : (y 0).val < 1024 := (y 0).isLt
  have h1 : (y 1).val < 512 := (y 1).isLt
  have e : ∀ X : FVec Ideal S16384x4096 .bf16, X (ix2 ⟨1024 * (t.val / 8) + (y 0).val, by omega⟩
      ⟨512 * (t.val % 8) + (y 1).val, by omega⟩) = X ((win0_5.blk t).view.emb y) := fun X => by
    blk_ext [idx t]
  refine Eq.trans ?_ (e (outG (acts m c) (weights m c) (resid m c) (gains m c)))
  have ey : y = ix2 (y 0) (y 1) := by
    funext a
    fin_cases a <;> rfl
  exact ((congrArg (k0_pay3 _ _ _ _) ey).trans (pay3_at _ _ _ _ (y 0) (y 1))).trans
    (congrArg₂ (· * ·) (p_at m c t (y 0) (y 1)) (read_g m c t (y 1)))

theorem last : ∀ t : Fin cfg0.N, (cfg0.win 6).flush t = true → t.val % 8 = 7 :=
  (by decide +kernel : ∀ t : Fin grid0.N, _)

theorem outS_eq : (dats m 0 c).arrAt 6 cfg0.N = outS (acts m c) (weights m c) (resid m c) := by
  refine (dats m 0 c).arrAt_eq_of_covers 6 _ (by decide +kernel) fun t hf y => ?_
  have h7 := last t hf
  blk_simp
  rw [after0_6]
  have ht := lt128 t
  have h0 : (y 0).val < 1024 := (y 0).isLt
  have e : ∀ X : FVec Ideal S16384x128 .f32, X (ix2 ⟨1024 * (t.val / 8) + (y 0).val, by omega⟩ (y 1))
      = X ((win0_6.blk t).view.emb y) := fun X => by
    blk_ext [idx t]
  refine Eq.trans ?_ (e (outS (acts m c) (weights m c) (resid m c)))
  have ey : y = ix2 (y 0) (y 1) := by
    funext a
    fin_cases a <;> rfl
  refine (congrArg (outsAt0 m c t.val t.isLt).2.2 ey).trans
    ((sums_at m c t.val t.isLt (y 0) (y 1) ⟨1024 * (t.val / 8) + (y 0).val, by omega⟩ rfl).trans ?_)
  rw [h7]
  rfl

end Cert.DownK
end
-- ==== Proof.DownAgree.lean ====
/-
  The feed-forward block's second product: the reference's results at an index, their agreement with the launch's
  arrays and the two runs side by side.
-/
module

public import proofs.«01_k».proof.Defs
public import proofs.«01_k».proof.Proof.Gen.DownRefIdeal.Run
public import proofs.«01_k».proof.Proof.DownValue
public import Idealize.ShloMosaic.Lib.Claim

@[expose] public section

set_option maxRecDepth 16384

noncomputable section

namespace Cert.DownClaims

open Finset Idealize.ShloMosaic Idealize.ShloMosaic.TcCoe Idealize.SL.Sem
open Cert.DownRefIdeal Cert.DownRefIdeal.Gen Cert.DownK

/-- The reference's product with the residual, of the arguments. -/
def resX (a : FVec Ideal S16384x8192 .bf16) (w : FVec Ideal S4x8192x4096 .bf16) (x : FVec Ideal S16384x4096 .f32) :
    FVec Ideal S16384x4096 .f32 :=
  addf x (Host.dotGeneral dot_S16384x8192_S8192x4096_S16384x4096_1_0_0_1_n_n none (extf .f32 a bitsLt_bf16_f32) (extf .f32 (shapeCast _ (extractStridedSlice S1x8192x4096 ![0, 0, 0] w slices_S4x8192x4096_S1x8192x4096_0_0_0) shapeCasts_S1x8192x4096_S8192x4096) bitsLt_bf16_f32))

/-- The same times the next norm's weights. -/
def resG (y : FVec Ideal S16384x4096 .f32) (g : FVec Ideal S4096 .f32) : FVec Ideal S16384x4096 .bf16 :=
  truncf .bf16 (mulf y (broadcastInDim S16384x4096 ![0, 1] bcast_S1x4096_S16384x4096_0_1 (broadcastInDim S1x4096 ![1] bcast_S4096_S1x4096_1 g))) bitsLt_bf16_f32

/-- The sums of squares by lane. -/
def resS (y : FVec Ideal S16384x4096 .f32) : FVec Ideal S16384x128 .f32 :=
  Host.reduceAdd (shapeCast _ (mulf y y) shapeCasts_S16384x4096_S16384x32x128) (constant S_ .f32 0x00000000#32) reducesTo_S16384x32x128_S16384x128_d1 h_S_

theorem resX_eq (a : FVec Ideal S16384x8192 .bf16) (w : FVec Ideal S4x8192x4096 .bf16) (x : FVec Ideal S16384x4096 .f32) :
    resX a w x = outX a w x := by
  have e : ∀ i j, resX a w x (ix2 i j) = sumAt a w x i j := fun i j => by
    unfold resX sumAt
    pointwise
  funext i
  rw [show i = ix2 (i 0) (i 1) by funext a; fin_cases a <;> rfl]
  exact e (i 0) (i 1)

theorem resG_eq (a : FVec Ideal S16384x8192 .bf16) (w : FVec Ideal S4x8192x4096 .bf16) (x : FVec Ideal S16384x4096 .f32)
    (g : FVec Ideal S4096 .f32) : resG (outX a w x) g = outG a w x g := by
  have e : ∀ (y : FVec Ideal S16384x4096 .f32) i j, resG y g (ix2 i j) = y (ix2 i j) * g (ix1 j) := fun y i j => by
    unfold resG
    pointwise
  funext i
  rw [show i = ix2 (i 0) (i 1) by funext a; fin_cases a <;> rfl]
  exact e _ (i 0) (i 1)

theorem resS_eq (a : FVec Ideal S16384x8192 .bf16) (w : FVec Ideal S4x8192x4096 .bf16) (x : FVec Ideal S16384x4096 .f32) :
    resS (outX a w x) = outS a w x := by
  have e : ∀ (y : FVec Ideal S16384x4096 .f32) i (l : Fin 128), resS y (ix2 i l) =
      ∑ n : Fin 32, y (ix2 i ⟨128 * n.val + l.val, by omega⟩) * y (ix2 i ⟨128 * n.val + l.val, by omega⟩) := fun y i l => by
    unfold resS
    pointwise
    exact sum_congr rfl fun n _ => by simp only [Nat.mul_comm n.val 128]
  funext i
  rw [show i = ix2 (i 0) (i 1) by funext a; fin_cases a <;> rfl]
  refine (e _ (i 0) (i 1)).trans (Eq.trans ?_ (sum_range fun n => sq a w x (i 0) (128 * n + (i 1).val)).symm)
  exact sum_congr rfl fun n _ => (sq_at a w x (i 0) _ ⟨128 * n.val + (i 1).val, _⟩ rfl).symm

theorem frame_ref : Cert.quiescent_DownRefIdeal (hDownRefIdeal := Cert.DownRefIdeal.Gen.facts) := fun m ρ _ =>
  (θ_run Cert.DownRefIdeal.defs _ _).mono
    (fun r h => ⟨fun c => (h c).2.2.2, sem_eq_zero_of_no_sems (by decide) r.2⟩) (Cert.DownRefIdeal.Value.run m ρ)

theorem algebraic : Cert.algebraic_DownIdeal_DownRefIdeal (hDownIdeal := Cert.DownIdeal.Gen.facts)
    (hDownRefIdeal := Cert.DownRefIdeal.Gen.facts) := by
  intro m g m' g' _ hagree
  refine ⟨fun c => outX (acts m c) (weights m c) (resid m c), fun c => outG (acts m c) (weights m c) (resid m c) (gains m c),
    fun c => outS (acts m c) (weights m c) (resid m c), ?_, ?_⟩
  · exact (θ_run Cert.DownIdeal.defs _ _).mono (fun r h c => ⟨(h c).1.trans (outX_eq m c), (h c).2.1.trans (outG_eq m c),
      (h c).2.2.1.trans (outS_eq m c), (h c).2.2.2⟩) (Cert.DownIdeal.Value.run_blocks m g)
  · refine (θ_run Cert.DownRefIdeal.defs _ _).mono (fun r h c => ⟨(h c).1.trans ?_, (h c).2.1.trans ?_,
      (h c).2.2.1.trans ?_, (h c).2.2.2⟩) (Cert.DownRefIdeal.Value.run m' g')
    all_goals
      obtain ⟨e0, e1, e2, e3⟩ := hagree c
      rw [e0, e1, e2]
    · exact resX_eq _ _ _
    · rw [e3]
      exact (congrArg (fun y => resG y _) (resX_eq _ _ _)).trans (resG_eq _ _ _ _)
    · exact (congrArg resS (resX_eq _ _ _)).trans (resS_eq _ _ _)

end Cert.DownClaims
end
-- ==== Proof.RowNorm.lean ====
/-
  The root-mean-square norm of a row, before a product or after it: a row of the product scaled by the norm is the
  product of the scaled row. The norm is read off the row's sums of squares, one per lane; where they are not negative
  it is a real number that is not negative, and such a factor passes through a sum of extended reals.
-/
module

public import Idealize.ShloMosaic.Lib.Pointwise

@[expose] public section

noncomputable section

namespace Cert.RowNorm

open Finset Idealize.ShloMosaic

theorem width_lit : Ideal.ofBits .f32 0x45800000#32 = ((4096 : ℝ) : EReal) := by
  simp [Ideal.ofBits, Ideal.ieee, -EReal.coe_mul]; norm_num
theorem inv_width_lit : Ideal.ofBits .f32 0x39800000#32 = ((1 / 4096 : ℝ) : EReal) := by
  simp [Ideal.ofBits, Ideal.ieee, -EReal.coe_mul]; norm_num
theorem eps_pos : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

/-- The reciprocal root of a row's mean square, of the sum of its squares. -/
def rstd (s : EReal) : EReal := Ideal.rsqrt (Ideal.div s (Ideal.ofBits .f32 0x45800000#32) + Ideal.ofBits .f32 0x358637BD#32)

/-- The same with the mean taken by a product. -/
theorem rstd_mul (s : EReal) :
    Ideal.rsqrt (s * Ideal.ofBits .f32 0x39800000#32 + Ideal.ofBits .f32 0x358637BD#32) = rstd s := by
  unfold rstd
  rw [width_lit, inv_width_lit, Ideal.div_coe (by norm_num)]

/-- Of a sum that is not negative, the reciprocal root is a real number that is not negative. -/
theorem rstd_real {s : EReal} (hs : 0 ≤ s) : ∃ r : ℝ, 0 ≤ r ∧ rstd s = (r : EReal) := by
  obtain ⟨e, he, h⟩ := eps_pos
  unfold rstd
  rw [width_lit, Ideal.div_coe (by norm_num), h]
  induction s using EReal.rec with
  | bot => exact absurd hs (by simp)
  | top =>
    refine ⟨0, le_rfl, ?_⟩
    rw [EReal.top_mul_coe_of_pos (by norm_num), EReal.top_add_coe]
    rfl
  | coe x =>
    have hx : 0 ≤ x := EReal.coe_nonneg.mp hs
    have h0 : 0 < x * (1 / 4096) + e := by positivity
    refine ⟨(Real.sqrt (x * (1 / 4096) + e))⁻¹, by positivity, ?_⟩
    rw [← EReal.coe_mul, ← EReal.coe_add]
    show (if x * (1 / 4096) + e < 0 then (⊥ : EReal) else if x * (1 / 4096) + e = 0 then ⊤ else _) = _
    rw [if_neg (not_lt.mpr h0.le), if_neg h0.ne']

/-- A real factor that is not negative passes through a sum. -/
theorem sum_scale {ι : Type*} (t : Finset ι) (f : ι → EReal) {r : ℝ} (hr : 0 ≤ r) :
    (∑ i ∈ t, f i) * (r : EReal) = ∑ i ∈ t, f i * (r : EReal) := by
  classical
  induction t using Finset.induction_on with
  | empty => simp
  | insert a t ha ih =>
    rw [sum_insert ha, sum_insert ha, EReal.right_distrib_of_nonneg_of_ne_top (EReal.coe_nonneg.mpr hr) (EReal.coe_ne_top r), ih]

/-- A row of `h` times a column of weights, scaled afterwards. -/
def scaled (h : FVec Ideal ⟨2, ![16384, 4096]⟩ .bf16) (q : FVec Ideal ⟨2, ![16384, 128]⟩ .f32) (w : Fin 4096 → EReal)
    (i : Fin 16384) : EReal := (∑ k : Fin 4096, h (ix2 i k) * w k) * rstd (∑ l : Fin 128, q (ix2 i l))

/-- A row of `h`, scaled, times a column of weights. -/
def normed (h : FVec Ideal ⟨2, ![16384, 4096]⟩ .bf16) (q : FVec Ideal ⟨2, ![16384, 128]⟩ .f32) (w : Fin 4096 → EReal)
    (i : Fin 16384) : EReal := ∑ k : Fin 4096, h (ix2 i k) * rstd (∑ l : Fin 128, q (ix2 i l)) * w k

theorem scaled_eq (h : FVec Ideal ⟨2, ![16384, 4096]⟩ .bf16) (q : FVec Ideal ⟨2, ![16384, 128]⟩ .f32) (w : Fin 4096 → EReal)
    (i : Fin 16384) (hq : ∀ l, 0 ≤ q (ix2 i l)) : scaled h q w i = normed h q w i := by
  obtain ⟨r, hr, e⟩ := rstd_real (sum_nonneg fun l _ => hq l)
  unfold scaled normed
  rw [e, sum_scale _ _ hr]
  exact sum_congr rfl fun k _ => mul_right_comm _ _ _

theorem zero_lit : Ideal.ofBits .f32 0x00000000#32 = (0 : EReal) := by
  simp [Ideal.ofBits, Ideal.ieee]

/-- What the comparison of a precondition says of an entry. -/
theorem nonneg_of_cmp {x : EReal} (h : Ideal.cmp .oge x (Ideal.ofBits .f32 0x00000000#32) = 1#1) : 0 ≤ x := by
  rw [zero_lit] at h
  by_contra hn
  rw [Ideal.cmp] at h
  simp only [ge_iff_le, decide_eq_false hn] at h
  exact absurd h (by decide)

end Cert.RowNorm
end
-- ==== Proof.AinValue.lean ====
/-
  The input projection: the array that the launch leaves, and the reference's result at an index.
-/
module

public import proofs.«01_k».proof.Proof.Gen.AinIdeal.Value
public import Idealize.ShloMosaic.Lib.Pipeline.ValueKit
public import Idealize.ShloMosaic.Lib.Pipeline.ReadBack
public import proofs.«01_k».proof.Proof.RowNorm

@[expose] public section

set_option maxRecDepth 16384

noncomputable section

namespace Cert.AinK

open Finset Idealize.ShloMosaic Idealize.ShloMosaic.TcCoe Idealize.SL.Sem
open Idealize.ShloMosaic.Pipeline (Dat)
open Cert.AinIdeal Cert.AinIdeal.Gen Cert.RowNorm

/-- What a grid point writes, of its blocks. -/
theorem pay_at (w : Vec Ideal S1x4096x512 .f32) (h : Vec Ideal S2048x4096 .bf16) (q : Vec Ideal S2048x128 .f32)
    (i : Fin 2048) (j : Fin 512) : k0_pay1 w h q (ix2 i j)
      = (∑ k : Fin 4096, h (ix2 i k) * w (ix3 0 k j)) * rstd (∑ l : Fin 128, q (ix2 i l)) := by
  rw [← rstd_mul]
  unfold k0_pay1
  pointwise

/-- The same where the blocks' rows and columns are those of the whole operands. -/
theorem pay_scaled {w : Vec Ideal S1x4096x512 .f32} {h : Vec Ideal S2048x4096 .bf16} {q : Vec Ideal S2048x128 .f32}
    {H : FVec Ideal S16384x4096 .bf16} {Q : FVec Ideal S16384x128 .f32} {W : Fin 4096 → EReal} {i : Fin 16384}
    (y : S2048x512.Idx) (eh : ∀ k, h (ix2 (y 0) k) = H (ix2 i k)) (ew : ∀ k, w (ix3 0 k (y 1)) = W k)
    (eq : ∀ l, q (ix2 (y 0) l) = Q (ix2 i l)) : k0_pay1 w h q y = scaled H Q W i := by
  have ey : y = ix2 (y 0) (y 1) := by
    funext a
    fin_cases a <;> rfl
  refine ((congrArg (k0_pay1 _ _ _) ey).trans (pay_at _ _ _ _ _)).trans ?_
  exact congrArg₂ (· * ·) (sum_congr rfl fun k _ => congrArg₂ (· * ·) (eh k) (ew k))
    (congrArg rstd (sum_congr rfl fun l _ => eq l))

theorem idx : ∀ t : Fin cfg0.N, win0_0.index t = ![t.val / 26, 0] ∧ win0_1.index t = ![0, 0, t.val % 26] ∧
    win0_2.index t = ![t.val / 26, 0] ∧ win0_3.index t = ![t.val / 26, t.val % 26] :=
  (by decide +kernel : ∀ t : Fin grid0.N, _)

theorem lt208 (t : Fin cfg0.N) : t.val < 208 := lt_of_lt_of_eq t.isLt N_0

variable (m : (ℓ : Loc nD τ sig) → Buf (Elt Ideal) ℓ) (c : Dev nD)

def rows : FVec Ideal S16384x4096 .bf16 := m ((c : Thread nD τ).loc main_arg0)
def squares : FVec Ideal S16384x128 .f32 := m ((c : Thread nD τ).loc main_arg1)
def weights : FVec Ideal S2x4096x13312 .f32 := m ((c : Thread nD τ).loc main_arg2)

theorem read_h (t : Fin cfg0.N) (i : Fin 2048) (k : Fin 4096) : iblk m c 0 t (ix2 i k) =
    rows m c (ix2 ⟨2048 * (t.val / 26) + i.val, by have := lt208 t; omega⟩ k) := by
  blk_ext [iblk, V, rows, idx t]

theorem read_w (t : Fin cfg0.N) (k : Fin 4096) (j : Fin 512) : iblk m c 1 t (ix3 0 k j) =
    weights m c (ix3 0 k ⟨512 * (t.val % 26) + j.val, by omega⟩) := by
  blk_ext [iblk, V, weights, idx t]

theorem read_s (t : Fin cfg0.N) (i : Fin 2048) (l : Fin 128) : iblk m c 2 t (ix2 i l) =
    squares m c (ix2 ⟨2048 * (t.val / 26) + i.val, by have := lt208 t; omega⟩ l) := by
  blk_ext [iblk, V, squares, idx t]

/-- The array that the launch leaves. -/
def out (h : FVec Ideal S16384x4096 .bf16) (q : FVec Ideal S16384x128 .f32) (w : FVec Ideal S2x4096x13312 .f32) :
    FVec Ideal S16384x13312 .bf16 := fun i => scaled h q (fun k => w (ix3 0 k (i 1))) (i 0)

theorem out_eq : (dats m 0 c).arrAt 3 cfg0.N = out (rows m c) (squares m c) (weights m c) := by
  refine (dats m 0 c).arrAt_eq_of_covers 3 _ (by decide +kernel) fun t hf y => ?_
  blk_simp
  rw [after0_3]
  have ht := lt208 t
  have h0 : (y 0).val < 2048 := (y 0).isLt
  have h1 : (y 1).val < 512 := (y 1).isLt
  have e : ∀ X : FVec Ideal S16384x13312 .bf16, X (ix2 ⟨2048 * (t.val / 26) + (y 0).val, by omega⟩
      ⟨512 * (t.val % 26) + (y 1).val, by omega⟩) = X ((win0_3.blk t).view.emb y) := fun X => by
    blk_ext [idx t]
  refine Eq.trans ?_ (e (out (rows m c) (squares m c) (weights m c)))
  frame_out
  exact pay_scaled y (fun k => read_h m c t (y 0) k) (fun k => read_w m c t k (y 1)) (fun l => read_s m c t (y 0) l)

end Cert.AinK
end
-- ==== Proof.AinAgree.lean ====
/-
  The input projection's claims: the reference's result at an index, its agreement with the kernel's array and the two
  runs side by side.
-/
module

public import proofs.«01_k».proof.Defs
public import proofs.«01_k».proof.Proof.Gen.AinRefIdeal.Run
public import proofs.«01_k».proof.Proof.Gen.Pre_in_squares
public import proofs.«01_k».proof.Proof.AinValue
public import Idealize.ShloMosaic.Lib.Claim

@[expose] public section

set_option maxRecDepth 16384

noncomputable section

namespace Cert.AinClaims

open Finset Idealize.ShloMosaic Idealize.ShloMosaic.TcCoe Idealize.SL.Sem
open Cert.AinRefIdeal Cert.AinRefIdeal.Gen Cert.RowNorm

/-- The reference's result, of the arguments. -/
def result (h : FVec Ideal S16384x4096 .bf16) (q : FVec Ideal S16384x128 .f32) (w : FVec Ideal S2x4096x13312 .f32) :
    FVec Ideal S16384x13312 .bf16 :=
  truncf .bf16 (Host.dotGeneral dot_S16384x4096_S4096x13312_S16384x13312_1_0_0_1_n_n none (mulf (extf .f32 h bitsLt_bf16_f32) (broadcastInDim S16384x4096 ![0, 1] bcast_S16384x1_S16384x4096_0_1 (Host.rsqrt (addf (Host.divf (broadcastInDim S16384x1 ![0] bcast_S16384_S16384x1_0 (Host.reduceAdd q (constant S_ .f32 0x00000000#32) reducesTo_S16384x128_S16384_d1 h_S_)) (broadcastInDim S16384x1 ![] bcast_S_S16384x1 (constant S_ .f32 0x45800000#32))) (broadcastInDim S16384x1 ![] bcast_S_S16384x1 (constant S_ .f32 0x358637BD#32)))))) (shapeCast _ (extractStridedSlice S1x4096x13312 ![0, 0, 0] w slices_S2x4096x13312_S1x4096x13312_0_0_0) shapeCasts_S1x4096x13312_S4096x13312)) bitsLt_bf16_f32

theorem result_at (h : FVec Ideal S16384x4096 .bf16) (q : FVec Ideal S16384x128 .f32) (w : FVec Ideal S2x4096x13312 .f32)
    (i : Fin 16384) (j : Fin 13312) : result h q w (ix2 i j) = normed h q (fun k => w (ix3 0 k j)) i := by
  unfold result normed rstd
  pointwise

/-- From squares that are not negative both programs end with the same array. -/
theorem result_out (h : FVec Ideal S16384x4096 .bf16) (q : FVec Ideal S16384x128 .f32) (w : FVec Ideal S2x4096x13312 .f32)
    (hq : ∀ i l, 0 ≤ q (ix2 i l)) : result h q w = Cert.AinK.out h q w := by
  funext i
  rw [show i = ix2 (i 0) (i 1) by funext a; fin_cases a <;> rfl]
  exact (result_at h q w (i 0) (i 1)).trans (scaled_eq h q _ (i 0) (hq (i 0))).symm

theorem squares_of_pre [Cert.Pre_in_squares.Facts] (h : FVec Ideal S16384x4096 .bf16) (q : FVec Ideal S16384x128 .f32)
    (w : FVec Ideal S2x4096x13312 .f32) (e : Cert.Pre_in_squares.fn (F := Ideal) h q w = fun _ => 1#1) :
    ∀ i l, 0 ≤ q (ix2 i l) := by
  intro i l
  refine nonneg_of_cmp ((Eq.trans ?_ (congrFun e (ix2 i l))))
  unfold Cert.Pre_in_squares.fn
  pointwise

theorem frame_ref : Cert.quiescent_AinRefIdeal (hAinRefIdeal := Cert.AinRefIdeal.Gen.facts) := fun m ρ _ =>
  (θ_run Cert.AinRefIdeal.defs _ _).mono (fun r h => ⟨fun c => (h c).2, sem_eq_zero_of_no_sems (by decide) r.2⟩)
    (Cert.AinRefIdeal.Value.run m ρ)

theorem algebraic : Cert.algebraic_AinIdeal_AinRefIdeal_pre_in_squares (hAinIdeal := Cert.AinIdeal.Gen.facts)
    (hAinRefIdeal := Cert.AinRefIdeal.Gen.facts) (hPre_in_squares := Cert.Pre_in_squares.Gen.facts) := by
  intro m g m' g' hpre hagree
  refine ⟨fun c => Cert.AinK.out (Cert.AinK.rows m c) (Cert.AinK.squares m c) (Cert.AinK.weights m c), ?_, ?_⟩
  · exact (θ_run Cert.AinIdeal.defs _ _).mono (fun r h c => ⟨(h c).1.trans (Cert.AinK.out_eq m c), (h c).2⟩)
      (Cert.AinIdeal.Value.run_blocks m g)
  · refine (θ_run Cert.AinRefIdeal.defs _ _).mono (fun r h c => ⟨(h c).1.trans ?_, (h c).2⟩)
      (Cert.AinRefIdeal.Value.run m' g')
    obtain ⟨e0, e1, e2⟩ := hagree c
    rw [e0, e1, e2]
    exact result_out _ _ _ (squares_of_pre _ _ _ (hpre c))

end Cert.AinClaims
end
-- ==== Proof.BinValue.lean ====
/-
  The attention layers' query projection: the array that the launch leaves, and the reference's result at an index.
-/
module

public import proofs.«01_k».proof.Proof.Gen.BinIdeal.Value
public import Idealize.ShloMosaic.Lib.Pipeline.ValueKit
public import Idealize.ShloMosaic.Lib.Pipeline.ReadBack
public import proofs.«01_k».proof.Proof.AinValue

@[expose] public section

set_option maxRecDepth 16384

noncomputable section

namespace Cert.BinK

open Finset Idealize.ShloMosaic Idealize.ShloMosaic.TcCoe Idealize.SL.Sem
open Idealize.ShloMosaic.Pipeline (Dat)
open Cert.BinIdeal Cert.BinIdeal.Gen Cert.RowNorm

theorem idx : ∀ t : Fin cfg0.N, win0_0.index t = ![t.val / 8, 0] ∧ win0_1.index t = ![0, 0, t.val % 8] ∧
    win0_2.index t = ![t.val / 8, 0] ∧ win0_3.index t = ![t.val / 8, t.val % 8] :=
  (by decide +kernel : ∀ t : Fin grid0.N, _)

theorem lt64 (t : Fin cfg0.N) : t.val < 64 := lt_of_lt_of_eq t.isLt N_0

variable (m : (ℓ : Loc nD τ sig) → Buf (Elt Ideal) ℓ) (c : Dev nD)

def rows : FVec Ideal S16384x4096 .bf16 := m ((c : Thread nD τ).loc main_arg0)
def squares : FVec Ideal S16384x128 .f32 := m ((c : Thread nD τ).loc main_arg1)
def weights : FVec Ideal S2x4096x4096 .f32 := m ((c : Thread nD τ).loc main_arg2)

theorem read_h (t : Fin cfg0.N) (i : Fin 2048) (k : Fin 4096) : iblk m c 0 t (ix2 i k) =
    rows m c (ix2 ⟨2048 * (t.val / 8) + i.val, by have := lt64 t; omega⟩ k) := by
  blk_ext [iblk, V, rows, idx t]

theorem read_w (t : Fin cfg0.N) (k : Fin 4096) (j : Fin 512) : iblk m c 1 t (ix3 0 k j) =
    weights m c (ix3 0 k ⟨512 * (t.val % 8) + j.val, by omega⟩) := by
  blk_ext [iblk, V, weights, idx t]

theorem read_s (t : Fin cfg0.N) (i : Fin 2048) (l : Fin 128) : iblk m c 2 t (ix2 i l) =
    squares m c (ix2 ⟨2048 * (t.val / 8) + i.val, by have := lt64 t; omega⟩ l) := by
  blk_ext [iblk, V, squares, idx t]

/-- The array that the launch leaves. -/
def out (h : FVec Ideal S16384x4096 .bf16) (q : FVec Ideal S16384x128 .f32) (w : FVec Ideal S2x4096x4096 .f32) :
    FVec Ideal S16384x4096 .bf16 := fun i => scaled h q (fun k => w (ix3 0 k (i 1))) (i 0)

theorem out_eq : (dats m 0 c).arrAt 3 cfg0.N = out (rows m c) (squares m c) (weights m c) := by
  refine (dats m 0 c).arrAt_eq_of_covers 3 _ (by decide +kernel) fun t hf y => ?_
  blk_simp
  rw [after0_3]
  have ht := lt64 t
  have h0 : (y 0).val < 2048 := (y 0).isLt
  have h1 : (y 1).val < 512 := (y 1).isLt
  have e : ∀ X : FVec Ideal S16384x4096 .bf16, X (ix2 ⟨2048 * (t.val / 8) + (y 0).val, by omega⟩
      ⟨512 * (t.val % 8) + (y 1).val, by omega⟩) = X ((win0_3.blk t).view.emb y) := fun X => by
    blk_ext [idx t]
  refine Eq.trans ?_ (e (out (rows m c) (squares m c) (weights m c)))
  frame_out
  exact Cert.AinK.pay_scaled y (fun k => read_h m c t (y 0) k) (fun k => read_w m c t k (y 1)) (fun l => read_s m c t (y 0) l)

end Cert.BinK
end
-- ==== Proof.BinAgree.lean ====
/-
  The query projection's claims: the reference's result at an index, its agreement with the kernel's array and the two
  runs side by side.
-/
module

public import proofs.«01_k».proof.Defs
public import proofs.«01_k».proof.Proof.Gen.BinRefIdeal.Run
public import proofs.«01_k».proof.Proof.Gen.Pre_q_squares
public import proofs.«01_k».proof.Proof.BinValue
public import Idealize.ShloMosaic.Lib.Claim

@[expose] public section

set_option maxRecDepth 16384

noncomputable section

namespace Cert.BinClaims

open Finset Idealize.ShloMosaic Idealize.ShloMosaic.TcCoe Idealize.SL.Sem
open Cert.BinRefIdeal Cert.BinRefIdeal.Gen Cert.RowNorm

/-- The reference's result, of the arguments. -/
def result (h : FVec Ideal S16384x4096 .bf16) (q : FVec Ideal S16384x128 .f32) (w : FVec Ideal S2x4096x4096 .f32) :
    FVec Ideal S16384x4096 .bf16 :=
  truncf .bf16 (Host.dotGeneral dot_S16384x4096_S4096x4096_S16384x4096_1_0_0_1_n_n none (mulf (extf .f32 h bitsLt_bf16_f32) (broadcastInDim S16384x4096 ![0, 1] bcast_S16384x1_S16384x4096_0_1 (Host.rsqrt (addf (Host.divf (broadcastInDim S16384x1 ![0] bcast_S16384_S16384x1_0 (Host.reduceAdd q (constant S_ .f32 0x00000000#32) reducesTo_S16384x128_S16384_d1 h_S_)) (broadcastInDim S16384x1 ![] bcast_S_S16384x1 (constant S_ .f32 0x45800000#32))) (broadcastInDim S16384x1 ![] bcast_S_S16384x1 (constant S_ .f32 0x358637BD#32)))))) (shapeCast _ (extractStridedSlice S1x4096x4096 ![0, 0, 0] w slices_S2x4096x4096_S1x4096x4096_0_0_0) shapeCasts_S1x4096x4096_S4096x4096)) bitsLt_bf16_f32

theorem result_at (h : FVec Ideal S16384x4096 .bf16) (q : FVec Ideal S16384x128 .f32) (w : FVec Ideal S2x4096x4096 .f32)
    (i : Fin 16384) (j : Fin 4096) : result h q w (ix2 i j) = normed h q (fun k => w (ix3 0 k j)) i := by
  unfold result normed rstd
  pointwise

/-- From squares that are not negative both programs end with the same array. -/
theorem result_out (h : FVec Ideal S16384x4096 .bf16) (q : FVec Ideal S16384x128 .f32) (w : FVec Ideal S2x4096x4096 .f32)
    (hq : ∀ i l, 0 ≤ q (ix2 i l)) : result h q w = Cert.BinK.out h q w := by
  funext i
  rw [show i = ix2 (i 0) (i 1) by funext a; fin_cases a <;> rfl]
  exact (result_at h q w (i 0) (i 1)).trans (scaled_eq h q _ (i 0) (hq (i 0))).symm

theorem squares_of_pre [Cert.Pre_q_squares.Facts] (h : FVec Ideal S16384x4096 .bf16) (q : FVec Ideal S16384x128 .f32)
    (w : FVec Ideal S2x4096x4096 .f32) (e : Cert.Pre_q_squares.fn (F := Ideal) h q w = fun _ => 1#1) :
    ∀ i l, 0 ≤ q (ix2 i l) := by
  intro i l
  refine nonneg_of_cmp ((Eq.trans ?_ (congrFun e (ix2 i l))))
  unfold Cert.Pre_q_squares.fn
  pointwise

theorem frame_ref : Cert.quiescent_BinRefIdeal (hBinRefIdeal := Cert.BinRefIdeal.Gen.facts) := fun m ρ _ =>
  (θ_run Cert.BinRefIdeal.defs _ _).mono (fun r h => ⟨fun c => (h c).2, sem_eq_zero_of_no_sems (by decide) r.2⟩)
    (Cert.BinRefIdeal.Value.run m ρ)

theorem algebraic : Cert.algebraic_BinIdeal_BinRefIdeal_pre_q_squares (hBinIdeal := Cert.BinIdeal.Gen.facts)
    (hBinRefIdeal := Cert.BinRefIdeal.Gen.facts) (hPre_q_squares := Cert.Pre_q_squares.Gen.facts) := by
  intro m g m' g' hpre hagree
  refine ⟨fun c => Cert.BinK.out (Cert.BinK.rows m c) (Cert.BinK.squares m c) (Cert.BinK.weights m c), ?_, ?_⟩
  · exact (θ_run Cert.BinIdeal.defs _ _).mono (fun r h c => ⟨(h c).1.trans (Cert.BinK.out_eq m c), (h c).2⟩)
      (Cert.BinIdeal.Value.run_blocks m g)
  · refine (θ_run Cert.BinRefIdeal.defs _ _).mono (fun r h c => ⟨(h c).1.trans ?_, (h c).2⟩)
      (Cert.BinRefIdeal.Value.run m' g')
    obtain ⟨e0, e1, e2⟩ := hagree c
    rw [e0, e1, e2]
    exact result_out _ _ _ (squares_of_pre _ _ _ (hpre c))

end Cert.BinClaims
end
-- ==== Proof.KeyValue.lean ====
/-
  The key projection: the array that the launch leaves, and the reference's result at an index.
-/
module

public import proofs.«01_k».proof.Proof.Gen.KeyIdeal.Value
public import Idealize.ShloMosaic.Lib.Pipeline.ValueKit
public import Idealize.ShloMosaic.Lib.Pipeline.ReadBack
public import Idealize.ShloMosaic.Lib.StableHlo.RunRead
public import proofs.«01_k».proof.Proof.AinValue

@[expose] public section

set_option maxRecDepth 16384

noncomputable section

namespace Cert.KeyK

open Finset Idealize.ShloMosaic Idealize.ShloMosaic.TcCoe Idealize.SL.Sem
open Idealize.ShloMosaic.Pipeline (Dat)
open Cert.KeyIdeal Cert.KeyIdeal.Gen Cert.RowNorm

theorem idx : ∀ t : Fin cfg0.N, win0_0.index t = ![t.val / 6, 0] ∧ win0_1.index t = ![0, 0, t.val % 6] ∧
    win0_2.index t = ![t.val / 6, 0] ∧ win0_3.index t = ![t.val / 6, t.val % 6] :=
  (by decide +kernel : ∀ t : Fin grid0.N, _)

theorem lt48 (t : Fin cfg0.N) : t.val < 48 := lt_of_lt_of_eq t.isLt N_0

variable (m : (ℓ : Loc nD τ sig) → Buf (Elt Ideal) ℓ) (c : Dev nD)

def rows : FVec Ideal S16384x4096 .bf16 := m ((c : Thread nD τ).loc main_arg0)
def squares : FVec Ideal S16384x128 .f32 := m ((c : Thread nD τ).loc main_arg1)
def weights : FVec Ideal S4096x6144 .f32 := m ((c : Thread nD τ).loc main_arg2)

theorem read_h (t : Fin cfg0.N) (i : Fin 2048) (k : Fin 4096) : iblk m c 0 t (ix2 i k) =
    rows m c (ix2 ⟨2048 * (t.val / 6) + i.val, by have := lt48 t; omega⟩ k) := by
  blk_ext [iblk, V, rows, idx t]

/-- The weights' leading axis, which the host adds. -/
theorem made_weights (k : Fin 4096) (j : Fin 6144) : ∀ X : FVec Ideal S1x4096x6144 .f32, V m c main_v0 = X →
    X (ix3 0 k j) = weights m c (ix2 k j) := by
  unfold V weights
  after_reads_simp
  rintro X rfl
  pointwise

theorem read_w (t : Fin cfg0.N) (k : Fin 4096) (j : Fin 512) : iblk m c 1 t (ix3 0 k j) =
    weights m c (ix2 k ⟨512 * (t.val % 6) + j.val, by omega⟩) := by
  blk_simp [iblk]
  refine Eq.trans ?_ (made_weights m c k ⟨512 * (t.val % 6) + j.val, by omega⟩ _ rfl)
  generalize V m c main_v0 = X
  blk_ext [idx t]

theorem read_s (t : Fin cfg0.N) (i : Fin 2048) (l : Fin 128) : iblk m c 2 t (ix2 i l) =
    squares m c (ix2 ⟨2048 * (t.val / 6) + i.val, by have := lt48 t; omega⟩ l) := by
  blk_ext [iblk, V, squares, idx t]

/-- The array that the launch leaves. -/
def out (h : FVec Ideal S16384x4096 .bf16) (q : FVec Ideal S16384x128 .f32) (w : FVec Ideal S4096x6144 .f32) :
    FVec Ideal S16384x3072 .bf16 := fun i => scaled h q (fun k => w (ix2 k ⟨(i 1).val, Nat.lt_trans (show (i 1).val < 3072 from (i 1).isLt) (by decide)⟩)) (i 0)

theorem out_eq : (dats m 0 c).arrAt 3 cfg0.N = out (rows m c) (squares m c) (weights m c) := by
  refine (dats m 0 c).arrAt_eq_of_covers 3 _ (by decide +kernel) fun t hf y => ?_
  blk_simp
  rw [after0_3]
  have ht := lt48 t
  have h0 : (y 0).val < 2048 := (y 0).isLt
  have h1 : (y 1).val < 512 := (y 1).isLt
  have e : ∀ X : FVec Ideal S16384x3072 .bf16, X (ix2 ⟨2048 * (t.val / 6) + (y 0).val, by omega⟩
      ⟨512 * (t.val % 6) + (y 1).val, by omega⟩) = X ((win0_3.blk t).view.emb y) := fun X => by
    blk_ext [idx t]
  refine Eq.trans ?_ (e (out (rows m c) (squares m c) (weights m c)))
  frame_out
  exact Cert.AinK.pay_scaled y (fun k => read_h m c t (y 0) k) (fun k => read_w m c t k (y 1)) (fun l => read_s m c t (y 0) l)

end Cert.KeyK
end
-- ==== Proof.KeyAgree.lean ====
/-
  The key projection's claims: the reference's result at an index, its agreement with the kernel's array and the two
  runs side by side.
-/
module

public import proofs.«01_k».proof.Defs
public import proofs.«01_k».proof.Proof.Gen.KeyRefIdeal.Run
public import proofs.«01_k».proof.Proof.Gen.Pre_key_squares
public import proofs.«01_k».proof.Proof.KeyValue
public import Idealize.ShloMosaic.Lib.Claim

@[expose] public section

set_option maxRecDepth 16384

noncomputable section

namespace Cert.KeyClaims

open Finset Idealize.ShloMosaic Idealize.ShloMosaic.TcCoe Idealize.SL.Sem
open Cert.KeyRefIdeal Cert.KeyRefIdeal.Gen Cert.RowNorm

/-- The reference's result, of the arguments. -/
def result (h : FVec Ideal S16384x4096 .bf16) (q : FVec Ideal S16384x128 .f32) (w : FVec Ideal S4096x6144 .f32) :
    FVec Ideal S16384x3072 .bf16 :=
  truncf .bf16 (Host.dotGeneral dot_S16384x4096_S4096x3072_S16384x3072_1_0_0_1_n_n none (mulf (extf .f32 h bitsLt_bf16_f32) (broadcastInDim S16384x4096 ![0, 1] bcast_S16384x1_S16384x4096_0_1 (Host.rsqrt (addf (Host.divf (broadcastInDim S16384x1 ![0] bcast_S16384_S16384x1_0 (Host.reduceAdd q (constant S_ .f32 0x00000000#32) reducesTo_S16384x128_S16384_d1 h_S_)) (broadcastInDim S16384x1 ![] bcast_S_S16384x1 (constant S_ .f32 0x45800000#32))) (broadcastInDim S16384x1 ![] bcast_S_S16384x1 (constant S_ .f32 0x358637BD#32)))))) (extractStridedSlice S4096x3072 ![0, 0] w slices_S4096x6144_S4096x3072_0_0)) bitsLt_bf16_f32

theorem result_at (h : FVec Ideal S16384x4096 .bf16) (q : FVec Ideal S16384x128 .f32) (w : FVec Ideal S4096x6144 .f32)
    (i : Fin 16384) (j : Fin 3072) : result h q w (ix2 i j) = normed h q (fun k => w (ix2 k ⟨j.val, by omega⟩)) i := by
  unfold result normed rstd
  pointwise

/-- From squares that are not negative both programs end with the same array. -/
theorem result_out (h : FVec Ideal S16384x4096 .bf16) (q : FVec Ideal S16384x128 .f32) (w : FVec Ideal S4096x6144 .f32)
    (hq : ∀ i l, 0 ≤ q (ix2 i l)) : result h q w = Cert.KeyK.out h q w := by
  funext i
  rw [show i = ix2 (i 0) (i 1) by funext a; fin_cases a <;> rfl]
  exact (result_at h q w (i 0) (i 1)).trans (scaled_eq h q _ (i 0) (hq (i 0))).symm

theorem squares_of_pre [Cert.Pre_key_squares.Facts] (h : FVec Ideal S16384x4096 .bf16) (q : FVec Ideal S16384x128 .f32)
    (w : FVec Ideal S4096x6144 .f32) (e : Cert.Pre_key_squares.fn (F := Ideal) h q w = fun _ => 1#1) :
    ∀ i l, 0 ≤ q (ix2 i l) := by
  intro i l
  refine nonneg_of_cmp ((Eq.trans ?_ (congrFun e (ix2 i l))))
  unfold Cert.Pre_key_squares.fn
  pointwise

theorem frame_ref : Cert.quiescent_KeyRefIdeal (hKeyRefIdeal := Cert.KeyRefIdeal.Gen.facts) := fun m ρ _ =>
  (θ_run Cert.KeyRefIdeal.defs _ _).mono (fun r h => ⟨fun c => (h c).2, sem_eq_zero_of_no_sems (by decide) r.2⟩)
    (Cert.KeyRefIdeal.Value.run m ρ)

theorem algebraic : Cert.algebraic_KeyIdeal_KeyRefIdeal_pre_key_squares (hKeyIdeal := Cert.KeyIdeal.Gen.facts)
    (hKeyRefIdeal := Cert.KeyRefIdeal.Gen.facts) (hPre_key_squares := Cert.Pre_key_squares.Gen.facts) := by
  intro m g m' g' hpre hagree
  refine ⟨fun c => Cert.KeyK.out (Cert.KeyK.rows m c) (Cert.KeyK.squares m c) (Cert.KeyK.weights m c), ?_, ?_⟩
  · exact (θ_run Cert.KeyIdeal.defs _ _).mono (fun r h c => ⟨(h c).1.trans (Cert.KeyK.out_eq m c), (h c).2⟩)
      (Cert.KeyIdeal.Value.run_blocks m g)
  · refine (θ_run Cert.KeyRefIdeal.defs _ _).mono (fun r h c => ⟨(h c).1.trans ?_, (h c).2⟩)
      (Cert.KeyRefIdeal.Value.run m' g')
    obtain ⟨e0, e1, e2⟩ := hagree c
    rw [e0, e1, e2]
    exact result_out _ _ _ (squares_of_pre _ _ _ (hpre c))

end Cert.KeyClaims
end
-- ==== Proof.UpRun.lean ====
module

public import proofs.«01_k».proof.Proof.Gen.UpIdeal.Frame
public import proofs.«01_k».proof.Proof.Gen.UpIdeal.Skeleton

@[expose] public section

set_option maxRecDepth 16384
set_option maxHeartbeats 4000000

noncomputable section

namespace Cert.UpIdeal.Carry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.UpIdeal Cert.UpIdeal.Gen

variable {F : FTy → Type} [FloatOps F]

local notation "𝕄" => MT nD τ sig Unit (Elt F) ℕ (UR sig nD τ) ℕ

/-- One run of the body on whole buffers holding the eight input blocks and the two carried halos: it ends with
    the inputs as they were, and the output and both halos with pieces written that depend on the contents alone. -/
noncomputable def bodyRun (c : Dev nD) (i : grid0.Coords) (arg2 : Memref sig .tc .vmem S1024x4096 .bf16) (harg2 : arg2.IsWhole) (arg3 : Memref sig .tc .vmem S1024x128 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S1x3x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1024x512 .bf16) (harg10 : arg10.IsWhole) (arg11 : Memref sig .tc .vmem S8x512 .f32) (harg11 : arg11.IsWhole) (arg12 : Memref sig .tc .vmem S8x512 .f32) (harg12 : arg12.IsWhole)
  (x0 : Vec F S1024x4096 .bf16) (x1 : Vec F S1024x128 .f32) (x2 : Vec F S1x4096x512 .bf16) (x3 : Vec F S1x4096x512 .bf16) (x4 : Vec F S1x3x512 .f32) (x5 : Vec F S1x3x512 .f32) (x6 : Vec F S1x1x512 .f32) (x7 : Vec F S1x1x512 .f32) (xs0 xs1 : Vec F S8x512 .f32) :
    Σ' (L8 : List (View.Piece (Elt F) S1024x512 .bf16)) (LS0 : List (View.Piece (Elt F) S8x512 .f32)), { LS1 : List (View.Piece (Elt F) S8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0_up_conv_gate i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_up_conv_gate_eq_skeleton]; unfold cc0_up_conv_gate_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0; obtain rfl := harg12.eq_unread hfs1
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]; · iexists _; iexact HS0
    iexists _; iexact HS1

end Cert.UpIdeal.Carry

end
-- ==== Proof.UpFrame.lean ====
module

public import proofs.«01_k».proof.Proof.UpRun
public import Idealize.ShloMosaic.Lib.Claim

@[expose] public section

set_option maxRecDepth 16384

noncomputable section

namespace Cert.UpIdeal.Carry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.UpIdeal Cert.UpIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0 (t : Fin cfg0.N) : Memref sig .tc .vmem S1024x4096 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x4096x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x4096x512 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x3x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x3x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1x512 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1024x512 .bf16 := win0_8.stage (cfg0.slots t 8)
abbrev hs8 (t : Fin cfg0.N) : (ms8 t).IsWhole := hstage0_8 ((cfg0.slots t 8).cast nbuf0_8)
abbrev sc0 : Memref sig .tc .vmem S8x512 .f32 := Memref.whole cc0_scratch0
abbrev sc1 : Memref sig .tc .vmem S8x512 .f32 := Memref.whole cc0_scratch1
abbrev VO : View sig .tc .vmem S1024x512 .bf16 := (Memref.whole cc0_stg8_0 : Memref sig .tc .vmem S1024x512 .bf16).view

/-- Contents standing for whatever the scratch holds before the first point. -/
def blank : Vec F S8x512 .f32 := broadcast S8x512 (Scalar.ofBits .f32 0x00000000#32)

/-- The body's run at point `t`, over the point's blocks and the halos `p`, `q` it finds. -/
def runAt (c : Dev nD) (t : Fin cfg0.N) (p q : Vec F S8x512 .f32) :=
  bodyRun (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) (iblk m c 0 t) (iblk m c 1 t) (iblk m c 2 t) (iblk m c 3 t) (iblk m c 4 t) (iblk m c 5 t) (iblk m c 6 t) (iblk m c 7 t) p q

/-- What the output's buffer holds after point `t`, having found the halos `p`, `q`. -/
def outAt (c : Dev nD) (t : Fin cfg0.N) (p q : Vec F S8x512 .f32) : Vec F S1024x512 .bf16 :=
  VO.read (Elt F) (VO.writes (Elt F) VO.junk (runAt m c t p q).1)

/-- The halos point `t` leaves: they are of its own rows, whatever it found. -/
def haloA (c : Dev nD) (t : Fin cfg0.N) : Vec F S8x512 .f32 :=
  sc0.view.read (Elt F) (sc0.view.writes (Elt F) sc0.view.junk (runAt m c t blank blank).2.1)
def haloG (c : Dev nD) (t : Fin cfg0.N) : Vec F S8x512 .f32 :=
  sc1.view.read (Elt F) (sc1.view.writes (Elt F) sc1.view.junk (runAt m c t blank blank).2.2.1)

theorem leavesA (c : Dev nD) (t : Fin cfg0.N) (p q : Vec F S8x512 .f32) :
    (runAt m c t p q).2.1 = (runAt m c t blank blank).2.1 := by
  unfold runAt bodyRun; dsimp only
theorem leavesG (c : Dev nD) (t : Fin cfg0.N) (p q : Vec F S8x512 .f32) :
    (runAt m c t p q).2.2.1 = (runAt m c t blank blank).2.2.1 := by
  unfold runAt bodyRun; dsimp only

/-- The kernel's test for a sequence's first tile, of the row tile's number. -/
def firstBit (k : ℕ) : BitVec 1 :=
  let r := Scalar.remsi (BitVec.ofNat 32 k) (Scalar.select (Scalar.cmpi .eq 8#32 0#32) 1#32 8#32)
  Scalar.cmpi .eq (Scalar.select (Scalar.andi (Scalar.xori (Scalar.cmpi .slt r 0#32)
    (Scalar.cmpi .slt (Scalar.select (Scalar.cmpi .eq 8#32 0#32) 1#32 8#32) 0#32)) (Scalar.cmpi .ne r 0#32))
    (Scalar.addi r (Scalar.select (Scalar.cmpi .eq 8#32 0#32) 1#32 8#32)) r) 0#32

theorem firstBit_eq : ∀ k : Fin 16, firstBit k.val = if k.val % 8 = 0 then 1#1 else 0#1 := by decide

theorem first_bit (t : Fin cfg0.N) : bodyRun.sl.v10 (grid0.coords t) = if t.val % 8 = 0 then 1#1 else 0#1 := by
  have e1 : (grid0.coords t 1).val = t.val / 1 % 16 := Pipeline.Grid.coords_val t 1 (by decide) rfl
  have e2 : (t.val / 1 % 16) % 8 = t.val % 8 := by omega
  have e : bodyRun.sl.v10 (grid0.coords t) = firstBit (grid0.coords t 1).val := rfl
  rw [e, e1, firstBit_eq ⟨t.val / 1 % 16, by omega⟩]
  simp only [e2]

/-- At a sequence's first tile the halos found do not enter the output. -/
theorem first_out (c : Dev nD) (t : Fin cfg0.N) (ht : t.val % 8 = 0) (p q : Vec F S8x512 .f32) :
    (runAt m c t p q).1 = (runAt m c t blank blank).1 := by
  have hv : bodyRun.sl.v10 (grid0.coords t) = 1#1 := by rw [first_bit, ht]; rfl
  have sel : ∀ {α : Type} (x y : α), Scalar.select 1#1 x y = x := fun _ _ => rfl
  unfold runAt bodyRun
  dsimp only
  simp only [bodyRun.sl.r_18, bodyRun.sl.r_20, bodyRun.sl.r_21, bodyRun.sl.r_22, bodyRun.sl.r_13, bodyRun.sl.r_14,
    bodyRun.sl.r_16, bodyRun.sl.r_17, hv, k0_pay18, k0_pay19, k0_pay21, k0_pay23, sel]

theorem cover8 (c : Dev nD) (t : Fin cfg0.N) (p q : Vec F S8x512 .f32) (y : S1024x512.Idx) :
    ∃ pc ∈ (runAt m c t p q).1, y ∈ pc.1.set :=
  View.cover_of_tiledL (runAt m c t p q).1 S256x512.size (by sl_kernel_rfl) y
theorem coverA (c : Dev nD) (t : Fin cfg0.N) (p q : Vec F S8x512 .f32) (y : S8x512.Idx) :
    ∃ pc ∈ (runAt m c t p q).2.1, y ∈ pc.1.set :=
  View.cover_of_tiledL (runAt m c t p q).2.1 S8x512.size (by sl_kernel_rfl) y
theorem coverG (c : Dev nD) (t : Fin cfg0.N) (p q : Vec F S8x512 .f32) (y : S8x512.Idx) :
    ∃ pc ∈ (runAt m c t p q).2.2.1, y ∈ pc.1.set :=
  View.cover_of_tiledL (runAt m c t p q).2.2.1 S8x512.size (by sl_kernel_rfl) y

theorem haloA_eq (c : Dev nD) (t : Fin cfg0.N) (p q : Vec F S8x512 .f32) :
    haloA m c t = sc0.view.read (Elt F) (sc0.view.writes (Elt F) sc0.view.junk (runAt m c t p q).2.1) :=
  congrArg (fun L => sc0.view.read (Elt F) (sc0.view.writes (Elt F) sc0.view.junk L)) (leavesA m c t p q).symm
theorem haloG_eq (c : Dev nD) (t : Fin cfg0.N) (p q : Vec F S8x512 .f32) :
    haloG m c t = sc1.view.read (Elt F) (sc1.view.writes (Elt F) sc1.view.junk (runAt m c t p q).2.2.1) :=
  congrArg (fun L => sc1.view.read (Elt F) (sc1.view.writes (Elt F) sc1.view.junk L)) (leavesG m c t p q).symm
theorem outAt_first (c : Dev nD) (t : Fin cfg0.N) (ht : t.val % 8 = 0) (p q p' q' : Vec F S8x512 .f32) :
    outAt m c t p q = outAt m c t p' q' :=
  congrArg (fun L => VO.read (Elt F) (VO.writes (Elt F) VO.junk L)) ((first_out m c t ht p q).trans (first_out m c t ht p' q').symm)

theorem scoped_eq (c : Dev nD) : (Pipeline.ΦA spec0 c : sProp 𝕄)
    = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The halos found before position `n`: what the point before left (before the first point, a stand-in). -/
def foundA (c : Dev nD) : (n : ℕ) → n ≤ cfg0.N → Vec F S8x512 .f32
  | 0, _ => blank
  | n + 1, hn => haloA m c ⟨n, hn⟩
def foundG (c : Dev nD) : (n : ℕ) → n ≤ cfg0.N → Vec F S8x512 .f32
  | 0, _ => blank
  | n + 1, hn => haloG m c ⟨n, hn⟩

/-- The invariant before position `n`: after a point, both halos at what it left. -/
def carried (c : Dev nD) : (n : ℕ) → n ≤ cfg0.N → sProp 𝕄
  | 0, _ => Pipeline.ΦA spec0 c
  | n + 1, hn => iprop(iprop(owns (c : Thread nD τ) sc0 fullShare (haloA m c ⟨n, hn⟩) ∗ owns (c : Thread nD τ) sc1 fullShare (haloG m c ⟨n, hn⟩)) ∗ (∃ r, prngReg c r))

theorem carried_zero (c : Dev nD) (n : ℕ) (h : n ≤ cfg0.N) (hz : n = 0) : carried m c n h = Pipeline.ΦA spec0 c := by
  subst hz; rfl
theorem carried_pos (c : Dev nD) (n : ℕ) (h : n ≤ cfg0.N) (hz : n ≠ 0) :
    carried m c n h = iprop(iprop(owns (c : Thread nD τ) sc0 fullShare (foundA m c n h) ∗ owns (c : Thread nD τ) sc1 fullShare (foundG m c n h)) ∗ (∃ r, prngReg c r)) := by
  cases n with
  | zero => exact absurd rfl hz
  | succ n => rfl

/-- What the output's buffer holds after point `t`. -/
def tile (c : Dev nD) (t : Fin cfg0.N) : Vec F S1024x512 .bf16 :=
  outAt m c t (foundA m c t.val (Nat.le_of_lt t.isLt)) (foundG m c t.val (Nat.le_of_lt t.isLt))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => tile m c t
  Φ t := carried m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem inv_start (c : Dev nD) (t : Fin cfg0.N) :
    (dats m 0 c).Φ t.castSucc = carried m c t.val (Nat.le_of_lt t.isLt) := by
  dsimp only [dats]; exact Pipeline.Dat.Φ_castSucc (carried m c) t
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = tile m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t))

/-- One point: from the blocks and any halos `p`, `q` the body leaves the output's pieces and both halos. -/
theorem one_point (c : Dev nD) (t : Fin cfg0.N) (p q : Vec F S8x512 .f32)
    (ho : tile m c t = outAt m c t p q) :
    iprop(iprop(iprop(owns (c : Thread nD τ) sc0 fullShare p ∗ owns (c : Thread nD τ) sc1 fullShare q) ∗ (∃ r, prngReg c r)) ∗ (dats m 0 c).owesAt () t.castSucc
      ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))
    ⊢ wp frame (wpE (defs₀ (F := F)) Variants.none c none) Set.univ (bodyAt0 t) (fun _ => bodyPost m c t) := by
  unfold bodyPost bodyAt0
  simp only [before0, before1, before2, before3, before4, before5, before6, before7]
  rw [show (dats m 0 c).owesAt () t.succ = (dats m 0 c).owesAt () t.castSucc from rfl,
    after0, after1, after2, after3, after4, after5, after6, after7, after8]
  rw [show (dats m 0 c).Φ t.succ = iprop(iprop(owns (c : Thread nD τ) sc0 fullShare (haloA m c t) ∗ owns (c : Thread nD τ) sc1 fullShare (haloG m c t)) ∗ (∃ r, prngReg c r)) from rfl]
  rw [ho, haloA_eq m c t p q, haloG_eq m c t p q]
  unfold outAt
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runAt m c t p q).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  iintro ⟨H0, H1, H2, H3, H4, H5, H6, H7, ⟨%e8, H8⟩, ⟨%es0, HS0⟩, ⟨%es1, HS1⟩⟩
  isplitl [HS0 HS1 Hg]
  · isplitl [HS0 HS1]
    · isplitl [HS0]
      · unfold owns; iexists _; isplitr
        swap; · iexact HS0
        ipureintro; exact View.read_writes_of_cover _ _ _ _ _ (coverA m c t p q)
      unfold owns; iexists _; isplitr
      swap; · iexact HS1
      ipureintro; exact View.read_writes_of_cover _ _ _ _ _ (coverG m c t p q)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (cover8 m c t p q)

/-- The body at any point: at the first one the halos are at anything and do not matter; later they are the last point's. -/
theorem sound_body (c : Dev nD) (t : Fin cfg0.N) :
    bodyPre m c t ⊢ wp frame (wpE (defs₀ (F := F)) Variants.none c none) Set.univ (bodyAt0 t) (fun _ => bodyPost m c t) := by
  unfold bodyPre
  by_cases hz : t.val = 0
  · rw [inv_start, carried_zero m c _ _ hz, scoped_eq]
    iintro ⟨⟨⟨⟨%p, HS0⟩, ⟨%q, HS1⟩⟩, Hg⟩, Hr⟩
    iapply (one_point m c t p q (outAt_first m c t (by rw [hz]) _ _ p q))
    isplitl [HS0 HS1 Hg]
    · isplitl [HS0 HS1]
      · isplitl [HS0]; · iexact HS0
        iexact HS1
      iexact Hg
    iexact Hr
  · rw [inv_start, carried_pos m c _ _ hz]
    exact one_point m c t _ _ rfl

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem enter (c : Dev nD) : Pipeline.ΦA spec0 c ⊢ (dats m 0 c).Φ 0 := by
  rw [show (dats m 0 c).Φ 0 = carried m c 0 (Nat.zero_le _) from rfl, carried_zero m c 0 _ rfl]
  try exact Idealize.SL.BI.Entails.refl _

/-- After the last point the halos' contents are forgotten. -/
theorem leave (c : Dev nD) : (dats m 0 c).Φ (Fin.last cfg0.N) ⊢ Pipeline.ΦA spec0 c := by
  have ht : (Fin.last cfg0.N).val ≠ 0 := by rw [Fin.val_last]; have : cfg0.N = 256 := N_0; omega
  rw [show (dats m 0 c).Φ (Fin.last cfg0.N) = carried m c (Fin.last cfg0.N).val (Nat.le_of_lt_succ (Fin.last cfg0.N).isLt) from rfl, carried_pos m c _ _ ht, scoped_eq]
  iintro ⟨⟨HS0, HS1⟩, Hg⟩
  isplitl [HS0 HS1]
  · isplitl [HS0]
    · iexists _; iexact HS0
    iexists _; iexact HS1
  iexact Hg

set_option backward.isDefEq.respectTransparency.types false in
/-- The launch: every array ends at what the proof data says, and every semaphore is back at zero. -/
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_quiet m ρ)

/-- The frame claim's statement at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiet m ρ))

end Cert.UpIdeal.Carry

end
-- ==== Proof.UpBits.lean ====
/-
  The frame of the up projection at machine values: the program as compiled and the one read over the extended reals
  have the same text, so the frame proved for any values serves both.
-/
module

public import proofs.«01_k».proof.Proof.UpFrame
public import proofs.«01_k».proof.Proof.Gen.Up
public import proofs.«01_k».proof.Defs

@[expose] public section

set_option maxRecDepth 65536
set_option maxHeartbeats 400000

noncomputable section

namespace Cert.UpBits

open Idealize.ShloMosaic Idealize.ShloMosaic.TcCoe Idealize.SL.Sem

theorem bodies_eq : Cert.Up.defs₀ (F := Bits) = Cert.UpIdeal.defs₀ (F := Bits) := by
  unfold Cert.Up.defs₀ Cert.UpIdeal.defs₀
  congr 1
  funext l a
  fin_cases l
  rfl

theorem defs_eq : Cert.Up.defs (F := Bits) = Cert.UpIdeal.defs (F := Bits) := by
  unfold Cert.Up.defs Cert.UpIdeal.defs
  exact congrArg (Pipeline.defs (Cert.UpIdeal.pcfgs (F := Bits))) bodies_eq

theorem frame : Cert.quiescent_Up (hUp := Cert.Up.Gen.facts) := fun m ρ _ => by
  rw [defs_eq]
  exact Cert.UpIdeal.Carry.frame (F := Bits) m ρ

end Cert.UpBits

end
-- ==== Proof.UpConv.lean ====
/-
  The up projection's rows with the short convolution and the gate: what the kernel does to a chunk of 256 rows, the
  eight copies of it in the kernel's text as one term, and that term at an index.
-/
module

public import proofs.«01_k».proof.Proof.UpFrame
public import proofs.«01_k».proof.Proof.RowNorm
public import Idealize.ShloMosaic.Lib.Pipeline.ValueKit
public import Idealize.ShloMosaic.Lib.Pipeline.ReadBack
public import Idealize.ShloMosaic.Lib.Pointwise

@[expose] public section

set_option maxRecDepth 16384

noncomputable section

namespace Cert.UpK

open Finset Idealize.ShloMosaic Idealize.ShloMosaic.TcCoe Idealize.SL.Sem
open Cert.UpIdeal Cert.UpIdeal.Gen Cert.UpIdeal.Carry Cert.RowNorm

/-- A chunk's rows times a block of weights, each row scaled. -/
def prodV (w : FVec Ideal S1x4096x512 .bf16) (h : FVec Ideal S256x4096 .bf16) (r : FVec Ideal S256x1 .f32) :
    FVec Ideal S256x512 .f32 :=
  mulf (matmul dot_S256x4096_S4096x512_S256x512_1_0_0_1_n_n none h (shapeCast S4096x512 w shapeCasts_S1x4096x512_S4096x512)
    (constant S256x512 .f32 0x00000000#32)) (broadcastTo S256x512 r broadcasts_S256x1_S256x512)

/-- Row `n` of the halo, eight times over. -/
def haloRow7 (p : FVec Ideal S8x512 .f32) : FVec Ideal S8x512 .f32 :=
  broadcastTo S8x512 (shapeCast S1x512 (extractStridedSlice S1x512 ![7, 0] p slices_S8x512_o7_0_S1x512)
    shapeCasts_S1x512_S1x512) broadcasts_S1x512_S8x512
def haloRow6 (p : FVec Ideal S8x512 .f32) : FVec Ideal S8x512 .f32 :=
  broadcastTo S8x512 (shapeCast S1x512 (extractStridedSlice S1x512 ![6, 0] p slices_S8x512_o6_0_S1x512)
    shapeCasts_S1x512_S1x512) broadcasts_S1x512_S8x512

/-- The rows one and two before each of a chunk's, the first ones from the halo `p`. -/
def back1 (p : FVec Ideal S8x512 .f32) (u : FVec Ideal S256x512 .f32) : FVec Ideal S256x512 .f32 :=
  concatenate S256x512 0 [⟨S8x512, select (cmpi .eq (iota .tc S8x512 32 [0] iota_S8x512_d0_w32) (broadcast S8x512 0#32)) (haloRow7 p)
      (dynamicRotate 0 1#32 none (extractStridedSlice S8x512 ![0, 0] u slices_S256x512_o0_0_S8x512) rotates_S8x512_d0)⟩,
    ⟨S248x512, extractStridedSlice S248x512 ![8, 0] (dynamicRotate 0 1#32 none u rotates_S256x512_d0) slices_S256x512_o8_0_S248x512⟩]
    concatenates_S8x512_S248x512_S256x512_d0
def back2 (p : FVec Ideal S8x512 .f32) (u : FVec Ideal S256x512 .f32) : FVec Ideal S256x512 .f32 :=
  concatenate S256x512 0 [⟨S8x512, select (cmpi .eq (iota .tc S8x512 32 [0] iota_S8x512_d0_w32) (broadcast S8x512 0#32)) (haloRow6 p)
      (select (cmpi .eq (iota .tc S8x512 32 [0] iota_S8x512_d0_w32) (broadcast S8x512 1#32)) (haloRow7 p)
        (dynamicRotate 0 2#32 none (extractStridedSlice S8x512 ![0, 0] u slices_S256x512_o0_0_S8x512) rotates_S8x512_d0))⟩,
    ⟨S248x512, extractStridedSlice S248x512 ![8, 0] (dynamicRotate 0 2#32 none u rotates_S256x512_d0) slices_S256x512_o8_0_S248x512⟩]
    concatenates_S8x512_S248x512_S256x512_d0

/-- The convolution of a chunk's columns, and the gate. -/
def convV (w : Vec Ideal S1x3x512 .f32) (b : Vec Ideal S1x1x512 .f32) (p : FVec Ideal S8x512 .f32) (u : FVec Ideal S256x512 .f32) :
    FVec Ideal S256x512 .f32 :=
  addf (addf (addf (broadcastTo S256x512 (shapeCast S1x512 b shapeCasts_S1x1x512_S1x512) broadcasts_S1x512_S256x512)
    (mulf (broadcastTo S256x512 (extractStridedSlice S1x512 ![0, 0] (shapeCast S3x512 w shapeCasts_S1x3x512_S3x512) slices_S3x512_o0_0_S1x512) broadcasts_S1x512_S256x512) (back2 p u)))
    (mulf (broadcastTo S256x512 (extractStridedSlice S1x512 ![1, 0] (shapeCast S3x512 w shapeCasts_S1x3x512_S3x512) slices_S3x512_o1_0_S1x512) broadcasts_S1x512_S256x512) (back1 p u)))
    (mulf (broadcastTo S256x512 (extractStridedSlice S1x512 ![2, 0] (shapeCast S3x512 w shapeCasts_S1x3x512_S3x512) slices_S3x512_o2_0_S1x512) broadcasts_S1x512_S256x512) u)
def gateV (a g : FVec Ideal S256x512 .f32) : FVec Ideal S256x512 .bf16 :=
  truncf .bf16 (mulf (mulf a (logistic a)) g) bitsLt_bf16_f32

/-- A chunk's last eight rows. -/
def tailV (u : FVec Ideal S256x512 .f32) : FVec Ideal S8x512 .f32 := extractStridedSlice S8x512 ![248, 0] u slices_S256x512_o248_0_S8x512

/-! ## The kernel's text, copy by copy -/

variable (w : Vec Ideal S1x3x512 .f32) (b : Vec Ideal S1x1x512 .f32) (p x : FVec Ideal S8x512 .f32) (u u' A : FVec Ideal S256x512 .f32)
  (bit : BitVec 1)

theorem conv0 : k0_pay25 u (iota .tc S8x512 32 [0] iota_S8x512_d0_w32) (k0_pay18 bit x) (k0_pay20 u) (k0_pay21 bit u x) k0_pay22 (k0_pay23 bit x) k0_pay24 w b
    = convV w b (k0_pay18 bit x) u := rfl
theorem conv1 : k0_pay38 u' (iota .tc S8x512 32 [0] iota_S8x512_d0_w32) (k0_pay33 u) (k0_pay35 u') (k0_pay36 u u' (iota .tc S8x512 32 [0] iota_S8x512_d0_w32)) k0_pay37 w b
    = convV w b (tailV u) u' := rfl
theorem conv2 : k0_pay50 u' (iota .tc S8x512 32 [0] iota_S8x512_d0_w32) (k0_pay44 u) (k0_pay46 u') (k0_pay47 (iota .tc S8x512 32 [0] iota_S8x512_d0_w32)) (k0_pay48 u') (k0_pay49 u) w b
    = convV w b (tailV u) u' := rfl
theorem conv3 : k0_pay58 u' (iota .tc S8x512 32 [0] iota_S8x512_d0_w32) (k0_pay54 u) (k0_pay56 u') (k0_pay57 (iota .tc S8x512 32 [0] iota_S8x512_d0_w32)) w b
    = convV w b (tailV u) u' := rfl
theorem gate0 : k0_pay32 u A (k0_pay26 u) (k0_pay27 u (iota .tc S8x512 32 [0] iota_S8x512_d0_w32) p) (k0_pay28 (iota .tc S8x512 32 [0] iota_S8x512_d0_w32)) (k0_pay29 p) (k0_pay30 (iota .tc S8x512 32 [0] iota_S8x512_d0_w32))
    (k0_pay31 p) 2#32 w b = gateV A (convV w b p u) := rfl
theorem gate1 : k0_pay43 u' (iota .tc S8x512 32 [0] iota_S8x512_d0_w32) (k0_pay34 u) A (k0_pay39 u') (k0_pay40 u' (iota .tc S8x512 32 [0] iota_S8x512_d0_w32) (k0_pay34 u)) (k0_pay41 (iota .tc S8x512 32 [0] iota_S8x512_d0_w32))
    (k0_pay42 (k0_pay34 u)) 1#32 w b = gateV A (convV w b (tailV u) u') := rfl
theorem gate2 : k0_pay53 u' (iota .tc S8x512 32 [0] iota_S8x512_d0_w32) (k0_pay45 u) A (k0_pay51 u') (k0_pay52 u' (iota .tc S8x512 32 [0] iota_S8x512_d0_w32) (k0_pay45 u)) 0#32 w b
    = gateV A (convV w b (tailV u) u') := rfl
theorem gate3 : k0_pay63 u' (iota .tc S8x512 32 [0] iota_S8x512_d0_w32) (k0_pay55 u) A (k0_pay59 u') (k0_pay60 (iota .tc S8x512 32 [0] iota_S8x512_d0_w32)) (k0_pay61 (k0_pay55 u)) (k0_pay62 u') w b
    = gateV A (convV w b (tailV u) u') := rfl

/-! ## At an index -/

/-- A mask on one row, as a case split. -/
theorem pick_row {α : Type} {n : ℕ} (hn : n < 8) {k : ℕ} (hk : k < 8) (x y : α) :
    Scalar.select (IntOp.cmpi .eq (BitVec.ofNat 32 n) (BitVec.ofNat 32 k)) x y = if n = k then x else y := by
  have e : ∀ n k : Fin 8, IntOp.cmpi .eq (BitVec.ofNat 32 n.val) (BitVec.ofNat 32 k.val) = if n.val = k.val then 1#1 else 0#1 := by
    decide
  rw [e ⟨n, hn⟩ ⟨k, hk⟩]
  by_cases h : n = k
  · simp only [h, if_true]; rfl
  · simp only [h, if_false]; rfl

theorem at_rows {v v' : FVec Ideal S256x512 .f32} {a a' : Fin 256} (j : Fin 512) (e : v = v') (h : a.val = a'.val) :
    v (ix2 a j) = v' (ix2 a' j) := by
  rw [e, Fin.ext h]

theorem back1_at (i : Fin 256) (j : Fin 512) : back1 p u (ix2 i j)
    = if h : 1 ≤ i.val then u (ix2 ⟨i.val - 1, by omega⟩ j) else p (ix2 ⟨7 + i.val, by omega⟩ j) := by
  unfold back1 haloRow7
  pointwise
  have hi := i.isLt
  split <;> rename_i h8
  · rw [pick_row h8 (by decide)]
    by_cases h : i.val = 0
    · rw [if_pos h, dif_neg (by omega)]
      exact congrArg (fun a => p (ix2 a j)) (Fin.ext (show 7 = 7 + i.val by omega))
    · rw [if_neg h, dif_pos (by omega)]
      exact at_rows j rfl (show (i.val + 8 - 1) % 8 = i.val - 1 by omega)
  · rw [dif_pos (by omega)]
    exact at_rows j rfl (show (8 + (i.val - 8) + 256 - 1) % 256 = i.val - 1 by omega)

theorem back2_at (i : Fin 256) (j : Fin 512) : back2 p u (ix2 i j)
    = if h : 2 ≤ i.val then u (ix2 ⟨i.val - 2, by omega⟩ j) else p (ix2 ⟨6 + i.val, by omega⟩ j) := by
  unfold back2 haloRow7 haloRow6
  pointwise
  have hi := i.isLt
  split <;> rename_i h8
  · rw [pick_row h8 (by decide), pick_row h8 (by decide)]
    by_cases h : i.val = 0
    · rw [if_pos h, dif_neg (by omega)]
      exact congrArg (fun a => p (ix2 a j)) (Fin.ext (show 6 = 6 + i.val by omega))
    · rw [if_neg h]
      by_cases h1 : i.val = 1
      · rw [if_pos h1, dif_neg (by omega)]
        exact congrArg (fun a => p (ix2 a j)) (Fin.ext (show 7 = 6 + i.val by omega))
      · rw [if_neg h1, dif_pos (by omega)]
        exact at_rows j rfl (show (i.val + 8 - 2) % 8 = i.val - 2 by omega)
  · rw [dif_pos (by omega)]
    exact at_rows j rfl (show (8 + (i.val - 8) + 256 - 2) % 256 = i.val - 2 by omega)

theorem convV_at (i : Fin 256) (j : Fin 512) : convV w b p u (ix2 i j)
    = ((b (ix3 0 0 j) + w (ix3 0 0 j) * back2 p u (ix2 i j)) + w (ix3 0 1 j) * back1 p u (ix2 i j)) + w (ix3 0 2 j) * u (ix2 i j) := by
  unfold convV
  generalize back1 p u = s
  generalize back2 p u = s'
  pointwise

theorem gateV_at (g : FVec Ideal S256x512 .f32) (i : Fin 256) (j : Fin 512) : gateV A g (ix2 i j)
    = A (ix2 i j) * Ideal.logistic (A (ix2 i j)) * g (ix2 i j) := by
  unfold gateV
  pointwise

theorem tailV_at (i : Fin 8) (j : Fin 512) : tailV u (ix2 i j) = u (ix2 ⟨248 + i.val, by omega⟩ j) := by
  unfold tailV
  pointwise

theorem prodV_at (w : FVec Ideal S1x4096x512 .bf16) (h : FVec Ideal S256x4096 .bf16) (r : FVec Ideal S256x1 .f32) (i : Fin 256)
    (j : Fin 512) : prodV w h r (ix2 i j) = (∑ k : Fin 4096, h (ix2 i k) * w (ix3 0 k j)) * r (ix2 i 0) := by
  unfold prodV
  pointwise

theorem rstd_at (q : Vec Ideal S1024x128 .f32) (i : Fin 1024) : k0_pay5 q (ix2 i 0) = rstd (∑ l : Fin 128, q (ix2 i l)) := by
  rw [← rstd_mul]
  unfold k0_pay5
  pointwise

end Cert.UpK
end
-- ==== Proof.UpOut.lean ====
/-
  The up projection, convolved and gated: the whole array. A row of the result is the gate of two columns' convolutions
  over the row and the two before it in its sequence of 8192; before a sequence's first row there is nothing.
-/
module

public import proofs.«01_k».proof.Proof.RowNorm

@[expose] public section

noncomputable section

namespace Cert.UpK

open Finset Idealize.ShloMosaic Cert.RowNorm

/-- The entry `d` rows back in the same sequence of a column `u`. -/
def back (u : Fin 16384 → EReal) (d : ℕ) (r : Fin 16384) : EReal :=
  if d ≤ r.val % 8192 then u ⟨r.val - d, by omega⟩ else 0

/-- The convolution of a column with three taps. -/
def conv (u : Fin 16384 → EReal) (w : Fin 3 → EReal) (b : EReal) (r : Fin 16384) : EReal :=
  ((b + w 0 * back u 2 r) + w 1 * back u 1 r) + w 2 * u r

/-- The gate. -/
def gate (a g : EReal) : EReal := a * Ideal.logistic a * g

/-- A column of the product before the convolution, and after it. -/
def column (h : FVec Ideal ⟨2, ![16384, 4096]⟩ .bf16) (q : FVec Ideal ⟨2, ![16384, 128]⟩ .f32)
    (w : FVec Ideal ⟨3, ![4, 4096, 16384]⟩ .bf16) (j : Fin 16384) : Fin 16384 → EReal := scaled h q fun k => w (ix3 0 k j)
def convolved (h : FVec Ideal ⟨2, ![16384, 4096]⟩ .bf16) (q : FVec Ideal ⟨2, ![16384, 128]⟩ .f32)
    (w : FVec Ideal ⟨3, ![4, 4096, 16384]⟩ .bf16) (cw : FVec Ideal ⟨3, ![4, 3, 16384]⟩ .f32) (cb : FVec Ideal ⟨2, ![4, 16384]⟩ .f32)
    (j r : Fin 16384) : EReal := conv (column h q w j) (fun a => cw (ix3 0 a j)) (cb (ix2 0 j)) r

/-- The result at an entry, and as an array. -/
def entry (h : FVec Ideal ⟨2, ![16384, 4096]⟩ .bf16) (q : FVec Ideal ⟨2, ![16384, 128]⟩ .f32)
    (w : FVec Ideal ⟨3, ![4, 4096, 16384]⟩ .bf16) (cw : FVec Ideal ⟨3, ![4, 3, 16384]⟩ .f32) (cb : FVec Ideal ⟨2, ![4, 16384]⟩ .f32)
    (r : Fin 16384) (j : Fin 8192) : EReal :=
  gate (convolved h q w cw cb ⟨j.val, by omega⟩ r) (convolved h q w cw cb ⟨8192 + j.val, by omega⟩ r)
def out (h : FVec Ideal ⟨2, ![16384, 4096]⟩ .bf16) (q : FVec Ideal ⟨2, ![16384, 128]⟩ .f32)
    (w : FVec Ideal ⟨3, ![4, 4096, 16384]⟩ .bf16) (cw : FVec Ideal ⟨3, ![4, 3, 16384]⟩ .f32) (cb : FVec Ideal ⟨2, ![4, 16384]⟩ .f32) :
    FVec Ideal ⟨2, ![16384, 8192]⟩ .bf16 := fun i => entry h q w cw cb (i 0) (i 1)

end Cert.UpK
end
-- ==== Proof.UpChunk.lean ====
/-
  The up projection, convolved and gated: a tile's chunks and their convolution, at an index.
-/
module

public import proofs.«01_k».proof.Proof.UpConv
public import proofs.«01_k».proof.Proof.UpOut

@[expose] public section

set_option maxRecDepth 16384

noncomputable section

namespace Cert.UpK

open Finset Idealize.ShloMosaic Idealize.ShloMosaic.TcCoe Idealize.SL.Sem
open Cert.UpIdeal Cert.UpIdeal.Gen Cert.UpIdeal.Carry Cert.RowNorm

/-- An entry of the tile's product before the convolution. -/
def uAt (W : FVec Ideal S1x4096x512 .bf16) (H : FVec Ideal S1024x4096 .bf16) (Q : FVec Ideal S1024x128 .f32) (r : Fin 1024)
    (j : Fin 512) : EReal := (∑ k : Fin 4096, H (ix2 r k) * W (ix3 0 k j)) * rstd (∑ l : Fin 128, Q (ix2 r l))

theorem uAt_row (W : FVec Ideal S1x4096x512 .bf16) (H : FVec Ideal S1024x4096 .bf16) (Q : FVec Ideal S1024x128 .f32) {r r' : Fin 1024}
    (j : Fin 512) (h : r.val = r'.val) : uAt W H Q r j = uAt W H Q r' j := congrArg (uAt W H Q · j) (Fin.ext h)

/-- The 256 rows of it from `o` on. -/
def chunk (W : FVec Ideal S1x4096x512 .bf16) (H : FVec Ideal S1024x4096 .bf16) (Q : FVec Ideal S1024x128 .f32) (o : ℕ)
    (ho : o + 256 ≤ 1024) : FVec Ideal S256x512 .f32 :=
  fun i => uAt W H Q ⟨o + (i 0).val, by have h : (i 0).val < 256 := (i 0).isLt; omega⟩ (i 1)

theorem chunk_of (W : FVec Ideal S1x4096x512 .bf16) (H : FVec Ideal S1024x4096 .bf16) (Q : FVec Ideal S1024x128 .f32) (o : ℕ)
    (ho : o + 256 ≤ 1024) (h : FVec Ideal S256x4096 .bf16) (r : FVec Ideal S256x1 .f32)
    (eh : ∀ (i : Fin 256) k, h (ix2 i k) = H (ix2 ⟨o + i.val, by omega⟩ k))
    (er : ∀ i : Fin 256, r (ix2 i 0) = k0_pay5 Q (ix2 ⟨o + i.val, by omega⟩ 0)) : prodV W h r = chunk W H Q o ho := by
  funext i
  have ei : i = ix2 (i 0) (i 1) := by
    funext a
    fin_cases a <;> rfl
  refine (congrArg (prodV W h r) ei).trans ((prodV_at W h r (i 0) (i 1)).trans ?_)
  exact congrArg₂ (· * ·) (sum_congr rfl fun k _ => congrArg (· * _) (eh (i 0) k)) ((er (i 0)).trans (rstd_at Q _))

section
variable (W : FVec Ideal S1x4096x512 .bf16) (H : FVec Ideal S1024x4096 .bf16) (Q : FVec Ideal S1024x128 .f32)

theorem chunk0a : k0_pay7 W Q (View.ld (Val := Elt Ideal) (e' := .bf16) H (Rect.unit (s := S1024x4096) ![0, 0] ![256, 4096] inb_S1024x4096_S256x4096_0_0))
    = chunk W H Q 0 (by omega) :=
  chunk_of W H Q 0 _ _ (k0_pay6 Q) (fun i k => by pointwise) (fun i => by unfold k0_pay6; pointwise)
theorem chunk0g : k0_pay8 W Q (View.ld (Val := Elt Ideal) (e' := .bf16) H (Rect.unit (s := S1024x4096) ![0, 0] ![256, 4096] inb_S1024x4096_S256x4096_0_0))
    = chunk W H Q 0 (by omega) := chunk0a W H Q
theorem chunk1a : k0_pay10 (k0_pay3 W) (View.ld (Val := Elt Ideal) (e' := .bf16) H (Rect.unit (s := S1024x4096) ![256, 0] ![256, 4096] inb_S1024x4096_S256x4096_256_0)) (k0_pay9 Q)
    (constant S256x512 .f32 0x00000000#32) = chunk W H Q 256 (by omega) :=
  chunk_of W H Q 256 _ _ (k0_pay9 Q) (fun i k => by pointwise) (fun i => by unfold k0_pay9; pointwise)
theorem chunk1g : k0_pay11 (k0_pay4 W) (View.ld (Val := Elt Ideal) (e' := .bf16) H (Rect.unit (s := S1024x4096) ![256, 0] ![256, 4096] inb_S1024x4096_S256x4096_256_0)) (k0_pay9 Q)
    = chunk W H Q 256 (by omega) := chunk1a W H Q
theorem chunk2a : k0_pay13 (k0_pay3 W) (k0_pay5 Q) (View.ld (Val := Elt Ideal) (e' := .bf16) H (Rect.unit (s := S1024x4096) ![512, 0] ![256, 4096] inb_S1024x4096_S256x4096_512_0))
    = chunk W H Q 512 (by omega) :=
  chunk_of W H Q 512 _ _ (k0_pay12 (k0_pay5 Q)) (fun i k => by pointwise) (fun i => by unfold k0_pay12; pointwise)
theorem chunk2g : k0_pay14 (k0_pay4 W) (k0_pay5 Q) (View.ld (Val := Elt Ideal) (e' := .bf16) H (Rect.unit (s := S1024x4096) ![512, 0] ![256, 4096] inb_S1024x4096_S256x4096_512_0))
    = chunk W H Q 512 (by omega) := chunk2a W H Q
theorem chunk3a : k0_pay16 (k0_pay3 W) (k0_pay5 Q) (View.ld (Val := Elt Ideal) (e' := .bf16) H (Rect.unit (s := S1024x4096) ![768, 0] ![256, 4096] inb_S1024x4096_S256x4096_768_0))
    = chunk W H Q 768 (by omega) :=
  chunk_of W H Q 768 _ _ (k0_pay15 (k0_pay5 Q)) (fun i k => by pointwise) (fun i => by unfold k0_pay15; pointwise)
theorem chunk3g : k0_pay17 (k0_pay4 W) (k0_pay5 Q) (View.ld (Val := Elt Ideal) (e' := .bf16) H (Rect.unit (s := S1024x4096) ![768, 0] ![256, 4096] inb_S1024x4096_S256x4096_768_0))
    = chunk W H Q 768 (by omega) := chunk3a W H Q

/-- The rows one and two before a row of the tile, the ones before the tile from the halo `p`. -/
def prev1 (p : FVec Ideal S8x512 .f32) (r : Fin 1024) (j : Fin 512) : EReal :=
  if h : 1 ≤ r.val then uAt W H Q ⟨r.val - 1, by omega⟩ j else p (ix2 ⟨7 + r.val, by omega⟩ j)
def prev2 (p : FVec Ideal S8x512 .f32) (r : Fin 1024) (j : Fin 512) : EReal :=
  if h : 2 ≤ r.val then uAt W H Q ⟨r.val - 2, by omega⟩ j else p (ix2 ⟨6 + r.val, by omega⟩ j)

/-- The tile's convolution at an entry. -/
def convAt (w : FVec Ideal S1x3x512 .f32) (b : FVec Ideal S1x1x512 .f32) (p : FVec Ideal S8x512 .f32) (r : Fin 1024) (j : Fin 512) : EReal :=
  ((b (ix3 0 0 j) + w (ix3 0 0 j) * prev2 W H Q p r j) + w (ix3 0 1 j) * prev1 W H Q p r j) + w (ix3 0 2 j) * uAt W H Q r j

theorem conv_first (w : FVec Ideal S1x3x512 .f32) (b : FVec Ideal S1x1x512 .f32) (p : FVec Ideal S8x512 .f32) (i : Fin 256) (j : Fin 512)
    (r : Fin 1024) (hr : r.val = 0 + i.val) : convV w b p (chunk W H Q 0 (by omega)) (ix2 i j) = convAt W H Q w b p r j := by
  rw [convV_at, back1_at, back2_at]
  unfold convAt
  refine congrArg₂ (· + ·) (congrArg₂ (· + ·) (congrArg₂ (· + ·) rfl (congrArg (_ * ·) ?_)) (congrArg (_ * ·) ?_)) (congrArg (_ * ·) (uAt_row W H Q j hr.symm))
  · unfold prev2
    by_cases h : 2 ≤ i.val
    · rw [dif_pos h, dif_pos (by omega)]
      exact uAt_row W H Q j (show 0 + (i.val - 2) = r.val - 2 by omega)
    · rw [dif_neg h, dif_neg (by omega)]
      exact congrArg (fun a => p (ix2 a j)) (Fin.ext (show 6 + i.val = 6 + r.val by omega))
  · unfold prev1
    by_cases h : 1 ≤ i.val
    · rw [dif_pos h, dif_pos (show 1 ≤ r.val by omega)]
      exact uAt_row W H Q j (show 0 + (i.val - 1) = r.val - 1 by omega)
    · rw [dif_neg h, dif_neg (show ¬ 1 ≤ r.val by omega)]
      exact congrArg (fun a => p (ix2 a j)) (Fin.ext (show 7 + i.val = 7 + r.val by omega))

theorem conv_next (w : FVec Ideal S1x3x512 .f32) (b : FVec Ideal S1x1x512 .f32) (p : FVec Ideal S8x512 .f32) {o o' : ℕ} (ho : o + 256 ≤ 1024)
    (ho' : o' + 256 ≤ 1024) (e : o' = o + 256) (i : Fin 256) (j : Fin 512) (r : Fin 1024) (hr : r.val = o' + i.val) :
    convV w b (tailV (chunk W H Q o ho)) (chunk W H Q o' ho') (ix2 i j) = convAt W H Q w b p r j := by
  subst e
  rw [convV_at, back1_at, back2_at]
  unfold convAt
  refine congrArg₂ (· + ·) (congrArg₂ (· + ·) (congrArg₂ (· + ·) rfl (congrArg (_ * ·) ?_)) (congrArg (_ * ·) ?_)) (congrArg (_ * ·) (uAt_row W H Q j hr.symm))
  · unfold prev2
    rw [dif_pos (show 2 ≤ r.val by omega)]
    by_cases h : 2 ≤ i.val
    · rw [dif_pos h]
      exact uAt_row W H Q j (show o + 256 + (i.val - 2) = r.val - 2 by omega)
    · rw [dif_neg h, tailV_at]
      exact uAt_row W H Q j (show o + (248 + (6 + i.val)) = r.val - 2 by omega)
  · unfold prev1
    rw [dif_pos (show 1 ≤ r.val by omega)]
    by_cases h : 1 ≤ i.val
    · rw [dif_pos h]
      exact uAt_row W H Q j (show o + 256 + (i.val - 1) = r.val - 1 by omega)
    · rw [dif_neg h, tailV_at]
      exact uAt_row W H Q j (show o + (248 + (7 + i.val)) = r.val - 1 by omega)
end

/-- The halo as the point uses it: nothing at a sequence's first tile. -/
def haloUsed (first : Prop) [Decidable first] (p : FVec Ideal S8x512 .f32) : FVec Ideal S8x512 .f32 :=
  if first then fun _ => 0 else p

theorem used (first : Prop) [Decidable first] (p : FVec Ideal S8x512 .f32) :
    k0_pay18 (if first then 1#1 else 0#1) p = haloUsed first p := by
  unfold k0_pay18 haloUsed
  by_cases h : first
  · simp only [h, if_true]
    exact funext fun _ => zero_lit
  · simp only [h, if_false]
    rfl

theorem used' (first : Prop) [Decidable first] (p : FVec Ideal S8x512 .f32) :
    k0_pay19 (if first then 1#1 else 0#1) p = haloUsed first p := used first p

theorem bit_at (t : Fin cfg0.N) : Scalar.cmpi .eq (Scalar.select (Scalar.andi (Scalar.xori
      (Scalar.cmpi .slt (Scalar.remsi (BitVec.ofNat 32 (grid0.coords t 1).val) 8#32) 0#32) 0#1)
      (Scalar.cmpi .ne (Scalar.remsi (BitVec.ofNat 32 (grid0.coords t 1).val) 8#32) 0#32))
      (Scalar.addi (Scalar.remsi (BitVec.ofNat 32 (grid0.coords t 1).val) 8#32) 8#32)
      (Scalar.remsi (BitVec.ofNat 32 (grid0.coords t 1).val) 8#32)) 0#32 = if t.val % 8 = 0 then 1#1 else 0#1 :=
  first_bit t

theorem gate_row {a g : FVec Ideal S256x512 .f32} {y : S256x512.Idx} {A G : EReal} (ha : a (ix2 (y 0) (y 1)) = A)
    (hg : g (ix2 (y 0) (y 1)) = G) : gateV a g y = gate A G := by
  have ey : y = ix2 (y 0) (y 1) := by
    funext a
    fin_cases a <;> rfl
  rw [← ha, ← hg]
  exact (congrArg (gateV a g) ey).trans (gateV_at a g (y 0) (y 1))

end Cert.UpK
end
-- ==== Proof.UpHalo.lean ====
/-
  The up projection, convolved and gated: the halos a grid point leaves.
-/
module

public import proofs.«01_k».proof.Proof.UpChunk

@[expose] public section

set_option maxRecDepth 16384

noncomputable section

namespace Cert.UpK

open Finset Idealize.ShloMosaic Idealize.ShloMosaic.TcCoe Idealize.SL.Sem
open Cert.UpIdeal Cert.UpIdeal.Gen Cert.UpIdeal.Carry Cert.RowNorm

variable (m : (ℓ : Loc nD τ sig) → Buf (Elt Ideal) ℓ) (c : Dev nD)

/-- The halos a point leaves: the last eight rows of its product. -/
theorem haloA_at (t : Fin cfg0.N) (i : Fin 8) (j : Fin 512) : haloA m c t (ix2 i j) =
    uAt (iblk m c 2 t) (iblk m c 0 t) (iblk m c 1 t) ⟨1016 + i.val, by omega⟩ j := by
  have e : haloA m c t = tailV (chunk (iblk m c 2 t) (iblk m c 0 t) (iblk m c 1 t) 768 (by omega)) := by
    unfold haloA runAt bodyRun
    dsimp only
    frame_out
    rw [chunk3a]
    unfold k0_pay1 k0_pay64 tailV
    exact funext fun i => by pointwise
  rw [e, tailV_at]
  exact uAt_row _ _ _ j (show 768 + (248 + i.val) = 1016 + i.val by omega)

theorem haloG_at (t : Fin cfg0.N) (i : Fin 8) (j : Fin 512) : haloG m c t (ix2 i j) =
    uAt (iblk m c 3 t) (iblk m c 0 t) (iblk m c 1 t) ⟨1016 + i.val, by omega⟩ j := by
  have e : haloG m c t = tailV (chunk (iblk m c 3 t) (iblk m c 0 t) (iblk m c 1 t) 768 (by omega)) := by
    unfold haloG runAt bodyRun
    dsimp only
    frame_out
    rw [chunk3g]
    unfold k0_pay2 k0_pay65 tailV
    exact funext fun i => by pointwise
  rw [e, tailV_at]
  exact uAt_row _ _ _ j (show 768 + (248 + i.val) = 1016 + i.val by omega)

end Cert.UpK
end
-- ==== Proof.UpTile.lean ====
/-
  The up projection, convolved and gated: what a grid point leaves, of its blocks and the halos it finds.
-/
module

public import proofs.«01_k».proof.Proof.UpHalo

@[expose] public section

set_option maxRecDepth 16384

noncomputable section

namespace Cert.UpK

open Finset Idealize.ShloMosaic Idealize.ShloMosaic.TcCoe Idealize.SL.Sem
open Cert.UpIdeal Cert.UpIdeal.Gen Cert.UpIdeal.Carry Cert.RowNorm

variable (m : (ℓ : Loc nD τ sig) → Buf (Elt Ideal) ℓ) (c : Dev nD)

/-- What a point leaves in the output's buffer. -/
theorem out_at (t : Fin cfg0.N) (p q : Vec Ideal S8x512 .f32) (y : S1024x512.Idx) : outAt m c t p q y =
    gate (convAt (iblk m c 2 t) (iblk m c 0 t) (iblk m c 1 t) (iblk m c 4 t) (iblk m c 6 t) (haloUsed (t.val % 8 = 0) p) (y 0) (y 1))
      (convAt (iblk m c 3 t) (iblk m c 0 t) (iblk m c 1 t) (iblk m c 5 t) (iblk m c 7 t) (haloUsed (t.val % 8 = 0) q) (y 0) (y 1)) := by
  unfold outAt runAt bodyRun
  dsimp only
  frame_out
  simp only [read_unread_whole, bit_at, chunk0a, chunk0g, chunk1a, chunk1g, chunk2a, chunk2g, chunk3a, chunk3g]
  canon_tiles x h
  all_goals
    have ey : x 1 = y 1 := Fin.ext h1.symm
    rw [← ey]
  · refine (congrFun (gate3 _ _ _ _ _) x).trans (gate_row ?_ ?_)
    · exact (congrFun (conv3 _ _ _ _) _).trans (conv_next _ _ _ _ _ _ _ _ rfl _ _ _ h0)
    · exact conv_next _ _ _ _ _ _ _ _ rfl _ _ _ h0
  · refine (congrFun (gate2 _ _ _ _ _) x).trans (gate_row ?_ ?_)
    · exact (congrFun (conv2 _ _ _ _) _).trans (conv_next _ _ _ _ _ _ _ _ rfl _ _ _ h0)
    · exact conv_next _ _ _ _ _ _ _ _ rfl _ _ _ h0
  · refine (congrFun (gate1 _ _ _ _ _) x).trans (gate_row ?_ ?_)
    · exact (congrFun (conv1 _ _ _ _) _).trans (conv_next _ _ _ _ _ _ _ _ rfl _ _ _ h0)
    · exact conv_next _ _ _ _ _ _ _ _ rfl _ _ _ h0
  · refine (congrFun (gate0 _ _ _ _ _) x).trans (gate_row ?_ ?_)
    · refine (congrFun (conv0 _ _ _ _ _) _).trans ?_
      rw [used]
      exact conv_first _ _ _ _ _ _ _ _ _ (h0.trans (Nat.zero_add _).symm)
    · rw [used']
      exact conv_first _ _ _ _ _ _ _ _ _ (h0.trans (Nat.zero_add _).symm)

end Cert.UpK
end
-- ==== Proof.UpRead.lean ====
/-
  The up projection, convolved and gated: the blocks a grid point reads, by the arguments' entries.
-/
module

public import proofs.«01_k».proof.Proof.UpConv
public import Idealize.ShloMosaic.Lib.StableHlo.RunRead

@[expose] public section

set_option maxRecDepth 16384

noncomputable section

namespace Cert.UpK

open Finset Idealize.ShloMosaic Idealize.ShloMosaic.TcCoe Idealize.SL.Sem
open Cert.UpIdeal Cert.UpIdeal.Gen Cert.UpIdeal.Carry Cert.RowNorm

theorem idx : ∀ t : Fin cfg0.N, win0_0.index t = ![t.val % 16, 0] ∧ win0_1.index t = ![t.val % 16, 0] ∧
    win0_2.index t = ![0, 0, t.val / 16] ∧ win0_3.index t = ![0, 0, 16 + t.val / 16] ∧
    win0_4.index t = ![0, 0, t.val / 16] ∧ win0_5.index t = ![0, 0, 16 + t.val / 16] ∧
    win0_6.index t = ![0, 0, t.val / 16] ∧ win0_7.index t = ![0, 0, 16 + t.val / 16] ∧
    win0_8.index t = ![t.val % 16, t.val / 16] :=
  (by decide +kernel : ∀ t : Fin grid0.N, _)

theorem lt256 (t : Fin cfg0.N) : t.val < 256 := lt_of_lt_of_eq t.isLt N_0

variable (m : (ℓ : Loc nD τ sig) → Buf (Elt Ideal) ℓ) (c : Dev nD)

def rows : FVec Ideal S16384x4096 .bf16 := m ((c : Thread nD τ).loc main_arg0)
def squares : FVec Ideal S16384x128 .f32 := m ((c : Thread nD τ).loc main_arg1)
def weights : FVec Ideal S4x4096x16384 .bf16 := m ((c : Thread nD τ).loc main_arg2)
def taps : FVec Ideal S4x3x16384 .f32 := m ((c : Thread nD τ).loc main_arg3)
def bias : FVec Ideal S4x16384 .f32 := m ((c : Thread nD τ).loc main_arg4)

theorem read_h (t : Fin cfg0.N) (i : Fin 1024) (k : Fin 4096) : iblk m c 0 t (ix2 i k) =
    rows m c (ix2 ⟨1024 * (t.val % 16) + i.val, by omega⟩ k) := by
  blk_ext [iblk, V, rows, idx t]
theorem read_s (t : Fin cfg0.N) (i : Fin 1024) (l : Fin 128) : iblk m c 1 t (ix2 i l) =
    squares m c (ix2 ⟨1024 * (t.val % 16) + i.val, by omega⟩ l) := by
  blk_ext [iblk, V, squares, idx t]

theorem read_wa (t : Fin cfg0.N) (k : Fin 4096) (j : Fin 512) : iblk m c 2 t (ix3 0 k j) =
    weights m c (ix3 0 k ⟨512 * (t.val / 16) + j.val, by have := lt256 t; omega⟩) := by
  blk_ext [iblk, V, weights, idx t]
theorem read_wg (t : Fin cfg0.N) (k : Fin 4096) (j : Fin 512) : iblk m c 3 t (ix3 0 k j) =
    weights m c (ix3 0 k ⟨8192 + (512 * (t.val / 16) + j.val), by have := lt256 t; omega⟩) := by
  blk_ext [iblk, V, weights, idx t]

theorem read_ta (t : Fin cfg0.N) (a : Fin 3) (j : Fin 512) : iblk m c 4 t (ix3 0 a j) =
    taps m c (ix3 0 a ⟨512 * (t.val / 16) + j.val, by have := lt256 t; omega⟩) := by
  blk_ext [iblk, V, taps, idx t]
theorem read_tg (t : Fin cfg0.N) (a : Fin 3) (j : Fin 512) : iblk m c 5 t (ix3 0 a j) =
    taps m c (ix3 0 a ⟨8192 + (512 * (t.val / 16) + j.val), by have := lt256 t; omega⟩) := by
  blk_ext [iblk, V, taps, idx t]

/-- The bias's middle axis, which the host adds. -/
theorem made_bias (a : Fin 4) (j : Fin 16384) : ∀ X : FVec Ideal S4x1x16384 .f32, V m c main_v0 = X →
    X (ix3 a 0 j) = bias m c (ix2 a j) := by
  unfold V bias
  after_reads_simp
  rintro X rfl
  pointwise

theorem read_ba (t : Fin cfg0.N) (j : Fin 512) : iblk m c 6 t (ix3 0 0 j) =
    bias m c (ix2 0 ⟨512 * (t.val / 16) + j.val, by have := lt256 t; omega⟩) := by
  have := lt256 t
  blk_simp [iblk]
  refine Eq.trans ?_ (made_bias m c 0 ⟨512 * (t.val / 16) + j.val, by omega⟩ _ rfl)
  generalize V m c main_v0 = X
  blk_ext [idx t]
theorem read_bg (t : Fin cfg0.N) (j : Fin 512) : iblk m c 7 t (ix3 0 0 j) =
    bias m c (ix2 0 ⟨8192 + (512 * (t.val / 16) + j.val), by have := lt256 t; omega⟩) := by
  have := lt256 t
  blk_simp [iblk]
  refine Eq.trans ?_ (made_bias m c 0 ⟨8192 + (512 * (t.val / 16) + j.val), by omega⟩ _ rfl)
  generalize V m c main_v0 = X
  blk_ext [idx t]

end Cert.UpK
end
-- ==== Proof.UpValue.lean ====
/-
  The up projection, convolved and gated: the array that the launch leaves. A tile's rows before its own are those the
  point before it left in the halos, which are of the same columns and of the row tile before; at a sequence's first
  tile there are none.
-/
module

public import proofs.«01_k».proof.Proof.UpTile
public import proofs.«01_k».proof.Proof.UpRead

@[expose] public section

set_option maxRecDepth 16384

noncomputable section

namespace Cert.UpK

open Finset Idealize.ShloMosaic Idealize.ShloMosaic.TcCoe Idealize.SL.Sem
open Idealize.ShloMosaic.Pipeline (Dat)
open Cert.UpIdeal Cert.UpIdeal.Gen Cert.UpIdeal.Carry Cert.RowNorm

/-- A tile's convolution is the whole column's, from halos that hold the eight rows before the tile. -/
theorem convAt_conv {W : FVec Ideal S1x4096x512 .bf16} {H : FVec Ideal S1024x4096 .bf16} {Q : FVec Ideal S1024x128 .f32}
    {w : FVec Ideal S1x3x512 .f32} {b : FVec Ideal S1x1x512 .f32} {p : FVec Ideal S8x512 .f32} {j : Fin 512} {u : Fin 16384 → EReal}
    {wt : Fin 3 → EReal} {bt : EReal} {n k : ℕ} (hk : k < 16) (hn : n % 8 = k % 8)
    (hu : ∀ r : Fin 1024, uAt W H Q r j = u ⟨1024 * k + r.val, by omega⟩) (hw : ∀ a, w (ix3 0 a j) = wt a) (hb : b (ix3 0 0 j) = bt)
    (hp : ∀ a : Fin 8, k % 8 ≠ 0 → p (ix2 a j) = u ⟨1024 * k - 8 + a.val, by omega⟩) (r : Fin 1024) :
    convAt W H Q w b (haloUsed (n % 8 = 0) p) r j = conv u wt bt ⟨1024 * k + r.val, by omega⟩ := by
  have none : k % 8 = 0 → ∀ a : Fin 8, haloUsed (n % 8 = 0) p (ix2 a j) = 0 := fun h a => by
    unfold haloUsed
    rw [if_pos (by omega)]
  have some : k % 8 ≠ 0 → ∀ a : Fin 8, haloUsed (n % 8 = 0) p (ix2 a j) = u ⟨1024 * k - 8 + a.val, by omega⟩ := fun h a => by
    unfold haloUsed
    rw [if_neg (by omega)]
    exact hp a h
  have one : prev1 W H Q (haloUsed (n % 8 = 0) p) r j = back u 1 ⟨1024 * k + r.val, by omega⟩ := by
    unfold prev1 back
    by_cases hr : 1 ≤ r.val
    · rw [dif_pos hr, if_pos (show 1 ≤ (1024 * k + r.val) % 8192 by omega), hu]
      exact congrArg u (Fin.ext (show 1024 * k + (r.val - 1) = 1024 * k + r.val - 1 by omega))
    · rw [dif_neg hr]
      by_cases h : k % 8 = 0
      · rw [none h, if_neg (show ¬ 1 ≤ (1024 * k + r.val) % 8192 by omega)]
      · rw [some h, if_pos (show 1 ≤ (1024 * k + r.val) % 8192 by omega)]
        exact congrArg u (Fin.ext (show 1024 * k - 8 + (7 + r.val) = 1024 * k + r.val - 1 by omega))
  have two : prev2 W H Q (haloUsed (n % 8 = 0) p) r j = back u 2 ⟨1024 * k + r.val, by omega⟩ := by
    unfold prev2 back
    by_cases hr : 2 ≤ r.val
    · rw [dif_pos hr, if_pos (show 2 ≤ (1024 * k + r.val) % 8192 by omega), hu]
      exact congrArg u (Fin.ext (show 1024 * k + (r.val - 2) = 1024 * k + r.val - 2 by omega))
    · rw [dif_neg hr]
      by_cases h : k % 8 = 0
      · rw [none h, if_neg (show ¬ 2 ≤ (1024 * k + r.val) % 8192 by omega)]
      · rw [some h, if_pos (show 2 ≤ (1024 * k + r.val) % 8192 by omega)]
        exact congrArg u (Fin.ext (show 1024 * k - 8 + (6 + r.val) = 1024 * k + r.val - 2 by omega))
  unfold convAt conv
  rw [one, two, hw, hw, hw, hb, hu]

variable (m : (ℓ : Loc nD τ sig) → Buf (Elt Ideal) ℓ) (c : Dev nD)

theorem uAt_a (t : Fin cfg0.N) (r : Fin 1024) (j : Fin 512) : uAt (iblk m c 2 t) (iblk m c 0 t) (iblk m c 1 t) r j =
    column (rows m c) (squares m c) (weights m c) ⟨512 * (t.val / 16) + j.val, by have := lt256 t; omega⟩
      ⟨1024 * (t.val % 16) + r.val, by omega⟩ :=
  congrArg₂ (· * ·) (sum_congr rfl fun k _ => congrArg₂ (· * ·) (read_h m c t r k) (read_wa m c t k j))
    (congrArg rstd (sum_congr rfl fun l _ => read_s m c t r l))
theorem uAt_g (t : Fin cfg0.N) (r : Fin 1024) (j : Fin 512) : uAt (iblk m c 3 t) (iblk m c 0 t) (iblk m c 1 t) r j =
    column (rows m c) (squares m c) (weights m c) ⟨8192 + (512 * (t.val / 16) + j.val), by have := lt256 t; omega⟩
      ⟨1024 * (t.val % 16) + r.val, by omega⟩ :=
  congrArg₂ (· * ·) (sum_congr rfl fun k _ => congrArg₂ (· * ·) (read_h m c t r k) (read_wg m c t k j))
    (congrArg rstd (sum_congr rfl fun l _ => read_s m c t r l))

/-- The halos found: of the same columns, the eight rows before the tile. -/
theorem found_a (t : Fin cfg0.N) (ht : t.val % 16 % 8 ≠ 0) (a : Fin 8) (j : Fin 512) : foundA m c t.val t.isLt.le (ix2 a j) =
    column (rows m c) (squares m c) (weights m c) ⟨512 * (t.val / 16) + j.val, by have := lt256 t; omega⟩
      ⟨1024 * (t.val % 16) - 8 + a.val, by omega⟩ := by
  obtain ⟨n, hn⟩ := t
  cases n with
  | zero => exact absurd rfl ht
  | succ n =>
    have ht : (n + 1) % 16 % 8 ≠ 0 := ht
    refine (haloA_at m c ⟨n, Nat.lt_of_succ_lt hn⟩ a j).trans ((uAt_a m c _ _ j).trans ?_)
    exact congrArg₂ (column (rows m c) (squares m c) (weights m c))
      (Fin.ext (show 512 * (n / 16) + j.val = 512 * ((n + 1) / 16) + j.val by omega))
      (Fin.ext (show 1024 * (n % 16) + (1016 + a.val) = 1024 * ((n + 1) % 16) - 8 + a.val by omega))
theorem found_g (t : Fin cfg0.N) (ht : t.val % 16 % 8 ≠ 0) (a : Fin 8) (j : Fin 512) : foundG m c t.val t.isLt.le (ix2 a j) =
    column (rows m c) (squares m c) (weights m c) ⟨8192 + (512 * (t.val / 16) + j.val), by have := lt256 t; omega⟩
      ⟨1024 * (t.val % 16) - 8 + a.val, by omega⟩ := by
  obtain ⟨n, hn⟩ := t
  cases n with
  | zero => exact absurd rfl ht
  | succ n =>
    have ht : (n + 1) % 16 % 8 ≠ 0 := ht
    refine (haloG_at m c ⟨n, Nat.lt_of_succ_lt hn⟩ a j).trans ((uAt_g m c _ _ j).trans ?_)
    exact congrArg₂ (column (rows m c) (squares m c) (weights m c))
      (Fin.ext (show 8192 + (512 * (n / 16) + j.val) = 8192 + (512 * ((n + 1) / 16) + j.val) by omega))
      (Fin.ext (show 1024 * (n % 16) + (1016 + a.val) = 1024 * ((n + 1) % 16) - 8 + a.val by omega))

/-- What a point leaves, by the arguments' entries. -/
theorem tile_at (t : Fin cfg0.N) (y : S1024x512.Idx) : tile m c t y =
    entry (rows m c) (squares m c) (weights m c) (taps m c) (bias m c)
      ⟨1024 * (t.val % 16) + (y 0).val, by have h : (y 0).val < 1024 := (y 0).isLt; omega⟩
      ⟨512 * (t.val / 16) + (y 1).val, by have := lt256 t; have h : (y 1).val < 512 := (y 1).isLt; omega⟩ := by
  refine (out_at m c t _ _ y).trans ?_
  have hk : t.val % 16 < 16 := Nat.mod_lt _ (by decide)
  have hn : t.val % 8 = t.val % 16 % 8 := by omega
  exact congrArg₂ gate
    (convAt_conv hk hn (fun r => uAt_a m c t r (y 1)) (fun a => read_ta m c t a (y 1)) (read_ba m c t (y 1))
      (fun a h => found_a m c t h a (y 1)) (y 0))
    (convAt_conv hk hn (fun r => uAt_g m c t r (y 1)) (fun a => read_tg m c t a (y 1)) (read_bg m c t (y 1))
      (fun a h => found_g m c t h a (y 1)) (y 0))

theorem out_eq : (dats m 0 c).arrAt 8 cfg0.N = out (rows m c) (squares m c) (weights m c) (taps m c) (bias m c) := by
  refine (dats m 0 c).arrAt_eq_of_covers 8 _ (by decide +kernel) fun t hf y => ?_
  blk_simp
  rw [after8]
  have ht := lt256 t
  have h0 : (y 0).val < 1024 := (y 0).isLt
  have h1 : (y 1).val < 512 := (y 1).isLt
  have e : ∀ X : FVec Ideal S16384x8192 .bf16, X (ix2 ⟨1024 * (t.val % 16) + (y 0).val, by omega⟩
      ⟨512 * (t.val / 16) + (y 1).val, by omega⟩) = X ((win0_8.blk t).view.emb y) := fun X => by
    blk_ext [idx t]
  exact (tile_at m c t y).trans (e (out (rows m c) (squares m c) (weights m c) (taps m c) (bias m c)))

end Cert.UpK
end
-- ==== Proof.UpRefAt.lean ====
/-
  The reference of the up projection, convolved and gated, at an index.
-/
module

public import proofs.«01_k».proof.Proof.Gen.UpRefIdeal.Run
public import proofs.«01_k».proof.Proof.UpOut

@[expose] public section

set_option maxRecDepth 16384

noncomputable section

namespace Cert.UpClaims

open Finset Idealize.ShloMosaic Idealize.ShloMosaic.TcCoe Idealize.SL.Sem
open Cert.UpRefIdeal Cert.UpRefIdeal.Gen Cert.RowNorm Cert.UpK

/-- The normed rows, as sequences, times the weights. -/
def prod (h : FVec Ideal S16384x4096 .bf16) (q : FVec Ideal S16384x128 .f32) (w : FVec Ideal S4x4096x16384 .bf16) :
    FVec Ideal S2x8192x16384 .f32 :=
  Host.dotGeneral dot_S2x8192x4096_S4096x16384_S2x8192x16384_2_0_01_1_n_n none (shapeCast _ (mulf (extf .f32 h bitsLt_bf16_f32) (broadcastInDim S16384x4096 ![0, 1] bcast_S16384x1_S16384x4096_0_1 (Host.rsqrt (addf (Host.divf (broadcastInDim S16384x1 ![0] bcast_S16384_S16384x1_0 (Host.reduceAdd q (constant S_ .f32 0x00000000#32) reducesTo_S16384x128_S16384_d1 h_S_)) (broadcastInDim S16384x1 ![] bcast_S_S16384x1 (constant S_ .f32 0x45800000#32))) (broadcastInDim S16384x1 ![] bcast_S_S16384x1 (constant S_ .f32 0x358637BD#32)))))) shapeCasts_S16384x4096_S2x8192x4096) (extf .f32 (shapeCast _ (extractStridedSlice S1x4096x16384 ![0, 0, 0] w slices_S4x4096x16384_S1x4096x16384_0_0_0) shapeCasts_S1x4096x16384_S4096x16384) bitsLt_bf16_f32)

theorem prod_at (h : FVec Ideal S16384x4096 .bf16) (q : FVec Ideal S16384x128 .f32) (w : FVec Ideal S4x4096x16384 .bf16)
    (b : Fin 2) (s : Fin 8192) (j : Fin 16384) : prod h q w (ix3 b s j) = normed h q (fun k => w (ix3 0 k j)) ⟨b.val * 8192 + s.val, by omega⟩ := by
  unfold prod normed rstd
  pointwise

theorem sitofp_zero : (FloatOps.sitofp .f32 (0#32) : Ideal .f32) = (0 : EReal) := by
  show (((0#32).toInt : ℝ) : EReal) = 0
  norm_num

/-- Two rows of nothing before each sequence. -/
def padded (u : FVec Ideal S2x8192x16384 .f32) : FVec Ideal S2x8194x16384 .f32 :=
  pad S2x8194x16384 ![0, 2, 0] ![0, 0, 0] ![0, 0, 0] u (sitofp .f32 (constantI S_ 32 0#32)) pads_S2x8192x16384_S2x8194x16384_000_200_000 h_S_

theorem padded_at (u : FVec Ideal S2x8192x16384 .f32) (b : Fin 2) (s : Fin 8194) (j : Fin 16384) :
    padded u (ix3 b s j) = if hs : 2 ≤ s.val then u (ix3 b ⟨s.val - 2, by omega⟩ j) else 0 := by
  unfold padded
  pointwise
  by_cases hs : 2 ≤ s.val
  · rw [dif_pos ⟨hs, by omega⟩, dif_pos hs]
  · rw [dif_neg (fun h => hs h.1), dif_neg hs]
    exact sitofp_zero

/-- The convolution. -/
def convd (u : FVec Ideal S2x8194x16384 .f32) (cw : FVec Ideal S4x3x16384 .f32) (cb : FVec Ideal S4x16384 .f32) : FVec Ideal S2x8192x16384 .f32 :=
  addf (addf (addf (broadcastInDim S2x8192x16384 ![0, 1, 2] bcast_S1x1x16384_S2x8192x16384_0_1_2 (broadcastInDim S1x1x16384 ![2] bcast_S16384_S1x1x16384_2 (shapeCast _ (extractStridedSlice S1x16384 ![0, 0] cb slices_S4x16384_S1x16384_0_0) shapeCasts_S1x16384_S16384))) (mulf (broadcastInDim S2x8192x16384 ![0, 1, 2] bcast_S1x1x16384_S2x8192x16384_0_1_2 (broadcastInDim S1x1x16384 ![2] bcast_S16384_S1x1x16384_2 (shapeCast _ (extractStridedSlice S1x1x16384 ![0, 0, 0] cw slices_S4x3x16384_S1x1x16384_0_0_0) shapeCasts_S1x1x16384_S16384))) (extractStridedSlice S2x8192x16384 ![0, 0, 0] u slices_S2x8194x16384_S2x8192x16384_0_0_0))) (mulf (broadcastInDim S2x8192x16384 ![0, 1, 2] bcast_S1x1x16384_S2x8192x16384_0_1_2 (broadcastInDim S1x1x16384 ![2] bcast_S16384_S1x1x16384_2 (shapeCast _ (extractStridedSlice S1x1x16384 ![0, 1, 0] cw slices_S4x3x16384_S1x1x16384_0_1_0) shapeCasts_S1x1x16384_S16384))) (extractStridedSlice S2x8192x16384 ![0, 1, 0] u slices_S2x8194x16384_S2x8192x16384_0_1_0))) (mulf (broadcastInDim S2x8192x16384 ![0, 1, 2] bcast_S1x1x16384_S2x8192x16384_0_1_2 (broadcastInDim S1x1x16384 ![2] bcast_S16384_S1x1x16384_2 (shapeCast _ (extractStridedSlice S1x1x16384 ![0, 2, 0] cw slices_S4x3x16384_S1x1x16384_0_2_0) shapeCasts_S1x1x16384_S16384))) (extractStridedSlice S2x8192x16384 ![0, 2, 0] u slices_S2x8194x16384_S2x8192x16384_0_2_0))

theorem convd_at (u : FVec Ideal S2x8194x16384 .f32) (cw : FVec Ideal S4x3x16384 .f32) (cb : FVec Ideal S4x16384 .f32)
    (b : Fin 2) (s : Fin 8192) (j : Fin 16384) : convd u cw cb (ix3 b s j) =
      ((cb (ix2 0 j) + cw (ix3 0 0 j) * u (ix3 b ⟨s.val, by omega⟩ j)) + cw (ix3 0 1 j) * u (ix3 b ⟨1 + s.val, by omega⟩ j))
        + cw (ix3 0 2 j) * u (ix3 b ⟨2 + s.val, by omega⟩ j) := by
  unfold convd
  pointwise

/-- The gate, the sequences' rows one after another. -/
def gated (y : FVec Ideal S2x8192x16384 .f32) : FVec Ideal S16384x8192 .bf16 :=
  shapeCast _ (truncf .bf16 (mulf (mulf (extractStridedSlice S2x8192x8192 ![0, 0, 0] y slices_S2x8192x16384_S2x8192x8192_0_0_0) (Host.divf (broadcastInDim S2x8192x8192 ![] bcast_S_S2x8192x8192 (constant S_ .f32 0x3F800000#32)) (addf (broadcastInDim S2x8192x8192 ![] bcast_S_S2x8192x8192 (constant S_ .f32 0x3F800000#32)) (Host.exp (Host.negf (extractStridedSlice S2x8192x8192 ![0, 0, 0] y slices_S2x8192x16384_S2x8192x8192_0_0_0)))))) (extractStridedSlice S2x8192x8192 ![0, 0, 8192] y slices_S2x8192x16384_S2x8192x8192_0_0_8192)) bitsLt_bf16_f32) shapeCasts_S2x8192x8192_S16384x8192

theorem one_lit : Ideal.ofBits .f32 0x3F800000#32 = (1 : EReal) := by
  simp [Ideal.ofBits, Ideal.ieee, -EReal.coe_mul]; norm_num

theorem gated_at (y : FVec Ideal S2x8192x16384 .f32) (r : Fin 16384) (j : Fin 8192) : gated y (ix2 r j) =
    gate (y (ix3 ⟨r.val / 8192, by omega⟩ ⟨r.val % 8192, by omega⟩ ⟨j.val, by omega⟩))
      (y (ix3 ⟨r.val / 8192, by omega⟩ ⟨r.val % 8192, by omega⟩ ⟨8192 + j.val, by omega⟩)) := by
  unfold gated gate Ideal.logistic
  rw [← one_lit]
  pointwise

/-- The reference's result, of the arguments. -/
def result (h : FVec Ideal S16384x4096 .bf16) (q : FVec Ideal S16384x128 .f32) (w : FVec Ideal S4x4096x16384 .bf16)
    (cw : FVec Ideal S4x3x16384 .f32) (cb : FVec Ideal S4x16384 .f32) : FVec Ideal S16384x8192 .bf16 :=
  gated (convd (padded (prod h q w)) cw cb)

theorem result_out (h : FVec Ideal S16384x4096 .bf16) (q : FVec Ideal S16384x128 .f32) (w : FVec Ideal S4x4096x16384 .bf16)
    (cw : FVec Ideal S4x3x16384 .f32) (cb : FVec Ideal S4x16384 .f32) (hq : ∀ i l, 0 ≤ q (ix2 i l)) :
    result h q w cw cb = out h q w cw cb := by
  have col : ∀ (r : Fin 16384) (j : Fin 16384), convd (padded (prod h q w)) cw cb (ix3 ⟨r.val / 8192, by omega⟩ ⟨r.val % 8192, by omega⟩ j)
      = convolved h q w cw cb j r := by
    intro r j
    have hu : ∀ (d : ℕ) (hd : d ≤ r.val % 8192), prod h q w (ix3 ⟨r.val / 8192, by omega⟩ ⟨r.val % 8192 - d, by omega⟩ j)
        = column h q w j ⟨r.val - d, by omega⟩ := by
      intro d hd
      rw [prod_at]
      refine (congrArg (normed h q _) (Fin.ext ?_)).trans (scaled_eq h q _ _ (hq _)).symm
      show r.val / 8192 * 8192 + (r.val % 8192 - d) = r.val - d
      omega
    have hp : ∀ (d e : ℕ) (he : e + d = 2), padded (prod h q w) (ix3 ⟨r.val / 8192, by omega⟩ ⟨e + r.val % 8192, by omega⟩ j)
        = back (column h q w j) d r := by
      intro d e he
      rw [padded_at]
      unfold back
      by_cases hd : d ≤ r.val % 8192
      · rw [if_pos hd, dif_pos (show 2 ≤ e + r.val % 8192 by omega), ← hu d hd]
        exact congrArg (fun s => prod h q w (ix3 _ s j)) (Fin.ext (show e + r.val % 8192 - 2 = r.val % 8192 - d by omega))
      · rw [if_neg hd, dif_neg (show ¬ 2 ≤ e + r.val % 8192 by omega)]
    rw [convd_at]
    unfold convolved conv
    refine congrArg₂ (· + ·) (congrArg₂ (· + ·) (congrArg₂ (· + ·) rfl (congrArg (_ * ·) ?_)) (congrArg (_ * ·) (hp 1 1 rfl))) (congrArg (_ * ·) ?_)
    · refine Eq.trans ?_ (hp 2 0 rfl)
      exact congrArg (fun s => padded (prod h q w) (ix3 _ s j)) (Fin.ext (show r.val % 8192 = 0 + r.val % 8192 by omega))
    · refine (hp 0 2 rfl).trans ?_
      unfold back
      rw [if_pos (Nat.zero_le _)]
      rfl
  funext i
  rw [show i = ix2 (i 0) (i 1) by funext a; fin_cases a <;> rfl]
  refine (gated_at _ (i 0) (i 1)).trans ?_
  exact congrArg₂ gate (col (i 0) _) (col (i 0) _)

end Cert.UpClaims
end
-- ==== Proof.UpAgree.lean ====
/-
  The claims of the up projection, convolved and gated: the kernel and the reference side by side.
-/
module

public import proofs.«01_k».proof.Defs
public import proofs.«01_k».proof.Proof.Gen.Pre_up_squares
public import proofs.«01_k».proof.Proof.UpValue
public import proofs.«01_k».proof.Proof.UpRefAt
public import Idealize.ShloMosaic.Lib.Claim

@[expose] public section

set_option maxRecDepth 16384

noncomputable section

namespace Cert.UpClaims

open Finset Idealize.ShloMosaic Idealize.ShloMosaic.TcCoe Idealize.SL.Sem
open Cert.RowNorm

theorem squares_of_pre [Cert.Pre_up_squares.Facts] (h : FVec Ideal ⟨2, ![16384, 4096]⟩ .bf16) (q : FVec Ideal ⟨2, ![16384, 128]⟩ .f32)
    (w : FVec Ideal ⟨3, ![4, 4096, 16384]⟩ .bf16) (cw : FVec Ideal ⟨3, ![4, 3, 16384]⟩ .f32) (cb : FVec Ideal ⟨2, ![4, 16384]⟩ .f32)
    (e : Cert.Pre_up_squares.fn (F := Ideal) h q w cw cb = fun _ => 1#1) : ∀ i l, 0 ≤ q (ix2 i l) := by
  intro i l
  refine nonneg_of_cmp ((Eq.trans ?_ (congrFun e (ix2 i l))))
  unfold Cert.Pre_up_squares.fn
  pointwise

theorem frame_ref : Cert.quiescent_UpRefIdeal (hUpRefIdeal := Cert.UpRefIdeal.Gen.facts) := fun m ρ _ =>
  (θ_run Cert.UpRefIdeal.defs _ _).mono (fun r h => ⟨fun c => (h c).2, sem_eq_zero_of_no_sems (by decide) r.2⟩)
    (Cert.UpRefIdeal.Value.run m ρ)

theorem algebraic : Cert.algebraic_UpIdeal_UpRefIdeal_pre_up_squares (hUpIdeal := Cert.UpIdeal.Gen.facts)
    (hUpRefIdeal := Cert.UpRefIdeal.Gen.facts) (hPre_up_squares := Cert.Pre_up_squares.Gen.facts) := by
  intro m g m' g' hpre hagree
  refine ⟨fun c => Cert.UpK.out (Cert.UpK.rows m c) (Cert.UpK.squares m c) (Cert.UpK.weights m c) (Cert.UpK.taps m c)
    (Cert.UpK.bias m c), ?_, ?_⟩
  · exact (θ_run Cert.UpIdeal.defs _ _).mono
      (fun r h c => ⟨((h.1 c).1 8).trans (Cert.UpK.out_eq m c), h.2.1 c⟩)
      (θ_run_and (Cert.UpIdeal.Carry.run_main m g) (Cert.UpIdeal.Carry.frame m g))
  · refine (θ_run Cert.UpRefIdeal.defs _ _).mono (fun r h c => ⟨(h c).1.trans ?_, (h c).2⟩)
      (Cert.UpRefIdeal.Value.run m' g')
    obtain ⟨e0, e1, e2, e3, e4⟩ := hagree c
    unfold Cert.UpRefIdeal.Value.res_main_v46
    rw [e0, e1, e2, e3, e4]
    exact result_out _ _ _ _ _ (squares_of_pre _ _ _ _ _ (hpre c))

end Cert.UpClaims
end
-- ==== Proof.OutValue.lean ====
/-
  The output projection: what each grid point leaves, and the three arrays of the launch - the sums with the residual,
  the same times the next norm's weights, and the sums of squares by lane.
-/
module

public import proofs.«01_k».proof.Proof.Gen.OutIdeal.Value
public import Idealize.ShloMosaic.Lib.Pipeline.ValueKit
public import Idealize.ShloMosaic.Lib.Pipeline.ReadBack
public import Idealize.ShloMosaic.Lib.StableHlo.RunRead
public import Idealize.ShloMosaic.Lib.Pointwise

@[expose] public section

set_option maxRecDepth 16384

noncomputable section

namespace Cert.OutK

open Finset Idealize.ShloMosaic Idealize.ShloMosaic.TcCoe Idealize.SL.Sem
open Idealize.ShloMosaic.Pipeline (Dat)
open Cert.OutIdeal Cert.OutIdeal.Gen

theorem pay2_at (wa : Vec Ideal S1x3072x256 .f32) (wb : Vec Ideal S1x1024x256 .f32) (a : Vec Ideal S2048x3072 .bf16)
    (b : Vec Ideal S2048x1024 .bf16) (x : Vec Ideal S2048x256 .f32) (i : Fin 2048) (j : Fin 256) :
    k0_pay2 wa wb a b x (ix2 i j) = x (ix2 i j)
      + (∑ k : Fin 3072, a (ix2 i k) * wa (ix3 0 k j) + ∑ k : Fin 1024, b (ix2 i k) * wb (ix3 0 k j)) := by
  unfold k0_pay2
  pointwise

theorem pay3_at (wa : Vec Ideal S1x3072x256 .f32) (wb : Vec Ideal S1x1024x256 .f32) (a : Vec Ideal S2048x3072 .bf16)
    (b : Vec Ideal S2048x1024 .bf16) (x : Vec Ideal S2048x256 .f32) (g : Vec Ideal S1x256 .f32) (i : Fin 2048) (j : Fin 256) :
    k0_pay3 wa wb a b x g (ix2 i j) = k0_pay2 wa wb a b x (ix2 i j) * g (ix2 0 j) := by
  unfold k0_pay3
  generalize k0_pay2 wa wb a b x = p
  pointwise

theorem pay4_at (wa : Vec Ideal S1x3072x256 .f32) (wb : Vec Ideal S1x1024x256 .f32) (a : Vec Ideal S2048x3072 .bf16)
    (b : Vec Ideal S2048x1024 .bf16) (x : Vec Ideal S2048x256 .f32)
    (s : Vec Ideal S2048x128 .f32) (i : Fin 2048) (l : Fin 128) (p : Fin 256 → EReal)
    (hp : ∀ j, k0_pay2 wa wb a b x (ix2 i j) = p j) : k0_pay4 wa wb a b x s (ix2 i l)
      = s (ix2 i l) + (p ⟨l.val, by omega⟩ * p ⟨l.val, by omega⟩
        + p ⟨128 + l.val, by omega⟩ * p ⟨128 + l.val, by omega⟩) := by
  simp only [← hp]
  unfold k0_pay4
  generalize k0_pay2 wa wb a b x = p
  pointwise

variable (m : (ℓ : Loc nD τ sig) → Buf (Elt Ideal) ℓ) (c : Dev nD)

/-- The block of sums a point computes. -/
def prod (t : Fin cfg0.N) : FVec Ideal S2048x256 .f32 :=
  k0_pay2 (X0_0 m c t) (iblk m c 3 t) (iblk m c 1 t) (iblk m c 2 t) (iblk m c 4 t)

/-- The same times the gains. -/
def gained (t : Fin cfg0.N) : FVec Ideal S2048x256 .bf16 :=
  k0_pay3 (X0_0 m c t) (iblk m c 3 t) (iblk m c 1 t) (iblk m c 2 t) (iblk m c 4 t) (iblk m c 5 t)

/-- The sums of squares with the point's added. -/
def summed (t : Fin cfg0.N) (s : Vec Ideal S2048x128 .f32) : FVec Ideal S2048x128 .f32 :=
  k0_pay4 (X0_0 m c t) (iblk m c 3 t) (iblk m c 1 t) (iblk m c 2 t) (iblk m c 4 t) s

theorem outs_B (t : Fin cfg0.N) (h : ¬ t.val % 16 = 0) : outsAt0 m c t.val t.isLt =
    (prod m c t, gained m c t, summed m c t (outsAt0 m c (t.val - 1) (by omega)).2.2) := by
  rw [outsAt0_B m c t h]
  unfold prod gained summed
  frame_out

theorem outs_A (t : Fin cfg0.N) (h : t.val % 16 = 0) : outsAt0 m c t.val t.isLt =
    (prod m c t, gained m c t, summed m c t (k0_pay1 (F := Ideal))) := by
  rw [outsAt0_A m c t h]
  unfold prod gained summed
  frame_out

theorem idx : ∀ t : Fin cfg0.N, win0_0.index t = ![0, 0, t.val % 16] ∧ win0_1.index t = ![t.val / 16, 0] ∧
    win0_2.index t = ![t.val / 16, 0] ∧ win0_3.index t = ![0, 3, t.val % 16] ∧
    win0_4.index t = ![t.val / 16, t.val % 16] ∧ win0_5.index t = ![0, t.val % 16] ∧
    win0_6.index t = ![t.val / 16, t.val % 16] ∧ win0_7.index t = ![t.val / 16, t.val % 16] ∧
    win0_8.index t = ![t.val / 16, 0] :=
  (by decide +kernel : ∀ t : Fin grid0.N, _)

theorem lt128 (t : Fin cfg0.N) : t.val < 128 := lt_of_lt_of_eq t.isLt N_0

def mixed : FVec Ideal S16384x3072 .bf16 := m ((c : Thread nD τ).loc main_arg0)
def recalled : FVec Ideal S16384x1024 .bf16 := m ((c : Thread nD τ).loc main_arg1)
def weights : FVec Ideal S4x4096x4096 .f32 := m ((c : Thread nD τ).loc main_arg2)
def resid : FVec Ideal S16384x4096 .f32 := m ((c : Thread nD τ).loc main_arg3)
def gains : FVec Ideal S4096 .f32 := m ((c : Thread nD τ).loc main_arg4)

/-- The first weights' block is never cut, so the staged one is the array's. -/
theorem staged_wa (t : Fin cfg0.N) (k : Fin 3072) (j : Fin 256) : X0_0 m c t (ix3 0 k j) =
    iblk m c 0 t (fun a => ⟨((ix3 0 k j : S1x3072x256.Idx) a).val, ((cfg0.win 0).moved_iff _ _).mp (moved0_0 t _) a⟩) :=
  dif_pos (moved0_0 t (ix3 0 k j))

theorem read_wa (t : Fin cfg0.N) (k : Fin 3072) (j : Fin 256) : X0_0 m c t (ix3 0 k j) =
    weights m c (ix3 0 ⟨k.val, by omega⟩ ⟨256 * (t.val % 16) + j.val, by omega⟩) := by
  refine (staged_wa m c t k j).trans ?_
  blk_ext [iblk, V, weights, idx t]

theorem read_wb (t : Fin cfg0.N) (k : Fin 1024) (j : Fin 256) : iblk m c 3 t (ix3 0 k j) =
    weights m c (ix3 0 ⟨3072 + k.val, by omega⟩ ⟨256 * (t.val % 16) + j.val, by omega⟩) := by
  blk_ext [iblk, V, weights, idx t]

theorem read_a (t : Fin cfg0.N) (i : Fin 2048) (k : Fin 3072) : iblk m c 1 t (ix2 i k) =
    mixed m c (ix2 ⟨2048 * (t.val / 16) + i.val, by have := lt128 t; omega⟩ k) := by
  blk_ext [iblk, V, mixed, idx t]

theorem read_b (t : Fin cfg0.N) (i : Fin 2048) (k : Fin 1024) : iblk m c 2 t (ix2 i k) =
    recalled m c (ix2 ⟨2048 * (t.val / 16) + i.val, by have := lt128 t; omega⟩ k) := by
  blk_ext [iblk, V, recalled, idx t]

theorem read_x (t : Fin cfg0.N) (i : Fin 2048) (j : Fin 256) : iblk m c 4 t (ix2 i j) =
    resid m c (ix2 ⟨2048 * (t.val / 16) + i.val, by have := lt128 t; omega⟩ ⟨256 * (t.val % 16) + j.val, by omega⟩) := by
  blk_ext [iblk, V, resid, idx t]

/-- The gains as a row, which the host makes. -/
theorem made_gains (j : Fin 4096) : ∀ X : FVec Ideal S1x4096 .f32, V m c main_v0 = X →
    X (ix2 0 j) = gains m c (ix1 j) := by
  unfold V gains
  after_reads_simp
  rintro X rfl
  pointwise

theorem read_g (t : Fin cfg0.N) (j : Fin 256) : iblk m c 5 t (ix2 0 j) =
    gains m c (ix1 ⟨256 * (t.val % 16) + j.val, by omega⟩) := by
  blk_simp [iblk]
  refine Eq.trans ?_ (made_gains m c ⟨256 * (t.val % 16) + j.val, by omega⟩ _ rfl)
  generalize V m c main_v0 = X
  blk_ext [idx t]

/-- An entry of the product with the residual. -/
def sumAt (a : FVec Ideal S16384x3072 .bf16) (b : FVec Ideal S16384x1024 .bf16) (w : FVec Ideal S4x4096x4096 .f32)
    (x : FVec Ideal S16384x4096 .f32) (i : Fin 16384) (j : Fin 4096) : EReal :=
  x (ix2 i j) + (∑ k : Fin 3072, a (ix2 i k) * w (ix3 0 ⟨k.val, by omega⟩ j)
    + ∑ k : Fin 1024, b (ix2 i k) * w (ix3 0 ⟨3072 + k.val, by omega⟩ j))

/-- The square of a row's entry, the column a number. -/
def sq (p : Fin 4096 → EReal) (n : ℕ) : EReal :=
  p ⟨n % 4096, Nat.mod_lt _ (by decide)⟩ * p ⟨n % 4096, Nat.mod_lt _ (by decide)⟩

theorem sq_at (p : Fin 4096 → EReal) (n : ℕ) (j : Fin 4096) (e : n = j.val) : sq p n = p j * p j := by
  subst e
  unfold sq
  simp only [Nat.mod_eq_of_lt j.isLt]

/-- The launch's three arrays. -/
def outX (a : FVec Ideal S16384x3072 .bf16) (b : FVec Ideal S16384x1024 .bf16) (w : FVec Ideal S4x4096x4096 .f32)
    (x : FVec Ideal S16384x4096 .f32) : FVec Ideal S16384x4096 .f32 := fun i => sumAt a b w x (i 0) (i 1)
def outG (y : FVec Ideal S16384x4096 .f32) (g : FVec Ideal S4096 .f32) : FVec Ideal S16384x4096 .bf16 :=
  fun i => y i * g (ix1 (i 1))
def outS (y : FVec Ideal S16384x4096 .f32) : FVec Ideal S16384x128 .f32 :=
  fun i => ∑ n ∈ range 32, sq (fun j => y (ix2 (i 0) j)) (128 * n + (i 1).val)

/-- The projection of the arguments. -/
def projected : FVec Ideal S16384x4096 .f32 := outX (mixed m c) (recalled m c) (weights m c) (resid m c)

theorem p_at (t : Fin cfg0.N) (i : Fin 2048) (j : Fin 256) : prod m c t (ix2 i j) =
    projected m c (ix2 ⟨2048 * (t.val / 16) + i.val, by have := lt128 t; omega⟩ ⟨256 * (t.val % 16) + j.val, by omega⟩) :=
  (pay2_at _ _ _ _ _ i j).trans (congrArg₂ (· + ·) (read_x m c t i j) (congrArg₂ (· + ·)
    (sum_congr rfl fun k _ => congrArg₂ (· * ·) (read_a m c t i k) (read_wa m c t k j))
    (sum_congr rfl fun k _ => congrArg₂ (· * ·) (read_b m c t i k) (read_wb m c t k j))))

/-- A point adds the squares of its two groups of lanes. -/
theorem step (t : Fin cfg0.N) (s : Vec Ideal S2048x128 .f32) (i : Fin 2048) (l : Fin 128) (R : Fin 16384)
    (hR : R.val = 2048 * (t.val / 16) + i.val)
    (hs : s (ix2 i l) = ∑ n ∈ range (2 * (t.val % 16)), sq (fun j => projected m c (ix2 R j)) (128 * n + l.val)) :
    summed m c t s (ix2 i l) =
      ∑ n ∈ range (2 * (t.val % 16 + 1)), sq (fun j => projected m c (ix2 R j)) (128 * n + l.val) := by
  have ht := lt128 t
  have hi := i.isLt
  rw [show R = ⟨2048 * (t.val / 16) + i.val, by omega⟩ from Fin.ext hR] at hs ⊢
  refine (pay4_at _ _ _ _ _ s i l _ fun j => p_at m c t i j).trans ?_
  rw [hs, show 2 * (t.val % 16 + 1) = 2 * (t.val % 16) + 1 + 1 by omega, sum_range_succ, sum_range_succ]
  rw [sq_at _ (128 * (2 * (t.val % 16)) + l.val) ⟨256 * (t.val % 16) + l.val, by omega⟩ (by simp only []; omega),
    sq_at _ (128 * (2 * (t.val % 16) + 1) + l.val) ⟨256 * (t.val % 16) + (128 + l.val), by omega⟩ (by simp only []; omega)]
  simp only [add_assoc]

theorem zeros (i : Fin 2048) (l : Fin 128) : k0_pay1 (F := Ideal) (ix2 i l) = 0 := by
  have e : Ideal.ofBits .f32 0x00000000#32 = (0 : EReal) := by
    simp [Ideal.ofBits, Ideal.ieee]
  refine Eq.trans ?_ e
  unfold k0_pay1
  pointwise

/-- What the sums of squares are after a point: those of the row's columns so far. -/
theorem sums_at : ∀ (n : ℕ) (hn : n < cfg0.N) (i : Fin 2048) (l : Fin 128) (R : Fin 16384) (_ : R.val = 2048 * (n / 16) + i.val),
    (outsAt0 m c n hn).2.2 (ix2 i l) =
      ∑ k ∈ range (2 * (n % 16 + 1)), sq (fun j => projected m c (ix2 R j)) (128 * k + l.val) := by
  intro n
  induction n with
  | zero =>
    intro hn i l R hR
    rw [outs_A m c ⟨0, hn⟩ rfl]
    exact step m c ⟨0, hn⟩ _ i l R hR ((zeros i l).trans (by simp))
  | succ n ih =>
    intro hn i l R hR
    by_cases h : (n + 1) % 16 = 0
    · rw [outs_A m c ⟨n + 1, hn⟩ h]
      refine step m c ⟨n + 1, hn⟩ _ i l R hR ((zeros i l).trans ?_)
      simp only [h]
      simp
    · rw [outs_B m c ⟨n + 1, hn⟩ h]
      refine step m c ⟨n + 1, hn⟩ _ i l R hR ((ih (by omega) i l R (by omega)).trans ?_)
      rw [show n % 16 + 1 = (n + 1) % 16 by omega]

theorem both (t : Fin cfg0.N) :
    (outsAt0 m c t.val t.isLt).1 = prod m c t ∧ (outsAt0 m c t.val t.isLt).2.1 = gained m c t := by
  by_cases h : t.val % 16 = 0
  · rw [outs_A m c t h]
    exact ⟨rfl, rfl⟩
  · rw [outs_B m c t h]
    exact ⟨rfl, rfl⟩

theorem outX_eq : (dats m 0 c).arrAt 6 cfg0.N = projected m c := by
  refine (dats m 0 c).arrAt_eq_of_covers 6 _ (by decide +kernel) fun t hf y => ?_
  blk_simp
  rw [after0_6, (both m c t).1]
  have ht := lt128 t
  have h0 : (y 0).val < 2048 := (y 0).isLt
  have h1 : (y 1).val < 256 := (y 1).isLt
  have e : ∀ X : FVec Ideal S16384x4096 .f32, X (ix2 ⟨2048 * (t.val / 16) + (y 0).val, by omega⟩
      ⟨256 * (t.val % 16) + (y 1).val, by omega⟩) = X ((win0_6.blk t).view.emb y) := fun X => by
    blk_ext [idx t]
  refine Eq.trans ?_ (e (projected m c))
  have ey : y = ix2 (y 0) (y 1) := by
    funext a
    fin_cases a <;> rfl
  exact (congrArg (prod m c t) ey).trans (p_at m c t (y 0) (y 1))

theorem outG_eq : (dats m 0 c).arrAt 7 cfg0.N = outG (projected m c) (gains m c) := by
  refine (dats m 0 c).arrAt_eq_of_covers 7 _ (by decide +kernel) fun t hf y => ?_
  blk_simp
  rw [after0_7, (both m c t).2]
  have ht := lt128 t
  have h0 : (y 0).val < 2048 := (y 0).isLt
  have h1 : (y 1).val < 256 := (y 1).isLt
  have e : ∀ X : FVec Ideal S16384x4096 .bf16, X (ix2 ⟨2048 * (t.val / 16) + (y 0).val, by omega⟩
      ⟨256 * (t.val % 16) + (y 1).val, by omega⟩) = X ((win0_7.blk t).view.emb y) := fun X => by
    blk_ext [idx t]
  refine Eq.trans ?_ (e (outG (projected m c) (gains m c)))
  have ey : y = ix2 (y 0) (y 1) := by
    funext a
    fin_cases a <;> rfl
  exact ((congrArg (gained m c t) ey).trans (pay3_at _ _ _ _ _ _ (y 0) (y 1))).trans
    (congrArg₂ (· * ·) (p_at m c t (y 0) (y 1)) (read_g m c t (y 1)))

theorem last : ∀ t : Fin cfg0.N, (cfg0.win 8).flush t = true → t.val % 16 = 15 :=
  (by decide +kernel : ∀ t : Fin grid0.N, _)

theorem outS_eq : (dats m 0 c).arrAt 8 cfg0.N = outS (projected m c) := by
  refine (dats m 0 c).arrAt_eq_of_covers 8 _ (by decide +kernel) fun t hf y => ?_
  have h7 := last t hf
  blk_simp
  rw [after0_8]
  have ht := lt128 t
  have h0 : (y 0).val < 2048 := (y 0).isLt
  have e : ∀ X : FVec Ideal S16384x128 .f32, X (ix2 ⟨2048 * (t.val / 16) + (y 0).val, by omega⟩ (y 1))
      = X ((win0_8.blk t).view.emb y) := fun X => by
    blk_ext [idx t]
  refine Eq.trans ?_ (e (outS (projected m c)))
  have ey : y = ix2 (y 0) (y 1) := by
    funext a
    fin_cases a <;> rfl
  refine (congrArg (outsAt0 m c t.val t.isLt).2.2 ey).trans
    ((sums_at m c t.val t.isLt (y 0) (y 1) ⟨2048 * (t.val / 16) + (y 0).val, by omega⟩ rfl).trans ?_)
  rw [h7]
  rfl

end Cert.OutK
end
-- ==== Proof.OutAgree.lean ====
/-
  The output projection: the reference's results at an index, their agreement with the launch's arrays and the two runs
  side by side. The reference multiplies by the two inputs joined; the sum over their 4096 columns is the sum of the two.
-/
module

public import proofs.«01_k».proof.Defs
public import proofs.«01_k».proof.Proof.Gen.OutRefIdeal.Run
public import proofs.«01_k».proof.Proof.OutValue
public import Idealize.ShloMosaic.Lib.Claim

@[expose] public section

set_option maxRecDepth 16384

noncomputable section

namespace Cert.OutClaims

open Finset Idealize.ShloMosaic Idealize.ShloMosaic.TcCoe Idealize.SL.Sem
open Cert.OutRefIdeal Cert.OutRefIdeal.Gen Cert.OutK

/-- The two inputs joined. -/
def joined (a : FVec Ideal S16384x3072 .bf16) (b : FVec Ideal S16384x1024 .bf16) : FVec Ideal S16384x4096 .bf16 :=
  concatenate S16384x4096 1 [⟨S16384x3072, a⟩, ⟨S16384x1024, b⟩] concatenates_S16384x3072_S16384x1024_S16384x4096_d1

/-- The reference's product with the residual, of the joined inputs. -/
def resX (h : FVec Ideal S16384x4096 .bf16) (w : FVec Ideal S4x4096x4096 .f32) (x : FVec Ideal S16384x4096 .f32) :
    FVec Ideal S16384x4096 .f32 :=
  addf x (Host.dotGeneral dot_S16384x4096_S4096x4096_S16384x4096_1_0_0_1_n_n none (extf .f32 h bitsLt_bf16_f32) (shapeCast _ (extractStridedSlice S1x4096x4096 ![0, 0, 0] w slices_S4x4096x4096_S1x4096x4096_0_0_0) shapeCasts_S1x4096x4096_S4096x4096))

/-- The same times the next norm's weights. -/
def resG (y : FVec Ideal S16384x4096 .f32) (g : FVec Ideal S4096 .f32) : FVec Ideal S16384x4096 .bf16 :=
  truncf .bf16 (mulf y (broadcastInDim S16384x4096 ![0, 1] bcast_S1x4096_S16384x4096_0_1 (broadcastInDim S1x4096 ![1] bcast_S4096_S1x4096_1 g))) bitsLt_bf16_f32

/-- The sums of squares by lane. -/
def resS (y : FVec Ideal S16384x4096 .f32) : FVec Ideal S16384x128 .f32 :=
  Host.reduceAdd (shapeCast _ (mulf y y) shapeCasts_S16384x4096_S16384x32x128) (constant S_ .f32 0x00000000#32) reducesTo_S16384x32x128_S16384x128_d1 h_S_

theorem joined_left (a : FVec Ideal S16384x3072 .bf16) (b : FVec Ideal S16384x1024 .bf16) (i : Fin 16384) (k : Fin 3072) :
    joined a b (ix2 i ⟨k.val, by omega⟩) = a (ix2 i k) := by
  unfold joined
  pointwise

theorem joined_right (a : FVec Ideal S16384x3072 .bf16) (b : FVec Ideal S16384x1024 .bf16) (i : Fin 16384) (k : Fin 1024) :
    joined a b (ix2 i ⟨3072 + k.val, by omega⟩) = b (ix2 i k) := by
  unfold joined
  pointwise

theorem resX_at (h : FVec Ideal S16384x4096 .bf16) (w : FVec Ideal S4x4096x4096 .f32) (x : FVec Ideal S16384x4096 .f32)
    (i : Fin 16384) (j : Fin 4096) : resX h w x (ix2 i j) = x (ix2 i j) + ∑ k : Fin 4096, h (ix2 i k) * w (ix3 0 k j) := by
  unfold resX
  pointwise

/-- A sum over the joined columns is the sum over the first and the sum over the rest. -/
theorem split (f : Fin 4096 → EReal) :
    ∑ k : Fin 4096, f k = ∑ k : Fin 3072, f ⟨k.val, by omega⟩ + ∑ k : Fin 1024, f ⟨3072 + k.val, by omega⟩ :=
  Fin.sum_univ_add (a := 3072) (b := 1024) f

theorem resX_eq (a : FVec Ideal S16384x3072 .bf16) (b : FVec Ideal S16384x1024 .bf16) (w : FVec Ideal S4x4096x4096 .f32)
    (x : FVec Ideal S16384x4096 .f32) : resX (joined a b) w x = outX a b w x := by
  funext i
  rw [show i = ix2 (i 0) (i 1) by funext a; fin_cases a <;> rfl]
  refine (resX_at _ w x (i 0) (i 1)).trans (congrArg₂ (· + ·) rfl ((split _).trans (congrArg₂ (· + ·) ?_ ?_)))
  · exact sum_congr rfl fun k _ => congrArg₂ (· * ·) (joined_left a b (i 0) k) rfl
  · exact sum_congr rfl fun k _ => congrArg₂ (· * ·) (joined_right a b (i 0) k) rfl

theorem resG_eq (y : FVec Ideal S16384x4096 .f32) (g : FVec Ideal S4096 .f32) : resG y g = outG y g := by
  have e : ∀ i j, resG y g (ix2 i j) = y (ix2 i j) * g (ix1 j) := fun i j => by
    unfold resG
    pointwise
  funext i
  rw [show i = ix2 (i 0) (i 1) by funext a; fin_cases a <;> rfl]
  exact e (i 0) (i 1)

theorem resS_eq (y : FVec Ideal S16384x4096 .f32) : resS y = outS y := by
  have e : ∀ i (l : Fin 128), resS y (ix2 i l) =
      ∑ n : Fin 32, y (ix2 i ⟨128 * n.val + l.val, by omega⟩) * y (ix2 i ⟨128 * n.val + l.val, by omega⟩) := fun i l => by
    unfold resS
    pointwise
    exact sum_congr rfl fun n _ => by simp only [Nat.mul_comm n.val 128]
  funext i
  rw [show i = ix2 (i 0) (i 1) by funext a; fin_cases a <;> rfl]
  refine (e (i 0) (i 1)).trans (Eq.trans ?_ (sum_range fun n => sq (fun j => y (ix2 (i 0) j)) (128 * n + (i 1).val)).symm)
  exact sum_congr rfl fun n _ => (sq_at (fun j => y (ix2 (i 0) j)) _ ⟨128 * n.val + (i 1).val, _⟩ rfl).symm

theorem frame_ref : Cert.quiescent_OutRefIdeal (hOutRefIdeal := Cert.OutRefIdeal.Gen.facts) := fun m ρ _ =>
  (θ_run Cert.OutRefIdeal.defs _ _).mono
    (fun r h => ⟨fun c => (h c).2.2.2, sem_eq_zero_of_no_sems (by decide) r.2⟩) (Cert.OutRefIdeal.Value.run m ρ)

theorem algebraic : Cert.algebraic_OutIdeal_OutRefIdeal (hOutIdeal := Cert.OutIdeal.Gen.facts)
    (hOutRefIdeal := Cert.OutRefIdeal.Gen.facts) := by
  intro m g m' g' _ hagree
  refine ⟨fun c => projected m c, fun c => outG (projected m c) (gains m c), fun c => outS (projected m c), ?_, ?_⟩
  · exact (θ_run Cert.OutIdeal.defs _ _).mono (fun r h c => ⟨(h c).1.trans (outX_eq m c), (h c).2.1.trans (outG_eq m c),
      (h c).2.2.1.trans (outS_eq m c), (h c).2.2.2⟩) (Cert.OutIdeal.Value.run_blocks m g)
  · refine (θ_run Cert.OutRefIdeal.defs _ _).mono (fun r h c => ⟨(h c).1.trans ?_, (h c).2.1.trans ?_,
      (h c).2.2.1.trans ?_, (h c).2.2.2⟩) (Cert.OutRefIdeal.Value.run m' g')
    all_goals
      obtain ⟨e0, e1, e2, e3, e4⟩ := hagree c
      rw [e0, e1, e2, e3]
    · exact resX_eq _ _ _ _
    · rw [e4]
      exact (congrArg (fun y => resG y _) (resX_eq _ _ _ _)).trans (resG_eq _ _)
    · exact (congrArg resS (resX_eq _ _ _ _)).trans (resS_eq _)

end Cert.OutClaims
end
-- ==== Proof.ValuesValue.lean ====
/-
  The shared values: what each grid point leaves, head and tile by tile, and the array of the launch.
-/
module

public import proofs.«01_k».proof.Proof.Gen.ValuesIdeal.Value
public import Idealize.ShloMosaic.Lib.Pipeline.ValueKit
public import Idealize.ShloMosaic.Lib.Pipeline.ReadBack
public import proofs.«01_k».proof.Proof.RowNorm

@[expose] public section

set_option maxRecDepth 16384

noncomputable section

namespace Cert.ValuesK

open Finset Idealize.ShloMosaic Idealize.ShloMosaic.TcCoe Idealize.SL.Sem
open Idealize.ShloMosaic.Pipeline (Dat)
open Cert.ValuesIdeal Cert.ValuesIdeal.Gen Cert.RowNorm

/-- The product that a point makes. -/
theorem pay_at (h : Vec Ideal S2048x4096 .bf16) (w : Vec Ideal S4096x512 .f32) (q : Vec Ideal S2048x128 .f32)
    (i : Fin 2048) (j : Fin 512) : k0_pay3 h w q (ix2 i j)
      = (∑ k : Fin 4096, h (ix2 i k) * w (ix2 k j)) * rstd (∑ l : Fin 128, q (ix2 i l)) := by
  rw [← rstd_mul]
  unfold k0_pay3
  pointwise

/-- A head's columns of a tile's rows, transposed. -/
def tile (a : FVec Ideal S2048x512 .f32) (r o : ℕ) (hs : S2048x512.Slices ![r, o] S512x256) : FVec Ideal S1x1x1x256x512 .bf16 :=
  shapeCast S1x1x1x256x512 (truncf .bf16 (transpose S256x512 [1, 0] (extractStridedSlice S512x256 ![r, o] a hs) transposes_S512x256_p1_0_S256x512) bitsLt_bf16_f32) shapeCasts_S256x512_S1x1x1x256x512

/-- The number in the rows of ones. -/
def one : EReal := Ideal.ofBits .bf16 0x3F80#16

/-- An entry of what a point leaves, of its product: below each transposed tile stand ones. -/
def blkAt (a : FVec Ideal S2048x512 .f32) (y1 : Fin 2) (y2 : Fin 4) (y3 : Fin 272) (y4 : Fin 512) : EReal :=
  if h : y3.val < 256 then a (ix2 ⟨512 * y2.val + y4.val, by omega⟩ ⟨256 * y1.val + y3.val, by omega⟩) else one

theorem blk_low (a : FVec Ideal S2048x512 .f32) (y1 : Fin 2) (y2 : Fin 4) (y3 : Fin 272) (y4 : Fin 512) (h : y3.val < 256) :
    blkAt a y1 y2 y3 y4 = a (ix2 ⟨512 * y2.val + y4.val, by omega⟩ ⟨256 * y1.val + y3.val, by omega⟩) := dif_pos h

theorem blk_high (a : FVec Ideal S2048x512 .f32) (y1 : Fin 2) (y2 : Fin 4) (y3 : Fin 272) (y4 : Fin 512) (h : ¬ y3.val < 256) :
    blkAt a y1 y2 y3 y4 = one := dif_neg h

theorem tile_at (a : FVec Ideal S2048x512 .f32) (r o : ℕ) (hs : S2048x512.Slices ![r, o] S512x256) (d : Fin 256) (s : Fin 512)
    (i : Fin 2048) (j : Fin 512) (hi : i.val = r + s.val) (hj : j.val = o + d.val) : tile a r o hs (ix5 0 0 0 d s) = a (ix2 i j) := by
  unfold tile
  pointwise
  exact congrArg a (congrArg₂ ix2 (Fin.ext hi.symm) (Fin.ext hj.symm))

/-- A stored tile is the block's, where its offsets are those of its head and of its rows. -/
theorem tile_piece (a : FVec Ideal S2048x512 .f32) (r o : ℕ) (hs : S2048x512.Slices ![r, o] S512x256)
    (x : S1x1x1x256x512.Idx) (y : S1x2x4x272x512.Idx) (hr : 512 * (y 2).val = r) (ho : 256 * (y 1).val = o)
    (h3 : (y 3).val = (x 3).val) (h4 : (y 4).val = (x 4).val) : tile a r o hs x = blkAt a (y 1) (y 2) (y 3) (y 4) := by
  have ex : x = ix5 0 0 0 (x 3) (x 4) := by
    funext a
    fin_cases a
    · exact Subsingleton.elim (α := Fin 1) _ _
    · exact Subsingleton.elim (α := Fin 1) _ _
    · exact Subsingleton.elim (α := Fin 1) _ _
    · rfl
    · rfl
  have hx : (x 3).val < 256 := (x 3).isLt
  have h5 : (y 3).val < 256 := by omega
  have h6 : (y 4).val < 512 := (y 4).isLt
  have h7 : (y 1).val < 2 := (y 1).isLt
  have h8 : (y 2).val < 4 := (y 2).isLt
  refine (congrArg (tile a r o hs) ex).trans ((tile_at a r o hs (x 3) (x 4) ⟨512 * (y 2).val + (y 4).val, by omega⟩
    ⟨256 * (y 1).val + (y 3).val, by omega⟩ (show 512 * (y 2).val + (y 4).val = r + (x 4).val by omega)
    (show 256 * (y 1).val + (y 3).val = o + (x 3).val by omega)).trans ?_)
  exact (blk_low a (y 1) (y 2) (y 3) (y 4) h5).symm

/-- The sixteen rows of ones. -/
def ones : FVec Ideal S1x1x1x16x512 .bf16 := shapeCast S1x1x1x16x512 (k0_pay4 (F := Ideal)) shapeCasts_S16x512_S1x1x1x16x512

theorem ones_piece (a : FVec Ideal S2048x512 .f32) (x : S1x1x1x16x512.Idx) (y : S1x2x4x272x512.Idx)
    (h3 : (y 3).val = 256 + (x 3).val) : ones x = blkAt a (y 1) (y 2) (y 3) (y 4) :=
  (blk_high a (y 1) (y 2) (y 3) (y 4) (show ¬ (y 3).val < 256 by omega)).symm

set_option maxHeartbeats 4000000 in
theorem out_at (x0 : Vec Ideal S2048x4096 .bf16) (x1 : Vec Ideal S4096x512 .f32) (x2 : Vec Ideal S2048x128 .f32) (c : Dev nD) (i : grid0.Coords) (arg2 : Memref sig .tc .vmem S2048x4096 .bf16) (harg2 : arg2.IsWhole) (arg3 : Memref sig .tc .vmem S4096x512 .f32) (harg3 : arg3.IsWhole) (arg4 : Memref sig .tc .vmem S2048x128 .f32) (harg4 : arg4.IsWhole) (arg5) (harg5) (y : S1x2x4x272x512.Idx) :
    out0_A_3 c i arg2 harg2 arg3 harg3 arg4 harg4 arg5 harg5 x0 x1 x2 y = blkAt (k0_pay3 x0 x1 x2) (y 1) (y 2) (y 3) (y 4) := by
  unfold out0_A_3
  frame_out
  canon_tiles x h using View.cover_of_tiledBy _ ![1, 1, 1, 16, 512] (by sl_kernel_rfl) y
  all_goals first
    | exact ones_piece (k0_pay3 x0 x1 x2) x y h3
    | exact tile_piece (k0_pay3 x0 x1 x2) _ _ _ x y (by omega) (by omega) h3 h4

variable (m : (ℓ : Loc nD τ sig) → Buf (Elt Ideal) ℓ) (c : Dev nD)

theorem idx : ∀ t : Fin cfg0.N, win0_0.index t = ![t.val / 6, 0] ∧ win0_1.index t = ![0, 6 + t.val % 6] ∧
    win0_2.index t = ![t.val / 6, 0] ∧ win0_3.index t = ![t.val / 24, t.val % 6, t.val / 6 % 4, 0, 0] :=
  (by decide +kernel : ∀ t : Fin grid0.N, _)

theorem lt48 (t : Fin cfg0.N) : t.val < 48 := lt_of_lt_of_eq t.isLt N_0

def rows : FVec Ideal S16384x4096 .bf16 := m ((c : Thread nD τ).loc main_arg0)
def squares : FVec Ideal S16384x128 .f32 := m ((c : Thread nD τ).loc main_arg1)
def weights : FVec Ideal S4096x6144 .f32 := m ((c : Thread nD τ).loc main_arg2)

theorem read_h (t : Fin cfg0.N) (i : Fin 2048) (k : Fin 4096) : iblk m c 0 t (ix2 i k) =
    rows m c (ix2 ⟨2048 * (t.val / 6) + i.val, by have := lt48 t; omega⟩ k) := by
  blk_ext [iblk, V, rows, idx t]

theorem read_w (t : Fin cfg0.N) (k : Fin 4096) (j : Fin 512) : iblk m c 1 t (ix2 k j) =
    weights m c (ix2 k ⟨3072 + (512 * (t.val % 6) + j.val), by omega⟩) := by
  blk_ext [iblk, V, weights, idx t]

theorem read_s (t : Fin cfg0.N) (i : Fin 2048) (l : Fin 128) : iblk m c 2 t (ix2 i l) =
    squares m c (ix2 ⟨2048 * (t.val / 6) + i.val, by have := lt48 t; omega⟩ l) := by
  blk_ext [iblk, V, squares, idx t]

/-- An entry of the array: head `e`'s values of tile `k`, column by column, and below them the ones. -/
def outAt (h : FVec Ideal S16384x4096 .bf16) (q : FVec Ideal S16384x128 .f32) (w : FVec Ideal S4096x6144 .f32)
    (b : Fin 2) (e : Fin 12) (k : Fin 16) (d : Fin 272) (s : Fin 512) : EReal :=
  if hd : d.val < 256 then scaled h q (fun n => w (ix2 n ⟨3072 + (e.val * 256 + d.val), by omega⟩))
    ⟨b.val * 8192 + k.val * 512 + s.val, by omega⟩ else one

/-- The array that the launch leaves. -/
def out (h : FVec Ideal S16384x4096 .bf16) (q : FVec Ideal S16384x128 .f32) (w : FVec Ideal S4096x6144 .f32) :
    FVec Ideal S2x12x16x272x512 .bf16 := fun i => outAt h q w (i 0) (i 1) (i 2) (i 3) (i 4)

/-- A point's block is the array's, where its product is. -/
theorem blk_at (t : Fin cfg0.N) (y1 : Fin 2) (y2 : Fin 4) (y3 : Fin 272) (y4 : Fin 512) :
    blkAt (k0_pay3 (iblk m c 0 t) (iblk m c 1 t) (iblk m c 2 t)) y1 y2 y3 y4 =
      outAt (rows m c) (squares m c) (weights m c) ⟨t.val / 24, by have := lt48 t; omega⟩ ⟨2 * (t.val % 6) + y1.val, by omega⟩
        ⟨4 * (t.val / 6 % 4) + y2.val, by omega⟩ y3 y4 := by
  have ht := lt48 t
  unfold blkAt outAt scaled
  refine dite_congr rfl (fun h => ?_) (fun _ => rfl)
  rw [pay_at]
  have hr : ∀ i : Fin 2048, i.val = 512 * y2.val + y4.val → 2048 * (t.val / 6) + i.val =
      t.val / 24 * 8192 + (4 * (t.val / 6 % 4) + y2.val) * 512 + y4.val := by omega
  refine congrArg₂ (· * ·) (sum_congr rfl fun k _ => congrArg₂ (· * ·) ((read_h m c t _ k).trans ?_)
    ((read_w m c t k _).trans ?_)) (congrArg rstd (sum_congr rfl fun l _ => (read_s m c t _ l).trans ?_))
  · exact congrArg (fun r => rows m c (ix2 r k)) (Fin.ext (hr _ rfl))
  · exact congrArg (fun j => weights m c (ix2 k j)) (Fin.ext
      (show 3072 + (512 * (t.val % 6) + (256 * y1.val + y3.val)) = 3072 + ((2 * (t.val % 6) + y1.val) * 256 + y3.val) by omega))
  · exact congrArg (fun r => squares m c (ix2 r l)) (Fin.ext (hr _ rfl))

theorem out_eq : (dats m 0 c).arrAt 3 cfg0.N = out (rows m c) (squares m c) (weights m c) := by
  refine (dats m 0 c).arrAt_eq_of_covers 3 _ (by decide +kernel) fun t hf y => ?_
  blk_simp
  rw [after0_3]
  have ht := lt48 t
  have h0 : (y 0).val < 1 := (y 0).isLt
  have h1 : (y 1).val < 2 := (y 1).isLt
  have h2 : (y 2).val < 4 := (y 2).isLt
  have e : ∀ X : FVec Ideal S2x12x16x272x512 .bf16, X (ix5 ⟨t.val / 24, by omega⟩ ⟨2 * (t.val % 6) + (y 1).val, by omega⟩
      ⟨4 * (t.val / 6 % 4) + (y 2).val, by omega⟩ (y 3) (y 4)) = X ((win0_3.blk t).view.emb y) := fun X => by
    blk_ext [idx t]
  refine Eq.trans ?_ (e (out (rows m c) (squares m c) (weights m c)))
  unfold outsAt0
  exact (out_at _ _ _ _ _ _ _ _ _ _ _ _ _ y).trans (blk_at m c t (y 1) (y 2) (y 3) (y 4))

end Cert.ValuesK
end
-- ==== Proof.ValuesAgree.lean ====
/-
  The shared values' claims: the reference's result at an index, its agreement with the kernel's array and the two
  runs side by side.
-/
module

public import proofs.«01_k».proof.Defs
public import proofs.«01_k».proof.Proof.Gen.ValuesRefIdeal.Run
public import proofs.«01_k».proof.Proof.Gen.Pre_values_squares
public import proofs.«01_k».proof.Proof.ValuesValue
public import Idealize.ShloMosaic.Lib.Claim

@[expose] public section

set_option maxRecDepth 16384

noncomputable section

namespace Cert.ValuesClaims

open Finset Idealize.ShloMosaic Idealize.ShloMosaic.TcCoe Idealize.SL.Sem
open Cert.ValuesRefIdeal Cert.ValuesRefIdeal.Gen Cert.RowNorm

/-- The reference's values, head by head and tile by tile, transposed. -/
def tiles (h : FVec Ideal S16384x4096 .bf16) (q : FVec Ideal S16384x128 .f32) (w : FVec Ideal S4096x6144 .f32) :
    FVec Ideal S2x12x16x256x512 .f32 :=
  transpose S2x12x16x256x512 [0, 3, 1, 4, 2] (shapeCast _ (Host.dotGeneral dot_S16384x4096_S4096x3072_S16384x3072_1_0_0_1_n_n none (mulf (extf .f32 h bitsLt_bf16_f32) (broadcastInDim S16384x4096 ![0, 1] bcast_S16384x1_S16384x4096_0_1 (Host.rsqrt (addf (Host.divf (broadcastInDim S16384x1 ![0] bcast_S16384_S16384x1_0 (Host.reduceAdd q (constant S_ .f32 0x00000000#32) reducesTo_S16384x128_S16384_d1 h_S_)) (broadcastInDim S16384x1 ![] bcast_S_S16384x1 (constant S_ .f32 0x45800000#32))) (broadcastInDim S16384x1 ![] bcast_S_S16384x1 (constant S_ .f32 0x358637BD#32)))))) (extractStridedSlice S4096x3072 ![0, 3072] w slices_S4096x6144_S4096x3072_0_3072)) shapeCasts_S16384x3072_S2x16x512x12x256) transposes_S2x16x512x12x256_S2x12x16x256x512_0_3_1_4_2

/-- The same with the rows of ones below. -/
def result (x : FVec Ideal S2x12x16x256x512 .f32) : FVec Ideal S2x12x16x272x512 .bf16 :=
  truncf .bf16 (concatenate S2x12x16x272x512 3 [⟨S2x12x16x256x512, x⟩, ⟨S2x12x16x16x512, (broadcastInDim S2x12x16x16x512 ![] bcast_S_S2x12x16x16x512 (constant S_ .f32 0x3F800000#32))⟩] concatenates_S2x12x16x256x512_S2x12x16x16x512_S2x12x16x272x512_d3) bitsLt_bf16_f32

theorem tiles_at (h : FVec Ideal S16384x4096 .bf16) (q : FVec Ideal S16384x128 .f32) (w : FVec Ideal S4096x6144 .f32)
    (b : Fin 2) (e : Fin 12) (k : Fin 16) (d : Fin 256) (s : Fin 512) : tiles h q w (ix5 b e k d s) =
      normed h q (fun n => w (ix2 n ⟨3072 + (e.val * 256 + d.val), by omega⟩)) ⟨b.val * 8192 + k.val * 512 + s.val, by omega⟩ := by
  unfold tiles normed rstd
  pointwise

theorem result_at (x : FVec Ideal S2x12x16x256x512 .f32) (b : Fin 2) (e : Fin 12) (k : Fin 16) (d : Fin 272) (s : Fin 512) :
    result x (ix5 b e k d s) = if hd : d.val < 256 then x (ix5 b e k ⟨d.val, hd⟩ s) else Ideal.ofBits .f32 0x3F800000#32 := by
  unfold result
  pointwise

/-- The ones of both programs are the same number. -/
theorem one_lit : Ideal.ofBits .f32 0x3F800000#32 = Cert.ValuesK.one := by
  unfold Cert.ValuesK.one
  simp [Ideal.ofBits, Ideal.ieee, -EReal.coe_mul]
  try norm_num

/-- From squares that are not negative both programs end with the same array. -/
theorem result_out (h : FVec Ideal S16384x4096 .bf16) (q : FVec Ideal S16384x128 .f32) (w : FVec Ideal S4096x6144 .f32)
    (hq : ∀ i l, 0 ≤ q (ix2 i l)) : result (tiles h q w) = Cert.ValuesK.out h q w := by
  have main : ∀ b e k d s, result (tiles h q w) (ix5 b e k d s) = Cert.ValuesK.outAt h q w b e k d s := fun b e k d s => by
    rw [result_at, one_lit]
    unfold Cert.ValuesK.outAt
    exact dite_congr rfl (fun hd => (tiles_at h q w b e k ⟨d.val, hd⟩ s).trans (scaled_eq h q _ _ (hq _)).symm) (fun _ => rfl)
  funext i
  rw [show i = ix5 (i 0) (i 1) (i 2) (i 3) (i 4) by funext a; fin_cases a <;> rfl]
  exact main (i 0) (i 1) (i 2) (i 3) (i 4)

theorem squares_of_pre [Cert.Pre_values_squares.Facts] (h : FVec Ideal S16384x4096 .bf16) (q : FVec Ideal S16384x128 .f32)
    (w : FVec Ideal S4096x6144 .f32) (e : Cert.Pre_values_squares.fn (F := Ideal) h q w = fun _ => 1#1) :
    ∀ i l, 0 ≤ q (ix2 i l) := by
  intro i l
  refine nonneg_of_cmp ((Eq.trans ?_ (congrFun e (ix2 i l))))
  unfold Cert.Pre_values_squares.fn
  pointwise

theorem frame_ref : Cert.quiescent_ValuesRefIdeal (hValuesRefIdeal := Cert.ValuesRefIdeal.Gen.facts) := fun m ρ _ =>
  (θ_run Cert.ValuesRefIdeal.defs _ _).mono (fun r h => ⟨fun c => (h c).2, sem_eq_zero_of_no_sems (by decide) r.2⟩)
    (Cert.ValuesRefIdeal.Value.run m ρ)

theorem algebraic : Cert.algebraic_ValuesIdeal_ValuesRefIdeal_pre_values_squares (hValuesIdeal := Cert.ValuesIdeal.Gen.facts)
    (hValuesRefIdeal := Cert.ValuesRefIdeal.Gen.facts) (hPre_values_squares := Cert.Pre_values_squares.Gen.facts) := by
  intro m g m' g' hpre hagree
  refine ⟨fun c => Cert.ValuesK.out (Cert.ValuesK.rows m c) (Cert.ValuesK.squares m c) (Cert.ValuesK.weights m c), ?_, ?_⟩
  · exact (θ_run Cert.ValuesIdeal.defs _ _).mono (fun r h c => ⟨(h c).1.trans (Cert.ValuesK.out_eq m c), (h c).2⟩)
      (Cert.ValuesIdeal.Value.run_blocks m g)
  · refine (θ_run Cert.ValuesRefIdeal.defs _ _).mono (fun r h c => ⟨(h c).1.trans ?_, (h c).2⟩)
      (Cert.ValuesRefIdeal.Value.run m' g')
    obtain ⟨e0, e1, e2⟩ := hagree c
    rw [e0, e1, e2]
    exact result_out _ _ _ (squares_of_pre _ _ _ (hpre c))

end Cert.ValuesClaims
end
-- ==== Proof.MemoryValue.lean ====
/-
  The memory attention: what each grid point leaves, head by head, and the array of the launch.
-/
module

public import proofs.«01_k».proof.Proof.Gen.MemoryIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.MemoryK

open Finset Idealize.ShloMosaic Idealize.ShloMosaic.TcCoe Idealize.SL.Sem
open Idealize.ShloMosaic.Pipeline (Dat)
open Cert.MemoryIdeal Cert.MemoryIdeal.Gen

/-- A softmax over the 256 memory rows. -/
def soft (l : Fin 256 → EReal) (n : Fin 256) : EReal :=
  Ideal.div (Ideal.exp (l n - fold max (Ideal.ofBits .f32 0xFF800000#32) l univ))
    (∑ x : Fin 256, Ideal.exp (l x - fold max (Ideal.ofBits .f32 0xFF800000#32) l univ))

/-- The scaled scores of a query with the keys. -/
def score (q : Fin 256 → EReal) (k : Fin 256 → Fin 256 → EReal) (n : Fin 256) : EReal :=
  (∑ d : Fin 256, q d * k n d) * Ideal.ofBits .f32 0x3D800000#32

/-- A query's attention to the keys, of a column of values. -/
def attend (q : Fin 256 → EReal) (k : Fin 256 → Fin 256 → EReal) (v : Fin 256 → EReal) : EReal :=
  ∑ n : Fin 256, soft (score q k) n * v n

/-- One head's rows. -/
theorem pay_at (q : Vec Ideal S1x2048x256 .bf16) (k v : Vec Ideal S1x256x256 .bf16) (i : Fin 2048) (j : Fin 256) :
    k0_pay3 q k v (ix3 0 i j) = attend (fun d => q (ix3 0 i d)) (fun n d => k (ix3 0 n d)) (fun n => v (ix3 0 n j)) := by
  unfold k0_pay3 attend soft score
  pointwise

/-- The four heads are one term. -/
theorem head1 (q : Vec Ideal S1x2048x256 .bf16) (k v : Vec Ideal S1x256x256 .bf16) :
    k0_pay7 (k0_pay4 q) (k0_pay5 k) (k0_pay6 v) (constant S2048x256 .f32 0x00000000#32) = k0_pay3 q k v := rfl
theorem head2 (q : Vec Ideal S1x2048x256 .bf16) (k v : Vec Ideal S1x256x256 .bf16) :
    k0_pay1 (k0_pay8 q k v) = k0_pay3 q k v := rfl
theorem head3 (q : Vec Ideal S1x2048x256 .bf16) (k v : Vec Ideal S1x256x256 .bf16) : k0_pay2 q k v = k0_pay3 q k v := rfl

/-- An entry of what a point leaves, of its blocks. -/
def blkAt (x0 : Vec Ideal S1x2048x1024 .bf16) (x1 : Vec Ideal S1x256x2048 .bf16) (i : Fin 2048) (j : Fin 1024) : EReal :=
  attend (fun d => x0 (ix3 0 i ⟨256 * (j.val / 256) + d.val, by omega⟩))
    (fun n d => x1 (ix3 0 n ⟨256 * (j.val / 256) + d.val, by omega⟩)) (fun n => x1 (ix3 0 n ⟨1024 + j.val, by omega⟩))

theorem load_q (x : Vec Ideal S1x2048x1024 .bf16) (o : ℕ) (inb : ∀ a, (![0, 0, o] : Fin 3 → ℕ) a + (![1, 2048, 256] : Fin 3 → ℕ) a ≤ S1x2048x1024.size a)
    (i : Fin 2048) (d : Fin 256) (j : Fin 1024) (e : j.val = o + d.val) :
    View.ld x (Rect.unit (s := S1x2048x1024) ![0, 0, o] ![1, 2048, 256] inb) (ix3 0 i d) = x (ix3 0 i j) := by
  refine congrArg x (funext fun a => ?_)
  fin_cases a
  · exact Subsingleton.elim (α := Fin 1) _ _
  · exact Fin.ext (show 0 + 1 * i.val = i.val by omega)
  · exact Fin.ext (show o + 1 * d.val = j.val by omega)

theorem load_kv (x : Vec Ideal S1x256x2048 .bf16) (o : ℕ) (inb : ∀ a, (![0, 0, o] : Fin 3 → ℕ) a + (![1, 256, 256] : Fin 3 → ℕ) a ≤ S1x256x2048.size a)
    (n : Fin 256) (d : Fin 256) (j : Fin 2048) (e : j.val = o + d.val) :
    View.ld x (Rect.unit (s := S1x256x2048) ![0, 0, o] ![1, 256, 256] inb) (ix3 0 n d) = x (ix3 0 n j) := by
  refine congrArg x (funext fun a => ?_)
  fin_cases a
  · exact Subsingleton.elim (α := Fin 1) _ _
  · exact Fin.ext (show 0 + 1 * n.val = n.val by omega)
  · exact Fin.ext (show o + 1 * d.val = j.val by omega)

/-- A head's rows are the block's, where they begin at the head's first column. -/
theorem head_at (x0 : Vec Ideal S1x2048x1024 .bf16) (x1 : Vec Ideal S1x256x2048 .bf16) (h oq ov : ℕ) (iq ik iv)
    (x : S1x2048x256.Idx) (y : S1x2048x1024.Idx) (hq : oq = 256 * h) (hv : ov = 1024 + oq)
    (h1 : (y 1).val = (x 1).val) (h2 : (y 2).val = oq + (x 2).val) :
    k0_pay3 (View.ld x0 (Rect.unit (s := S1x2048x1024) ![0, 0, oq] ![1, 2048, 256] iq))
      (View.ld x1 (Rect.unit (s := S1x256x2048) ![0, 0, oq] ![1, 256, 256] ik))
      (View.ld x1 (Rect.unit (s := S1x256x2048) ![0, 0, ov] ![1, 256, 256] iv)) x = blkAt x0 x1 (y 1) (y 2) := by
  have ex : x = ix3 0 (y 1) (x 2) := by
    funext a
    fin_cases a
    · exact Subsingleton.elim (α := Fin 1) _ _
    · exact Fin.ext h1.symm
    · rfl
  have hx : (x 2).val < 256 := (x 2).isLt
  have hy : (y 2).val < 1024 := (y 2).isLt
  refine (congrArg (k0_pay3 _ _ _) ex).trans ((pay_at _ _ _ (y 1) (x 2)).trans ?_)
  unfold blkAt
  have e0 : (fun d : Fin 256 => View.ld x0 (Rect.unit (s := S1x2048x1024) ![0, 0, oq] ![1, 2048, 256] iq) (ix3 0 (y 1) d)) =
      fun d => x0 (ix3 0 (y 1) ⟨256 * ((y 2).val / 256) + d.val, by omega⟩) :=
    funext fun d => load_q x0 oq iq (y 1) d _ (show 256 * ((y 2).val / 256) + d.val = oq + d.val by omega)
  have e1 : (fun n d : Fin 256 => View.ld x1 (Rect.unit (s := S1x256x2048) ![0, 0, oq] ![1, 256, 256] ik) (ix3 0 n d)) =
      fun n d => x1 (ix3 0 n ⟨256 * ((y 2).val / 256) + d.val, by omega⟩) :=
    funext fun n => funext fun d => load_kv x1 oq ik n d _ (show 256 * ((y 2).val / 256) + d.val = oq + d.val by omega)
  have e2 : (fun n : Fin 256 => View.ld x1 (Rect.unit (s := S1x256x2048) ![0, 0, ov] ![1, 256, 256] iv) (ix3 0 n (x 2))) =
      fun n => x1 (ix3 0 n ⟨1024 + (y 2).val, by omega⟩) :=
    funext fun n => load_kv x1 ov iv n (x 2) _ (show 1024 + (y 2).val = ov + (x 2).val by omega)
  exact congr (congrArg₂ attend e0 e1) e2

theorem out_at (x0 : Vec Ideal S1x2048x1024 .bf16) (x1 : Vec Ideal S1x256x2048 .bf16) (y : S1x2048x1024.Idx) :
    out0_2 x0 x1 y = blkAt x0 x1 (y 1) (y 2) := by
  frame_out
  canon_tiles x h
  · exact (congrFun (head3 _ _ _) x).trans (head_at x0 x1 3 768 1792 _ _ _ x y rfl rfl h1 h2)
  · exact (congrFun (head2 _ _ _) x).trans (head_at x0 x1 2 512 1536 _ _ _ x y rfl rfl h1 h2)
  · exact (congrFun (head1 _ _ _) x).trans (head_at x0 x1 1 256 1280 _ _ _ x y rfl rfl h1 h2)
  · exact head_at x0 x1 0 0 1024 _ _ _ x y rfl rfl h1 (h2.trans (Nat.zero_add _).symm)

variable (m : (ℓ : Loc nD τ sig) → Buf (Elt Ideal) ℓ) (c : Dev nD)

theorem idx : ∀ t : Fin cfg0.N, win0_0.index t = ![t.val / 4, t.val % 4, 12] ∧ win0_1.index t = ![t.val / 4, 0, 0] ∧
    win0_2.index t = ![t.val / 4, t.val % 4, 0] :=
  (by decide +kernel : ∀ t : Fin grid0.N, _)

theorem lt8 (t : Fin cfg0.N) : t.val < 8 := lt_of_lt_of_eq t.isLt N_0

def proj : FVec Ideal S2x8192x13312 .bf16 := m ((c : Thread nD τ).loc main_arg0)
def mkv : FVec Ideal S2x256x2048 .bf16 := m ((c : Thread nD τ).loc main_arg1)

theorem read_q (t : Fin cfg0.N) (i : Fin 2048) (j : Fin 1024) : iblk m c 0 t (ix3 0 i j) =
    proj m c (ix3 ⟨t.val / 4, by have := lt8 t; omega⟩ ⟨2048 * (t.val % 4) + i.val, by omega⟩ ⟨12288 + j.val, by omega⟩) := by
  blk_ext [iblk, V, proj, idx t]

theorem read_kv (t : Fin cfg0.N) (n : Fin 256) (j : Fin 2048) : iblk m c 1 t (ix3 0 n j) =
    mkv m c (ix3 ⟨t.val / 4, by have := lt8 t; omega⟩ n j) := by
  blk_ext [iblk, V, mkv, idx t]

/-- An entry of the array: the head's queries stand in the last columns of `p`. -/
def outAt (p : FVec Ideal S2x8192x13312 .bf16) (kv : FVec Ideal S2x256x2048 .bf16) (b : Fin 2) (s : Fin 8192) (j : Fin 1024) : EReal :=
  attend (fun d => p (ix3 b s ⟨12288 + (256 * (j.val / 256) + d.val), by omega⟩))
    (fun n d => kv (ix3 b n ⟨256 * (j.val / 256) + d.val, by omega⟩)) (fun n => kv (ix3 b n ⟨1024 + j.val, by omega⟩))

/-- The array that the launch leaves. -/
def out (p : FVec Ideal S2x8192x13312 .bf16) (kv : FVec Ideal S2x256x2048 .bf16) : FVec Ideal S2x8192x1024 .bf16 :=
  fun i => outAt p kv (i 0) (i 1) (i 2)

theorem blk_at (t : Fin cfg0.N) (i : Fin 2048) (j : Fin 1024) : blkAt (iblk m c 0 t) (iblk m c 1 t) i j =
    outAt (proj m c) (mkv m c) ⟨t.val / 4, by have := lt8 t; omega⟩ ⟨2048 * (t.val % 4) + i.val, by omega⟩ j := by
  unfold blkAt outAt
  exact congr (congrArg₂ attend (funext fun d => read_q m c t i _) (funext fun n => funext fun d => read_kv m c t n _))
    (funext fun n => read_kv m c t n _)

theorem out_eq : (dats m 0 c).arrAt 2 cfg0.N = out (proj m c) (mkv m c) := by
  refine (dats m 0 c).arrAt_eq_of_covers 2 _ (by decide +kernel) fun t hf y => ?_
  blk_simp
  rw [after0_2]
  have ht := lt8 t
  have h0 : (y 0).val < 1 := (y 0).isLt
  have h1 : (y 1).val < 2048 := (y 1).isLt
  have e : ∀ X : FVec Ideal S2x8192x1024 .bf16, X (ix3 ⟨t.val / 4, by omega⟩ ⟨2048 * (t.val % 4) + (y 1).val, by omega⟩ (y 2))
      = X ((win0_2.blk t).view.emb y) := fun X => by
    blk_ext [idx t]
  refine Eq.trans ?_ (e (out (proj m c) (mkv m c)))
  exact (out_at _ _ y).trans (blk_at m c t (y 1) (y 2))

end Cert.MemoryK
end
-- ==== Proof.MemoryAgree.lean ====
/-
  The memory attention: the reference's result at an index, its agreement with the launch's array and the two runs side
  by side.
-/
module

public import proofs.«01_k».proof.Defs
public import proofs.«01_k».proof.Proof.Gen.MemoryRefIdeal.Run
public import proofs.«01_k».proof.Proof.MemoryValue
public import Idealize.ShloMosaic.Lib.Claim

@[expose] public section

set_option maxRecDepth 16384

noncomputable section

namespace Cert.MemoryClaims

open Finset Idealize.ShloMosaic Idealize.ShloMosaic.TcCoe Idealize.SL.Sem
open Cert.MemoryRefIdeal Cert.MemoryRefIdeal.Gen Cert.MemoryK

/-- The reference's scaled scores. -/
def logits (p : FVec Ideal S2x8192x13312 .bf16) (kv : FVec Ideal S2x256x2048 .bf16) : FVec Ideal S2x4x8192x256 .f32 :=
  mulf (Host.dotGeneral dot_S2x8192x4x256_S2x256x4x256_S2x4x8192x256_3_3_1_1_02_02 none (shapeCast _ (extf .f32 (extractStridedSlice S2x8192x1024 ![0, 0, 12288] p slices_S2x8192x13312_S2x8192x1024_0_0_12288) bitsLt_bf16_f32) shapeCasts_S2x8192x1024_S2x8192x4x256) (shapeCast _ (extractStridedSlice S2x256x1024 ![0, 0, 0] (extf .f32 kv bitsLt_bf16_f32) slices_S2x256x2048_S2x256x1024_0_0_0) shapeCasts_S2x256x1024_S2x256x4x256)) (broadcastInDim S2x4x8192x256 ![] bcast_S_S2x4x8192x256 (constant S_ .f32 0x3D800000#32))

/-- The rows' greatest scores. -/
def tops (l : FVec Ideal S2x4x8192x256 .f32) : FVec Ideal S2x4x8192 .f32 :=
  Host.reduce FloatOps.maximumf l (constant S_ .f32 0xFF800000#32) reducesTo_S2x4x8192x256_S2x4x8192_d3 h_S_

/-- The exponentials of the scores less a row's number, which is no less than the least. -/
def exps (l : FVec Ideal S2x4x8192x256 .f32) (t : FVec Ideal S2x4x8192 .f32) : FVec Ideal S2x4x8192x256 .f32 :=
  Host.exp (subf l (broadcastInDim S2x4x8192x256 ![0, 1, 2, 3] bcast_S2x4x8192x1_S2x4x8192x256_0_1_2_3 (broadcastInDim S2x4x8192x1 ![0, 1, 2] bcast_S2x4x8192_S2x4x8192x1_0_1_2 (maximumf (broadcastInDim S2x4x8192 ![] bcast_S_S2x4x8192 (constant S_ .f32 0xFF800000#32)) t))))

/-- The exponentials divided by their row's sum. -/
def shares (e : FVec Ideal S2x4x8192x256 .f32) : FVec Ideal S2x4x8192x256 .f32 :=
  Host.divf e (broadcastInDim S2x4x8192x256 ![0, 1, 2, 3] bcast_S2x4x8192x1_S2x4x8192x256_0_1_2_3 (broadcastInDim S2x4x8192x1 ![0, 1, 2] bcast_S2x4x8192_S2x4x8192x1_0_1_2 (Host.reduceAdd e (constant S_ .f32 0x00000000#32) reducesTo_S2x4x8192x256_S2x4x8192_d3 h_S_)))

/-- The values times the shares, the heads side by side. -/
def result (w : FVec Ideal S2x4x8192x256 .f32) (kv : FVec Ideal S2x256x2048 .bf16) : FVec Ideal S2x8192x1024 .bf16 :=
  truncf .bf16 (shapeCast _ (transpose S2x8192x4x256 [0, 3, 1, 2] (Host.dotGeneral dot_S2x256x4x256_S2x4x8192x256_S2x4x256x8192_1_3_3_2_02_01 none (shapeCast _ (extractStridedSlice S2x256x1024 ![0, 0, 1024] (extf .f32 kv bitsLt_bf16_f32) slices_S2x256x2048_S2x256x1024_0_0_1024) shapeCasts_S2x256x1024_S2x256x4x256) w) transposes_S2x4x256x8192_S2x8192x4x256_0_3_1_2) shapeCasts_S2x8192x4x256_S2x8192x1024) bitsLt_bf16_f32

theorem logits_at (p : FVec Ideal S2x8192x13312 .bf16) (kv : FVec Ideal S2x256x2048 .bf16) (b : Fin 2) (h : Fin 4)
    (s : Fin 8192) (n : Fin 256) : logits p kv (ix4 b h s n) =
      score (fun d => p (ix3 b s ⟨12288 + (h.val * 256 + d.val), by omega⟩)) (fun n d => kv (ix3 b n ⟨h.val * 256 + d.val, by omega⟩)) n := by
  unfold logits score
  pointwise

theorem exps_at (l : FVec Ideal S2x4x8192x256 .f32) (t : FVec Ideal S2x4x8192 .f32) (b : Fin 2) (h : Fin 4) (s : Fin 8192)
    (n : Fin 256) : exps l t (ix4 b h s n) = Ideal.exp (l (ix4 b h s n) - max (Ideal.ofBits .f32 0xFF800000#32) (t (ix3 b h s))) := by
  unfold exps
  pointwise

theorem tops_at (l : FVec Ideal S2x4x8192x256 .f32) (b : Fin 2) (h : Fin 4) (s : Fin 8192) :
    tops l (ix3 b h s) = fold max (Ideal.ofBits .f32 0xFF800000#32) (fun n => l (ix4 b h s n)) univ := by
  unfold tops
  pointwise

theorem shares_at (e : FVec Ideal S2x4x8192x256 .f32) (b : Fin 2) (h : Fin 4) (s : Fin 8192) (n : Fin 256) :
    shares e (ix4 b h s n) = Ideal.div (e (ix4 b h s n)) (∑ x : Fin 256, e (ix4 b h s x)) := by
  unfold shares
  pointwise

theorem result_at (w : FVec Ideal S2x4x8192x256 .f32) (kv : FVec Ideal S2x256x2048 .bf16) (b : Fin 2) (s : Fin 8192) (j : Fin 1024) :
    result w kv (ix3 b s j) = ∑ n : Fin 256, w (ix4 b ⟨j.val / 256, by omega⟩ s n) * kv (ix3 b n ⟨1024 + j.val, by omega⟩) := by
  unfold result
  pointwise
  exact sum_congr rfl fun n _ => mul_comm _ _

/-- The least number is no more than a row's greatest. -/
theorem max_top (a : EReal) (f : Fin 256 → EReal) : max a (fold max a f univ) = fold max a f univ :=
  max_eq_right ((Finset.le_fold_max _).2 (.inl le_rfl))

/-- Every exponential, of a score that is known. -/
theorem exp_score (l : FVec Ideal S2x4x8192x256 .f32) (b : Fin 2) (h : Fin 4) (s : Fin 8192) (g : Fin 256 → EReal)
    (hg : ∀ n, l (ix4 b h s n) = g n) (n : Fin 256) : exps l (tops l) (ix4 b h s n) =
      Ideal.exp (g n - fold max (Ideal.ofBits .f32 0xFF800000#32) g univ) := by
  rw [exps_at, tops_at, max_top, funext hg, hg]

/-- An entry of the reference's result, of its scores. -/
theorem attend_at (l : FVec Ideal S2x4x8192x256 .f32) (kv : FVec Ideal S2x256x2048 .bf16) (b : Fin 2) (s : Fin 8192)
    (j : Fin 1024) (q : Fin 256 → EReal) (k : Fin 256 → Fin 256 → EReal)
    (hg : ∀ n, l (ix4 b ⟨j.val / 256, by omega⟩ s n) = score q k n) :
    result (shares (exps l (tops l))) kv (ix3 b s j) = attend q k (fun n => kv (ix3 b n ⟨1024 + j.val, by omega⟩)) := by
  refine (result_at _ kv b s j).trans (sum_congr rfl fun n _ => congrArg (· * _) ((shares_at _ b _ s n).trans ?_))
  exact congrArg₂ Ideal.div (exp_score l b _ s _ hg n) (sum_congr rfl fun x _ => exp_score l b _ s _ hg x)

/-- Both programs end with the same array. -/
theorem result_out (p : FVec Ideal S2x8192x13312 .bf16) (kv : FVec Ideal S2x256x2048 .bf16) :
    result (shares (exps (logits p kv) (tops (logits p kv)))) kv = out p kv := by
  have main : ∀ b s j, result (shares (exps (logits p kv) (tops (logits p kv)))) kv (ix3 b s j) = outAt p kv b s j :=
    fun b s j => by
      refine attend_at _ kv b s j _ _ fun n => ?_
      rw [logits_at]
      simp only [Nat.mul_comm (j.val / 256) 256]
  funext i
  rw [show i = ix3 (i 0) (i 1) (i 2) by funext a; fin_cases a <;> rfl]
  exact main (i 0) (i 1) (i 2)

theorem frame_ref : Cert.quiescent_MemoryRefIdeal (hMemoryRefIdeal := Cert.MemoryRefIdeal.Gen.facts) := fun m ρ _ =>
  (θ_run Cert.MemoryRefIdeal.defs _ _).mono (fun r h => ⟨fun c => (h c).2, sem_eq_zero_of_no_sems (by decide) r.2⟩)
    (Cert.MemoryRefIdeal.Value.run m ρ)

theorem algebraic : Cert.algebraic_MemoryIdeal_MemoryRefIdeal (hMemoryIdeal := Cert.MemoryIdeal.Gen.facts)
    (hMemoryRefIdeal := Cert.MemoryRefIdeal.Gen.facts) := by
  intro m g m' g' _ hagree
  refine ⟨fun c => Cert.MemoryK.out (Cert.MemoryK.proj m c) (Cert.MemoryK.mkv m c), ?_, ?_⟩
  · exact (θ_run Cert.MemoryIdeal.defs _ _).mono (fun r h c => ⟨(h c).1.trans (Cert.MemoryK.out_eq m c), (h c).2⟩)
      (Cert.MemoryIdeal.Value.run_blocks m g)
  · refine (θ_run Cert.MemoryRefIdeal.defs _ _).mono (fun r h c => ⟨(h c).1.trans ?_, (h c).2⟩)
      (Cert.MemoryRefIdeal.Value.run m' g')
    obtain ⟨e0, e1⟩ := hagree c
    rw [e0, e1]
    exact result_out _ _

end Cert.MemoryClaims
end
-- ==== Proof.MemkvAgree.lean ====
/-
  The memory's keys and values: the array that the launch leaves, the reference's result at an index and the two runs
  side by side.
-/
module

public import proofs.«01_k».proof.Defs
public import proofs.«01_k».proof.Proof.Gen.MemkvIdeal.Value
public import proofs.«01_k».proof.Proof.Gen.MemkvRefIdeal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.MemkvK

open Finset Idealize.ShloMosaic Idealize.ShloMosaic.TcCoe Idealize.SL.Sem
open Idealize.ShloMosaic.Pipeline (Dat)
open Cert.MemkvIdeal Cert.MemkvIdeal.Gen

/-- What a grid point writes, of its blocks. -/
theorem pay_at (w : Vec Ideal S1x4096x512 .f32) (h : Vec Ideal S512x4096 .bf16) (i : Fin 512) (j : Fin 512) :
    k0_pay1 w h (ix2 i j) = ∑ k : Fin 4096, h (ix2 i k) * w (ix3 0 k j) := by
  unfold k0_pay1
  pointwise

theorem idx : ∀ t : Fin cfg0.N, win0_0.index t = ![0, 0] ∧ win0_1.index t = ![0, 0, t.val] ∧ win0_2.index t = ![0, t.val] :=
  (by decide +kernel : ∀ t : Fin grid0.N, _)

theorem lt4 (t : Fin cfg0.N) : t.val < 4 := lt_of_lt_of_eq t.isLt N_0

variable (m : (ℓ : Loc nD τ sig) → Buf (Elt Ideal) ℓ) (c : Dev nD)

def rows : FVec Ideal S512x4096 .bf16 := m ((c : Thread nD τ).loc main_arg0)
def weights : FVec Ideal S4x4096x2048 .f32 := m ((c : Thread nD τ).loc main_arg1)

theorem read_h (t : Fin cfg0.N) (i : Fin 512) (k : Fin 4096) : iblk m c 0 t (ix2 i k) = rows m c (ix2 i k) := by
  blk_ext [iblk, V, rows, idx t]

theorem read_w (t : Fin cfg0.N) (k : Fin 4096) (j : Fin 512) : iblk m c 1 t (ix3 0 k j) =
    weights m c (ix3 0 k ⟨512 * t.val + j.val, by have := lt4 t; omega⟩) := by
  blk_ext [iblk, V, weights, idx t]

/-- The array that the launch leaves. -/
def out (h : FVec Ideal S512x4096 .bf16) (w : FVec Ideal S4x4096x2048 .f32) : FVec Ideal S512x2048 .bf16 :=
  fun i => ∑ k : Fin 4096, h (ix2 (i 0) k) * w (ix3 0 k (i 1))

theorem out_eq : (dats m 0 c).arrAt 2 cfg0.N = out (rows m c) (weights m c) := by
  refine (dats m 0 c).arrAt_eq_of_covers 2 _ (by decide +kernel) fun t hf y => ?_
  blk_simp
  rw [after0_2]
  have ht := lt4 t
  have h1 : (y 1).val < 512 := (y 1).isLt
  have e : ∀ X : FVec Ideal S512x2048 .bf16, X (ix2 (y 0) ⟨512 * t.val + (y 1).val, by omega⟩)
      = X ((win0_2.blk t).view.emb y) := fun X => by
    blk_ext [idx t]
  refine Eq.trans ?_ (e (out (rows m c) (weights m c)))
  frame_out
  have ey : y = ix2 (y 0) (y 1) := by
    funext a
    fin_cases a <;> rfl
  exact ((congrArg (k0_pay1 _ _) ey).trans (pay_at _ _ (y 0) (y 1))).trans
    (sum_congr rfl fun k _ => congrArg₂ (· * ·) (read_h m c t (y 0) k) (read_w m c t k (y 1)))

end Cert.MemkvK

namespace Cert.MemkvClaims

open Finset Idealize.ShloMosaic Idealize.ShloMosaic.TcCoe Idealize.SL.Sem
open Cert.MemkvRefIdeal Cert.MemkvRefIdeal.Gen

/-- The reference's result, of the arguments. -/
def result (h : FVec Ideal S512x4096 .bf16) (w : FVec Ideal S4x4096x2048 .f32) : FVec Ideal S512x2048 .bf16 :=
  truncf .bf16 (Host.dotGeneral dot_S512x4096_S4096x2048_S512x2048_1_0_0_1_n_n none (extf .f32 h bitsLt_bf16_f32) (shapeCast _ (extractStridedSlice S1x4096x2048 ![0, 0, 0] w slices_S4x4096x2048_S1x4096x2048_0_0_0) shapeCasts_S1x4096x2048_S4096x2048)) bitsLt_bf16_f32

theorem result_at (h : FVec Ideal S512x4096 .bf16) (w : FVec Ideal S4x4096x2048 .f32) (i : Fin 512) (j : Fin 2048) :
    result h w (ix2 i j) = ∑ k : Fin 4096, h (ix2 i k) * w (ix3 0 k j) := by
  unfold result
  pointwise

theorem result_out (h : FVec Ideal S512x4096 .bf16) (w : FVec Ideal S4x4096x2048 .f32) : result h w = Cert.MemkvK.out h w := by
  funext i
  rw [show i = ix2 (i 0) (i 1) by funext a; fin_cases a <;> rfl]
  exact result_at h w (i 0) (i 1)

theorem frame_ref : Cert.quiescent_MemkvRefIdeal (hMemkvRefIdeal := Cert.MemkvRefIdeal.Gen.facts) := fun m ρ _ =>
  (θ_run Cert.MemkvRefIdeal.defs _ _).mono (fun r h => ⟨fun c => (h c).2, sem_eq_zero_of_no_sems (by decide) r.2⟩)
    (Cert.MemkvRefIdeal.Value.run m ρ)

theorem algebraic : Cert.algebraic_MemkvIdeal_MemkvRefIdeal (hMemkvIdeal := Cert.MemkvIdeal.Gen.facts)
    (hMemkvRefIdeal := Cert.MemkvRefIdeal.Gen.facts) := by
  intro m g m' g' _ hagree
  refine ⟨fun c => Cert.MemkvK.out (Cert.MemkvK.rows m c) (Cert.MemkvK.weights m c), ?_, ?_⟩
  · exact (θ_run Cert.MemkvIdeal.defs _ _).mono (fun r h c => ⟨(h c).1.trans (Cert.MemkvK.out_eq m c), (h c).2⟩)
      (Cert.MemkvIdeal.Value.run_blocks m g)
  · refine (θ_run Cert.MemkvRefIdeal.defs _ _).mono (fun r h c => ⟨(h c).1.trans ?_, (h c).2⟩)
      (Cert.MemkvRefIdeal.Value.run m' g')
    obtain ⟨e0, e1⟩ := hagree c
    rw [e0, e1]
    exact result_out _ _

end Cert.MemkvClaims
end
-- ==== Proof.NormAgree.lean ====
/-
  The final norm: the array that the launch leaves, the reference's result at an index and the two runs side by side.
-/
module

public import proofs.«01_k».proof.Defs
public import proofs.«01_k».proof.Proof.Gen.NormIdeal.Value
public import proofs.«01_k».proof.Proof.Gen.NormRefIdeal.Run
public import proofs.«01_k».proof.Proof.RowNorm
public import Idealize.ShloMosaic.Lib.Pipeline.ValueKit
public import Idealize.ShloMosaic.Lib.Pipeline.ReadBack
public import Idealize.ShloMosaic.Lib.StableHlo.RunRead
public import Idealize.ShloMosaic.Lib.Pointwise
public import Idealize.ShloMosaic.Lib.Claim

@[expose] public section

set_option maxRecDepth 16384

noncomputable section

namespace Cert.NormK

open Finset Idealize.ShloMosaic Idealize.ShloMosaic.TcCoe Idealize.SL.Sem
open Idealize.ShloMosaic.Pipeline (Dat)
open Cert.NormIdeal Cert.NormIdeal.Gen Cert.RowNorm

/-- What a grid point writes, of its blocks. -/
theorem pay_at (x : Vec Ideal S256x4096 .f32) (g : Vec Ideal S1x4096 .f32) (i : Fin 256) (j : Fin 4096) :
    k0_pay1 x g (ix2 i j) = x (ix2 i j) * rstd (∑ k : Fin 4096, x (ix2 i k) * x (ix2 i k)) * g (ix2 0 j) := by
  unfold k0_pay1 rstd
  pointwise

theorem idx : ∀ t : Fin cfg0.N, win0_0.index t = ![t.val, 0] ∧ win0_1.index t = ![0, 0] ∧ win0_2.index t = ![t.val, 0] :=
  (by decide +kernel : ∀ t : Fin grid0.N, _)

theorem lt64 (t : Fin cfg0.N) : t.val < 64 := lt_of_lt_of_eq t.isLt N_0

variable (m : (ℓ : Loc nD τ sig) → Buf (Elt Ideal) ℓ) (c : Dev nD)

def rows : FVec Ideal S16384x4096 .f32 := m ((c : Thread nD τ).loc main_arg0)
def gains : FVec Ideal S4096 .f32 := m ((c : Thread nD τ).loc main_arg1)

theorem read_x (t : Fin cfg0.N) (i : Fin 256) (k : Fin 4096) : iblk m c 0 t (ix2 i k) =
    rows m c (ix2 ⟨256 * t.val + i.val, by have := lt64 t; omega⟩ k) := by
  blk_ext [iblk, V, rows, idx t]

/-- The gains as a row, which the host makes. -/
theorem made_gains (j : Fin 4096) : ∀ X : FVec Ideal S1x4096 .f32, V m c main_v0 = X →
    X (ix2 0 j) = gains m c (ix1 j) := by
  unfold V gains
  after_reads_simp
  rintro X rfl
  pointwise

theorem read_g (t : Fin cfg0.N) (j : Fin 4096) : iblk m c 1 t (ix2 0 j) = gains m c (ix1 j) := by
  blk_simp [iblk]
  refine Eq.trans ?_ (made_gains m c j _ rfl)
  generalize V m c main_v0 = X
  blk_ext [idx t]

/-- The array that the launch leaves: each row times the reciprocal root of its mean square, times the gains. -/
def out (x : FVec Ideal S16384x4096 .f32) (g : FVec Ideal S4096 .f32) : FVec Ideal S16384x4096 .f32 :=
  fun i => x (ix2 (i 0) (i 1)) * rstd (∑ k : Fin 4096, x (ix2 (i 0) k) * x (ix2 (i 0) k)) * g (ix1 (i 1))

theorem out_eq : (dats m 0 c).arrAt 2 cfg0.N = out (rows m c) (gains m c) := by
  refine (dats m 0 c).arrAt_eq_of_covers 2 _ (by decide +kernel) fun t hf y => ?_
  blk_simp
  rw [after0_2]
  have ht := lt64 t
  have h0 : (y 0).val < 256 := (y 0).isLt
  have e : ∀ X : FVec Ideal S16384x4096 .f32, X (ix2 ⟨256 * t.val + (y 0).val, by omega⟩ (y 1))
      = X ((win0_2.blk t).view.emb y) := fun X => by
    blk_ext [idx t]
  refine Eq.trans ?_ (e (out (rows m c) (gains m c)))
  frame_out
  have ey : y = ix2 (y 0) (y 1) := by
    funext a
    fin_cases a <;> rfl
  exact ((congrArg (k0_pay1 _ _) ey).trans (pay_at _ _ (y 0) (y 1))).trans
    (congrArg₂ (· * ·) (congrArg₂ (· * ·) (read_x m c t (y 0) (y 1))
      (congrArg rstd (sum_congr rfl fun k _ => congrArg₂ (· * ·) (read_x m c t (y 0) k) (read_x m c t (y 0) k))))
      (read_g m c t (y 1)))

end Cert.NormK

namespace Cert.NormClaims

open Finset Idealize.ShloMosaic Idealize.ShloMosaic.TcCoe Idealize.SL.Sem
open Cert.NormRefIdeal Cert.NormRefIdeal.Gen Cert.RowNorm

/-- The reference's result, of the arguments. -/
def result (x : FVec Ideal S16384x4096 .f32) (g : FVec Ideal S4096 .f32) : FVec Ideal S16384x4096 .f32 :=
  mulf (mulf x (broadcastInDim S16384x4096 ![0, 1] bcast_S16384x1_S16384x4096_0_1 (Host.rsqrt (addf (Host.divf (broadcastInDim S16384x1 ![0] bcast_S16384_S16384x1_0 (Host.reduceAdd (mulf x x) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 g))

theorem result_at (x : FVec Ideal S16384x4096 .f32) (g : FVec Ideal S4096 .f32) (i : Fin 16384) (j : Fin 4096) :
    result x g (ix2 i j) = x (ix2 i j) * rstd (∑ k : Fin 4096, x (ix2 i k) * x (ix2 i k)) * g (ix1 j) := by
  unfold result rstd
  pointwise

theorem result_out (x : FVec Ideal S16384x4096 .f32) (g : FVec Ideal S4096 .f32) : result x g = Cert.NormK.out x g := by
  funext i
  rw [show i = ix2 (i 0) (i 1) by funext a; fin_cases a <;> rfl]
  exact result_at x g (i 0) (i 1)

theorem frame_ref : Cert.quiescent_NormRefIdeal (hNormRefIdeal := Cert.NormRefIdeal.Gen.facts) := fun m ρ _ =>
  (θ_run Cert.NormRefIdeal.defs _ _).mono (fun r h => ⟨fun c => (h c).2, sem_eq_zero_of_no_sems (by decide) r.2⟩)
    (Cert.NormRefIdeal.Value.run m ρ)

theorem algebraic : Cert.algebraic_NormIdeal_NormRefIdeal (hNormIdeal := Cert.NormIdeal.Gen.facts)
    (hNormRefIdeal := Cert.NormRefIdeal.Gen.facts) := by
  intro m g m' g' _ hagree
  refine ⟨fun c => Cert.NormK.out (Cert.NormK.rows m c) (Cert.NormK.gains m c), ?_, ?_⟩
  · exact (θ_run Cert.NormIdeal.defs _ _).mono (fun r h c => ⟨(h c).1.trans (Cert.NormK.out_eq m c), (h c).2⟩)
      (Cert.NormIdeal.Value.run_blocks m g)
  · refine (θ_run Cert.NormRefIdeal.defs _ _).mono (fun r h c => ⟨(h c).1.trans ?_, (h c).2⟩)
      (Cert.NormRefIdeal.Value.run m' g')
    obtain ⟨e0, e1⟩ := hagree c
    rw [e0, e1]
    exact result_out _ _

end Cert.NormClaims
end
-- ==== Proof.BmemAgree.lean ====
/-
  The memory attention of the attention blocks, whose projection is narrower: its blocks are read and its scores are
  written down here; the rest is the retention blocks' memory attention.
-/
module

public import proofs.«01_k».proof.Defs
public import proofs.«01_k».proof.Proof.Gen.BmemIdeal.Value
public import proofs.«01_k».proof.Proof.Gen.BmemRefIdeal.Run
public import proofs.«01_k».proof.Proof.MemoryAgree
public import Idealize.ShloMosaic.Lib.Pipeline.ValueKit
public import Idealize.ShloMosaic.Lib.Pipeline.ReadBack
public import Idealize.ShloMosaic.Lib.StableHlo.RunRead
public import Idealize.ShloMosaic.Lib.Pointwise
public import Idealize.ShloMosaic.Lib.Claim

@[expose] public section

set_option maxRecDepth 16384

noncomputable section

namespace Cert.BmemK

open Finset Idealize.ShloMosaic Idealize.ShloMosaic.TcCoe Idealize.SL.Sem
open Idealize.ShloMosaic.Pipeline (Dat)
open Cert.BmemIdeal Cert.BmemIdeal.Gen
open Cert.MemoryK (blkAt attend)

variable (m : (ℓ : Loc nD τ sig) → Buf (Elt Ideal) ℓ) (c : Dev nD)

theorem idx : ∀ t : Fin cfg0.N, win0_0.index t = ![t.val / 4, t.val % 4, 3] ∧ win0_1.index t = ![t.val / 4, 0, 0] ∧
    win0_2.index t = ![t.val / 4, t.val % 4, 0] :=
  (by decide +kernel : ∀ t : Fin grid0.N, _)

theorem lt8 (t : Fin cfg0.N) : t.val < 8 := lt_of_lt_of_eq t.isLt N_0

def proj : FVec Ideal S2x8192x4096 .bf16 := m ((c : Thread nD τ).loc main_arg0)
def mkv : FVec Ideal S2x256x2048 .bf16 := m ((c : Thread nD τ).loc main_arg1)

theorem read_q (t : Fin cfg0.N) (i : Fin 2048) (j : Fin 1024) : iblk m c 0 t (ix3 0 i j) =
    proj m c (ix3 ⟨t.val / 4, by have := lt8 t; omega⟩ ⟨2048 * (t.val % 4) + i.val, by omega⟩ ⟨3072 + j.val, by omega⟩) := by
  blk_ext [iblk, V, proj, idx t]

theorem read_kv (t : Fin cfg0.N) (n : Fin 256) (j : Fin 2048) : iblk m c 1 t (ix3 0 n j) =
    mkv m c (ix3 ⟨t.val / 4, by have := lt8 t; omega⟩ n j) := by
  blk_ext [iblk, V, mkv, idx t]

/-- An entry of the array: the head's queries stand in the last columns of `p`. -/
def outAt (p : FVec Ideal S2x8192x4096 .bf16) (kv : FVec Ideal S2x256x2048 .bf16) (b : Fin 2) (s : Fin 8192) (j : Fin 1024) : EReal :=
  attend (fun d => p (ix3 b s ⟨3072 + (256 * (j.val / 256) + d.val), by omega⟩))
    (fun n d => kv (ix3 b n ⟨256 * (j.val / 256) + d.val, by omega⟩)) (fun n => kv (ix3 b n ⟨1024 + j.val, by omega⟩))

/-- The array that the launch leaves. -/
def out (p : FVec Ideal S2x8192x4096 .bf16) (kv : FVec Ideal S2x256x2048 .bf16) : FVec Ideal S2x8192x1024 .bf16 :=
  fun i => outAt p kv (i 0) (i 1) (i 2)

theorem blk_at (t : Fin cfg0.N) (i : Fin 2048) (j : Fin 1024) : blkAt (iblk m c 0 t) (iblk m c 1 t) i j =
    outAt (proj m c) (mkv m c) ⟨t.val / 4, by have := lt8 t; omega⟩ ⟨2048 * (t.val % 4) + i.val, by omega⟩ j := by
  unfold blkAt outAt
  exact congr (congrArg₂ attend (funext fun d => read_q m c t i _) (funext fun n => funext fun d => read_kv m c t n _))
    (funext fun n => read_kv m c t n _)

theorem out_eq : (dats m 0 c).arrAt 2 cfg0.N = out (proj m c) (mkv m c) := by
  refine (dats m 0 c).arrAt_eq_of_covers 2 _ (by decide +kernel) fun t hf y => ?_
  blk_simp
  rw [after0_2]
  have ht := lt8 t
  have h0 : (y 0).val < 1 := (y 0).isLt
  have h1 : (y 1).val < 2048 := (y 1).isLt
  have e : ∀ X : FVec Ideal S2x8192x1024 .bf16, X (ix3 ⟨t.val / 4, by omega⟩ ⟨2048 * (t.val % 4) + (y 1).val, by omega⟩ (y 2))
      = X ((win0_2.blk t).view.emb y) := fun X => by
    blk_ext [idx t]
  refine Eq.trans ?_ (e (out (proj m c) (mkv m c)))
  exact (Cert.MemoryK.out_at (iblk m c 0 t) (iblk m c 1 t) y).trans (blk_at m c t (y 1) (y 2))

end Cert.BmemK

namespace Cert.BmemClaims

open Finset Idealize.ShloMosaic Idealize.ShloMosaic.TcCoe Idealize.SL.Sem
open Cert.BmemRefIdeal Cert.BmemRefIdeal.Gen
open Cert.MemoryK (score)
open Cert.MemoryClaims (tops exps shares result attend_at)

/-- The reference's scaled scores. -/
def logits (p : FVec Ideal S2x8192x4096 .bf16) (kv : FVec Ideal S2x256x2048 .bf16) : FVec Ideal S2x4x8192x256 .f32 :=
  mulf (Host.dotGeneral dot_S2x8192x4x256_S2x256x4x256_S2x4x8192x256_3_3_1_1_02_02 none (shapeCast _ (extf .f32 (extractStridedSlice S2x8192x1024 ![0, 0, 3072] p slices_S2x8192x4096_S2x8192x1024_0_0_3072) bitsLt_bf16_f32) shapeCasts_S2x8192x1024_S2x8192x4x256) (shapeCast _ (extractStridedSlice S2x256x1024 ![0, 0, 0] (extf .f32 kv bitsLt_bf16_f32) slices_S2x256x2048_S2x256x1024_0_0_0) shapeCasts_S2x256x1024_S2x256x4x256)) (broadcastInDim S2x4x8192x256 ![] bcast_S_S2x4x8192x256 (constant S_ .f32 0x3D800000#32))

theorem logits_at (p : FVec Ideal S2x8192x4096 .bf16) (kv : FVec Ideal S2x256x2048 .bf16) (b : Fin 2) (h : Fin 4)
    (s : Fin 8192) (n : Fin 256) : logits p kv (ix4 b h s n) =
      score (fun d => p (ix3 b s ⟨3072 + (h.val * 256 + d.val), by omega⟩)) (fun n d => kv (ix3 b n ⟨h.val * 256 + d.val, by omega⟩)) n := by
  unfold logits score
  pointwise

/-- Both programs end with the same array. -/
theorem result_out (p : FVec Ideal S2x8192x4096 .bf16) (kv : FVec Ideal S2x256x2048 .bf16) :
    result (shares (exps (logits p kv) (tops (logits p kv)))) kv = Cert.BmemK.out p kv := by
  have main : ∀ b s j, result (shares (exps (logits p kv) (tops (logits p kv)))) kv (ix3 b s j) = Cert.BmemK.outAt p kv b s j :=
    fun b s j => by
      refine attend_at _ kv b s j _ _ fun n => ?_
      rw [logits_at]
      simp only [Nat.mul_comm (j.val / 256) 256]
  funext i
  rw [show i = ix3 (i 0) (i 1) (i 2) by funext a; fin_cases a <;> rfl]
  exact main (i 0) (i 1) (i 2)

theorem frame_ref : Cert.quiescent_BmemRefIdeal (hBmemRefIdeal := Cert.BmemRefIdeal.Gen.facts) := fun m ρ _ =>
  (θ_run Cert.BmemRefIdeal.defs _ _).mono (fun r h => ⟨fun c => (h c).2, sem_eq_zero_of_no_sems (by decide) r.2⟩)
    (Cert.BmemRefIdeal.Value.run m ρ)

theorem algebraic : Cert.algebraic_BmemIdeal_BmemRefIdeal (hBmemIdeal := Cert.BmemIdeal.Gen.facts)
    (hBmemRefIdeal := Cert.BmemRefIdeal.Gen.facts) := by
  intro m g m' g' _ hagree
  refine ⟨fun c => Cert.BmemK.out (Cert.BmemK.proj m c) (Cert.BmemK.mkv m c), ?_, ?_⟩
  · exact (θ_run Cert.BmemIdeal.defs _ _).mono (fun r h c => ⟨(h c).1.trans (Cert.BmemK.out_eq m c), (h c).2⟩)
      (Cert.BmemIdeal.Value.run_blocks m g)
  · refine (θ_run Cert.BmemRefIdeal.defs _ _).mono (fun r h c => ⟨(h c).1.trans ?_, (h c).2⟩)
      (Cert.BmemRefIdeal.Value.run m' g')
    obtain ⟨e0, e1⟩ := hagree c
    rw [e0, e1]
    exact result_out _ _

end Cert.BmemClaims
end
-- ==== Proof.MemnormAgree.lean ====
/-
  The memory's norm: the first block's text on the memory's 512 rows.
-/
module

public import proofs.«01_k».proof.Defs
public import proofs.«01_k».proof.Proof.Gen.MemnormIdeal.Value
public import proofs.«01_k».proof.Proof.Gen.MemnormRefIdeal.Run
public import proofs.«01_k».proof.Proof.NormAgree
public import Idealize.ShloMosaic.Lib.Pipeline.ValueKit
public import Idealize.ShloMosaic.Lib.Pipeline.ReadBack
public import Idealize.ShloMosaic.Lib.StableHlo.RunRead
public import Idealize.ShloMosaic.Lib.Pointwise
public import Idealize.ShloMosaic.Lib.Claim

@[expose] public section

set_option maxRecDepth 16384

noncomputable section

namespace Cert.MemnormK

open Finset Idealize.ShloMosaic Idealize.ShloMosaic.TcCoe Idealize.SL.Sem
open Idealize.ShloMosaic.Pipeline (Dat)
open Cert.MemnormIdeal Cert.MemnormIdeal.Gen Cert.RowNorm

theorem idx : ∀ t : Fin cfg0.N, win0_0.index t = ![t.val, 0] ∧ win0_1.index t = ![0, 0] ∧ win0_2.index t = ![t.val, 0] :=
  (by decide +kernel : ∀ t : Fin grid0.N, _)

theorem ltN (t : Fin cfg0.N) : t.val < 2 := lt_of_lt_of_eq t.isLt N_0

variable (m : (ℓ : Loc nD τ sig) → Buf (Elt Ideal) ℓ) (c : Dev nD)

def rows : FVec Ideal S512x4096 .f32 := m ((c : Thread nD τ).loc main_arg0)
def gains : FVec Ideal S4096 .f32 := m ((c : Thread nD τ).loc main_arg1)

theorem read_x (t : Fin cfg0.N) (i : Fin 256) (k : Fin 4096) : iblk m c 0 t (ix2 i k) =
    rows m c (ix2 ⟨256 * t.val + i.val, by have := ltN t; omega⟩ k) := by
  blk_ext [iblk, V, rows, idx t]

/-- The gains as a row, which the host makes. -/
theorem made_gains (j : Fin 4096) : ∀ X : FVec Ideal S1x4096 .f32, V m c main_v0 = X →
    X (ix2 0 j) = gains m c (ix1 j) := by
  unfold V gains
  after_reads_simp
  rintro X rfl
  pointwise

theorem read_g (t : Fin cfg0.N) (j : Fin 4096) : iblk m c 1 t (ix2 0 j) = gains m c (ix1 j) := by
  blk_simp [iblk]
  refine Eq.trans ?_ (made_gains m c j _ rfl)
  generalize V m c main_v0 = X
  blk_ext [idx t]

theorem pay_at (x : Vec Ideal S256x4096 .f32) (g : Vec Ideal S1x4096 .f32) (i : Fin 256) (j : Fin 4096) :
    k0_pay1 x g (ix2 i j) = x (ix2 i j) * rstd (∑ k : Fin 4096, x (ix2 i k) * x (ix2 i k)) * g (ix2 0 j) :=
  Cert.NormK.pay_at x g i j

/-- The array that the launch leaves. -/
def out (x : FVec Ideal S512x4096 .f32) (g : FVec Ideal S4096 .f32) : FVec Ideal S512x4096 .bf16 :=
  fun i => x (ix2 (i 0) (i 1)) * rstd (∑ k : Fin 4096, x (ix2 (i 0) k) * x (ix2 (i 0) k)) * g (ix1 (i 1))

theorem out_eq : (dats m 0 c).arrAt 2 cfg0.N = out (rows m c) (gains m c) := by
  refine (dats m 0 c).arrAt_eq_of_covers 2 _ (by decide +kernel) fun t hf y => ?_
  blk_simp
  rw [after0_2]
  have ht := ltN t
  have h0 : (y 0).val < 256 := (y 0).isLt
  have e : ∀ X : FVec Ideal S512x4096 .bf16, X (ix2 ⟨256 * t.val + (y 0).val, by omega⟩ (y 1))
      = X ((win0_2.blk t).view.emb y) := fun X => by
    blk_ext [idx t]
  refine Eq.trans ?_ (e (out (rows m c) (gains m c)))
  frame_out
  have ey : y = ix2 (y 0) (y 1) := by
    funext a
    fin_cases a <;> rfl
  exact ((congrArg (k0_pay1 _ _) ey).trans (pay_at _ _ (y 0) (y 1))).trans
    (congrArg₂ (· * ·) (congrArg₂ (· * ·) (read_x m c t (y 0) (y 1))
      (congrArg rstd (sum_congr rfl fun k _ => congrArg₂ (· * ·) (read_x m c t (y 0) k) (read_x m c t (y 0) k))))
      (read_g m c t (y 1)))

end Cert.MemnormK

namespace Cert.MemnormClaims

open Finset Idealize.ShloMosaic Idealize.ShloMosaic.TcCoe Idealize.SL.Sem
open Cert.MemnormRefIdeal Cert.MemnormRefIdeal.Gen Cert.RowNorm

/-- The reference's result, of the arguments. -/
def result (x : FVec Ideal S512x4096 .f32) (g : FVec Ideal S4096 .f32) : FVec Ideal S512x4096 .bf16 :=
  truncf .bf16 (mulf (mulf x (broadcastInDim S512x4096 ![0, 1] bcast_S512x1_S512x4096_0_1 (Host.rsqrt (addf (Host.divf (broadcastInDim S512x1 ![0] bcast_S512_S512x1_0 (Host.reduceAdd (mulf x x) (constant S_ .f32 0x00000000#32) reducesTo_S512x4096_S512_d1 h_S_)) (broadcastInDim S512x1 ![] bcast_S_S512x1 (constant S_ .f32 0x45800000#32))) (broadcastInDim S512x1 ![] bcast_S_S512x1 (constant S_ .f32 0x358637BD#32)))))) (broadcastInDim S512x4096 ![0, 1] bcast_S1x4096_S512x4096_0_1 (broadcastInDim S1x4096 ![1] bcast_S4096_S1x4096_1 g))) bitsLt_bf16_f32

theorem result_at (x : FVec Ideal S512x4096 .f32) (g : FVec Ideal S4096 .f32) (i : Fin 512) (j : Fin 4096) :
    result x g (ix2 i j) = x (ix2 i j) * rstd (∑ k : Fin 4096, x (ix2 i k) * x (ix2 i k)) * g (ix1 j) := by
  unfold result rstd
  pointwise

theorem result_out (x : FVec Ideal S512x4096 .f32) (g : FVec Ideal S4096 .f32) : result x g = Cert.MemnormK.out x g := by
  funext i
  rw [show i = ix2 (i 0) (i 1) by funext a; fin_cases a <;> rfl]
  exact result_at x g (i 0) (i 1)

theorem frame_ref : Cert.quiescent_MemnormRefIdeal (hMemnormRefIdeal := Cert.MemnormRefIdeal.Gen.facts) := fun m ρ _ =>
  (θ_run Cert.MemnormRefIdeal.defs _ _).mono (fun r h => ⟨fun c => (h c).2, sem_eq_zero_of_no_sems (by decide) r.2⟩)
    (Cert.MemnormRefIdeal.Value.run m ρ)

theorem algebraic : Cert.algebraic_MemnormIdeal_MemnormRefIdeal (hMemnormIdeal := Cert.MemnormIdeal.Gen.facts)
    (hMemnormRefIdeal := Cert.MemnormRefIdeal.Gen.facts) := by
  intro m g m' g' _ hagree
  refine ⟨fun c => Cert.MemnormK.out (Cert.MemnormK.rows m c) (Cert.MemnormK.gains m c), ?_, ?_⟩
  · exact (θ_run Cert.MemnormIdeal.defs _ _).mono (fun r h c => ⟨(h c).1.trans (Cert.MemnormK.out_eq m c), (h c).2⟩)
      (Cert.MemnormIdeal.Value.run_blocks m g)
  · refine (θ_run Cert.MemnormRefIdeal.defs _ _).mono (fun r h c => ⟨(h c).1.trans ?_, (h c).2⟩)
      (Cert.MemnormRefIdeal.Value.run m' g')
    obtain ⟨e0, e1⟩ := hagree c
    rw [e0, e1]
    exact result_out _ _

end Cert.MemnormClaims
end
-- ==== Proof.FirstAgree.lean ====
/-
  The first block's norm: the final norm's text with a result in bf16.
-/
module

public import proofs.«01_k».proof.Defs
public import proofs.«01_k».proof.Proof.Gen.FirstIdeal.Value
public import proofs.«01_k».proof.Proof.Gen.FirstRefIdeal.Run
public import proofs.«01_k».proof.Proof.NormAgree
public import Idealize.ShloMosaic.Lib.Pipeline.ValueKit
public import Idealize.ShloMosaic.Lib.Pipeline.ReadBack
public import Idealize.ShloMosaic.Lib.StableHlo.RunRead
public import Idealize.ShloMosaic.Lib.Pointwise
public import Idealize.ShloMosaic.Lib.Claim

@[expose] public section

set_option maxRecDepth 16384

noncomputable section

namespace Cert.FirstK

open Finset Idealize.ShloMosaic Idealize.ShloMosaic.TcCoe Idealize.SL.Sem
open Idealize.ShloMosaic.Pipeline (Dat)
open Cert.FirstIdeal Cert.FirstIdeal.Gen Cert.RowNorm

theorem idx : ∀ t : Fin cfg0.N, win0_0.index t = ![t.val, 0] ∧ win0_1.index t = ![0, 0] ∧ win0_2.index t = ![t.val, 0] :=
  (by decide +kernel : ∀ t : Fin grid0.N, _)

theorem ltN (t : Fin cfg0.N) : t.val < 64 := lt_of_lt_of_eq t.isLt N_0

variable (m : (ℓ : Loc nD τ sig) → Buf (Elt Ideal) ℓ) (c : Dev nD)

def rows : FVec Ideal S16384x4096 .f32 := m ((c : Thread nD τ).loc main_arg0)
def gains : FVec Ideal S4096 .f32 := m ((c : Thread nD τ).loc main_arg1)

theorem read_x (t : Fin cfg0.N) (i : Fin 256) (k : Fin 4096) : iblk m c 0 t (ix2 i k) =
    rows m c (ix2 ⟨256 * t.val + i.val, by have := ltN t; omega⟩ k) := by
  blk_ext [iblk, V, rows, idx t]

/-- The gains as a row, which the host makes. -/
theorem made_gains (j : Fin 4096) : ∀ X : FVec Ideal S1x4096 .f32, V m c main_v0 = X →
    X (ix2 0 j) = gains m c (ix1 j) := by
  unfold V gains
  after_reads_simp
  rintro X rfl
  pointwise

theorem read_g (t : Fin cfg0.N) (j : Fin 4096) : iblk m c 1 t (ix2 0 j) = gains m c (ix1 j) := by
  blk_simp [iblk]
  refine Eq.trans ?_ (made_gains m c j _ rfl)
  generalize V m c main_v0 = X
  blk_ext [idx t]

theorem pay_at (x : Vec Ideal S256x4096 .f32) (g : Vec Ideal S1x4096 .f32) (i : Fin 256) (j : Fin 4096) :
    k0_pay1 x g (ix2 i j) = x (ix2 i j) * rstd (∑ k : Fin 4096, x (ix2 i k) * x (ix2 i k)) * g (ix2 0 j) :=
  Cert.NormK.pay_at x g i j

/-- The array that the launch leaves. -/
def out (x : FVec Ideal S16384x4096 .f32) (g : FVec Ideal S4096 .f32) : FVec Ideal S16384x4096 .bf16 :=
  fun i => x (ix2 (i 0) (i 1)) * rstd (∑ k : Fin 4096, x (ix2 (i 0) k) * x (ix2 (i 0) k)) * g (ix1 (i 1))

theorem out_eq : (dats m 0 c).arrAt 2 cfg0.N = out (rows m c) (gains m c) := by
  refine (dats m 0 c).arrAt_eq_of_covers 2 _ (by decide +kernel) fun t hf y => ?_
  blk_simp
  rw [after0_2]
  have ht := ltN t
  have h0 : (y 0).val < 256 := (y 0).isLt
  have e : ∀ X : FVec Ideal S16384x4096 .bf16, X (ix2 ⟨256 * t.val + (y 0).val, by omega⟩ (y 1))
      = X ((win0_2.blk t).view.emb y) := fun X => by
    blk_ext [idx t]
  refine Eq.trans ?_ (e (out (rows m c) (gains m c)))
  frame_out
  have ey : y = ix2 (y 0) (y 1) := by
    funext a
    fin_cases a <;> rfl
  exact ((congrArg (k0_pay1 _ _) ey).trans (pay_at _ _ (y 0) (y 1))).trans
    (congrArg₂ (· * ·) (congrArg₂ (· * ·) (read_x m c t (y 0) (y 1))
      (congrArg rstd (sum_congr rfl fun k _ => congrArg₂ (· * ·) (read_x m c t (y 0) k) (read_x m c t (y 0) k))))
      (read_g m c t (y 1)))

end Cert.FirstK

namespace Cert.FirstClaims

open Finset Idealize.ShloMosaic Idealize.ShloMosaic.TcCoe Idealize.SL.Sem
open Cert.FirstRefIdeal Cert.FirstRefIdeal.Gen Cert.RowNorm

theorem result_out (x : FVec Ideal S16384x4096 .f32) (g : FVec Ideal S4096 .f32) :
    truncf (F := Ideal) .bf16 (Cert.NormClaims.result x g) bitsLt_bf16_f32 = Cert.FirstK.out x g :=
  Cert.NormClaims.result_out x g

theorem frame_ref : Cert.quiescent_FirstRefIdeal (hFirstRefIdeal := Cert.FirstRefIdeal.Gen.facts) := fun m ρ _ =>
  (θ_run Cert.FirstRefIdeal.defs _ _).mono (fun r h => ⟨fun c => (h c).2, sem_eq_zero_of_no_sems (by decide) r.2⟩)
    (Cert.FirstRefIdeal.Value.run m ρ)

theorem algebraic : Cert.algebraic_FirstIdeal_FirstRefIdeal (hFirstIdeal := Cert.FirstIdeal.Gen.facts)
    (hFirstRefIdeal := Cert.FirstRefIdeal.Gen.facts) := by
  intro m g m' g' _ hagree
  refine ⟨fun c => Cert.FirstK.out (Cert.FirstK.rows m c) (Cert.FirstK.gains m c), ?_, ?_⟩
  · exact (θ_run Cert.FirstIdeal.defs _ _).mono (fun r h c => ⟨(h c).1.trans (Cert.FirstK.out_eq m c), (h c).2⟩)
      (Cert.FirstIdeal.Value.run_blocks m g)
  · refine (θ_run Cert.FirstRefIdeal.defs _ _).mono (fun r h c => ⟨(h c).1.trans ?_, (h c).2⟩)
      (Cert.FirstRefIdeal.Value.run m' g')
    obtain ⟨e0, e1⟩ := hagree c
    rw [e0, e1]
    exact result_out _ _

end Cert.FirstClaims
end
-- ==== Proof.LastAgree.lean ====
/-
  The last feed-forward block's second product, which makes no norm's operands: one result, the first of the other
  blocks' product.
-/
module

public import proofs.«01_k».proof.Defs
public import proofs.«01_k».proof.Proof.Gen.LastIdeal.Value
public import proofs.«01_k».proof.Proof.Gen.LastRefIdeal.Run
public import proofs.«01_k».proof.Proof.DownAgree
public import Idealize.ShloMosaic.Lib.Pipeline.ValueKit
public import Idealize.ShloMosaic.Lib.Pipeline.ReadBack
public import Idealize.ShloMosaic.Lib.StableHlo.RunRead
public import Idealize.ShloMosaic.Lib.Pointwise
public import Idealize.ShloMosaic.Lib.Claim

@[expose] public section

set_option maxRecDepth 16384

noncomputable section

namespace Cert.LastK

open Finset Idealize.ShloMosaic Idealize.ShloMosaic.TcCoe Idealize.SL.Sem
open Idealize.ShloMosaic.Pipeline (Dat)
open Cert.LastIdeal Cert.LastIdeal.Gen
open Cert.DownK (outX)

variable (m : (ℓ : Loc nD τ sig) → Buf (Elt Ideal) ℓ) (c : Dev nD)

theorem idx : ∀ t : Fin cfg0.N, win0_0.index t = ![t.val / 8, 0] ∧ win0_1.index t = ![0, 0, t.val % 8] ∧
    win0_2.index t = ![t.val / 8, t.val % 8] ∧ win0_3.index t = ![t.val / 8, t.val % 8] :=
  (by decide +kernel : ∀ t : Fin grid0.N, _)

theorem lt128 (t : Fin cfg0.N) : t.val < 128 := lt_of_lt_of_eq t.isLt N_0

def acts : FVec Ideal S16384x8192 .bf16 := m ((c : Thread nD τ).loc main_arg0)
def weights : FVec Ideal S4x8192x4096 .bf16 := m ((c : Thread nD τ).loc main_arg1)
def resid : FVec Ideal S16384x4096 .f32 := m ((c : Thread nD τ).loc main_arg2)

theorem read_a (t : Fin cfg0.N) (i : Fin 1024) (k : Fin 8192) : iblk m c 0 t (ix2 i k) =
    acts m c (ix2 ⟨1024 * (t.val / 8) + i.val, by have := lt128 t; omega⟩ k) := by
  blk_ext [iblk, V, acts, idx t]

theorem read_w (t : Fin cfg0.N) (k : Fin 8192) (j : Fin 512) : iblk m c 1 t (ix3 0 k j) =
    weights m c (ix3 0 k ⟨512 * (t.val % 8) + j.val, by omega⟩) := by
  blk_ext [iblk, V, weights, idx t]

theorem read_x (t : Fin cfg0.N) (i : Fin 1024) (j : Fin 512) : iblk m c 2 t (ix2 i j) =
    resid m c (ix2 ⟨1024 * (t.val / 8) + i.val, by have := lt128 t; omega⟩ ⟨512 * (t.val % 8) + j.val, by omega⟩) := by
  blk_ext [iblk, V, resid, idx t]

theorem pay_at (w : Vec Ideal S1x8192x512 .bf16) (a : Vec Ideal S1024x8192 .bf16) (x : Vec Ideal S1024x512 .f32)
    (i : Fin 1024) (j : Fin 512) : k0_pay1 w a x (ix2 i j) = x (ix2 i j) + ∑ k : Fin 8192, a (ix2 i k) * w (ix3 0 k j) :=
  Cert.DownK.pay2_at w a x i j

theorem out_eq : (dats m 0 c).arrAt 3 cfg0.N = outX (acts m c) (weights m c) (resid m c) := by
  refine (dats m 0 c).arrAt_eq_of_covers 3 _ (by decide +kernel) fun t hf y => ?_
  blk_simp
  rw [after0_3]
  have ht := lt128 t
  have h0 : (y 0).val < 1024 := (y 0).isLt
  have h1 : (y 1).val < 512 := (y 1).isLt
  have e : ∀ X : FVec Ideal S16384x4096 .f32, X (ix2 ⟨1024 * (t.val / 8) + (y 0).val, by omega⟩
      ⟨512 * (t.val % 8) + (y 1).val, by omega⟩) = X ((win0_3.blk t).view.emb y) := fun X => by
    blk_ext [idx t]
  refine Eq.trans ?_ (e (outX (acts m c) (weights m c) (resid m c)))
  frame_out
  have ey : y = ix2 (y 0) (y 1) := by
    funext a
    fin_cases a <;> rfl
  exact ((congrArg (k0_pay1 _ _ _) ey).trans (pay_at _ _ _ (y 0) (y 1))).trans (congrArg₂ (· + ·) (read_x m c t (y 0) (y 1))
    (sum_congr rfl fun k _ => congrArg₂ (· * ·) (read_a m c t (y 0) k) (read_w m c t k (y 1))))

end Cert.LastK

namespace Cert.LastClaims

open Idealize.ShloMosaic Idealize.ShloMosaic.TcCoe Idealize.SL.Sem

theorem frame_ref : Cert.quiescent_LastRefIdeal (hLastRefIdeal := Cert.LastRefIdeal.Gen.facts) := fun m ρ _ =>
  (θ_run Cert.LastRefIdeal.defs _ _).mono (fun r h => ⟨fun c => (h c).2, sem_eq_zero_of_no_sems (by decide) r.2⟩)
    (Cert.LastRefIdeal.Value.run m ρ)

theorem algebraic : Cert.algebraic_LastIdeal_LastRefIdeal (hLastIdeal := Cert.LastIdeal.Gen.facts)
    (hLastRefIdeal := Cert.LastRefIdeal.Gen.facts) := by
  intro m g m' g' _ hagree
  refine ⟨fun c => Cert.DownK.outX (Cert.LastK.acts m c) (Cert.LastK.weights m c) (Cert.LastK.resid m c), ?_, ?_⟩
  · exact (θ_run Cert.LastIdeal.defs _ _).mono (fun r h c => ⟨(h c).1.trans (Cert.LastK.out_eq m c), (h c).2⟩)
      (Cert.LastIdeal.Value.run_blocks m g)
  · refine (θ_run Cert.LastRefIdeal.defs _ _).mono (fun r h c => ⟨(h c).1.trans ?_, (h c).2⟩)
      (Cert.LastRefIdeal.Value.run m' g')
    obtain ⟨e0, e1, e2⟩ := hagree c
    rw [e0, e1, e2]
    exact Cert.DownClaims.resX_eq _ _ _

end Cert.LastClaims
end
-- ==== Proof.TurnValue.lean ====
/-
  The down projection between two groups of blocks, which makes the operands of two norms: the other blocks' products and
  sums, with a second result in bf16.
-/
module

public import proofs.«01_k».proof.Proof.Gen.TurnIdeal.Value
public import proofs.«01_k».proof.Proof.DownValue
public import Idealize.ShloMosaic.Lib.Pipeline.ValueKit
public import Idealize.ShloMosaic.Lib.Pipeline.ReadBack
public import Idealize.ShloMosaic.Lib.StableHlo.RunRead
public import Idealize.ShloMosaic.Lib.Pointwise

@[expose] public section

set_option maxRecDepth 16384

noncomputable section

namespace Cert.TurnK

open Finset Idealize.ShloMosaic Idealize.ShloMosaic.TcCoe Idealize.SL.Sem
open Idealize.ShloMosaic.Pipeline (Dat)
open Cert.TurnIdeal Cert.TurnIdeal.Gen
open Cert.DownK (sumAt sq outX outG outS squares)

/-- What a point stores of the sums of squares, over what they were. -/
def sumsOf (w : Vec Ideal S1x8192x512 .bf16) (a : Vec Ideal S1024x8192 .bf16) (x : Vec Ideal S1024x512 .f32)
    (s : Vec Ideal S1024x128 .f32) : FVec Ideal S1024x128 .f32 := k0_pay1 (k0_pay6 s) (k0_pay7 w a x)

theorem pay3_at (w : Vec Ideal S1x8192x512 .bf16) (a : Vec Ideal S1024x8192 .bf16) (x : Vec Ideal S1024x512 .f32)
    (i : Fin 1024) (j : Fin 512) : k0_pay3 w a x (ix2 i j) = x (ix2 i j) + ∑ k : Fin 8192, a (ix2 i k) * w (ix3 0 k j) :=
  Cert.DownK.pay2_at w a x i j

theorem pay4_at (w : Vec Ideal S1x8192x512 .bf16) (a : Vec Ideal S1024x8192 .bf16) (x : Vec Ideal S1024x512 .f32)
    (g : Vec Ideal S1x512 .f32) (i : Fin 1024) (j : Fin 512) : k0_pay4 w a x g (ix2 i j) = k0_pay3 w a x (ix2 i j) * g (ix2 0 j) :=
  Cert.DownK.pay3_at w a x g i j

/-- The second result in bf16 is made as the first. -/
theorem pay5_eq (w : Vec Ideal S1x8192x512 .bf16) (a : Vec Ideal S1024x8192 .bf16) (x : Vec Ideal S1024x512 .f32)
    (g : Vec Ideal S1x512 .f32) : k0_pay5 w a x g = k0_pay4 w a x g := rfl

variable (m : (ℓ : Loc nD τ sig) → Buf (Elt Ideal) ℓ) (c : Dev nD)

theorem outs_B (t : Fin cfg0.N) (h : ¬ t.val % 8 = 0) : outsAt0 m c t.val t.isLt =
    (k0_pay3 (iblk m c 1 t) (iblk m c 0 t) (iblk m c 2 t), k0_pay4 (iblk m c 1 t) (iblk m c 0 t) (iblk m c 2 t) (iblk m c 3 t),
      k0_pay5 (iblk m c 1 t) (iblk m c 0 t) (iblk m c 2 t) (iblk m c 4 t), sumsOf (iblk m c 1 t) (iblk m c 0 t) (iblk m c 2 t) (outsAt0 m c (t.val - 1) (by omega)).2.2.2) := by
  rw [outsAt0_B m c t h]
  frame_out
  rfl

theorem outs_A (t : Fin cfg0.N) (h : t.val % 8 = 0) : outsAt0 m c t.val t.isLt =
    (k0_pay3 (iblk m c 1 t) (iblk m c 0 t) (iblk m c 2 t), k0_pay4 (iblk m c 1 t) (iblk m c 0 t) (iblk m c 2 t) (iblk m c 3 t),
      k0_pay5 (iblk m c 1 t) (iblk m c 0 t) (iblk m c 2 t) (iblk m c 4 t), sumsOf (iblk m c 1 t) (iblk m c 0 t) (iblk m c 2 t) (k0_pay2 (F := Ideal))) := by
  rw [outsAt0_A m c t h]
  frame_out
  rfl

theorem idx : ∀ t : Fin cfg0.N, win0_0.index t = ![t.val / 8, 0] ∧ win0_1.index t = ![0, 0, t.val % 8] ∧
    win0_2.index t = ![t.val / 8, t.val % 8] ∧ win0_3.index t = ![0, t.val % 8] ∧ win0_4.index t = ![0, t.val % 8] ∧
    win0_5.index t = ![t.val / 8, t.val % 8] ∧ win0_6.index t = ![t.val / 8, t.val % 8] ∧
    win0_7.index t = ![t.val / 8, t.val % 8] ∧ win0_8.index t = ![t.val / 8, 0] :=
  (by decide +kernel : ∀ t : Fin grid0.N, _)

theorem lt128 (t : Fin cfg0.N) : t.val < 128 := lt_of_lt_of_eq t.isLt N_0

def acts : FVec Ideal S16384x8192 .bf16 := m ((c : Thread nD τ).loc main_arg0)
def weights : FVec Ideal S4x8192x4096 .bf16 := m ((c : Thread nD τ).loc main_arg1)
def resid : FVec Ideal S16384x4096 .f32 := m ((c : Thread nD τ).loc main_arg2)
def gains : FVec Ideal S4096 .f32 := m ((c : Thread nD τ).loc main_arg3)
def gainsKv : FVec Ideal S4096 .f32 := m ((c : Thread nD τ).loc main_arg4)

theorem read_a (t : Fin cfg0.N) (i : Fin 1024) (k : Fin 8192) : iblk m c 0 t (ix2 i k) =
    acts m c (ix2 ⟨1024 * (t.val / 8) + i.val, by have := lt128 t; omega⟩ k) := by
  blk_ext [iblk, V, acts, idx t]

theorem read_w (t : Fin cfg0.N) (k : Fin 8192) (j : Fin 512) : iblk m c 1 t (ix3 0 k j) =
    weights m c (ix3 0 k ⟨512 * (t.val % 8) + j.val, by omega⟩) := by
  blk_ext [iblk, V, weights, idx t]

theorem read_x (t : Fin cfg0.N) (i : Fin 1024) (j : Fin 512) : iblk m c 2 t (ix2 i j) =
    resid m c (ix2 ⟨1024 * (t.val / 8) + i.val, by have := lt128 t; omega⟩ ⟨512 * (t.val % 8) + j.val, by omega⟩) := by
  blk_ext [iblk, V, resid, idx t]

/-- The two gains as rows, which the host makes. -/
theorem made_gains (j : Fin 4096) : ∀ X : FVec Ideal S1x4096 .f32, V m c main_v0 = X →
    X (ix2 0 j) = gains m c (ix1 j) := by
  unfold V gains
  after_reads_simp
  rintro X rfl
  pointwise

theorem made_gainsKv (j : Fin 4096) : ∀ X : FVec Ideal S1x4096 .f32, V m c main_v1 = X →
    X (ix2 0 j) = gainsKv m c (ix1 j) := by
  unfold V gainsKv
  after_reads_simp
  rintro X rfl
  pointwise

theorem read_g (t : Fin cfg0.N) (j : Fin 512) : iblk m c 3 t (ix2 0 j) =
    gains m c (ix1 ⟨512 * (t.val % 8) + j.val, by omega⟩) := by
  blk_simp [iblk]
  refine Eq.trans ?_ (made_gains m c ⟨512 * (t.val % 8) + j.val, by omega⟩ _ rfl)
  generalize V m c main_v0 = X
  blk_ext [idx t]

theorem read_gKv (t : Fin cfg0.N) (j : Fin 512) : iblk m c 4 t (ix2 0 j) =
    gainsKv m c (ix1 ⟨512 * (t.val % 8) + j.val, by omega⟩) := by
  blk_simp [iblk]
  refine Eq.trans ?_ (made_gainsKv m c ⟨512 * (t.val % 8) + j.val, by omega⟩ _ rfl)
  generalize V m c main_v1 = X
  blk_ext [idx t]

theorem p_at (t : Fin cfg0.N) (i : Fin 1024) (j : Fin 512) : k0_pay3 (iblk m c 1 t) (iblk m c 0 t) (iblk m c 2 t) (ix2 i j) =
    sumAt (acts m c) (weights m c) (resid m c) ⟨1024 * (t.val / 8) + i.val, by have := lt128 t; omega⟩
      ⟨512 * (t.val % 8) + j.val, by omega⟩ :=
  (pay3_at _ _ _ i j).trans (congrArg₂ (· + ·) (read_x m c t i j)
    (sum_congr rfl fun k _ => congrArg₂ (· * ·) (read_a m c t i k) (read_w m c t k j)))

theorem step (t : Fin cfg0.N) (s : Vec Ideal S1024x128 .f32) (i : Fin 1024) (l : Fin 128) (R : Fin 16384)
    (hR : R.val = 1024 * (t.val / 8) + i.val)
    (hs : s (ix2 i l) = ∑ n ∈ range (4 * (t.val % 8)), sq (acts m c) (weights m c) (resid m c) R (128 * n + l.val)) :
    sumsOf (iblk m c 1 t) (iblk m c 0 t) (iblk m c 2 t) s (ix2 i l) =
      ∑ n ∈ range (4 * (t.val % 8 + 1)), sq (acts m c) (weights m c) (resid m c) R (128 * n + l.val) := by
  have ht := lt128 t
  have hi := i.isLt
  rw [show R = ⟨1024 * (t.val / 8) + i.val, by omega⟩ from Fin.ext hR] at hs ⊢
  exact squares _ _ _ s _ _ _ i l _ _ (by omega) (fun j => p_at m c t i j) hs

theorem zeros (i : Fin 1024) (l : Fin 128) : k0_pay2 (F := Ideal) (ix2 i l) = 0 := Cert.DownK.zeros i l

/-- What the sums of squares are after a point: those of the row's columns so far. -/
theorem sums_at : ∀ (n : ℕ) (hn : n < cfg0.N) (i : Fin 1024) (l : Fin 128) (R : Fin 16384) (_ : R.val = 1024 * (n / 8) + i.val),
    (outsAt0 m c n hn).2.2.2 (ix2 i l) =
      ∑ k ∈ range (4 * (n % 8 + 1)), sq (acts m c) (weights m c) (resid m c) R (128 * k + l.val) := by
  intro n
  induction n with
  | zero =>
    intro hn i l R hR
    rw [outs_A m c ⟨0, hn⟩ rfl]
    exact step m c ⟨0, hn⟩ _ i l R hR ((zeros i l).trans (by simp))
  | succ n ih =>
    intro hn i l R hR
    by_cases h : (n + 1) % 8 = 0
    · rw [outs_A m c ⟨n + 1, hn⟩ h]
      refine step m c ⟨n + 1, hn⟩ _ i l R hR ((zeros i l).trans ?_)
      simp only [h]
      simp
    · rw [outs_B m c ⟨n + 1, hn⟩ h]
      refine step m c ⟨n + 1, hn⟩ _ i l R hR ((ih (by omega) i l R (by omega)).trans ?_)
      rw [show n % 8 + 1 = (n + 1) % 8 by omega]

/-- The first three results, whichever the case. -/
theorem three (t : Fin cfg0.N) : (outsAt0 m c t.val t.isLt).1 = k0_pay3 (iblk m c 1 t) (iblk m c 0 t) (iblk m c 2 t) ∧
    (outsAt0 m c t.val t.isLt).2.1 = k0_pay4 (iblk m c 1 t) (iblk m c 0 t) (iblk m c 2 t) (iblk m c 3 t) ∧
    (outsAt0 m c t.val t.isLt).2.2.1 = k0_pay4 (iblk m c 1 t) (iblk m c 0 t) (iblk m c 2 t) (iblk m c 4 t) := by
  by_cases h : t.val % 8 = 0
  · rw [outs_A m c t h]
    exact ⟨rfl, rfl, pay5_eq _ _ _ _⟩
  · rw [outs_B m c t h]
    exact ⟨rfl, rfl, pay5_eq _ _ _ _⟩

theorem outX_eq : (dats m 0 c).arrAt 5 cfg0.N = outX (acts m c) (weights m c) (resid m c) := by
  refine (dats m 0 c).arrAt_eq_of_covers 5 _ (by decide +kernel) fun t hf y => ?_
  blk_simp
  rw [after0_5, (three m c t).1]
  have ht := lt128 t
  have h0 : (y 0).val < 1024 := (y 0).isLt
  have h1 : (y 1).val < 512 := (y 1).isLt
  have e : ∀ X : FVec Ideal S16384x4096 .f32, X (ix2 ⟨1024 * (t.val / 8) + (y 0).val, by omega⟩
      ⟨512 * (t.val % 8) + (y 1).val, by omega⟩) = X ((win0_5.blk t).view.emb y) := fun X => by
    blk_ext [idx t]
  refine Eq.trans ?_ (e (outX (acts m c) (weights m c) (resid m c)))
  have ey : y = ix2 (y 0) (y 1) := by
    funext a
    fin_cases a <;> rfl
  exact (congrArg (k0_pay3 _ _ _) ey).trans (p_at m c t (y 0) (y 1))

theorem outG_eq : (dats m 0 c).arrAt 6 cfg0.N = outG (acts m c) (weights m c) (resid m c) (gains m c) := by
  refine (dats m 0 c).arrAt_eq_of_covers 6 _ (by decide +kernel) fun t hf y => ?_
  blk_simp
  rw [after0_6, (three m c t).2.1]
  have ht := lt128 t
  have h0 : (y 0).val < 1024 := (y 0).isLt
  have h1 : (y 1).val < 512 := (y 1).isLt
  have e : ∀ X : FVec Ideal S16384x4096 .bf16, X (ix2 ⟨1024 * (t.val / 8) + (y 0).val, by omega⟩
      ⟨512 * (t.val % 8) + (y 1).val, by omega⟩) = X ((win0_6.blk t).view.emb y) := fun X => by
    blk_ext [idx t]
  refine Eq.trans ?_ (e (outG (acts m c) (weights m c) (resid m c) (gains m c)))
  have ey : y = ix2 (y 0) (y 1) := by
    funext a
    fin_cases a <;> rfl
  exact ((congrArg (k0_pay4 _ _ _ _) ey).trans (pay4_at _ _ _ _ (y 0) (y 1))).trans
    (congrArg₂ (· * ·) (p_at m c t (y 0) (y 1)) (read_g m c t (y 1)))

theorem outGKv_eq : (dats m 0 c).arrAt 7 cfg0.N = outG (acts m c) (weights m c) (resid m c) (gainsKv m c) := by
  refine (dats m 0 c).arrAt_eq_of_covers 7 _ (by decide +kernel) fun t hf y => ?_
  blk_simp
  rw [after0_7, (three m c t).2.2]
  have ht := lt128 t
  have h0 : (y 0).val < 1024 := (y 0).isLt
  have h1 : (y 1).val < 512 := (y 1).isLt
  have e : ∀ X : FVec Ideal S16384x4096 .bf16, X (ix2 ⟨1024 * (t.val / 8) + (y 0).val, by omega⟩
      ⟨512 * (t.val % 8) + (y 1).val, by omega⟩) = X ((win0_7.blk t).view.emb y) := fun X => by
    blk_ext [idx t]
  refine Eq.trans ?_ (e (outG (acts m c) (weights m c) (resid m c) (gainsKv m c)))
  have ey : y = ix2 (y 0) (y 1) := by
    funext a
    fin_cases a <;> rfl
  exact ((congrArg (k0_pay4 _ _ _ _) ey).trans (pay4_at _ _ _ _ (y 0) (y 1))).trans
    (congrArg₂ (· * ·) (p_at m c t (y 0) (y 1)) (read_gKv m c t (y 1)))

theorem last : ∀ t : Fin cfg0.N, (cfg0.win 8).flush t = true → t.val % 8 = 7 :=
  (by decide +kernel : ∀ t : Fin grid0.N, _)

theorem outS_eq : (dats m 0 c).arrAt 8 cfg0.N = outS (acts m c) (weights m c) (resid m c) := by
  refine (dats m 0 c).arrAt_eq_of_covers 8 _ (by decide +kernel) fun t hf y => ?_
  have h7 := last t hf
  blk_simp
  rw [after0_8]
  have ht := lt128 t
  have h0 : (y 0).val < 1024 := (y 0).isLt
  have e : ∀ X : FVec Ideal S16384x128 .f32, X (ix2 ⟨1024 * (t.val / 8) + (y 0).val, by omega⟩ (y 1))
      = X ((win0_8.blk t).view.emb y) := fun X => by
    blk_ext [idx t]
  refine Eq.trans ?_ (e (outS (acts m c) (weights m c) (resid m c)))
  have ey : y = ix2 (y 0) (y 1) := by
    funext a
    fin_cases a <;> rfl
  refine (congrArg (outsAt0 m c t.val t.isLt).2.2.2 ey).trans
    ((sums_at m c t.val t.isLt (y 0) (y 1) ⟨1024 * (t.val / 8) + (y 0).val, by omega⟩ rfl).trans ?_)
  rw [h7]
  rfl

end Cert.TurnK
end
-- ==== Proof.TurnAgree.lean ====
/-
  The down projection with two norms' operands: its reference's results are those of the one with one, with the second
  norm's weights for the third.
-/
module

public import proofs.«01_k».proof.Proof.TurnValue
public import proofs.«01_k».proof.Proof.Gen.TurnRefIdeal.Run
public import proofs.«01_k».proof.Proof.DownAgree
public import Idealize.ShloMosaic.Lib.Pipeline.ValueKit
public import Idealize.ShloMosaic.Lib.Pipeline.ReadBack
public import Idealize.ShloMosaic.Lib.StableHlo.RunRead
public import Idealize.ShloMosaic.Lib.Pointwise

@[expose] public section

set_option maxRecDepth 16384

noncomputable section

namespace Cert.TurnClaims

open Finset Idealize.ShloMosaic Idealize.ShloMosaic.TcCoe Idealize.SL.Sem
open Cert.TurnRefIdeal Cert.TurnRefIdeal.Gen Cert.TurnK
open Cert.DownK (outX outG outS)
open Cert.DownClaims (resX resG resS resX_eq resG_eq resS_eq)

theorem frame_ref : Cert.quiescent_TurnRefIdeal (hTurnRefIdeal := Cert.TurnRefIdeal.Gen.facts) := fun m ρ _ =>
  (θ_run Cert.TurnRefIdeal.defs _ _).mono
    (fun r h => ⟨fun c => (h c).2.2.2.2, sem_eq_zero_of_no_sems (by decide) r.2⟩) (Cert.TurnRefIdeal.Value.run m ρ)

theorem algebraic : Cert.algebraic_TurnIdeal_TurnRefIdeal (hTurnIdeal := Cert.TurnIdeal.Gen.facts)
    (hTurnRefIdeal := Cert.TurnRefIdeal.Gen.facts) := by
  intro m g m' g' _ hagree
  refine ⟨fun c => outX (acts m c) (weights m c) (resid m c), fun c => outG (acts m c) (weights m c) (resid m c) (gains m c),
    fun c => outG (acts m c) (weights m c) (resid m c) (gainsKv m c),
    fun c => outS (acts m c) (weights m c) (resid m c), ?_, ?_⟩
  · exact (θ_run Cert.TurnIdeal.defs _ _).mono (fun r h c => ⟨(h c).1.trans (outX_eq m c), (h c).2.1.trans (outG_eq m c),
      (h c).2.2.1.trans (outGKv_eq m c), (h c).2.2.2.1.trans (outS_eq m c), (h c).2.2.2.2⟩) (Cert.TurnIdeal.Value.run_blocks m g)
  · refine (θ_run Cert.TurnRefIdeal.defs _ _).mono (fun r h c => ⟨(h c).1.trans ?_, (h c).2.1.trans ?_,
      (h c).2.2.1.trans ?_, (h c).2.2.2.1.trans ?_, (h c).2.2.2.2⟩) (Cert.TurnRefIdeal.Value.run m' g')
    all_goals
      obtain ⟨e0, e1, e2, e3, e4⟩ := hagree c
      rw [e0, e1, e2]
    · exact resX_eq _ _ _
    · rw [e3]
      exact (congrArg (fun y => resG y _) (resX_eq _ _ _)).trans (resG_eq _ _ _ _)
    · rw [e4]
      exact (congrArg (fun y => resG y _) (resX_eq _ _ _)).trans (resG_eq _ _ _ _)
    · exact (congrArg resS (resX_eq _ _ _)).trans (resS_eq _ _ _)

end Cert.TurnClaims
end
-- ==== Proof.BiasTrip.lean ====
/-
  The bias tiles: what one trip of the kernel's loop over the rows stores.
-/
module

public import proofs.«01_k».proof.Proof.Gen.BiasIdeal.Value
public import Idealize.ShloMosaic.Lib.Pipeline.ValueKit
public import Idealize.ShloMosaic.Lib.Pipeline.ReadBack
public import Idealize.ShloMosaic.Lib.StableHlo.RunRead
public import Idealize.ShloMosaic.Lib.Pointwise

@[expose] public section

set_option maxRecDepth 16384

noncomputable section

namespace Cert.BiasK

open Finset Idealize.ShloMosaic Idealize.ShloMosaic.TcCoe Idealize.SL.Sem
open Idealize.ShloMosaic.Pipeline (Dat)
open Cert.BiasIdeal Cert.BiasIdeal.Gen

/-- The kernel's choice by the bucket: of the first `n` entries, the one the bucket names; else minus infinity. -/
def chain (f : ℕ → EReal) (far : EReal) : ℕ → BitVec 32 → EReal
  | 0, _ => Ideal.ofBits .f32 0xFF800000#32
  | n + 1, b => Scalar.select (IntOp.cmpi .eq b (BitVec.ofNat 32 n)) ((f n - far) * Ideal.ofBits .f32 0x3FB8AA3B#32) (chain f far n b)

/-- A point's column of the table. -/
def col (i : grid0.Coords) (x : Vec Ideal S32x12 .f32) (n : ℕ) : EReal :=
  x (ix2 (Fin.ofNat 32 n) (Fin.ofNat 12 (i 0).val))

/-- What a point leaves in its block. -/
def tile (i : grid0.Coords) (x : Vec Ideal S32x12 .f32) (b : Vec Ideal S2x512x512 .i32) : Vec Ideal S1x2x512x512 .f32 :=
  fun y => chain (col i x) (col i x 15) 32 (b (ix3 (y 1) (y 2) (y 3)))

theorem cast4_at (x : FVec Ideal S64x512 .f32) (r : Fin 64) (l : Fin 512) :
    shapeCast S1x1x64x512 x shapeCasts_S64x512_S1x1x64x512 (ix4 0 0 r l) = x (ix2 r l) := by
  pointwise

theorem cast3_at (x : Vec Ideal S1x64x512 .i32) (r : Fin 64) (l : Fin 512) : k0_pay2 x (ix2 r l) = x (ix3 0 r l) := by
  unfold k0_pay2
  pointwise

theorem coord (i : grid0.Coords) : (Scalar.indexCast (BitVec.ofNat 32 (i 0).val) : BitVec 32).toNat = (i 0).val := by
  have h : (i 0).val < 12 := (i 0).isLt
  show (i 0).val % 2 ^ 32 = _
  omega

/-- A word of the table. -/
theorem word_at (i : grid0.Coords) (a1 : Memref sig .tc .smem S32x12 .f32) (h1 : a1.IsWhole) (x : Vec Ideal S32x12 .f32) (n : ℕ) (hn : n < 32)
    (inb : ∀ a, (![n, (Scalar.indexCast (BitVec.ofNat 32 (i 0).val) : BitVec 32).toNat] : Fin 2 → ℕ) a + S1x1.size a ≤ S32x12.size a) (hp) :
    View.readAt (Elt Ideal) a1.view (Rect.unit (s := S32x12) ![n, (Scalar.indexCast (BitVec.ofNat 32 (i 0).val) : BitVec 32).toNat] (no_index S1x1.size) inb).toLoadRect
      (h1.unread x) (Shape.Idx.first hp) = col i x n := by
  have h : (i 0).val < 12 := (i 0).isLt
  rw [View.readAt_eq_ld, h1.read_unread]
  refine View.ld_unit_apply_of _ _ _ _ _ _ fun a => ?_
  fin_cases a
  · show n % 32 = n + 0
    omega
  · show (i 0).val % 12 = (Scalar.indexCast (BitVec.ofNat 32 (i 0).val) : BitVec 32).toNat + 0
    rw [coord]
    omega

theorem inb (i : grid0.Coords) (n : ℕ) (hn : n < 32) :
    ∀ a, (![n, (Scalar.indexCast (BitVec.ofNat 32 (i 0).val) : BitVec 32).toNat] : Fin 2 → ℕ) a + S1x1.size a ≤ S32x12.size a := by
  have h : (i 0).val < 12 := (i 0).isLt
  rw [coord]
  intro a
  fin_cases a
  · show n + 1 ≤ 32
    omega
  · show (i 0).val + 1 ≤ 12
    omega

theorem pos1 : 0 < S1x1.numel := by simp [Shape.numel]

/-- The words of the column as the loop reads them. -/
def word (i : grid0.Coords) (a1 : Memref sig .tc .smem S32x12 .f32) (h1 : a1.IsWhole) (x : Vec Ideal S32x12 .f32) (n : ℕ) : EReal :=
  if hn : n < 32 then
    View.readAt (Elt Ideal) a1.view (Rect.unit (s := S32x12) ![n, (Scalar.indexCast (BitVec.ofNat 32 (i 0).val) : BitVec 32).toNat] S1x1.size
      (inb i n hn)).toLoadRect (h1.unread x) (Shape.Idx.first (s := S1x1) pos1)
  else 0

theorem word_col (i : grid0.Coords) (a1 : Memref sig .tc .smem S32x12 .f32) (h1 : a1.IsWhole) (x : Vec Ideal S32x12 .f32) (n : ℕ) (hn : n < 32) :
    word i a1 h1 x n = col i x n := by
  unfold word
  rw [dif_pos hn]
  exact word_at i a1 h1 x n hn _ _

theorem chain_congr (f g : ℕ → EReal) (far : EReal) (b : BitVec 32) : ∀ n, (∀ i < n, f i = g i) → chain f far n b = chain g far n b
  | 0, _ => rfl
  | n + 1, h => by
    unfold chain
    rw [h n (by omega), chain_congr f g far b n fun i hi => h i (by omega)]

theorem row_ix (y : S1x1x64x512.Idx) : ∃ (r : Fin 64) (l : Fin 512), y = ix4 0 0 r l := ⟨y 2, y 3, by
  funext a
  match a with
  | ⟨0, _⟩ => exact Subsingleton.elim (α := Fin 1) _ _
  | ⟨1, _⟩ => exact Subsingleton.elim (α := Fin 1) _ _
  | ⟨2, _⟩ => rfl
  | ⟨3, _⟩ => rfl⟩

theorem pay16_at (x : FVec Ideal S64x512 .f32) (p : IVec S64x512 1) (a : EReal) (r : Fin 64) (l : Fin 512) :
    k0_pay16 (F := Ideal) x p a (ix4 0 0 r l) = Scalar.select (p (ix2 r l)) a (x (ix2 r l)) := by
  unfold k0_pay16
  exact cast4_at _ r l

theorem pay1_at (far : EReal) (b : IVec S64x512 32) (x : FVec Ideal S64x512 .f32) (p : IVec S64x512 1) (a e : EReal) (r : Fin 64) (l : Fin 512) :
    k0_pay1 (F := Ideal) far b x p a e (ix4 0 0 r l) = Scalar.select (IntOp.cmpi .eq (b (ix2 r l)) (BitVec.ofNat 32 31))
      ((e - far) * Ideal.ofBits .f32 0x3FB8AA3B#32) (Scalar.select (p (ix2 r l)) a (x (ix2 r l))) := by
  unfold k0_pay1
  exact cast4_at _ r l

theorem trip (i : grid0.Coords) (a1 : Memref sig .tc .smem S32x12 .f32) (h1 : a1.IsWhole) (a2 : Memref sig .tc .vmem S2x512x512 .i32) (h2 : a2.IsWhole)
    (a3 : Memref sig .tc .vmem S1x2x512x512 .f32) (h3 : a3.IsWhole) (b : BitVec 32) (x0 : Vec Ideal S32x12 .f32) (x1 : Vec Ideal S2x512x512 .i32)
    (k : Fin k0_t1_loop.trips) (c : Dev nD) : View.PiecesOf (tile i x0 x1)
    (tripL_k0_t1 (F := Ideal) Variants.none c none i a1 h1 a2 h2 a3 h3 b (col i x0 15) (h1.unread x0) (h2.unread x1) k) := by
  unfold tripL_k0_t1 trip_k0_t1
  dsimp only
  sl_unfold_words
  refine ⟨fun y => ?_, fun y => ?_, trivial⟩
  · obtain ⟨r, l, rfl⟩ := row_ix y
    dsimp only
    generalize hV : View.readAt (Elt Ideal) a2.view _ (h2.unread x1) = V
    refine (pay1_at _ _ _ _ _ _ r l).trans ?_
    refine Eq.trans (b := chain (word i a1 h1 x0) (col i x0 15) 32 (k0_pay2 V (ix2 r l))) ?_ ?_
    · simp only [chain]
      rfl
    rw [cast3_at, ← hV, View.readAt_eq_ld, h2.read_unread, chain_congr _ _ _ _ _ (word_col i a1 h1 x0)]
    refine congrArg (chain _ _ 32) (View.ld_unit_apply_of _ _ _ _ _ _ fun a => ?_)
    match a with
    | ⟨0, _⟩ => exact (Rect.idx_unit_val _ _ _ _ 1).trans rfl
    | ⟨1, _⟩ => exact (Rect.idx_unit_val _ _ _ _ 2).trans rfl
    | ⟨2, _⟩ => exact (Rect.idx_unit_val _ _ _ _ 3).trans rfl
  · obtain ⟨r, l, rfl⟩ := row_ix y
    dsimp only
    generalize hV : View.readAt (Elt Ideal) a2.view _ (h2.unread x1) = V
    refine (pay16_at _ _ _ r l).trans ?_
    refine Eq.trans (b := chain (word i a1 h1 x0) (col i x0 15) 32 (k0_pay2 V (ix2 r l))) ?_ ?_
    · simp only [chain]
      rfl
    rw [cast3_at, ← hV, View.readAt_eq_ld, h2.read_unread, chain_congr _ _ _ _ _ (word_col i a1 h1 x0)]
    refine congrArg (chain _ _ 32) (View.ld_unit_apply_of _ _ _ _ _ _ fun a => ?_)
    match a with
    | ⟨0, _⟩ => exact (Rect.idx_unit_val _ _ _ _ 1).trans rfl
    | ⟨1, _⟩ => exact (Rect.idx_unit_val _ _ _ _ 2).trans rfl
    | ⟨2, _⟩ => exact (Rect.idx_unit_val _ _ _ _ 3).trans rfl

/-- The trips before `k`. -/
theorem trips_before (i : grid0.Coords) (a1 : Memref sig .tc .smem S32x12 .f32) (h1 : a1.IsWhole) (a2 : Memref sig .tc .vmem S2x512x512 .i32)
    (h2 : a2.IsWhole) (a3 : Memref sig .tc .vmem S1x2x512x512 .f32) (h3 : a3.IsWhole) (b : BitVec 32) (x0 : Vec Ideal S32x12 .f32)
    (x1 : Vec Ideal S2x512x512 .i32) (c : Dev nD) : ∀ k, k ≤ k0_t1_loop.trips →
      ∀ p ∈ pb_k0_t1 (F := Ideal) Variants.none c none i a1 h1 a2 h2 a3 h3 b (col i x0 15) (h1.unread x0) (h2.unread x1) k,
        ∀ y : p.1.shape.Idx, p.2 y = tile i x0 x1 (p.1.emb y)
  | 0, _, p, hp, _ => absurd hp List.not_mem_nil
  | k + 1, hk, p, hp, y => by
    rw [pb_k0_t1_succ Variants.none c none i a1 h1 a2 h2 a3 h3 b (col i x0 15) (h1.unread x0) (h2.unread x1) ⟨k, hk⟩] at hp
    rcases List.mem_append.mp hp with hp | hp
    · exact (trip i a1 h1 a2 h2 a3 h3 b x0 x1 ⟨k, hk⟩ c).mem p hp y
    · exact trips_before i a1 h1 a2 h2 a3 h3 b x0 x1 c k (by omega) p hp y

/-- What a point leaves is its tile. -/
theorem outs (c : Dev nD) (i : grid0.Coords) (a1 : Memref sig .tc .smem S32x12 .f32) (h1 : a1.IsWhole) (a2 : Memref sig .tc .vmem S2x512x512 .i32)
    (h2 : a2.IsWhole) (a3 : Memref sig .tc .vmem S1x2x512x512 .f32) (h3 : a3.IsWhole) (x0 : Vec Ideal S32x12 .f32) (x1 : Vec Ideal S2x512x512 .i32)
    (y : S1x2x512x512.Idx) : out0_A_2 c i a1 h1 a2 h2 a3 h3 x0 x1 y = tile i x0 x1 y := by
  unfold out0_A_2
  rw [View.read_writes_junk_eq_canon]
  refine View.canon_apply_of_pieces _ _ ?_ y (cover0_A_2 c i a1 h1 a2 h2 a3 h3 x0 x1 y)
  have far : kernelRun0_A.sl.r c i a1 h1 x0 = col i x0 15 := by
    sl_unfold_words
    exact word_at i a1 h1 x0 15 (by decide) _ _
  unfold kernelRun0_A
  dsimp only
  rw [far]
  exact trips_before i a1 h1 a2 h2 a3 h3 _ x0 x1 c _ le_rfl

end Cert.BiasK

end
-- ==== Proof.BiasRange.lean ====
/-
  The bucket of a distance is one of the table's thirty-two, for the distances the tiles hold.
-/
module

public import Idealize.ShloMosaic.Lib.Pointwise

@[expose] public section

set_option maxRecDepth 16384

noncomputable section

namespace Cert.BiasRange

open Idealize.ShloMosaic

/-- The bucket of a far distance: eight, and eight more for every factor of sixteen. -/
def farBucket (n : BitVec 32) : BitVec 32 :=
  Ideal.fptosi 32 (Ideal.div (Ideal.log (Ideal.div (((n.toInt : ℝ)) : EReal) (Ideal.ofBits .f32 0x41000000#32)))
    (Ideal.ofBits .f32 0x40317218#32) * Ideal.ofBits .f32 0x41000000#32)

/-- The bucket of a distance. -/
def bucket (r : BitVec 32) : BitVec 32 :=
  IntOp.addi (Scalar.select (IntOp.cmpi .sgt r 0#32) 16#32 0#32)
    (Scalar.select (IntOp.cmpi .slt (IntOp.absi r) 8#32) (IntOp.absi r)
      (IntOp.minsi (IntOp.addi 8#32 (farBucket (IntOp.maxsi (IntOp.absi r) 1#32))) 15#32))

theorem eight : Ideal.ofBits .f32 0x41000000#32 = ((8 : ℝ) : EReal) := by
  simp [Ideal.ofBits, Ideal.ieee]
  rw [← EReal.coe_mul]
  norm_num

theorem scale : ∃ c : ℝ, 1 ≤ c ∧ Ideal.ofBits .f32 0x40317218#32 = (c : EReal) := by
  refine ⟨_, ?_, by simp [Ideal.ofBits, Ideal.ieee]; rfl⟩
  norm_num

theorem small_ofInt (z : ℤ) (h0 : 0 ≤ z) (h1 : z ≤ 1023) : (BitVec.ofInt 32 z).toNat ≤ 1023 := by
  rw [BitVec.toNat_ofInt]
  omega

theorem farBucket_le (n : BitVec 32) (h8 : 8 ≤ n.toInt) (hn : n.toInt ≤ 1023) : (farBucket n).toNat ≤ 1023 := by
  obtain ⟨c, hc, ec⟩ := scale
  have h8' : (8 : ℝ) ≤ (n.toInt : ℝ) := by exact_mod_cast h8
  have hn' : (n.toInt : ℝ) ≤ 1023 := by exact_mod_cast hn
  unfold farBucket
  generalize (n.toInt : ℝ) = k at h8' hn'
  have hx : ¬ k * (1 / 8) ≤ 0 := by linarith
  rw [eight, ec, Ideal.div_coe (show (8 : ℝ) ≠ 0 by norm_num), ← EReal.coe_mul, Ideal.log_coe, if_neg hx, Ideal.div_coe (show c ≠ 0 by linarith), ← EReal.coe_mul,
    ← EReal.coe_mul]
  have l0 : 0 ≤ Real.log (k * (1 / 8)) := Real.log_nonneg (by linarith)
  have l1 : Real.log (k * (1 / 8)) ≤ k * (1 / 8) := (Real.log_le_sub_one_of_pos (by linarith)).trans (by linarith)
  have c0 : 0 ≤ 1 / c := by positivity
  have c1 : 1 / c ≤ 1 := by
    rw [div_le_one (by linarith)]
    exact hc
  have z0 : 0 ≤ Real.log (k * (1 / 8)) * (1 / c) * 8 := by positivity
  have z1 : Real.log (k * (1 / 8)) * (1 / c) * 8 ≤ 1023 := by
    have := mul_le_mul l1 c1 c0 (by linarith)
    linarith
  unfold Ideal.fptosi
  rw [Ideal.toIntClamped_coe, if_pos z0]
  have f0 : 0 ≤ ⌊Real.log (k * (1 / 8)) * (1 / c) * 8⌋ := Int.floor_nonneg.mpr z0
  have f1 : ⌊Real.log (k * (1 / 8)) * (1 / c) * 8⌋ ≤ 1023 := by
    have : ⌊Real.log (k * (1 / 8)) * (1 / c) * 8⌋ ≤ ⌊(1023 : ℝ)⌋ := Int.floor_le_floor z1
    simpa using this
  generalize ⌊Real.log (k * (1 / 8)) * (1 / c) * 8⌋ = z at f0 f1
  apply small_ofInt <;> norm_num <;> omega

/-- A difference of two positions is small in size. -/
theorem absi_le (a b : ℕ) (ha : a < 1024) (hb : b < 1024) : (IntOp.absi (BitVec.ofNat 32 a - BitVec.ofNat 32 b)).toNat ≤ 1023 := by
  unfold IntOp.absi
  rw [BitVec.msb_eq_decide]
  split <;> simp only [decide_eq_true_eq, BitVec.toNat_neg, BitVec.toNat_sub, BitVec.toNat_ofNat] at * <;> omega

theorem toInt_small (n : BitVec 32) (h : n.toNat ≤ 1031) : n.toInt = n.toNat := by
  rw [BitVec.toInt_eq_toNat_cond]
  split <;> omega

theorem sum_lt (p q : BitVec 32) (hp : p.toNat ≤ 16) (hq : q.toNat < 16) : (IntOp.addi p q).toNat < 32 := by
  show (p + q).toNat < 32
  rw [BitVec.toNat_add]
  omega

theorem bucket_lt (r : BitVec 32) (h : (IntOp.absi r).toNat ≤ 1023) : (bucket r).toNat < 32 := by
  unfold bucket
  generalize IntOp.absi r = n at h
  have hi := toInt_small n (by omega)
  refine sum_lt _ _ ?_ ?_
  · generalize IntOp.cmpi .sgt r 0#32 = d
    unfold Scalar.select
    split <;> decide
  · unfold Scalar.select IntOp.cmpi
    by_cases h8 : n.slt 8#32
    · simp only [h8]
      have : n.toInt < 8 := by simpa [BitVec.slt] using h8
      simp
      omega
    · have h8' : 8 ≤ n.toInt := by simpa [BitVec.slt] using h8
      have e : IntOp.maxsi n 1#32 = n := by
        unfold IntOp.maxsi
        rw [if_pos]
        simp [BitVec.slt]
        omega
      rw [e]
      have hf := farBucket_le n h8' (by omega)
      simp only [h8]
      simp
      unfold IntOp.minsi
      split
      · next hs =>
        have hs' : (IntOp.addi 8#32 (farBucket n)).toInt < 15 := by simpa [BitVec.slt] using hs
        have ha : (IntOp.addi 8#32 (farBucket n)).toNat ≤ 1031 := by
          show (8#32 + farBucket n).toNat ≤ _
          rw [BitVec.toNat_add]
          simp
          omega
        rw [toInt_small _ ha] at hs'
        omega
      · decide

end Cert.BiasRange

end
-- ==== Proof.BiasRef.lean ====
/-
  The bias tiles' reference, and its result at an index.
-/
module

public import proofs.«01_k».proof.Defs
public import proofs.«01_k».proof.Proof.Gen.BiasRefIdeal.Run
public import proofs.«01_k».proof.Proof.BiasRange
public import Idealize.ShloMosaic.Lib.Pipeline.ValueKit
public import Idealize.ShloMosaic.Lib.StableHlo.RunRead
public import Idealize.ShloMosaic.Lib.Pointwise

@[expose] public section

set_option maxRecDepth 16384

noncomputable section

namespace Cert.BiasRefIdeal.Words

open Finset Idealize.ShloMosaic Idealize.ShloMosaic.TcCoe Idealize.SL.Sem
open Cert.BiasRefIdeal Cert.BiasRefIdeal.Gen Cert.BiasRange

/-- The distances of the two tiles. -/
def distances : IVec S2x512x512 32 :=
  concatenate S2x512x512 0 [⟨S1x512x512, (broadcastInDim S1x512x512 ![1, 2] bcast_S512x512_S1x512x512_1_2 (subi (broadcastInDim S512x512 ![0, 1] bcast_S512x1_S512x512_0_1 (broadcastInDim S512x1 ![0] bcast_S512_S512x1_0 (iotaInDim S512 32 0))) (broadcastInDim S512x512 ![0, 1] bcast_S1x512_S512x512_0_1 (broadcastInDim S1x512 ![1] bcast_S512_S1x512_1 (iotaInDim S512 32 0)))))⟩, ⟨S1x512x512, (broadcastInDim S1x512x512 ![1, 2] bcast_S512x512_S1x512x512_1_2 (subi (subi (broadcastInDim S512x512 ![0, 1] bcast_S512x1_S512x512_0_1 (broadcastInDim S512x1 ![0] bcast_S512_S512x1_0 (iotaInDim S512 32 0))) (broadcastInDim S512x512 ![0, 1] bcast_S1x512_S512x512_0_1 (broadcastInDim S1x512 ![1] bcast_S512_S1x512_1 (iotaInDim S512 32 0)))) (broadcastInDim S512x512 ![] bcast_S_S512x512 (constantI S_ 32 512#32))))⟩] concatenates_S1x512x512_S1x512x512_S2x512x512_d0

/-- Their buckets. -/
def buckets : IVec S2x512x512 32 :=
  addi (id (select (cmpi .sgt distances (broadcastInDim S2x512x512 ![] bcast_S_S2x512x512 (constantI S_ 32 0#32))) (broadcastInDim S2x512x512 ![] bcast_S_S2x512x512 (constantI S_ 32 16#32)) (broadcastInDim S2x512x512 ![] bcast_S_S2x512x512 (constantI S_ 32 0#32)))) (select (cmpi .slt (absi distances) (broadcastInDim S2x512x512 ![] bcast_S_S2x512x512 (constantI S_ 32 8#32))) (absi distances) (minsi (addi (broadcastInDim S2x512x512 ![] bcast_S_S2x512x512 (constantI S_ 32 8#32)) (fptosi 32 (mulf (Host.divf (Host.log (Host.divf (sitofp .f32 (maxsi (absi distances) (broadcastInDim S2x512x512 ![] bcast_S_S2x512x512 (constantI S_ 32 1#32)))) (broadcastInDim S2x512x512 ![] bcast_S_S2x512x512 (constant S_ .f32 0x41000000#32)))) (broadcastInDim S2x512x512 ![] bcast_S_S2x512x512 (constant S_ .f32 0x40317218#32))) (broadcastInDim S2x512x512 ![] bcast_S_S2x512x512 (constant S_ .f32 0x41000000#32)) : FVec Ideal S2x512x512 .f32))) (broadcastInDim S2x512x512 ![] bcast_S_S2x512x512 (constantI S_ 32 15#32))))

/-- The rows' blocks of sixty-four. -/
def rowBlock : IVec S512x512 32 :=
  broadcastInDim S512x512 ![0, 1] bcast_S512x1_S512x512_0_1 (select (andi (cmpi .ne (signi (broadcastInDim S512x1 ![0] bcast_S512_S512x1_0 (iotaInDim S512 32 0))) (broadcastInDim S512x1 ![] bcast_S_S512x1 (signi (id (constantI S_ 32 64#32))))) (cmpi .ne (Host.remsi (broadcastInDim S512x1 ![0] bcast_S512_S512x1_0 (iotaInDim S512 32 0)) (broadcastInDim S512x1 ![] bcast_S_S512x1 (id (constantI S_ 32 64#32)))) (broadcastInDim S512x1 ![] bcast_S_S512x1 (constantI S_ 32 0#32)))) (subi (Host.divsi (broadcastInDim S512x1 ![0] bcast_S512_S512x1_0 (iotaInDim S512 32 0)) (broadcastInDim S512x1 ![] bcast_S_S512x1 (id (constantI S_ 32 64#32)))) (broadcastInDim S512x1 ![] bcast_S_S512x1 (constantI S_ 32 1#32))) (Host.divsi (broadcastInDim S512x1 ![0] bcast_S512_S512x1_0 (iotaInDim S512 32 0)) (broadcastInDim S512x1 ![] bcast_S_S512x1 (id (constantI S_ 32 64#32)))))

/-- The columns' blocks of sixty-four. -/
def colBlock : IVec S512x512 32 :=
  broadcastInDim S512x512 ![0, 1] bcast_S1x512_S512x512_0_1 (select (andi (cmpi .ne (signi (broadcastInDim S1x512 ![1] bcast_S512_S1x512_1 (iotaInDim S512 32 0))) (broadcastInDim S1x512 ![] bcast_S_S1x512 (signi (id (constantI S_ 32 64#32))))) (cmpi .ne (Host.remsi (broadcastInDim S1x512 ![1] bcast_S512_S1x512_1 (iotaInDim S512 32 0)) (broadcastInDim S1x512 ![] bcast_S_S1x512 (id (constantI S_ 32 64#32)))) (broadcastInDim S1x512 ![] bcast_S_S1x512 (constantI S_ 32 0#32)))) (subi (Host.divsi (broadcastInDim S1x512 ![1] bcast_S512_S1x512_1 (iotaInDim S512 32 0)) (broadcastInDim S1x512 ![] bcast_S_S1x512 (id (constantI S_ 32 64#32)))) (broadcastInDim S1x512 ![] bcast_S_S1x512 (constantI S_ 32 1#32))) (Host.divsi (broadcastInDim S1x512 ![1] bcast_S512_S1x512_1 (iotaInDim S512 32 0)) (broadcastInDim S1x512 ![] bcast_S_S1x512 (id (constantI S_ 32 64#32)))))

/-- Which entries are allowed. -/
def mask : IVec S2x512x512 1 :=
  concatenate S2x512x512 0 [⟨S1x512x512, (broadcastInDim S1x512x512 ![1, 2] bcast_S512x512_S1x512x512_1_2 (cmpi .sle rowBlock colBlock))⟩, ⟨S1x512x512, (broadcastInDim S1x512x512 ![1, 2] bcast_S512x512_S1x512x512_1_2 (broadcastInDim S512x512 ![] bcast_S_S512x512 (constantI S_ 1 1#1)))⟩] concatenates_S1x512x512_S1x512x512_S2x512x512_d0

/-- The rows of the table that the gather reads. -/
def index : IVec S2x512x512x1 32 :=
  broadcastInDim S2x512x512x1 ![0, 1, 2] bcast_S2x512x512_S2x512x512x1_0_1_2 (select (cmpi .slt buckets (broadcastInDim S2x512x512 ![] bcast_S_S2x512x512 (constantI S_ 32 0#32))) (addi buckets (broadcastInDim S2x512x512 ![] bcast_S_S2x512x512 (constantI S_ 32 32#32))) buckets)

/-- The reference's result, of the table. -/
def result (x : FVec Ideal S32x12 .f32) : FVec Ideal S12x2x512x512 .f32 :=
  select (broadcastInDim S12x2x512x512 ![1, 2, 3] bcast_S2x512x512_S12x2x512x512_1_2_3 mask) (mulf (subf (transpose S12x2x512x512 [3, 0, 1, 2] (Host.gather gather_S32x12_S2x512x512x1_S2x512x512x12_3_0_n_n_0_3_112 x index) transposes_S2x512x512x12_S12x2x512x512_3_0_1_2) (broadcastInDim S12x2x512x512 ![0, 1, 2, 3] bcast_S12x1x1x1_S12x2x512x512_0_1_2_3 (broadcastInDim S12x1x1x1 ![0] bcast_S12_S12x1x1x1_0 (shapeCast _ (extractStridedSlice S1x12 ![15, 0] x slices_S32x12_S1x12_15_0) shapeCasts_S1x12_S12)))) (broadcastInDim S12x2x512x512 ![] bcast_S_S12x2x512x512 (constant S_ .f32 0x3FB8AA3B#32))) (broadcastInDim S12x2x512x512 ![] bcast_S_S12x2x512x512 (id (constant S_ .f32 0xFF800000#32)))

theorem distance_near (i j : Fin 512) : distances (ix3 0 i j) = BitVec.ofNat 32 i.val - BitVec.ofNat 32 j.val := by
  unfold distances
  pointwise
  rfl

theorem distance_far (i j : Fin 512) : distances (ix3 1 i j) = BitVec.ofNat 32 i.val - BitVec.ofNat 32 j.val - 512#32 := by
  unfold distances
  pointwise
  rfl

theorem bucket_at (y : S2x512x512.Idx) : buckets y = bucket (distances y) := rfl

theorem bucket_lt (s : Fin 2) (i j : Fin 512) : (buckets (ix3 s i j)).toNat < 32 := by
  rw [bucket_at]
  refine Cert.BiasRange.bucket_lt _ ?_
  match s with
  | 0 =>
    rw [distance_near]
    exact absi_le _ _ (by omega) (by omega)
  | 1 =>
    rw [distance_far]
    have e : BitVec.ofNat 32 i.val - BitVec.ofNat 32 j.val - 512#32 = BitVec.ofNat 32 i.val - BitVec.ofNat 32 (j.val + 512) := by
      bv_omega
    rw [e]
    exact absi_le _ _ (by omega) (by omega)

theorem mask_near (i j : Fin 512) : mask (ix3 0 i j) = IntOp.cmpi .sle (rowBlock (ix2 i j)) (colBlock (ix2 i j)) := by
  unfold mask
  generalize rowBlock = R
  generalize colBlock = C
  pointwise

theorem mask_far (i j : Fin 512) : mask (ix3 1 i j) = 1#1 := by
  unfold mask
  generalize rowBlock = R
  generalize colBlock = C
  pointwise

theorem index_at (s : Fin 2) (i j : Fin 512) : index (ix4 s i j 0) = buckets (ix3 s i j) := by
  have h := bucket_lt s i j
  have e : index (ix4 s i j 0) = Scalar.select (IntOp.cmpi .slt (buckets (ix3 s i j)) 0#32) (IntOp.addi (buckets (ix3 s i j)) 32#32)
      (buckets (ix3 s i j)) := by
    unfold index
    generalize buckets = B
    pointwise
  rw [e]
  have n : (buckets (ix3 s i j)).slt 0#32 = false := by
    have := toInt_small (buckets (ix3 s i j)) (by omega)
    simp [BitVec.slt]
    omega
  unfold Scalar.select IntOp.cmpi
  simp [n]

/-- The gather at an index: the table's row that the index word names. -/
theorem gather_at (x : FVec Ideal S32x12 .f32) (d : IVec S2x512x512x1 32) (s : Fin 2) (i j : Fin 512) (h : Fin 12) :
    Host.gather gather_S32x12_S2x512x512x1_S2x512x512x12_3_0_n_n_0_3_112 x d (ix4 s i j h)
      = x (ix2 ⟨min (d (ix4 s i j 0)).toInt.toNat 31, by omega⟩ h) := by
  unfold Host.gather
  congr 1
  funext a
  refine Fin.ext ?_
  show GatherDims.start _ _ d a + GatherDims.batchCoord _ _ a + GatherDims.offCoord _ _ a = _
  rw [GatherDims.batchCoord_eq_zero _ _ _ List.not_mem_nil]
  match a with
  | 0 =>
    rw [GatherDims.offCoord_eq_zero _ _ _ (fun h => ((GatherDims.mem_sKept _ _).mp h).1 (List.mem_singleton.mpr rfl))]
    unfold GatherDims.start
    rw [dif_pos (show (0 : Fin 2) ∈ GatherDims.startIndexMap gather_S32x12_S2x512x512x1_S2x512x512x12_3_0_n_n_0_3_112 from List.mem_singleton.mpr rfl)]
    have hsi : ∀ k, GatherDims.siIdx gather_S32x12_S2x512x512x1_S2x512x512x12_3_0_n_n_0_3_112 (ix4 s i j h) k = ix4 s i j 0 := fun k => by
      funext b
      refine Fin.ext ?_
      match b with
      | 0 => rfl
      | 1 => rfl
      | 2 => rfl
      | 3 => exact Nat.lt_one_iff.mp k.isLt
    rw [hsi]
    rfl
  | 1 =>
    unfold GatherDims.start
    rw [dif_neg (show (1 : Fin 2) ∉ GatherDims.startIndexMap gather_S32x12_S2x512x512x1_S2x512x512x12_3_0_n_n_0_3_112 from fun q => absurd (List.mem_singleton.1 q) (by decide : (1 : Fin 2) ≠ 0))]
    unfold GatherDims.offCoord
    rw [dif_pos ((GatherDims.mem_sKept _ _).mpr ⟨fun q => absurd (List.mem_singleton.1 q) (by decide : (1 : Fin 2) ≠ 0), List.not_mem_nil⟩)]
    simp only [Nat.zero_add, Nat.add_zero]
    rfl

theorem result_at (x : FVec Ideal S32x12 .f32) (h : Fin 12) (s : Fin 2) (i j : Fin 512) :
    result x (ix4 h s i j) = Scalar.select (mask (ix3 s i j))
      ((x (ix2 ⟨(buckets (ix3 s i j)).toNat, bucket_lt s i j⟩ h) - x (ix2 15 h)) * Ideal.ofBits .f32 0x3FB8AA3B#32) (Ideal.ofBits .f32 0xFF800000#32) := by
  have g : Host.gather gather_S32x12_S2x512x512x1_S2x512x512x12_3_0_n_n_0_3_112 x index (ix4 s i j h)
      = x (ix2 ⟨(buckets (ix3 s i j)).toNat, bucket_lt s i j⟩ h) := by
    rw [gather_at]
    refine congrArg x (congrArg (fun n => ix2 n h) (Fin.ext ?_))
    show min (index (ix4 s i j 0)).toInt.toNat 31 = (buckets (ix3 s i j)).toNat
    rw [index_at]
    have q := bucket_lt s i j
    rw [toInt_small _ (by omega)]
    omega
  rw [← g]
  unfold result
  generalize mask = M
  generalize Host.gather gather_S32x12_S2x512x512x1_S2x512x512x12_3_0_n_n_0_3_112 x index = G
  pointwise
  rfl

end Cert.BiasRefIdeal.Words

end
-- ==== Proof.BiasMade.lean ====
/-
  The bias tiles: the choice by the bucket, and the buckets that the host makes.
-/
module

public import proofs.«01_k».proof.Defs
public import proofs.«01_k».proof.Proof.BiasTrip
public import proofs.«01_k».proof.Proof.BiasRef
public import Idealize.ShloMosaic.Lib.Routing.OpsPair
public import Idealize.ShloMosaic.Lib.Routing.OpsSet
public import Idealize.ShloMosaic.Lib.Pipeline.ValueKit
public import Idealize.ShloMosaic.Lib.Pipeline.ReadBack
public import Idealize.ShloMosaic.Lib.StableHlo.RunRead
public import Idealize.ShloMosaic.Lib.Pointwise

@[expose] public section

set_option maxRecDepth 16384

noncomputable section

namespace Cert.BiasK

open Finset Idealize.ShloMosaic Idealize.ShloMosaic.TcCoe Idealize.SL.Sem
open Idealize.ShloMosaic.Pipeline (Dat)
open Cert.BiasIdeal Cert.BiasIdeal.Gen
open Cert.BiasRefIdeal.Words (distances buckets rowBlock colBlock mask)

/-! ## The choice by the bucket -/

theorem select_true {α : Type} (a b : α) : Scalar.select 1#1 a b = a := rfl
theorem select_false {α : Type} (a b : α) : Scalar.select 0#1 a b = b := rfl

theorem eq_bit (b : BitVec 32) (n : ℕ) (hn : n < 2 ^ 32) : IntOp.cmpi .eq b (BitVec.ofNat 32 n) = if b.toNat = n then 1#1 else 0#1 := by
  unfold IntOp.cmpi
  have e : (b == BitVec.ofNat 32 n) = decide (b.toNat = n) := by
    rw [Bool.eq_iff_iff]
    simp only [beq_iff_eq, decide_eq_true_eq]
    constructor
    · rintro rfl
      rw [BitVec.toNat_ofNat]
      omega
    · rintro rfl
      rw [BitVec.ofNat_toNat, BitVec.setWidth_eq]
  simp only [e]
  split <;> simp_all

/-- A bucket below `n` chooses its own entry. -/
theorem chain_hit (f : ℕ → EReal) (far : EReal) (b : BitVec 32) : ∀ n, n ≤ 32 → b.toNat < n →
    chain f far n b = (f b.toNat - far) * Ideal.ofBits .f32 0x3FB8AA3B#32
  | 0, _, h => absurd h (Nat.not_lt_zero _)
  | n + 1, hn, h => by
    unfold chain
    rw [eq_bit b n (by omega)]
    by_cases e : b.toNat = n
    · rw [if_pos e, select_true, e]
    · rw [if_neg e, select_false]
      exact chain_hit f far b n (by omega) (by omega)

/-- A bucket that is none of the first `n` chooses minus infinity. -/
theorem chain_miss (f : ℕ → EReal) (far : EReal) (b : BitVec 32) : ∀ n, n ≤ 32 → n ≤ b.toNat →
    chain f far n b = Ideal.ofBits .f32 0xFF800000#32
  | 0, _, _ => rfl
  | n + 1, hn, h => by
    unfold chain
    rw [eq_bit b n (by omega), if_neg (by omega), select_false]
    exact chain_miss f far b n (by omega) (by omega)

/-! ## The buckets that the host makes -/

/-- The one start word of the host's write is zero, so the update at `k` lands in the first tile, at `k`. -/
theorem lands (z : IVec S1 32) (hz : ∀ i, z i = 0#32) (k : S512x512.Idx) (s : Fin 2) (i j : Fin 512) :
    ScatterDims.resultIdx? scatter_S2x512x512_S1_S512x512_01_0_0_0 k z = some (ix3 s i j) ↔ s = 0 ∧ k 0 = i ∧ k 1 = j := by
  have hw0 : ScatterDims.window scatter_S2x512x512_S1_S512x512_01_0_0_0 k 0 = 0 := by
    unfold ScatterDims.window
    rw [dif_neg fun h => (of_decide_eq_true (List.mem_filter.1 h).2) (List.mem_singleton.2 rfl)]
  have hw1 : ScatterDims.window scatter_S2x512x512_S1_S512x512_01_0_0_0 k 1 = (k 0).val := rfl
  have hw2 : ScatterDims.window scatter_S2x512x512_S1_S512x512_01_0_0_0 k 2 = (k 1).val := rfl
  have hs0 : ScatterDims.start scatter_S2x512x512_S1_S512x512_01_0_0_0 k z 0 = 0 := by
    unfold ScatterDims.start
    rw [dif_pos (show (0 : Fin 3) ∈ ScatterDims.scatterDimsToOperandDims scatter_S2x512x512_S1_S512x512_01_0_0_0 from List.mem_singleton.2 rfl), hz]
    rfl
  have hs1 : ScatterDims.start scatter_S2x512x512_S1_S512x512_01_0_0_0 k z 1 = 0 := rfl
  have hs2 : ScatterDims.start scatter_S2x512x512_S1_S512x512_01_0_0_0 k z 2 = 0 := rfl
  rw [Routing.resultIdx?_eq_some]
  constructor
  · intro h
    have h0 := h 0
    have h1 := h 1
    have h2 := h 2
    rw [hw0, hs0] at h0
    rw [hw1, hs1] at h1
    rw [hw2, hs2] at h2
    change (0 : ℤ) + ((0 : ℕ) : ℤ) = (s.val : ℤ) at h0
    change (0 : ℤ) + ((k 0).val : ℤ) = (i.val : ℤ) at h1
    change (0 : ℤ) + ((k 1).val : ℤ) = (j.val : ℤ) at h2
    exact ⟨Fin.ext (show s.val = 0 by omega), Fin.ext (show (k 0).val = i.val by omega), Fin.ext (show (k 1).val = j.val by omega)⟩
  · rintro ⟨rfl, rfl, rfl⟩ a
    match a with
    | 0 =>
      rw [hw0, hs0]
      rfl
    | 1 =>
      rw [hw1, hs1, zero_add]
      rfl
    | 2 =>
      rw [hw2, hs2, zero_add]
      rfl

variable (m : (ℓ : Loc nD τ sig) → Buf (Elt Ideal) ℓ) (c : Dev nD)

def table : FVec Ideal S32x12 .f32 := m ((c : Thread nD τ).loc main_arg0)

/-- The kernel's bucket of the first tile: the thirty-third where the column's block is before the row's. -/
def nearWords : IVec S512x512 32 :=
  select (cmpi .sgt rowBlock colBlock) (broadcastInDim S512x512 ![] bcast_S_S512x512 (id (constantI S_ 32 32#32)))
    (shapeCast S512x512 (extractStridedSlice S1x512x512 ![0, 0, 0] buckets slices_S2x512x512_S1x512x512_0_0_0) shapeCasts_S1x512x512_S512x512)

theorem near_at (i j : Fin 512) : nearWords (ix2 i j)
    = Scalar.select (IntOp.cmpi .sgt (rowBlock (ix2 i j)) (colBlock (ix2 i j))) 32#32 (buckets (ix3 0 i j)) := by
  unfold nearWords
  generalize rowBlock = R
  generalize colBlock = C
  generalize buckets = B
  pointwise
  rfl

/-- The first tile's distances, before the host joins the two. -/
theorem up_near : StableHlo.upto [hostOps0, hostOps0_1, hostOps0_2, hostOps0_3, hostOps0_4, hostOps0_5, hostOps0_6, hostOps0_7,
      hostOps0_8, hostOps0_9, hostOps0_10].flatten (fun b => m (c, b)) 11 (Proc.devRef .tc main_v8)
    = broadcastInDim S1x512x512 ![1, 2] bcast_S512x512_S1x512x512_1_2 (subi (broadcastInDim S512x512 ![0, 1] bcast_S512x1_S512x512_0_1 (broadcastInDim S512x1 ![0] bcast_S512_S512x1_0 (iotaInDim S512 32 0))) (broadcastInDim S512x512 ![0, 1] bcast_S1x512_S512x512_0_1 (broadcastInDim S1x512 ![1] bcast_S512_S1x512_1 (iotaInDim S512 32 0)))) := by
  after_reads_simp

/-- The second tile's. -/
theorem up_far : StableHlo.upto [hostOps0, hostOps0_1, hostOps0_2, hostOps0_3, hostOps0_4, hostOps0_5, hostOps0_6, hostOps0_7,
      hostOps0_8, hostOps0_9, hostOps0_10].flatten (fun b => m (c, b)) 11 (Proc.devRef .tc main_v9)
    = broadcastInDim S1x512x512 ![1, 2] bcast_S512x512_S1x512x512_1_2 (subi (subi (broadcastInDim S512x512 ![0, 1] bcast_S512x1_S512x512_0_1 (broadcastInDim S512x1 ![0] bcast_S512_S512x1_0 (iotaInDim S512 32 0))) (broadcastInDim S512x512 ![0, 1] bcast_S1x512_S512x512_0_1 (broadcastInDim S1x512 ![1] bcast_S512_S1x512_1 (iotaInDim S512 32 0))))
        (broadcastInDim S512x512 ![] bcast_S_S512x512 (constantI S_ 32 512#32))) := by
  after_reads_simp

/-- The array of buckets that the launch finds. -/
theorem made : V m c main_v46 = Host.scatter scatter_S2x512x512_S1_S512x512_01_0_0_0 (fun _ b => b) buckets
    (broadcastInDim S1 ![] bcast_S_S1 (constantI S_ 32 0#32)) nearWords := by
  unfold V
  after_reads_simp
  simp -implicitDefEqProofs only [StableHlo.TRef.toBuf, StableHlo.TRef.ofBuf, cast_cast, cast_eq]
  rw [up_near, up_far]
  unfold nearWords rowBlock colBlock buckets distances
  rfl

theorem made_near (i j : Fin 512) : V m c main_v46 (ix3 0 i j) = nearWords (ix2 i j) := by
  rw [made]
  refine Routing.scatter_set_hit _ _ _ _ _ _ (fun k hk => ?_) (ix2 i j) ((lands _ (fun _ => rfl) _ 0 i j).mpr ⟨rfl, rfl, rfl⟩)
  obtain ⟨_, h0, h1⟩ := (lands _ (fun _ => rfl) k 0 i j).mp hk
  refine congrArg nearWords ?_
  funext a
  match a with
  | 0 => exact h0
  | 1 => exact h1

theorem made_far (i j : Fin 512) : V m c main_v46 (ix3 1 i j) = buckets (ix3 1 i j) := by
  rw [made]
  refine Routing.scatter_set_miss _ _ _ _ _ fun k hk => ?_
  exact absurd ((lands _ (fun _ => rfl) k 1 i j).mp hk).1 (by decide)

end Cert.BiasK

end
-- ==== Proof.BiasAgree.lean ====
/-
  The bias tiles: what the launch leaves is what the reference returns.
-/
module

public import proofs.«01_k».proof.Defs
public import proofs.«01_k».proof.Proof.BiasTrip
public import proofs.«01_k».proof.Proof.BiasMade
public import Idealize.ShloMosaic.Lib.Pipeline.ValueKit
public import Idealize.ShloMosaic.Lib.Pipeline.ReadBack
public import Idealize.ShloMosaic.Lib.StableHlo.RunRead
public import Idealize.ShloMosaic.Lib.Pointwise
public import Idealize.ShloMosaic.Lib.Claim

@[expose] public section

set_option maxRecDepth 16384

noncomputable section

namespace Cert.BiasK

open Finset Idealize.ShloMosaic Idealize.ShloMosaic.TcCoe Idealize.SL.Sem
open Idealize.ShloMosaic.Pipeline (Dat)
open Cert.BiasIdeal Cert.BiasIdeal.Gen
open Cert.BiasRefIdeal.Words (buckets rowBlock colBlock mask)

variable (m : (ℓ : Loc nD τ sig) → Buf (Elt Ideal) ℓ) (c : Dev nD)

/-! ## The array that the launch leaves -/

theorem idx : ∀ t : Fin cfg0.N, win0_0.index t = ![0, 0] ∧ win0_1.index t = ![0, 0, 0] ∧ win0_2.index t = ![t.val, 0, 0, 0] :=
  (by decide +kernel : ∀ t : Fin grid0.N, _)

theorem ltN (t : Fin cfg0.N) : t.val < 12 := lt_of_lt_of_eq t.isLt N_0

theorem coords_val : ∀ t : Fin cfg0.N, ((grid0.coords t) 0).val = t.val :=
  (by decide +kernel : ∀ t : Fin grid0.N, _)

theorem read_table (t : Fin cfg0.N) (n : Fin 32) (h : Fin 12) : iblk m c 0 t (ix2 n h) = table m c (ix2 n h) := by
  blk_ext [iblk, V, table, idx t]

theorem read_words (t : Fin cfg0.N) (s : Fin 2) (i j : Fin 512) : iblk m c 1 t (ix3 s i j) = V m c main_v46 (ix3 s i j) := by
  have e : ∀ X : Vec Ideal S2x512x512 .i32, (win0_1.blk t).view.read (Elt Ideal) X (ix3 s i j) = X (ix3 s i j) := fun X => by
    blk_ext [idx t]
  exact e (V m c main_v46)

/-- An allowed entry of the first tile, and one that is not. -/
theorem entry_near (f : ℕ → EReal) (far : EReal) (R C w : BitVec 32) (hb : w.toNat < 32) :
    chain f far 32 (Scalar.select (IntOp.cmpi .sgt R C) 32#32 w)
      = Scalar.select (IntOp.cmpi .sle R C) ((f w.toNat - far) * Ideal.ofBits .f32 0x3FB8AA3B#32) (Ideal.ofBits .f32 0xFF800000#32) := by
  have e : C.slt R = !R.sle C := by
    rw [Bool.eq_iff_iff]
    simp [BitVec.slt, BitVec.sle]
  unfold IntOp.cmpi
  simp only [e]
  cases R.sle C with
  | true => exact (congrArg (chain f far 32) (select_false 32#32 w)).trans ((chain_hit f far w 32 le_rfl hb).trans (select_true _ _).symm)
  | false => exact (congrArg (chain f far 32) (select_true 32#32 w)).trans ((chain_miss f far 32#32 32 le_rfl (by decide)).trans (select_false _ _).symm)

/-- One entry, by the kernel's words. -/
theorem entry (f : ℕ → EReal) (far : EReal) (X : Vec Ideal S2x512x512 .i32) (h0 : ∀ i j, X (ix3 0 i j) = nearWords (ix2 i j))
    (h1 : ∀ i j, X (ix3 1 i j) = buckets (ix3 1 i j)) (s : Fin 2) (i j : Fin 512) : chain f far 32 (X (ix3 s i j))
    = Scalar.select (mask (ix3 s i j)) ((f (buckets (ix3 s i j)).toNat - far) * Ideal.ofBits .f32 0x3FB8AA3B#32)
        (Ideal.ofBits .f32 0xFF800000#32) := by
  have hb := Cert.BiasRefIdeal.Words.bucket_lt s i j
  rcases (show s = 0 ∨ s = 1 by omega) with rfl | rfl
  · refine (congrArg (chain f far 32) ((h0 i j).trans (near_at i j))).trans ((entry_near f far _ _ _ hb).trans ?_)
    exact congrArg (fun b => Scalar.select b _ _) (Cert.BiasRefIdeal.Words.mask_near i j).symm
  · refine (congrArg (chain f far 32) (h1 i j)).trans ((chain_hit f far _ 32 le_rfl hb).trans ?_)
    exact (select_true _ _).symm.trans (congrArg (fun b => Scalar.select b _ _) (Cert.BiasRefIdeal.Words.mask_far i j).symm)

theorem col_at (t : Fin cfg0.N) (n : ℕ) (hn : n < 32) :
    col (grid0.coords t) (iblk m c 0 t) n = table m c (ix2 ⟨n, hn⟩ ⟨t.val, ltN t⟩) := by
  unfold col
  rw [read_table]
  refine congrArg₂ (fun a b => table m c (ix2 a b)) (Fin.ext ?_) (Fin.ext ?_)
  · show n % 32 = n
    omega
  · show ((grid0.coords t) 0).val % 12 = t.val
    rw [coords_val]
    have := ltN t
    omega

theorem out_eq : (dats m 0 c).arrAt 2 cfg0.N = Cert.BiasRefIdeal.Words.result (table m c) := by
  refine (dats m 0 c).arrAt_eq_of_covers 2 _ (by decide +kernel) fun t hf y => ?_
  blk_simp
  rw [after0_2]
  have e : ∀ X : FVec Ideal S12x2x512x512 .f32, X (ix4 ⟨t.val, ltN t⟩ (y 1) (y 2) (y 3)) = X ((win0_2.blk t).view.emb y) := fun X => by
    blk_ext [idx t]
  refine Eq.trans ?_ (e (Cert.BiasRefIdeal.Words.result (table m c)))
  refine Eq.trans ?_ (Cert.BiasRefIdeal.Words.result_at (table m c) ⟨t.val, ltN t⟩ (y 1) (y 2) (y 3)).symm
  refine (outs c (grid0.coords t) (ms0_0 t) (hs0_0 t) (ms0_1 t) (hs0_1 t) (ms0_2 t) (hs0_2 t) (iblk m c 0 t) (iblk m c 1 t) y).trans ?_
  show chain (col (grid0.coords t) (iblk m c 0 t)) (col (grid0.coords t) (iblk m c 0 t) 15) 32 (iblk m c 1 t (ix3 (y 1) (y 2) (y 3))) = _
  refine (congrArg _ (read_words m c t (y 1) (y 2) (y 3))).trans ?_
  refine (entry _ _ (V m c main_v46) (made_near m c) (made_far m c) (y 1) (y 2) (y 3)).trans ?_
  rw [col_at m c t 15 (by decide), col_at m c t _ (Cert.BiasRefIdeal.Words.bucket_lt (y 1) (y 2) (y 3))]
  rfl

end Cert.BiasK

namespace Cert.BiasClaims

open Finset Idealize.ShloMosaic Idealize.ShloMosaic.TcCoe Idealize.SL.Sem
open Cert.BiasRefIdeal Cert.BiasRefIdeal.Gen

theorem frame_ref : Cert.quiescent_BiasRefIdeal (hBiasRefIdeal := Cert.BiasRefIdeal.Gen.facts) := fun m ρ _ =>
  (θ_run Cert.BiasRefIdeal.defs _ _).mono (fun r h => ⟨fun c => (h c).2, sem_eq_zero_of_no_sems (by decide) r.2⟩)
    (Cert.BiasRefIdeal.Value.run m ρ)

theorem algebraic : Cert.algebraic_BiasIdeal_BiasRefIdeal (hBiasIdeal := Cert.BiasIdeal.Gen.facts)
    (hBiasRefIdeal := Cert.BiasRefIdeal.Gen.facts) := by
  intro m g m' g' _ hagree
  refine ⟨fun c => Words.result (Cert.BiasK.table m c), ?_, ?_⟩
  · exact (θ_run Cert.BiasIdeal.defs _ _).mono (fun r h c => ⟨(h c).1.trans (Cert.BiasK.out_eq m c), (h c).2⟩)
      (Cert.BiasIdeal.Value.run_blocks m g)
  · refine (θ_run Cert.BiasRefIdeal.defs _ _).mono (fun r h c => ⟨(h c).1.trans ?_, (h c).2⟩)
      (Cert.BiasRefIdeal.Value.run m' g')
    have e0 := hagree c
    show Words.result _ = _
    exact congrArg Words.result e0

end Cert.BiasClaims
end
-- ==== Proof.lean ====
/-
  The claims, put together: the frames, generated or of the program's own module, and the value claim of each program's own modules.
-/
module

public import proofs.«01_k».proof.Defs
public import proofs.«01_k».proof.Proof.Gen.Retention.Frame
public import proofs.«01_k».proof.Proof.Gen.Down.Frame
public import proofs.«01_k».proof.Proof.Gen.Ain.Frame
public import proofs.«01_k».proof.Proof.Gen.Bin.Frame
public import proofs.«01_k».proof.Proof.Gen.Key.Frame
public import proofs.«01_k».proof.Proof.Gen.Out.Frame
public import proofs.«01_k».proof.Proof.Gen.Values.Frame
public import proofs.«01_k».proof.Proof.Gen.Memory.Frame
public import proofs.«01_k».proof.Proof.Gen.Memkv.Frame
public import proofs.«01_k».proof.Proof.Gen.Norm.Frame
public import proofs.«01_k».proof.Proof.Gen.Bmem.Frame
public import proofs.«01_k».proof.Proof.Gen.Memnorm.Frame
public import proofs.«01_k».proof.Proof.Gen.First.Frame
public import proofs.«01_k».proof.Proof.Gen.Last.Frame
public import proofs.«01_k».proof.Proof.Gen.Turn.Frame
public import proofs.«01_k».proof.Proof.Gen.Bias.Frame
public import proofs.«01_k».proof.Proof.RetAgree
public import proofs.«01_k».proof.Proof.DownAgree
public import proofs.«01_k».proof.Proof.AinAgree
public import proofs.«01_k».proof.Proof.BinAgree
public import proofs.«01_k».proof.Proof.KeyAgree
public import proofs.«01_k».proof.Proof.UpBits
public import proofs.«01_k».proof.Proof.UpAgree
public import proofs.«01_k».proof.Proof.OutAgree
public import proofs.«01_k».proof.Proof.ValuesAgree
public import proofs.«01_k».proof.Proof.MemoryAgree
public import proofs.«01_k».proof.Proof.MemkvAgree
public import proofs.«01_k».proof.Proof.NormAgree
public import proofs.«01_k».proof.Proof.BmemAgree
public import proofs.«01_k».proof.Proof.MemnormAgree
public import proofs.«01_k».proof.Proof.FirstAgree
public import proofs.«01_k».proof.Proof.LastAgree
public import proofs.«01_k».proof.Proof.TurnAgree
public import proofs.«01_k».proof.Proof.BiasAgree

@[expose] public section

noncomputable section

namespace Cert.Proof

open Idealize.ShloMosaic Idealize.SL.Sem

theorem claim : Cert.Claim := ⟨
  Cert.Retention.Gen.facts, Cert.RetentionIdeal.Gen.facts, Cert.RetentionRefIdeal.Gen.facts,
  Cert.Down.Gen.facts, Cert.DownIdeal.Gen.facts, Cert.DownRefIdeal.Gen.facts,
  Cert.Ain.Gen.facts, Cert.AinIdeal.Gen.facts, Cert.AinRefIdeal.Gen.facts,
  Cert.Bin.Gen.facts, Cert.BinIdeal.Gen.facts, Cert.BinRefIdeal.Gen.facts,
  Cert.Key.Gen.facts, Cert.KeyIdeal.Gen.facts, Cert.KeyRefIdeal.Gen.facts,
  Cert.Up.Gen.facts, Cert.UpIdeal.Gen.facts, Cert.UpRefIdeal.Gen.facts,
  Cert.Out.Gen.facts, Cert.OutIdeal.Gen.facts, Cert.OutRefIdeal.Gen.facts,
  Cert.Values.Gen.facts, Cert.ValuesIdeal.Gen.facts, Cert.ValuesRefIdeal.Gen.facts,
  Cert.Memory.Gen.facts, Cert.MemoryIdeal.Gen.facts, Cert.MemoryRefIdeal.Gen.facts,
  Cert.Memkv.Gen.facts, Cert.MemkvIdeal.Gen.facts, Cert.MemkvRefIdeal.Gen.facts,
  Cert.Norm.Gen.facts, Cert.NormIdeal.Gen.facts, Cert.NormRefIdeal.Gen.facts,
  Cert.Bmem.Gen.facts, Cert.BmemIdeal.Gen.facts, Cert.BmemRefIdeal.Gen.facts,
  Cert.Memnorm.Gen.facts, Cert.MemnormIdeal.Gen.facts, Cert.MemnormRefIdeal.Gen.facts,
  Cert.First.Gen.facts, Cert.FirstIdeal.Gen.facts, Cert.FirstRefIdeal.Gen.facts,
  Cert.Last.Gen.facts, Cert.LastIdeal.Gen.facts, Cert.LastRefIdeal.Gen.facts,
  Cert.Turn.Gen.facts, Cert.TurnIdeal.Gen.facts, Cert.TurnRefIdeal.Gen.facts,
  Cert.Bias.Gen.facts, Cert.BiasIdeal.Gen.facts, Cert.BiasRefIdeal.Gen.facts,
  Cert.Pre_finite.Gen.facts, Cert.Pre_in_squares.Gen.facts, Cert.Pre_q_squares.Gen.facts,
  Cert.Pre_key_squares.Gen.facts, Cert.Pre_up_squares.Gen.facts, Cert.Pre_values_squares.Gen.facts,
  fun m ρ _ => Cert.Retention.Gen.frame m ρ,
  fun m ρ _ => Cert.RetentionIdeal.Gen.frame m ρ,
  fun m ρ _ => Cert.RetentionIdeal.Gen.frame m ρ,
  Cert.RetClaims.frame_ref,
  fun m ρ _ => Cert.RetClaims.frame_ref m ρ trivial,
  fun m ρ _ => Cert.Down.Gen.frame m ρ,
  fun m ρ _ => Cert.DownIdeal.Gen.frame m ρ,
  Cert.DownClaims.frame_ref,
  fun m ρ _ => Cert.Ain.Gen.frame m ρ,
  fun m ρ _ => Cert.AinIdeal.Gen.frame m ρ,
  fun m ρ _ => Cert.AinIdeal.Gen.frame m ρ,
  Cert.AinClaims.frame_ref,
  fun m ρ _ => Cert.AinClaims.frame_ref m ρ trivial,
  fun m ρ _ => Cert.Bin.Gen.frame m ρ,
  fun m ρ _ => Cert.BinIdeal.Gen.frame m ρ,
  fun m ρ _ => Cert.BinIdeal.Gen.frame m ρ,
  Cert.BinClaims.frame_ref,
  fun m ρ _ => Cert.BinClaims.frame_ref m ρ trivial,
  fun m ρ _ => Cert.Key.Gen.frame m ρ,
  fun m ρ _ => Cert.KeyIdeal.Gen.frame m ρ,
  fun m ρ _ => Cert.KeyIdeal.Gen.frame m ρ,
  Cert.KeyClaims.frame_ref,
  fun m ρ _ => Cert.KeyClaims.frame_ref m ρ trivial,
  Cert.UpBits.frame,
  fun m ρ _ => Cert.UpIdeal.Carry.frame m ρ,
  fun m ρ _ => Cert.UpIdeal.Carry.frame m ρ,
  Cert.UpClaims.frame_ref,
  fun m ρ _ => Cert.UpClaims.frame_ref m ρ trivial,
  fun m ρ _ => Cert.Out.Gen.frame m ρ,
  fun m ρ _ => Cert.OutIdeal.Gen.frame m ρ,
  Cert.OutClaims.frame_ref,
  fun m ρ _ => Cert.Values.Gen.frame m ρ,
  fun m ρ _ => Cert.ValuesIdeal.Gen.frame m ρ,
  fun m ρ _ => Cert.ValuesIdeal.Gen.frame m ρ,
  Cert.ValuesClaims.frame_ref,
  fun m ρ _ => Cert.ValuesClaims.frame_ref m ρ trivial,
  fun m ρ _ => Cert.Memory.Gen.frame m ρ,
  fun m ρ _ => Cert.MemoryIdeal.Gen.frame m ρ,
  Cert.MemoryClaims.frame_ref,
  fun m ρ _ => Cert.Memkv.Gen.frame m ρ,
  fun m ρ _ => Cert.MemkvIdeal.Gen.frame m ρ,
  Cert.MemkvClaims.frame_ref,
  fun m ρ _ => Cert.Norm.Gen.frame m ρ,
  fun m ρ _ => Cert.NormIdeal.Gen.frame m ρ,
  Cert.NormClaims.frame_ref,
  fun m ρ _ => Cert.Bmem.Gen.frame m ρ,
  fun m ρ _ => Cert.BmemIdeal.Gen.frame m ρ,
  Cert.BmemClaims.frame_ref,
  fun m ρ _ => Cert.Memnorm.Gen.frame m ρ,
  fun m ρ _ => Cert.MemnormIdeal.Gen.frame m ρ,
  Cert.MemnormClaims.frame_ref,
  fun m ρ _ => Cert.First.Gen.frame m ρ,
  fun m ρ _ => Cert.FirstIdeal.Gen.frame m ρ,
  Cert.FirstClaims.frame_ref,
  fun m ρ _ => Cert.Last.Gen.frame m ρ,
  fun m ρ _ => Cert.LastIdeal.Gen.frame m ρ,
  Cert.LastClaims.frame_ref,
  fun m ρ _ => Cert.Turn.Gen.frame m ρ,
  fun m ρ _ => Cert.TurnIdeal.Gen.frame m ρ,
  Cert.TurnClaims.frame_ref,
  fun m ρ _ => Cert.Bias.Gen.frame m ρ,
  fun m ρ _ => Cert.BiasIdeal.Gen.frame m ρ,
  Cert.BiasClaims.frame_ref,
  trivial,
  Cert.RetClaims.algebraic,
  trivial,
  Cert.DownClaims.algebraic,
  trivial,
  Cert.AinClaims.algebraic,
  trivial,
  Cert.BinClaims.algebraic,
  trivial,
  Cert.KeyClaims.algebraic,
  trivial,
  Cert.UpClaims.algebraic,
  trivial,
  Cert.OutClaims.algebraic,
  trivial,
  Cert.ValuesClaims.algebraic,
  trivial,
  Cert.MemoryClaims.algebraic,
  trivial,
  Cert.MemkvClaims.algebraic,
  trivial,
  Cert.NormClaims.algebraic,
  trivial,
  Cert.BmemClaims.algebraic,
  trivial,
  Cert.MemnormClaims.algebraic,
  trivial,
  Cert.FirstClaims.algebraic,
  trivial,
  Cert.LastClaims.algebraic,
  trivial,
  Cert.TurnClaims.algebraic,
  trivial,
  Cert.BiasClaims.algebraic⟩

end Cert.Proof

end
